-- ==== Defs.lean ====
def Pre_Kernel [hPre_attention_inputs : Cert.Pre_attention_inputs.Facts] (m : (ℓ : Loc Cert.Kernel.nD Cert.Kernel.τ Cert.Kernel.sig) → Buf (Elt Bits) ℓ) : Prop :=
  ∀ c : Dev Cert.Kernel.nD,
    (Cert.Pre_attention_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_attention_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_attention_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_attention_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_attention_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2 = (fun _ => 1#1)

def Pre_Kernel_none (m : (ℓ : Loc Cert.Kernel.nD Cert.Kernel.τ Cert.Kernel.sig) → Buf (Elt Bits) ℓ) : Prop :=
  True

def Pre_KernelIdeal [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelSq (m : (ℓ : Loc Cert.KernelSq.nD Cert.KernelSq.τ Cert.KernelSq.sig) → Buf (Elt Bits) ℓ) : Prop :=
  True

def Pre_KernelSqIdeal (m : (ℓ : Loc Cert.KernelSqIdeal.nD Cert.KernelSqIdeal.τ Cert.KernelSqIdeal.sig) → Buf (Elt Ideal) ℓ) : Prop :=
  True

def Pre_ReferenceSqIdeal (m : (ℓ : Loc Cert.ReferenceSqIdeal.nD Cert.ReferenceSqIdeal.τ Cert.ReferenceSqIdeal.sig) → Buf (Elt Ideal) ℓ) : Prop :=
  True

def Pre_KernelFwd [hPre_forward_inputs : Cert.Pre_forward_inputs.Facts] (m : (ℓ : Loc Cert.KernelFwd.nD Cert.KernelFwd.τ Cert.KernelFwd.sig) → Buf (Elt Bits) ℓ) : Prop :=
  ∀ c : Dev Cert.KernelFwd.nD,
    (Cert.Pre_forward_inputs.fn (F := Bits) (m ((c.tc : Thread Cert.KernelFwd.nD Cert.KernelFwd.τ).loc Cert.KernelFwd.main_arg0)) (m ((c.tc : Thread Cert.KernelFwd.nD Cert.KernelFwd.τ).loc Cert.KernelFwd.main_arg1)) (m ((c.tc : Thread Cert.KernelFwd.nD Cert.KernelFwd.τ).loc Cert.KernelFwd.main_arg2)) (m ((c.tc : Thread Cert.KernelFwd.nD Cert.KernelFwd.τ).loc Cert.KernelFwd.main_arg3))).1 = (fun _ => 1#1)
    ∧ (Cert.Pre_forward_inputs.fn (F := Bits) (m ((c.tc : Thread Cert.KernelFwd.nD Cert.KernelFwd.τ).loc Cert.KernelFwd.main_arg0)) (m ((c.tc : Thread Cert.KernelFwd.nD Cert.KernelFwd.τ).loc Cert.KernelFwd.main_arg1)) (m ((c.tc : Thread Cert.KernelFwd.nD Cert.KernelFwd.τ).loc Cert.KernelFwd.main_arg2)) (m ((c.tc : Thread Cert.KernelFwd.nD Cert.KernelFwd.τ).loc Cert.KernelFwd.main_arg3))).2.1 = (fun _ => 1#1)
    ∧ (Cert.Pre_forward_inputs.fn (F := Bits) (m ((c.tc : Thread Cert.KernelFwd.nD Cert.KernelFwd.τ).loc Cert.KernelFwd.main_arg0)) (m ((c.tc : Thread Cert.KernelFwd.nD Cert.KernelFwd.τ).loc Cert.KernelFwd.main_arg1)) (m ((c.tc : Thread Cert.KernelFwd.nD Cert.KernelFwd.τ).loc Cert.KernelFwd.main_arg2)) (m ((c.tc : Thread Cert.KernelFwd.nD Cert.KernelFwd.τ).loc Cert.KernelFwd.main_arg3))).2.2.1 = (fun _ => 1#1)
    ∧ (Cert.Pre_forward_inputs.fn (F := Bits) (m ((c.tc : Thread Cert.KernelFwd.nD Cert.KernelFwd.τ).loc Cert.KernelFwd.main_arg0)) (m ((c.tc : Thread Cert.KernelFwd.nD Cert.KernelFwd.τ).loc Cert.KernelFwd.main_arg1)) (m ((c.tc : Thread Cert.KernelFwd.nD Cert.KernelFwd.τ).loc Cert.KernelFwd.main_arg2)) (m ((c.tc : Thread Cert.KernelFwd.nD Cert.KernelFwd.τ).loc Cert.KernelFwd.main_arg3))).2.2.2 = (fun _ => 1#1)

def Pre_KernelFwd_none (m : (ℓ : Loc Cert.KernelFwd.nD Cert.KernelFwd.τ Cert.KernelFwd.sig) → Buf (Elt Bits) ℓ) : Prop :=
  True

def Pre_KernelFwdIdeal [hPre_forward_inputs : Cert.Pre_forward_inputs.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_forward_inputs.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).1 = (fun _ => 1#1)
    ∧ (Cert.Pre_forward_inputs.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).2.1 = (fun _ => 1#1)
    ∧ (Cert.Pre_forward_inputs.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).2.2.1 = (fun _ => 1#1)
    ∧ (Cert.Pre_forward_inputs.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).2.2.2 = (fun _ => 1#1)

def Pre_KernelFwdIdeal_none (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_forward_inputs [hPre_forward_inputs : Cert.Pre_forward_inputs.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_forward_inputs.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).1 = (fun _ => 1#1)
    ∧ (Cert.Pre_forward_inputs.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).2.1 = (fun _ => 1#1)
    ∧ (Cert.Pre_forward_inputs.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).2.2.1 = (fun _ => 1#1)
    ∧ (Cert.Pre_forward_inputs.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_act_inputs [hPre_act_inputs : Cert.Pre_act_inputs.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_act_inputs.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3)) (m ((c.tc : Thread Cert.KernelActIdeal.nD Cert.KernelActIdeal.τ).loc Cert.KernelActIdeal.main_arg4)) (m ((c.tc : Thread Cert.KernelActIdeal.nD Cert.KernelActIdeal.τ).loc Cert.KernelActIdeal.main_arg5))).1 = (fun _ => 1#1)
    ∧ (Cert.Pre_act_inputs.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3)) (m ((c.tc : Thread Cert.KernelActIdeal.nD Cert.KernelActIdeal.τ).loc Cert.KernelActIdeal.main_arg4)) (m ((c.tc : Thread Cert.KernelActIdeal.nD Cert.KernelActIdeal.τ).loc Cert.KernelActIdeal.main_arg5))).2.1 = (fun _ => 1#1)
    ∧ (Cert.Pre_act_inputs.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3)) (m ((c.tc : Thread Cert.KernelActIdeal.nD Cert.KernelActIdeal.τ).loc Cert.KernelActIdeal.main_arg4)) (m ((c.tc : Thread Cert.KernelActIdeal.nD Cert.KernelActIdeal.τ).loc Cert.KernelActIdeal.main_arg5))).2.2.1 = (fun _ => 1#1)
    ∧ (Cert.Pre_act_inputs.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3)) (m ((c.tc : Thread Cert.KernelActIdeal.nD Cert.KernelActIdeal.τ).loc Cert.KernelActIdeal.main_arg4)) (m ((c.tc : Thread Cert.KernelActIdeal.nD Cert.KernelActIdeal.τ).loc Cert.KernelActIdeal.main_arg5))).2.2.2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_act_inputs [hPre_act_inputs : Cert.Pre_act_inputs.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_act_inputs.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3)) (m ((c.tc : Thread Cert.ReferenceActIdeal.nD Cert.ReferenceActIdeal.τ).loc Cert.ReferenceActIdeal.main_arg4)) (m ((c.tc : Thread Cert.ReferenceActIdeal.nD Cert.ReferenceActIdeal.τ).loc Cert.ReferenceActIdeal.main_arg5))).1 = (fun _ => 1#1)
    ∧ (Cert.Pre_act_inputs.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3)) (m ((c.tc : Thread Cert.ReferenceActIdeal.nD Cert.ReferenceActIdeal.τ).loc Cert.ReferenceActIdeal.main_arg4)) (m ((c.tc : Thread Cert.ReferenceActIdeal.nD Cert.ReferenceActIdeal.τ).loc Cert.ReferenceActIdeal.main_arg5))).2.1 = (fun _ => 1#1)
    ∧ (Cert.Pre_act_inputs.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3)) (m ((c.tc : Thread Cert.ReferenceActIdeal.nD Cert.ReferenceActIdeal.τ).loc Cert.ReferenceActIdeal.main_arg4)) (m ((c.tc : Thread Cert.ReferenceActIdeal.nD Cert.ReferenceActIdeal.τ).loc Cert.ReferenceActIdeal.main_arg5))).2.2.1 = (fun _ => 1#1)
    ∧ (Cert.Pre_act_inputs.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3)) (m ((c.tc : Thread Cert.ReferenceActIdeal.nD Cert.ReferenceActIdeal.τ).loc Cert.ReferenceActIdeal.main_arg4)) (m ((c.tc : Thread Cert.ReferenceActIdeal.nD Cert.ReferenceActIdeal.τ).loc Cert.ReferenceActIdeal.main_arg5))).2.2.2 = (fun _ => 1#1)

def quiescent_Kernel [hKernel : Cert.Kernel.Facts] [hPre_attention_inputs : Cert.Pre_attention_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelSq [hKernelSq : Cert.KernelSq.Facts] : Prop :=
  ∀ (m : (ℓ : Loc Cert.KernelSq.nD Cert.KernelSq.τ Cert.KernelSq.sig) → Buf (Elt Bits) ℓ) (g : Dev Cert.KernelSq.nD → PrngReg), Pre_KernelSq m →
    θ_run (Cert.KernelSq.defs (F := Bits)) (onTc (τ := Cert.KernelSq.τ) (Cert.KernelSq.main (F := Bits))) ⟨m, fun _ => 0, g⟩ (fun r => (∀ c : Dev Cert.KernelSq.nD,
      r.2.mem ((c.tc : Thread Cert.KernelSq.nD Cert.KernelSq.τ).loc Cert.KernelSq.main_arg0) = m ((c.tc : Thread Cert.KernelSq.nD Cert.KernelSq.τ).loc Cert.KernelSq.main_arg0)
      ∧ r.2.mem ((c.tc : Thread Cert.KernelSq.nD Cert.KernelSq.τ).loc Cert.KernelSq.main_arg1) = m ((c.tc : Thread Cert.KernelSq.nD Cert.KernelSq.τ).loc Cert.KernelSq.main_arg1))
      ∧ r.2.sem = fun _ => 0)

def quiescent_KernelSqIdeal [hKernelSqIdeal : Cert.KernelSqIdeal.Facts] : Prop :=
  ∀ (m : (ℓ : Loc Cert.KernelSqIdeal.nD Cert.KernelSqIdeal.τ Cert.KernelSqIdeal.sig) → Buf (Elt Ideal) ℓ) (g : Dev Cert.KernelSqIdeal.nD → PrngReg), Pre_KernelSqIdeal m →
    θ_run (Cert.KernelSqIdeal.defs (F := Ideal)) (onTc (τ := Cert.KernelSqIdeal.τ) (Cert.KernelSqIdeal.main (F := Ideal))) ⟨m, fun _ => 0, g⟩ (fun r => (∀ c : Dev Cert.KernelSqIdeal.nD,
      r.2.mem ((c.tc : Thread Cert.KernelSqIdeal.nD Cert.KernelSqIdeal.τ).loc Cert.KernelSqIdeal.main_arg0) = m ((c.tc : Thread Cert.KernelSqIdeal.nD Cert.KernelSqIdeal.τ).loc Cert.KernelSqIdeal.main_arg0)
      ∧ r.2.mem ((c.tc : Thread Cert.KernelSqIdeal.nD Cert.KernelSqIdeal.τ).loc Cert.KernelSqIdeal.main_arg1) = m ((c.tc : Thread Cert.KernelSqIdeal.nD Cert.KernelSqIdeal.τ).loc Cert.KernelSqIdeal.main_arg1))
      ∧ r.2.sem = fun _ => 0)

def quiescent_ReferenceSqIdeal [hReferenceSqIdeal : Cert.ReferenceSqIdeal.Facts] : Prop :=
  ∀ (m : (ℓ : Loc Cert.ReferenceSqIdeal.nD Cert.ReferenceSqIdeal.τ Cert.ReferenceSqIdeal.sig) → Buf (Elt Ideal) ℓ) (g : Dev Cert.ReferenceSqIdeal.nD → PrngReg), Pre_ReferenceSqIdeal m →
    θ_run (Cert.ReferenceSqIdeal.defs (F := Ideal)) (onTc (τ := Cert.ReferenceSqIdeal.τ) (Cert.ReferenceSqIdeal.main (F := Ideal))) ⟨m, fun _ => 0, g⟩ (fun r => (∀ c : Dev Cert.ReferenceSqIdeal.nD,
      r.2.mem ((c.tc : Thread Cert.ReferenceSqIdeal.nD Cert.ReferenceSqIdeal.τ).loc Cert.ReferenceSqIdeal.main_arg0) = m ((c.tc : Thread Cert.ReferenceSqIdeal.nD Cert.ReferenceSqIdeal.τ).loc Cert.ReferenceSqIdeal.main_arg0)
      ∧ r.2.mem ((c.tc : Thread Cert.ReferenceSqIdeal.nD Cert.ReferenceSqIdeal.τ).loc Cert.ReferenceSqIdeal.main_arg1) = m ((c.tc : Thread Cert.ReferenceSqIdeal.nD Cert.ReferenceSqIdeal.τ).loc Cert.ReferenceSqIdeal.main_arg1))
      ∧ r.2.sem = fun _ => 0)

def quiescent_KernelFwd [hKernelFwd : Cert.KernelFwd.Facts] [hPre_forward_inputs : Cert.Pre_forward_inputs.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwd_pre_none [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd_none m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] [hPre_forward_inputs : Cert.Pre_forward_inputs.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_KernelFwdIdeal_pre_none [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_none m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_ReferenceFwdIdeal_pre_forward_inputs [hReferenceFwdIdeal : Cert.ReferenceFwdIdeal.Facts] [hPre_forward_inputs : Cert.Pre_forward_inputs.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_forward_inputs m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3)
      ∧ r.2.mem ((c.tc : Thread Cert.KernelAct.nD Cert.KernelAct.τ).loc Cert.KernelAct.main_arg4) = m ((c.tc : Thread Cert.KernelAct.nD Cert.KernelAct.τ).loc Cert.KernelAct.main_arg4)
      ∧ r.2.mem ((c.tc : Thread Cert.KernelAct.nD Cert.KernelAct.τ).loc Cert.KernelAct.main_arg5) = m ((c.tc : Thread Cert.KernelAct.nD Cert.KernelAct.τ).loc Cert.KernelAct.main_arg5))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3)
      ∧ r.2.mem ((c.tc : Thread Cert.KernelActIdeal.nD Cert.KernelActIdeal.τ).loc Cert.KernelActIdeal.main_arg4) = m ((c.tc : Thread Cert.KernelActIdeal.nD Cert.KernelActIdeal.τ).loc Cert.KernelActIdeal.main_arg4)
      ∧ r.2.mem ((c.tc : Thread Cert.KernelActIdeal.nD Cert.KernelActIdeal.τ).loc Cert.KernelActIdeal.main_arg5) = m ((c.tc : Thread Cert.KernelActIdeal.nD Cert.KernelActIdeal.τ).loc Cert.KernelActIdeal.main_arg5))
      ∧ r.2.sem = fun _ => 0)

def quiescent_KernelActIdeal_pre_act_inputs [hKernelActIdeal : Cert.KernelActIdeal.Facts] [hPre_act_inputs : Cert.Pre_act_inputs.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_act_inputs m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3)
      ∧ r.2.mem ((c.tc : Thread Cert.KernelActIdeal.nD Cert.KernelActIdeal.τ).loc Cert.KernelActIdeal.main_arg4) = m ((c.tc : Thread Cert.KernelActIdeal.nD Cert.KernelActIdeal.τ).loc Cert.KernelActIdeal.main_arg4)
      ∧ r.2.mem ((c.tc : Thread Cert.KernelActIdeal.nD Cert.KernelActIdeal.τ).loc Cert.KernelActIdeal.main_arg5) = m ((c.tc : Thread Cert.KernelActIdeal.nD Cert.KernelActIdeal.τ).loc Cert.KernelActIdeal.main_arg5))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3)
      ∧ r.2.mem ((c.tc : Thread Cert.ReferenceActIdeal.nD Cert.ReferenceActIdeal.τ).loc Cert.ReferenceActIdeal.main_arg4) = m ((c.tc : Thread Cert.ReferenceActIdeal.nD Cert.ReferenceActIdeal.τ).loc Cert.ReferenceActIdeal.main_arg4)
      ∧ r.2.mem ((c.tc : Thread Cert.ReferenceActIdeal.nD Cert.ReferenceActIdeal.τ).loc Cert.ReferenceActIdeal.main_arg5) = m ((c.tc : Thread Cert.ReferenceActIdeal.nD Cert.ReferenceActIdeal.τ).loc Cert.ReferenceActIdeal.main_arg5))
      ∧ r.2.sem = fun _ => 0)

def quiescent_ReferenceActIdeal_pre_act_inputs [hReferenceActIdeal : Cert.ReferenceActIdeal.Facts] [hPre_act_inputs : Cert.Pre_act_inputs.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_act_inputs m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3)
      ∧ r.2.mem ((c.tc : Thread Cert.ReferenceActIdeal.nD Cert.ReferenceActIdeal.τ).loc Cert.ReferenceActIdeal.main_arg4) = m ((c.tc : Thread Cert.ReferenceActIdeal.nD Cert.ReferenceActIdeal.τ).loc Cert.ReferenceActIdeal.main_arg4)
      ∧ r.2.mem ((c.tc : Thread Cert.ReferenceActIdeal.nD Cert.ReferenceActIdeal.τ).loc Cert.ReferenceActIdeal.main_arg5) = m ((c.tc : Thread Cert.ReferenceActIdeal.nD Cert.ReferenceActIdeal.τ).loc Cert.ReferenceActIdeal.main_arg5))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)
  ∧ IdealRules.named_const.Statement Cert.KernelIdeal.κ "masked" .f32 0xF149F2CA#32 ⊥

def algebraic_KernelIdeal_ReferenceIdeal [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelSq_KernelSqIdeal : Prop :=
  True

def algebraic_KernelSqIdeal_ReferenceSqIdeal [hKernelSqIdeal : Cert.KernelSqIdeal.Facts] [hReferenceSqIdeal : Cert.ReferenceSqIdeal.Facts] : Prop :=
  ∀ (m : (ℓ : Loc Cert.KernelSqIdeal.nD Cert.KernelSqIdeal.τ Cert.KernelSqIdeal.sig) → Buf (Elt Ideal) ℓ) (g : Dev Cert.KernelSqIdeal.nD → PrngReg)
    (m' : (ℓ : Loc Cert.ReferenceSqIdeal.nD Cert.ReferenceSqIdeal.τ Cert.ReferenceSqIdeal.sig) → Buf (Elt Ideal) ℓ) (g' : Dev Cert.ReferenceSqIdeal.nD → PrngReg), Pre_KernelSqIdeal m →
    (∀ c : Dev Cert.KernelSqIdeal.nD,
      m' ((c.tc : Thread Cert.ReferenceSqIdeal.nD Cert.ReferenceSqIdeal.τ).loc Cert.ReferenceSqIdeal.main_arg0) = m ((c.tc : Thread Cert.KernelSqIdeal.nD Cert.KernelSqIdeal.τ).loc Cert.KernelSqIdeal.main_arg0)
      ∧ m' ((c.tc : Thread Cert.ReferenceSqIdeal.nD Cert.ReferenceSqIdeal.τ).loc Cert.ReferenceSqIdeal.main_arg1) = m ((c.tc : Thread Cert.KernelSqIdeal.nD Cert.KernelSqIdeal.τ).loc Cert.KernelSqIdeal.main_arg1)) →
    ∃ (v0 : (c : Dev Cert.KernelSqIdeal.nD) → Buf (Elt Ideal) ((c.tc : Thread Cert.KernelSqIdeal.nD Cert.KernelSqIdeal.τ).loc Cert.KernelSqIdeal.main_v0)),
      θ_run (Cert.KernelSqIdeal.defs (F := Ideal)) (onTc (τ := Cert.KernelSqIdeal.τ) (Cert.KernelSqIdeal.main (F := Ideal))) ⟨m, fun _ => 0, g⟩ (fun r => ∀ c : Dev Cert.KernelSqIdeal.nD,
          r.2.mem ((c.tc : Thread Cert.KernelSqIdeal.nD Cert.KernelSqIdeal.τ).loc Cert.KernelSqIdeal.main_v0) = v0 c
          ∧ r.2.mem ((c.tc : Thread Cert.KernelSqIdeal.nD Cert.KernelSqIdeal.τ).loc Cert.KernelSqIdeal.main_arg0) = m ((c.tc : Thread Cert.KernelSqIdeal.nD Cert.KernelSqIdeal.τ).loc Cert.KernelSqIdeal.main_arg0)
          ∧ r.2.mem ((c.tc : Thread Cert.KernelSqIdeal.nD Cert.KernelSqIdeal.τ).loc Cert.KernelSqIdeal.main_arg1) = m ((c.tc : Thread Cert.KernelSqIdeal.nD Cert.KernelSqIdeal.τ).loc Cert.KernelSqIdeal.main_arg1))
      ∧ θ_run (Cert.ReferenceSqIdeal.defs (F := Ideal)) (onTc (τ := Cert.ReferenceSqIdeal.τ) (Cert.ReferenceSqIdeal.main (F := Ideal))) ⟨m', fun _ => 0, g'⟩ (fun r => ∀ c : Dev Cert.ReferenceSqIdeal.nD,
          r.2.mem ((c.tc : Thread Cert.ReferenceSqIdeal.nD Cert.ReferenceSqIdeal.τ).loc Cert.ReferenceSqIdeal.main_v5) = v0 c
          ∧ r.2.mem ((c.tc : Thread Cert.ReferenceSqIdeal.nD Cert.ReferenceSqIdeal.τ).loc Cert.ReferenceSqIdeal.main_arg0) = m' ((c.tc : Thread Cert.ReferenceSqIdeal.nD Cert.ReferenceSqIdeal.τ).loc Cert.ReferenceSqIdeal.main_arg0)
          ∧ r.2.mem ((c.tc : Thread Cert.ReferenceSqIdeal.nD Cert.ReferenceSqIdeal.τ).loc Cert.ReferenceSqIdeal.main_arg1) = m' ((c.tc : Thread Cert.ReferenceSqIdeal.nD Cert.ReferenceSqIdeal.τ).loc Cert.ReferenceSqIdeal.main_arg1))

def preserves_KernelFwd_KernelFwdIdeal : Prop :=
  IdealRules.named_const.Statement Cert.KernelFwdIdeal.κ "masked" .f32 0xF149F2CA#32 ⊥
  ∧ IdealRules.named_const.Statement Cert.KernelFwdIdeal.κ "scale_log2e" .f32 0x3E16C740#32 (((3424635 / 33554432) * (Real.log 2)⁻¹ : ℝ) : EReal)
  ∧ IdealRules.named_const.Statement Cert.KernelFwdIdeal.κ "log2e" .f32 0x3FB8AA3B#32 (((Real.log 2)⁻¹ : ℝ) : EReal)

def algebraic_KernelFwdIdeal_ReferenceFwdIdeal [hKernelFwdIdeal : Cert.KernelFwdIdeal.Facts] [hReferenceFwdIdeal : Cert.ReferenceFwdIdeal.Facts] [hPre_forward_inputs : Cert.Pre_forward_inputs.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v14_0)) (v1 : (c : Dev Cert.KernelFwdIdeal.nD) → Buf (Elt Ideal) ((c.tc : Thread Cert.KernelFwdIdeal.nD Cert.KernelFwdIdeal.τ).loc Cert.KernelFwdIdeal.main_v14_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v14_0) = v0 c
          ∧ r.2.mem ((c.tc : Thread Cert.KernelFwdIdeal.nD Cert.KernelFwdIdeal.τ).loc Cert.KernelFwdIdeal.main_v14_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v46) = v0 c
          ∧ r.2.mem ((c.tc : Thread Cert.ReferenceFwdIdeal.nD Cert.ReferenceFwdIdeal.τ).loc Cert.ReferenceFwdIdeal.main_v49) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)) →
    ∃ (v0 : (c : Dev Cert.KernelFfnIdeal.nD) → Buf (Elt Ideal) ((c.tc : Thread Cert.KernelFfnIdeal.nD Cert.KernelFfnIdeal.τ).loc Cert.KernelFfnIdeal.main_v0_0)) (v1 : (c : Dev Cert.KernelFfnIdeal.nD) → Buf (Elt Ideal) ((c.tc : Thread Cert.KernelFfnIdeal.nD Cert.KernelFfnIdeal.τ).loc Cert.KernelFfnIdeal.main_v0_1)) (v2 : (c : Dev Cert.KernelFfnIdeal.nD) → Buf (Elt Ideal) ((c.tc : Thread Cert.KernelFfnIdeal.nD Cert.KernelFfnIdeal.τ).loc Cert.KernelFfnIdeal.main_v0_2)) (v3 : (c : Dev Cert.KernelFfnIdeal.nD) → Buf (Elt Ideal) ((c.tc : Thread Cert.KernelFfnIdeal.nD Cert.KernelFfnIdeal.τ).loc Cert.KernelFfnIdeal.main_v0_3)) (v4 : (c : Dev Cert.KernelFfnIdeal.nD) → Buf (Elt Ideal) ((c.tc : Thread Cert.KernelFfnIdeal.nD Cert.KernelFfnIdeal.τ).loc Cert.KernelFfnIdeal.main_v0_4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0_0) = v0 c
          ∧ r.2.mem ((c.tc : Thread Cert.KernelFfnIdeal.nD Cert.KernelFfnIdeal.τ).loc Cert.KernelFfnIdeal.main_v0_1) = v1 c
          ∧ r.2.mem ((c.tc : Thread Cert.KernelFfnIdeal.nD Cert.KernelFfnIdeal.τ).loc Cert.KernelFfnIdeal.main_v0_2) = v2 c
          ∧ r.2.mem ((c.tc : Thread Cert.KernelFfnIdeal.nD Cert.KernelFfnIdeal.τ).loc Cert.KernelFfnIdeal.main_v0_3) = v3 c
          ∧ r.2.mem ((c.tc : Thread Cert.KernelFfnIdeal.nD Cert.KernelFfnIdeal.τ).loc Cert.KernelFfnIdeal.main_v0_4) = v4 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v26) = v0 c
          ∧ r.2.mem ((c.tc : Thread Cert.ReferenceFfnIdeal.nD Cert.ReferenceFfnIdeal.τ).loc Cert.ReferenceFfnIdeal.main_v21) = v1 c
          ∧ r.2.mem ((c.tc : Thread Cert.ReferenceFfnIdeal.nD Cert.ReferenceFfnIdeal.τ).loc Cert.ReferenceFfnIdeal.main_v22) = v2 c
          ∧ r.2.mem ((c.tc : Thread Cert.ReferenceFfnIdeal.nD Cert.ReferenceFfnIdeal.τ).loc Cert.ReferenceFfnIdeal.main_v25) = v3 c
          ∧ r.2.mem ((c.tc : Thread Cert.ReferenceFfnIdeal.nD Cert.ReferenceFfnIdeal.τ).loc Cert.ReferenceFfnIdeal.main_v29) = v4 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7))

def preserves_KernelAct_KernelActIdeal : Prop :=
  True

def algebraic_KernelActIdeal_ReferenceActIdeal_pre_act_inputs [hKernelActIdeal : Cert.KernelActIdeal.Facts] [hReferenceActIdeal : Cert.ReferenceActIdeal.Facts] [hPre_act_inputs : Cert.Pre_act_inputs.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_act_inputs m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)
      ∧ m' ((c.tc : Thread Cert.ReferenceActIdeal.nD Cert.ReferenceActIdeal.τ).loc Cert.ReferenceActIdeal.main_arg4) = m ((c.tc : Thread Cert.KernelActIdeal.nD Cert.KernelActIdeal.τ).loc Cert.KernelActIdeal.main_arg4)
      ∧ m' ((c.tc : Thread Cert.ReferenceActIdeal.nD Cert.ReferenceActIdeal.τ).loc Cert.ReferenceActIdeal.main_arg5) = m ((c.tc : Thread Cert.KernelActIdeal.nD Cert.KernelActIdeal.τ).loc Cert.KernelActIdeal.main_arg5)) →
    ∃ (v0 : (c : Dev Cert.KernelActIdeal.nD) → Buf (Elt Ideal) ((c.tc : Thread Cert.KernelActIdeal.nD Cert.KernelActIdeal.τ).loc Cert.KernelActIdeal.main_v0_0)) (v1 : (c : Dev Cert.KernelActIdeal.nD) → Buf (Elt Ideal) ((c.tc : Thread Cert.KernelActIdeal.nD Cert.KernelActIdeal.τ).loc Cert.KernelActIdeal.main_v0_1)) (v2 : (c : Dev Cert.KernelActIdeal.nD) → Buf (Elt Ideal) ((c.tc : Thread Cert.KernelActIdeal.nD Cert.KernelActIdeal.τ).loc Cert.KernelActIdeal.main_v0_2)) (v3 : (c : Dev Cert.KernelActIdeal.nD) → Buf (Elt Ideal) ((c.tc : Thread Cert.KernelActIdeal.nD Cert.KernelActIdeal.τ).loc Cert.KernelActIdeal.main_v0_3)) (v4 : (c : Dev Cert.KernelActIdeal.nD) → Buf (Elt Ideal) ((c.tc : Thread Cert.KernelActIdeal.nD Cert.KernelActIdeal.τ).loc Cert.KernelActIdeal.main_v0_4)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0_0) = v0 c
          ∧ r.2.mem ((c.tc : Thread Cert.KernelActIdeal.nD Cert.KernelActIdeal.τ).loc Cert.KernelActIdeal.main_v0_1) = v1 c
          ∧ r.2.mem ((c.tc : Thread Cert.KernelActIdeal.nD Cert.KernelActIdeal.τ).loc Cert.KernelActIdeal.main_v0_2) = v2 c
          ∧ r.2.mem ((c.tc : Thread Cert.KernelActIdeal.nD Cert.KernelActIdeal.τ).loc Cert.KernelActIdeal.main_v0_3) = v3 c
          ∧ r.2.mem ((c.tc : Thread Cert.KernelActIdeal.nD Cert.KernelActIdeal.τ).loc Cert.KernelActIdeal.main_v0_4) = v4 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3)
          ∧ r.2.mem ((c.tc : Thread Cert.KernelActIdeal.nD Cert.KernelActIdeal.τ).loc Cert.KernelActIdeal.main_arg4) = m ((c.tc : Thread Cert.KernelActIdeal.nD Cert.KernelActIdeal.τ).loc Cert.KernelActIdeal.main_arg4)
          ∧ r.2.mem ((c.tc : Thread Cert.KernelActIdeal.nD Cert.KernelActIdeal.τ).loc Cert.KernelActIdeal.main_arg5) = m ((c.tc : Thread Cert.KernelActIdeal.nD Cert.KernelActIdeal.τ).loc Cert.KernelActIdeal.main_arg5))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v19) = v0 c
          ∧ r.2.mem ((c.tc : Thread Cert.ReferenceActIdeal.nD Cert.ReferenceActIdeal.τ).loc Cert.ReferenceActIdeal.main_v20) = v1 c
          ∧ r.2.mem ((c.tc : Thread Cert.ReferenceActIdeal.nD Cert.ReferenceActIdeal.τ).loc Cert.ReferenceActIdeal.main_v23) = v2 c
          ∧ r.2.mem ((c.tc : Thread Cert.ReferenceActIdeal.nD Cert.ReferenceActIdeal.τ).loc Cert.ReferenceActIdeal.main_v24) = v3 c
          ∧ r.2.mem ((c.tc : Thread Cert.ReferenceActIdeal.nD Cert.ReferenceActIdeal.τ).loc Cert.ReferenceActIdeal.main_v18) = v4 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3)
          ∧ r.2.mem ((c.tc : Thread Cert.ReferenceActIdeal.nD Cert.ReferenceActIdeal.τ).loc Cert.ReferenceActIdeal.main_arg4) = m' ((c.tc : Thread Cert.ReferenceActIdeal.nD Cert.ReferenceActIdeal.τ).loc Cert.ReferenceActIdeal.main_arg4)
          ∧ r.2.mem ((c.tc : Thread Cert.ReferenceActIdeal.nD Cert.ReferenceActIdeal.τ).loc Cert.ReferenceActIdeal.main_arg5) = m' ((c.tc : Thread Cert.ReferenceActIdeal.nD Cert.ReferenceActIdeal.τ).loc Cert.ReferenceActIdeal.main_arg5))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelSq : Cert.KernelSq.Facts) (hKernelSqIdeal : Cert.KernelSqIdeal.Facts) (hReferenceSqIdeal : Cert.ReferenceSqIdeal.Facts) (hKernelFwd : Cert.KernelFwd.Facts) (hKernelFwdIdeal : Cert.KernelFwdIdeal.Facts) (hReferenceFwdIdeal : Cert.ReferenceFwdIdeal.Facts) (hKernelFfn : Cert.KernelFfn.Facts) (hKernelFfnIdeal : Cert.KernelFfnIdeal.Facts) (hReferenceFfnIdeal : Cert.ReferenceFfnIdeal.Facts) (hKernelAct : Cert.KernelAct.Facts) (hKernelActIdeal : Cert.KernelActIdeal.Facts) (hReferenceActIdeal : Cert.ReferenceActIdeal.Facts) (hPre_attention_inputs : Cert.Pre_attention_inputs.Facts) (hPre_forward_inputs : Cert.Pre_forward_inputs.Facts) (hPre_act_inputs : Cert.Pre_act_inputs.Facts),
    quiescent_Kernel (hKernel := hKernel) (hPre_attention_inputs := hPre_attention_inputs)
    ∧ quiescent_Kernel_pre_none (hKernel := hKernel)
    ∧ quiescent_KernelIdeal (hKernelIdeal := hKernelIdeal) (hPre_attention_inputs := hPre_attention_inputs)
    ∧ quiescent_KernelIdeal_pre_none (hKernelIdeal := hKernelIdeal)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelSq (hKernelSq := hKernelSq)
    ∧ quiescent_KernelSqIdeal (hKernelSqIdeal := hKernelSqIdeal)
    ∧ quiescent_ReferenceSqIdeal (hReferenceSqIdeal := hReferenceSqIdeal)
    ∧ quiescent_KernelFwd (hKernelFwd := hKernelFwd) (hPre_forward_inputs := hPre_forward_inputs)
    ∧ quiescent_KernelFwd_pre_none (hKernelFwd := hKernelFwd)
    ∧ quiescent_KernelFwdIdeal (hKernelFwdIdeal := hKernelFwdIdeal) (hPre_forward_inputs := hPre_forward_inputs)
    ∧ quiescent_KernelFwdIdeal_pre_none (hKernelFwdIdeal := hKernelFwdIdeal)
    ∧ quiescent_ReferenceFwdIdeal (hReferenceFwdIdeal := hReferenceFwdIdeal)
    ∧ quiescent_ReferenceFwdIdeal_pre_forward_inputs (hReferenceFwdIdeal := hReferenceFwdIdeal) (hPre_forward_inputs := hPre_forward_inputs)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelAct (hKernelAct := hKernelAct)
    ∧ quiescent_KernelActIdeal (hKernelActIdeal := hKernelActIdeal)
    ∧ quiescent_KernelActIdeal_pre_act_inputs (hKernelActIdeal := hKernelActIdeal) (hPre_act_inputs := hPre_act_inputs)
    ∧ quiescent_ReferenceActIdeal (hReferenceActIdeal := hReferenceActIdeal)
    ∧ quiescent_ReferenceActIdeal_pre_act_inputs (hReferenceActIdeal := hReferenceActIdeal) (hPre_act_inputs := hPre_act_inputs)
    ∧ preserves_Kernel_KernelIdeal
    ∧ algebraic_KernelIdeal_ReferenceIdeal (hKernelIdeal := hKernelIdeal) (hReferenceIdeal := hReferenceIdeal) (hPre_attention_inputs := hPre_attention_inputs)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelSq_KernelSqIdeal
    ∧ algebraic_KernelSqIdeal_ReferenceSqIdeal (hKernelSqIdeal := hKernelSqIdeal) (hReferenceSqIdeal := hReferenceSqIdeal)
    ∧ preserves_KernelFwd_KernelFwdIdeal
    ∧ algebraic_KernelFwdIdeal_ReferenceFwdIdeal (hKernelFwdIdeal := hKernelFwdIdeal) (hReferenceFwdIdeal := hReferenceFwdIdeal) (hPre_forward_inputs := hPre_forward_inputs)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelAct_KernelActIdeal
    ∧ algebraic_KernelActIdeal_ReferenceActIdeal_pre_act_inputs (hKernelActIdeal := hKernelActIdeal) (hReferenceActIdeal := hReferenceActIdeal) (hPre_act_inputs := hPre_act_inputs)
-- ==== Pre_act_inputs.lean ====
abbrev S16384x1024 : Shape := ⟨2, ![16384, 1024]⟩
abbrev S16384x2816 : Shape := ⟨2, ![16384, 2816]⟩
abbrev S1x1024 : Shape := ⟨2, ![1, 1024]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S16384x2816 : S_.BroadcastsInDim S16384x2816 (![] : Fin 0 → Fin S16384x2816.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S16384x2816 .f32) (main_arg2 : FVec F S16384x2816 .f32) (main_arg3 : FVec F S16384x1024 .f32) (main_arg4 : FVec F S1x1024 .f32) (main_arg5 : FVec F S2816x1024 .bf16) : IVec S16384x1024 1 × IVec S16384x2816 1 × IVec S1x1024 1 × IVec S2816x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x2816 .f32 := Host.absf main_arg2
  let main_cst_0 : FVec F S_ .f32 := constant S_ .f32 0x7F800000#32
  let main_v4 : FVec F S16384x2816 .f32 := broadcastInDim S16384x2816 ![] bcast_S_S16384x2816 main_cst_0
  let main_v5 : IVec S16384x2816 1 := cmpf .olt main_v3 main_v4
  let main_v6 : FVec F S1x1024 .f32 := Host.absf main_arg4
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2816x1024 .f32 := (extf .f32 · bitsLt_bf16_f32) main_arg5
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  (main_v2, main_v5, main_v8, main_v12)
-- ==== Pre_attention_inputs.lean ====
abbrev S16384x8x96 : Shape := ⟨3, ![16384, 8, 96]⟩
abbrev S16384x8x64 : Shape := ⟨3, ![16384, 8, 64]⟩
abbrev S16384 : Shape := ⟨1, ![16384]⟩
abbrev S_ : Shape := ⟨0, ![]⟩
abbrev S16383 : Shape := ⟨1, ![16383]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)
  slices_S16384_S16383_0 : S16384.Slices ![0] S16383
  slices_S16384_S16383_1 : S16384.Slices ![1] S16383

variable [Facts]

def fn {F : FTy → Type} [FloatOps F] (main_arg0 : FVec F S16384x8x96 .f32) (main_arg1 : FVec F S16384x8x96 .f32) (main_arg2 : FVec F S16384x8x64 .f32) (main_arg3 : IVec S16384 32) (main_arg4 : FVec F S16384x8x64 .f32) : IVec S16384x8x96 1 × IVec S16384x8x96 1 × IVec S16384x8x64 1 × IVec S16383 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : IVec S16383 32 := (extractStridedSlice S16383 ![0] · slices_S16384_S16383_0) main_arg3
  let main_v10 : IVec S16383 32 := (extractStridedSlice S16383 ![1] · slices_S16384_S16383_1) main_arg3
  let main_v11 : IVec S16383 1 := cmpi .slt main_v9 main_v10
  let main_v12 : FVec F S16384x8x64 .f32 := Host.absf main_arg4
  let main_cst_2 : FVec F S_ .f32 := constant S_ .f32 0x7F800000#32
  let main_v13 : FVec F S16384x8x64 .f32 := broadcastInDim S16384x8x64 ![] bcast_S_S16384x8x64 main_cst_2
  let main_v14 : IVec S16384x8x64 1 := cmpf .olt main_v12 main_v13
  (main_v2, main_v5, main_v8, main_v11, main_v14)
-- ==== Pre_forward_inputs.lean ====
abbrev S16384x8x96 : Shape := ⟨3, ![16384, 8, 96]⟩
abbrev S16384x8x64 : Shape := ⟨3, ![16384, 8, 64]⟩
abbrev S16384 : Shape := ⟨1, ![16384]⟩
abbrev S_ : Shape := ⟨0, ![]⟩
abbrev S16383 : Shape := ⟨1, ![16383]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)
  slices_S16384_S16383_0 : S16384.Slices ![0] S16383
  slices_S16384_S16383_1 : S16384.Slices ![1] S16383

variable [Facts]

def fn {F : FTy → Type} [FloatOps F] (main_arg0 : FVec F S16384x8x96 .f32) (main_arg1 : FVec F S16384x8x96 .f32) (main_arg2 : FVec F S16384x8x64 .f32) (main_arg3 : IVec S16384 32) : IVec S16384x8x96 1 × IVec S16384x8x96 1 × IVec S16384x8x64 1 × IVec S16383 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : IVec S16383 32 := (extractStridedSlice S16383 ![0] · slices_S16384_S16383_0) main_arg3
  let main_v10 : IVec S16383 32 := (extractStridedSlice S16383 ![1] · slices_S16384_S16383_1) main_arg3
  let main_v11 : IVec S16383 1 := cmpi .slt main_v9 main_v10
  (main_v2, main_v5, main_v8, main_v11)
-- ==== Kernel.lean ====
abbrev S16384x8x96 : Shape := ⟨3, ![16384, 8, 96]⟩
abbrev S16384x8x64 : Shape := ⟨3, ![16384, 8, 64]⟩
abbrev S16384 : Shape := ⟨1, ![16384]⟩
abbrev S528 : Shape := ⟨1, ![528]⟩
abbrev S8x16384x16384 : Shape := ⟨3, ![8, 16384, 16384]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x8x128 : Shape := ⟨3, ![16384, 8, 128]⟩
abbrev S16384x1024 : Shape := ⟨2, ![16384, 1024]⟩
abbrev S16384x8x1 : Shape := ⟨3, ![16384, 8, 1]⟩
abbrev S16384x1 : Shape := ⟨2, ![16384, 1]⟩
abbrev S1x16384 : Shape := ⟨2, ![1, 16384]⟩
abbrev S512x256 : Shape := ⟨2, ![512, 256]⟩
abbrev S1 : Shape := ⟨1, ![1]⟩
abbrev S512x1 : Shape := ⟨2, ![512, 1]⟩
abbrev S1x512 : Shape := ⟨2, ![1, 512]⟩
abbrev S16384x256 : Shape := ⟨2, ![16384, 256]⟩
abbrev S512x128 : Shape := ⟨2, ![512, 128]⟩
abbrev S512x512 : Shape := ⟨2, ![512, 512]⟩

abbrev nBuf : Space → Nat
  | .hbm => 70
  | .vmem => 24
  | .smem => 2
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384, .i32⟩
  | .hbm, ⟨4, _⟩ => ⟨S16384x8x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x1, .f32⟩
  | .hbm, ⟨29, _⟩ => ⟨S8x16384x1, .f32⟩
  | .hbm, ⟨30, _⟩ => ⟨S_, .f32⟩
  | .hbm, ⟨31, _⟩ => ⟨S_, .f32⟩
  | .hbm, ⟨32, _⟩ => ⟨S8x16384x1, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x64x16384, .f32⟩
  | .hbm, ⟨37, _⟩ => ⟨S16384x8x64, .f32⟩
  | .hbm, ⟨38, _⟩ => ⟨S16384x8x64, .f32⟩
  | .hbm, ⟨39, _⟩ => ⟨S_, .f32⟩
  | .hbm, ⟨40, _⟩ => ⟨S16384x8, .f32⟩
  | .hbm, ⟨41, _⟩ => ⟨S16384, .f32⟩
  | .hbm, ⟨42, _⟩ => ⟨S_, .f32⟩
  | .hbm, ⟨43, _⟩ => ⟨S16384x8x128, .f32⟩
  | .hbm, ⟨44, _⟩ => ⟨S16384x1024, .f32⟩
  | .hbm, ⟨45, _⟩ => ⟨S16384x1024, .bf16⟩
  | .hbm, ⟨46, _⟩ => ⟨S_, .f32⟩
  | .hbm, ⟨47, _⟩ => ⟨S16384x8x128, .f32⟩
  | .hbm, ⟨48, _⟩ => ⟨S16384x1024, .f32⟩
  | .hbm, ⟨49, _⟩ => ⟨S16384x1024, .bf16⟩
  | .hbm, ⟨50, _⟩ => ⟨S_, .f32⟩
  | .hbm, ⟨51, _⟩ => ⟨S16384x8x128, .f32⟩
  | .hbm, ⟨52, _⟩ => ⟨S16384x1024, .f32⟩
  | .hbm, ⟨53, _⟩ => ⟨S16384x1024, .bf16⟩
  | .hbm, ⟨54, _⟩ => ⟨S_, .f32⟩
  | .hbm, ⟨55, _⟩ => ⟨S16384x8x128, .f32⟩
  | .hbm, ⟨56, _⟩ => ⟨S16384x1024, .f32⟩
  | .hbm, ⟨57, _⟩ => ⟨S16384x8x1, .f32⟩
  | .hbm, ⟨58, _⟩ => ⟨S16384x8x128, .f32⟩
  | .hbm, ⟨59, _⟩ => ⟨S16384x1024, .f32⟩
  | .hbm, ⟨60, _⟩ => ⟨S8x16384, .f32⟩
  | .hbm, ⟨61, _⟩ => ⟨S16384x8, .f32⟩
  | .hbm, ⟨62, _⟩ => ⟨S16384x8x1, .f32⟩
  | .hbm, ⟨63, _⟩ => ⟨S16384x8x128, .f32⟩
  | .hbm, ⟨64, _⟩ => ⟨S16384x1024, .f32⟩
  | .hbm, ⟨65, _⟩ => ⟨S16384x1, .f32⟩
  | .hbm, ⟨66, _⟩ => ⟨S1x16384, .f32⟩
  | .hbm, ⟨67, _⟩ => ⟨S16384x1024, .f32⟩
  | .hbm, ⟨68, _⟩ => ⟨S16384x1024, .f32⟩
  | .hbm, ⟨69, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1, .f32⟩
  | .local _ .vmem, ⟨13, _⟩ => ⟨S512x1, .f32⟩
  | .local _ .vmem, ⟨14, _⟩ => ⟨S1x512, .f32⟩
  | .local _ .vmem, ⟨15, _⟩ => ⟨S1x512, .f32⟩
  | .local _ .vmem, ⟨16, _⟩ => ⟨S16384x256, .f32⟩
  | .local _ .vmem, ⟨17, _⟩ => ⟨S16384x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .smem, ⟨0, _⟩ => ⟨S528, .i32⟩
  | .local _ .smem, ⟨1, _⟩ => ⟨S528, .i32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_v49_2 : Ref sig .tc := ⟨.hbm, 69, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 528], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v10 : BitVec 32 := Scalar.muli v1 c512_i32
  v10

def k0_chk1 (v1 : BitVec 32) : Prop :=
  (512 ∣ (k0_mult1 v1).toNat)
theorem k0_mult1_dvd : ∀ (v1 : BitVec 32) (k0_hw1 : k0_chk1 v1), 512 ∣ (k0_mult1 v1).toNat := fun v1 k0_hw1 => k0_hw1

def k0_off2 (v1 : BitVec 32) : Fin 2 → Nat :=
  let c512_i32 : BitVec 32 := 512#32
  let v10 : BitVec 32 := Scalar.muli v1 c512_i32
  let v11 : BitVec 32 := v10
  let v61 : Index := Scalar.indexCast v11
  let c0_28 : Index := 0#32
  ![v61.toNat, 0]
def k0_cond3 (v1 : BitVec 32) (v3 : BitVec 32) : BitVec 1 :=
  let v12 : BitVec 1 := Scalar.cmpi .ne v3 v1
  let v13 : BitVec 32 := Scalar.extui v12
  let c0_i32_2 : BitVec 32 := 0#32
  let v14 : BitVec 1 := Scalar.cmpi .ne v13 c0_i32_2
  v14

def k0_off3 (v1 : BitVec 32) : Fin 2 → Nat :=
  let c512_i32 : BitVec 32 := 512#32
  let v10 : BitVec 32 := Scalar.muli v1 c512_i32
  let v11 : BitVec 32 := v10
  let v111 : Index := Scalar.indexCast v11
  let c128_56 : Index := 128#32
  ![v111.toNat, 128]
def k0_off4 (v1 : BitVec 32) : Fin 2 → Nat :=
  let c512_i32 : BitVec 32 := 512#32
  let v10 : BitVec 32 := Scalar.muli v1 c512_i32
  let v11 : BitVec 32 := v10
  let v70 : Index := Scalar.indexCast v11
  let c0_33 : Index := 0#32
  ![v70.toNat, 0]
def k0_cond4 (v1 : BitVec 32) (v3 : BitVec 32) : BitVec 1 :=
  let v15 : BitVec 1 := Scalar.cmpi .eq v3 v1
  let v16 : BitVec 32 := Scalar.extui v15
  let c0_i32_3 : BitVec 32 := 0#32
  let v17 : BitVec 1 := Scalar.cmpi .ne v16 c0_i32_3
  v17

def k0_off5 (v1 : BitVec 32) : Fin 2 → Nat :=
  let c512_i32 : BitVec 32 := 512#32
  let v10 : BitVec 32 := Scalar.muli v1 c512_i32
  let v11 : BitVec 32 := v10
  let v122 : Index := Scalar.indexCast v11
  let c128_62 : Index := 128#32
  ![v122.toNat, 128]

def k0_chk2 (v1 : BitVec 32) (v3 : BitVec 32) : Prop :=
  (∀ (k0_h3 : k0_cond3 v1 v3 = 1#1), ∀ a, (k0_off2 v1) a + S512x128.size a ≤ S16384x256.size a) ∧
  (∀ (k0_h3 : k0_cond3 v1 v3 = 1#1), ∀ a, (k0_off3 v1) a + S512x128.size a ≤ S16384x256.size a) ∧
  (∀ (k0_h4 : k0_cond4 v1 v3 = 1#1), ∀ a, (k0_off4 v1) a + S512x128.size a ≤ S16384x256.size a) ∧
  (∀ (k0_h4 : k0_cond4 v1 v3 = 1#1), ∀ a, (k0_off5 v1) a + S512x128.size a ≤ S16384x256.size a)
theorem k0_off2_inb : ∀ (v1 : BitVec 32) (v3 : BitVec 32) (k0_hw2 : k0_chk2 v1 v3), ∀ (k0_h3 : k0_cond3 v1 v3 = 1#1), ∀ a, (k0_off2 v1) a + S512x128.size a ≤ S16384x256.size a := fun v1 v3 k0_hw2 k0_h3 => k0_hw2.1 k0_h3
theorem k0_off3_inb : ∀ (v1 : BitVec 32) (v3 : BitVec 32) (k0_hw2 : k0_chk2 v1 v3), ∀ (k0_h3 : k0_cond3 v1 v3 = 1#1), ∀ a, (k0_off3 v1) a + S512x128.size a ≤ S16384x256.size a := fun v1 v3 k0_hw2 k0_h3 => k0_hw2.2.1 k0_h3
theorem k0_off4_inb : ∀ (v1 : BitVec 32) (v3 : BitVec 32) (k0_hw2 : k0_chk2 v1 v3), ∀ (k0_h4 : k0_cond4 v1 v3 = 1#1), ∀ a, (k0_off4 v1) a + S512x128.size a ≤ S16384x256.size a := fun v1 v3 k0_hw2 k0_h4 => k0_hw2.2.2.1 k0_h4
theorem k0_off5_inb : ∀ (v1 : BitVec 32) (v3 : BitVec 32) (k0_hw2 : k0_chk2 v1 v3), ∀ (k0_h4 : k0_cond4 v1 v3 = 1#1), ∀ a, (k0_off5 v1) a + S512x128.size a ≤ S16384x256.size a := fun v1 v3 k0_hw2 k0_h4 => k0_hw2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c31_i32 : BitVec 32 := 31#32
  let v18 : BitVec 1 := Scalar.cmpi .eq v1 c31_i32
  let v19 : BitVec 32 := Scalar.extui v18
  let c0_i32_4 : BitVec 32 := 0#32
  let v20 : BitVec 1 := Scalar.cmpi .ne v19 c0_i32_4
  v20

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S16384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "masked" => some ⊥
  | "scale_log2e" => some (((3424635 / 33554432) * (Real.log 2)⁻¹ : ℝ) : EReal)
  | _ => none
-- ==== ReferenceIdeal.lean ====
abbrev S16384x8x96 : Shape := ⟨3, ![16384, 8, 96]⟩
abbrev S16384x8x64 : Shape := ⟨3, ![16384, 8, 64]⟩
abbrev S16384 : Shape := ⟨1, ![16384]⟩
abbrev S8x16384x16384 : Shape := ⟨3, ![8, 16384, 16384]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S16384x8x128 : Shape := ⟨3, ![16384, 8, 128]⟩
abbrev S16384x1024 : Shape := ⟨2, ![16384, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384, .i32⟩
  | .hbm, ⟨4, _⟩ => ⟨S16384x8x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S8x16384, .i1⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S8x16384, .f32⟩
  | .hbm, ⟨45, _⟩ => ⟨S8x16384, .f32⟩
  | .hbm, ⟨46, _⟩ => ⟨S8x16384x1, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x1, .f32⟩
  | .hbm, ⟨56, _⟩ => ⟨S_, .f32⟩
  | .hbm, ⟨57, _⟩ => ⟨S8x16384x1, .f32⟩
  | .hbm, ⟨58, _⟩ => ⟨S8x16384x1, .f32⟩
  | .hbm, ⟨59, _⟩ => ⟨S8x64x16384, .f32⟩
  | .hbm, ⟨60, _⟩ => ⟨S16384x8x64, .f32⟩
  | .hbm, ⟨61, _⟩ => ⟨S8x64x16384, .f32⟩
  | .hbm, ⟨62, _⟩ => ⟨S8x16384x16384, .f32⟩
  | .hbm, ⟨63, _⟩ => ⟨S8x64x16384, .f32⟩
  | .hbm, ⟨64, _⟩ => ⟨S16384x8x64, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S8x16384, .f32⟩
  | .hbm, ⟨70, _⟩ => ⟨S8x16384x1, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S_, .f32⟩
  | .hbm, ⟨75, _⟩ => ⟨S8x16384, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384x16384, .f32⟩
  | .hbm, ⟨84, _⟩ => ⟨S8x16384x16384, .f32⟩
  | .hbm, ⟨85, _⟩ => ⟨S8x16384x96, .f32⟩
  | .hbm, ⟨86, _⟩ => ⟨S16384x8x96, .f32⟩
  | .hbm, ⟨87, _⟩ => ⟨S8x16384x96, .f32⟩
  | .hbm, ⟨88, _⟩ => ⟨S16384x8x96, .f32⟩
  | .hbm, ⟨89, _⟩ => ⟨S_, .f32⟩
  | .hbm, ⟨90, _⟩ => ⟨S16384x8x128, .f32⟩
  | .hbm, ⟨91, _⟩ => ⟨S16384x1024, .f32⟩
  | .hbm, ⟨92, _⟩ => ⟨S_, .f32⟩
  | .hbm, ⟨93, _⟩ => ⟨S16384x8x128, .f32⟩
  | .hbm, ⟨94, _⟩ => ⟨S16384x1024, .f32⟩
  | .hbm, ⟨95, _⟩ => ⟨S_, .f32⟩
  | .hbm, ⟨96, _⟩ => ⟨S16384x8x128, .f32⟩
  | .hbm, ⟨97, _⟩ => ⟨S16384x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_call0_v0 : Ref sig .tc := ⟨.hbm, 15, rfl⟩
abbrev main_v8_1 : Ref sig .tc := ⟨.hbm, 16, rfl⟩
abbrev main_call0_v2 : Ref sig .tc := ⟨.hbm, 17, rfl⟩
abbrev main_v8_0 : Ref sig .tc := ⟨.hbm, 18, rfl⟩
abbrev main_call0_cst : Ref sig .tc := ⟨.hbm, 19, rfl⟩
abbrev main_v8_2 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== KernelUp.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x1024, .f32⟩
  | .hbm, ⟨3, _⟩ => ⟨S16384x2816, .f32⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelSq.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceSqIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFwd.lean ====
abbrev S16384x8x96 : Shape := ⟨3, ![16384, 8, 96]⟩
abbrev S16384x8x64 : Shape := ⟨3, ![16384, 8, 64]⟩
abbrev S16384 : Shape := ⟨1, ![16384]⟩
abbrev S528 : Shape := ⟨1, ![528]⟩
abbrev S_ : Shape := ⟨0, ![]⟩
abbrev S16384x8x1 : Shape := ⟨3, ![16384, 8, 1]⟩
abbrev S16384x8x65 : Shape := ⟨3, ![16384, 8, 65]⟩
abbrev S16384x8x128 : Shape := ⟨3, ![16384, 8, 128]⟩
abbrev S16384x1024 : Shape := ⟨2, ![16384, 1024]⟩
abbrev S16384x1 : Shape := ⟨2, ![16384, 1]⟩
abbrev S1x16384 : Shape := ⟨2, ![1, 16384]⟩
abbrev S512x512 : Shape := ⟨2, ![512, 512]⟩
abbrev S1 : Shape := ⟨1, ![1]⟩
abbrev S512x1 : Shape := ⟨2, ![512, 1]⟩
abbrev S1x512 : Shape := ⟨2, ![1, 512]⟩
abbrev S512x128 : Shape := ⟨2, ![512, 128]⟩
abbrev S512 : Shape := ⟨1, ![512]⟩

abbrev nBuf : Space → Nat
  | .hbm => 24
  | .vmem => 16
  | .smem => 2
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384, .i32⟩
  | .hbm, ⟨4, _⟩ => ⟨S_, .f32⟩
  | .hbm, ⟨5, _⟩ => ⟨S16384x8x1, .f32⟩
  | .hbm, ⟨6, _⟩ => ⟨S16384x8x65, .f32⟩
  | .hbm, ⟨7, _⟩ => ⟨S16384, .f32⟩
  | .hbm, ⟨8, _⟩ => ⟨S_, .f32⟩
  | .hbm, ⟨9, _⟩ => ⟨S16384x8x128, .f32⟩
  | .hbm, ⟨10, _⟩ => ⟨S16384x1024, .f32⟩
  | .hbm, ⟨11, _⟩ => ⟨S16384x1024, .bf16⟩
  | .hbm, ⟨12, _⟩ => ⟨S_, .f32⟩
  | .hbm, ⟨13, _⟩ => ⟨S16384x8x128, .f32⟩
  | .hbm, ⟨14, _⟩ => ⟨S16384x1024, .f32⟩
  | .hbm, ⟨15, _⟩ => ⟨S16384x1024, .bf16⟩
  | .hbm, ⟨16, _⟩ => ⟨S_, .f32⟩
  | .hbm, ⟨17, _⟩ => ⟨S16384x8x128, .f32⟩
  | .hbm, ⟨18, _⟩ => ⟨S16384x1024, .f32⟩
  | .hbm, ⟨19, _⟩ => ⟨S16384x1024, .bf16⟩
  | .hbm, ⟨20, _⟩ => ⟨S16384x1, .f32⟩
  | .hbm, ⟨21, _⟩ => ⟨S1x16384, .f32⟩
  | .hbm, ⟨22, _⟩ => ⟨S16384x1024, .f32⟩
  | .hbm, ⟨23, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .smem, ⟨0, _⟩ => ⟨S528, .i32⟩
  | .local _ .smem, ⟨1, _⟩ => ⟨S528, .i32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 528], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![c0_i32.toNat, v1.toNat]

def cc0_transform_5 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelFwdIdeal.lean ====
variable {F : FTy → Type} [FloatOps F] [Named F]
def κ : String → Option EReal := fun
  | "log2e" => some (((Real.log 2)⁻¹ : ℝ) : EReal)
  | "masked" => some ⊥
  | "scale_log2e" => some (((3424635 / 33554432) * (Real.log 2)⁻¹ : ℝ) : EReal)
  | _ => none
-- ==== ReferenceFwdIdeal.lean ====
abbrev S16384x8x96 : Shape := ⟨3, ![16384, 8, 96]⟩
abbrev S16384x8x64 : Shape := ⟨3, ![16384, 8, 64]⟩
abbrev S16384 : Shape := ⟨1, ![16384]⟩
abbrev S8x16384x16384 : Shape := ⟨3, ![8, 16384, 16384]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8x1 : Shape := ⟨3, ![16384, 8, 1]⟩
abbrev S16384x8x65 : Shape := ⟨3, ![16384, 8, 65]⟩
abbrev S16384x8x128 : Shape := ⟨3, ![16384, 8, 128]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384, .i32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S1x1x16384, .i32⟩
  | .hbm, ⟨9, _⟩ => ⟨S1x16384x1, .i32⟩
  | .hbm, ⟨10, _⟩ => ⟨S1x16384x16384, .i32⟩
  | .hbm, ⟨11, _⟩ => ⟨S1x16384x16384, .i32⟩
  | .hbm, ⟨12, _⟩ => ⟨S1x16384x16384, .i1⟩
  | .hbm, ⟨13, _⟩ => ⟨S_, .f32⟩
  | .hbm, ⟨14, _⟩ => ⟨S_, .f32⟩
  | .hbm, ⟨15, _⟩ => ⟨S8x16384x16384, .i1⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x1, .f32⟩
  | .hbm, ⟨28, _⟩ => ⟨S8x16384x1, .f32⟩
  | .hbm, ⟨29, _⟩ => ⟨S_, .f32⟩
  | .hbm, ⟨30, _⟩ => ⟨S_, .f32⟩
  | .hbm, ⟨31, _⟩ => ⟨S8x16384x1, .f32⟩
  | .hbm, ⟨32, _⟩ => ⟨S8x16384x1, .f32⟩
  | .hbm, ⟨33, _⟩ => ⟨S8x16384x16384, .f32⟩
  | .hbm, ⟨34, _⟩ => ⟨S_, .f32⟩
  | .hbm, ⟨35, _⟩ => ⟨S8x16384x16384, .f32⟩
  | .hbm, ⟨36, _⟩ => ⟨S8x16384x16384, .f32⟩
  | .hbm, ⟨37, _⟩ => ⟨S1x1x16384, .i32⟩
  | .hbm, ⟨38, _⟩ => ⟨S1x16384x1, .i32⟩
  | .hbm, ⟨39, _⟩ => ⟨S1x16384x16384, .i32⟩
  | .hbm, ⟨40, _⟩ => ⟨S1x16384x16384, .i32⟩
  | .hbm, ⟨41, _⟩ => ⟨S1x16384x16384, .i1⟩
  | .hbm, ⟨42, _⟩ => ⟨S_, .f32⟩
  | .hbm, ⟨43, _⟩ => ⟨S_, .f32⟩
  | .hbm, ⟨44, _⟩ => ⟨S8x16384x16384, .i1⟩
  | .hbm, ⟨45, _⟩ => ⟨S8x16384x16384, .f32⟩
  | .hbm, ⟨46, _⟩ => ⟨S8x16384x16384, .f32⟩
  | .hbm, ⟨47, _⟩ => ⟨S_, .f32⟩
  | .hbm, ⟨48, _⟩ => ⟨S8x16384, .f32⟩
  | .hbm, ⟨49, _⟩ => ⟨S_, .f32⟩
  | .hbm, ⟨50, _⟩ => ⟨S8x16384, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S_, .f32⟩
  | .hbm, ⟨57, _⟩ => ⟨S8x16384, .f32⟩
  | .hbm, ⟨58, _⟩ => ⟨S8x16384x1, .f32⟩
  | .hbm, ⟨59, _⟩ => ⟨S8x16384x16384, .f32⟩
  | .hbm, ⟨60, _⟩ => ⟨S8x16384x16384, .f32⟩
  | .hbm, ⟨61, _⟩ => ⟨S8x64x16384, .f32⟩
  | .hbm, ⟨62, _⟩ => ⟨S16384x8x64, .f32⟩
  | .hbm, ⟨63, _⟩ => ⟨S_, .f32⟩
  | .hbm, ⟨64, _⟩ => ⟨S16384x8x1, .f32⟩
  | .hbm, ⟨65, _⟩ => ⟨S16384x8x65, .f32⟩
  | .hbm, ⟨66, _⟩ => ⟨S_, .f32⟩
  | .hbm, ⟨67, _⟩ => ⟨S16384x8x128, .f32⟩
  | .hbm, ⟨68, _⟩ => ⟨S16384x1024, .f32⟩
  | .hbm, ⟨69, _⟩ => ⟨S16384x8x1, .f32⟩
  | .hbm, ⟨70, _⟩ => ⟨S16384x8x128, .f32⟩
  | .hbm, ⟨71, _⟩ => ⟨S16384x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== KernelFfn.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x1024, .bf16⟩
  | .hbm, ⟨9, _⟩ => ⟨S16384x2816, .f32⟩
  | .hbm, ⟨10, _⟩ => ⟨S16384x2816, .f32⟩
  | .hbm, ⟨11, _⟩ => ⟨S16384x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2816, .f32⟩
  | .local _ .vmem, ⟨12, _⟩ => ⟨S256x2816, .f32⟩
  | .local _ .vmem, ⟨13, _⟩ => ⟨S256x2816, .f32⟩
  | .local _ .vmem, ⟨14, _⟩ => ⟨S256x2816, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceFfnIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S16384x1024, .bf16⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== KernelAct.lean ====
abbrev S16384x1024 : Shape := ⟨2, ![16384, 1024]⟩
abbrev S16384x2816 : Shape := ⟨2, ![16384, 2816]⟩
abbrev S1x1024 : Shape := ⟨2, ![1, 1024]⟩
abbrev S2816x1024 : Shape := ⟨2, ![2816, 1024]⟩
abbrev S256x1024 : Shape := ⟨2, ![256, 1024]⟩
abbrev S256x2816 : Shape := ⟨2, ![256, 2816]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x2816, .f32⟩
  | .hbm, ⟨3, _⟩ => ⟨S16384x1024, .f32⟩
  | .hbm, ⟨4, _⟩ => ⟨S1x1024, .f32⟩
  | .hbm, ⟨5, _⟩ => ⟨S2816x1024, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .hbm, ⟨9, _⟩ => ⟨S16384x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .eq arg0 c0_i32_8
  let v_true : BitVec 1 := 1#1
  let v14 : BitVec 1 := Scalar.xori v13 v_true
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceActIdeal.lean ====
abbrev S16384x1024 : Shape := ⟨2, ![16384, 1024]⟩
abbrev S16384x2816 : Shape := ⟨2, ![16384, 2816]⟩
abbrev S1x1024 : Shape := ⟨2, ![1, 1024]⟩
abbrev S2816x1024 : Shape := ⟨2, ![2816, 1024]⟩
abbrev S_ : Shape := ⟨0, ![]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x2816, .f32⟩
  | .hbm, ⟨3, _⟩ => ⟨S16384x1024, .f32⟩
  | .hbm, ⟨4, _⟩ => ⟨S1x1024, .f32⟩
  | .hbm, ⟨5, _⟩ => ⟨S2816x1024, .bf16⟩
  | .hbm, ⟨6, _⟩ => ⟨S2816x1024, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x2816, .bf16⟩
  | .hbm, ⟨42, _⟩ => ⟨S16384x2816, .bf16⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .bf16⟩
  | .hbm, ⟨54, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩

abbrev nD : Nat := 1
abbrev τ : Topo := Topo.v7x

variable {F : FTy → Type} [FloatOps F]
-- ==== Proof.ValOps.lean ====
/-
  Arrays of real numbers at the ideal values, and what the operations of both programs make of them.
-/
module

public import proofs.«01_k».proof.KernelIdeal
public import Idealize.ShloMosaic.Lib.MatmulPlain
public import Idealize.ShloMosaic.Lib.KernelVsHost
public import Idealize.ShloMosaic.Lib.IdealHost
public import Idealize.ShloMosaic.Lib.ValueLayout
public import Idealize.ShloMosaic.Lib.ValueIdx
public import Idealize.ShloMosaic.Lib.VecWindow

@[expose] public section

set_option maxRecDepth 16384

noncomputable section

namespace Cert.Proof.Val

open Idealize.ShloMosaic Idealize.ShloMosaic.ValueIdx
open scoped BigOperators

/-- A matrix of reals, a three-axis array of reals, as an array of extended reals. -/
def up {a b : ℕ} (A : ℕ → ℕ → ℝ) : (⟨2, ![a, b]⟩ : Shape).Idx → EReal := fun i => ((A (i 0).val (i 1).val : ℝ) : EReal)
def up3 {a b c : ℕ} (A : ℕ → ℕ → ℕ → ℝ) : (⟨3, ![a, b, c]⟩ : Shape).Idx → EReal := fun i => ((A (i 0).val (i 1).val (i 2).val : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_fin (n : ℕ) (f : ℕ → ℝ) : ((∑ i ∈ Finset.range n, f i : ℝ) : EReal) = ∑ i : Fin n, (f i.val : EReal) := by
  rw [coe_sum, Finset.sum_range]

theorem up_congr {a b : ℕ} {A B : ℕ → ℕ → ℝ} (h : ∀ i j, i < a → j < b → A i j = B i j) : (up A : (⟨2, ![a, b]⟩ : Shape).Idx → EReal) = up B :=
  funext fun i => by
    have h0 : (i 0).val < a := (i 0).isLt
    have h1 : (i 1).val < b := (i 1).isLt
    show ((A _ _ : ℝ) : EReal) = ((B _ _ : ℝ) : EReal)
    rw [h _ _ h0 h1]

section two
variable {a b : ℕ}

theorem mulf_up (φ : FTy) (A B : ℕ → ℕ → ℝ) :
    mulf (F := Ideal) (φ := φ) (up A : (⟨2, ![a, b]⟩ : Shape).Idx → EReal) (up B) = up fun i j => A i j * B i j :=
  funext fun i => (EReal.coe_mul _ _).symm
theorem addf_up (φ : FTy) (A B : ℕ → ℕ → ℝ) :
    addf (F := Ideal) (φ := φ) (up A : (⟨2, ![a, b]⟩ : Shape).Idx → EReal) (up B) = up fun i j => A i j + B i j :=
  funext fun i => (EReal.coe_add _ _).symm
theorem subf_up (φ : FTy) (A B : ℕ → ℕ → ℝ) :
    subf (F := Ideal) (φ := φ) (up A : (⟨2, ![a, b]⟩ : Shape).Idx → EReal) (up B) = up fun i j => A i j - B i j :=
  funext fun i => (EReal.coe_sub _ _).symm
theorem truncf_up {φ ψ : FTy} (h : ψ.bits < φ.bits) (A : ℕ → ℕ → ℝ) :
    truncf (F := Ideal) (φ := φ) ψ (up A : (⟨2, ![a, b]⟩ : Shape).Idx → EReal) h = up A := rfl
theorem exp2_up (φ : FTy) (A : ℕ → ℕ → ℝ) :
    exp2 (F := Ideal) (φ := φ) (up A : (⟨2, ![a, b]⟩ : Shape).Idx → EReal) = up fun i j => Real.rpow 2 (A i j) := rfl
theorem broadcast_coe (r : ℝ) : broadcast (⟨2, ![a, b]⟩ : Shape) ((r : ℝ) : EReal) = up fun _ _ => r := rfl
theorem col_up (A : ℕ → ℕ → ℝ) (h : (⟨2, ![a, 1]⟩ : Shape).Broadcasts ⟨2, ![a, b]⟩) :
    broadcastTo ⟨2, ![a, b]⟩ (up A : (⟨2, ![a, 1]⟩ : Shape).Idx → EReal) h = up fun i _ => A i 0 := by
  funext j
  rw [broadcastTo_apply _ h j (ix2 (j 0) (0 : Fin 1)) (by
    intro x; match x with
    | ⟨0, _⟩ =>
      show (j 0).val = if a = 1 then 0 else (j 0).val
      split
      · have : (j 0).val < a := (j 0).isLt
        omega
      · rfl
    | ⟨1, _⟩ => exact (if_pos rfl).symm)]
  rfl
theorem row_up (A : ℕ → ℕ → ℝ) (h : (⟨2, ![1, b]⟩ : Shape).Broadcasts ⟨2, ![a, b]⟩) :
    broadcastTo ⟨2, ![a, b]⟩ (up A : (⟨2, ![1, b]⟩ : Shape).Idx → EReal) h = up fun _ j => A 0 j := by
  funext j
  rw [broadcastTo_apply _ h j (ix2 (0 : Fin 1) (j 1)) (by
    intro x; match x with
    | ⟨1, _⟩ =>
      show (j 1).val = if b = 1 then 0 else (j 1).val
      split
      · have : (j 1).val < b := (j 1).isLt
        omega
      · rfl
    | ⟨0, _⟩ => exact (if_pos rfl).symm)]
  rfl
theorem slice_up {c : ℕ} (A : ℕ → ℕ → ℝ) (h : (⟨2, ![a, b]⟩ : Shape).Slices ![0, 0] ⟨2, ![a, c]⟩) :
    extractStridedSlice ⟨2, ![a, c]⟩ ![0, 0] (up A : (⟨2, ![a, b]⟩ : Shape).Idx → EReal) h = up A := by
  funext j
  show ((A (0 + _) (0 + _) : ℝ) : EReal) = _
  rw [Nat.zero_add, Nat.zero_add]; rfl
/-- A comparison of reals selects between reals and −∞, whose power of two is zero. -/
theorem masked_up (A P R : ℕ → ℕ → ℝ) :
    exp2 (F := Ideal) (φ := .f32) (select (cmpf (F := Ideal) (φ := .f32) .ole (up R : (⟨2, ![a, b]⟩ : Shape).Idx → EReal) (up P)) (up A) (broadcast _ (⊥ : EReal)))
      = up fun i j => if R i j ≤ P i j then Real.rpow 2 (A i j) else 0 := by
  funext i
  show Ideal.exp2 (Scalar.select (Ideal.cmp .ole ((R _ _ : ℝ) : EReal) ((P _ _ : ℝ) : EReal)) ((A _ _ : ℝ) : EReal) ⊥) = (((if R _ _ ≤ P _ _ then _ else _ : ℝ)) : EReal)
  by_cases h : R (i 0).val (i 1).val ≤ P (i 0).val (i 1).val
  · rw [if_pos h]
    have : Ideal.cmp .ole ((R (i 0).val (i 1).val : ℝ) : EReal) ((P (i 0).val (i 1).val : ℝ) : EReal) = 1#1 := by
      unfold Ideal.cmp; simp only [EReal.coe_le_coe_iff, h]; rfl
    rw [this, select_one]; rfl
  · rw [if_neg h]
    have : Ideal.cmp .ole ((R (i 0).val (i 1).val : ℝ) : EReal) ((P (i 0).val (i 1).val : ℝ) : EReal) = 0#1 := by
      unfold Ideal.cmp; simp only [EReal.coe_le_coe_iff, h]; rfl
    rw [this, select_zero]; rfl

end two

/-! ## Products -/

/-- A product with one contracted axis, read at an index. -/
theorem matmul1 {sl sr so : Shape} {φ₁ φ₂ : FTy} (D : DotDims sl sr so) (n : ℕ) (hr : D.contr.rank = 1) (hs : D.contr.size ⟨0, by omega⟩ = n)
    (prec : Option ContractPrecision) (l : FVec Ideal sl φ₁) (r : FVec Ideal sr φ₂) (acc : FVec Ideal so .f32) (j : so.Idx)
    (f g : Fin n → EReal)
    (hf : ∀ k : Fin n, ∀ c : D.contr.Idx, (c ⟨0, by omega⟩).val = k.val → l (D.lhsIdx j c) = f k)
    (hg : ∀ k : Fin n, ∀ c : D.contr.Idx, (c ⟨0, by omega⟩).val = k.val → r (D.rhsIdx j c) = g k) :
    FloatOps.matmul D prec l r acc j = acc j + ∑ k, f k * g k := by
  rw [Ideal.matmul_apply, ← Equiv.sum_comp (contrEquiv1 D n hr hs).symm]
  refine congrArg (acc j + ·) (Finset.sum_congr rfl fun k _ => ?_)
  have hk := contrEquiv1_symm_val D n hr hs k
  rw [hf k _ hk, hg k _ hk]

/-- The same of the host's product. -/
theorem dot1 {sl sr so : Shape} {φ₁ φ₂ : FTy} (D : DotDims sl sr so) (n : ℕ) (hr : D.contr.rank = 1) (hs : D.contr.size ⟨0, by omega⟩ = n)
    (prec : Option ContractPrecision) (l : FVec Ideal sl φ₁) (r : FVec Ideal sr φ₂) (j : so.Idx)
    (f g : Fin n → EReal)
    (hf : ∀ k : Fin n, ∀ c : D.contr.Idx, (c ⟨0, by omega⟩).val = k.val → l (D.lhsIdx j c) = f k)
    (hg : ∀ k : Fin n, ∀ c : D.contr.Idx, (c ⟨0, by omega⟩).val = k.val → r (D.rhsIdx j c) = g k) :
    (Host.dotGeneral D prec l r : FVec Ideal so .f32) j = ∑ k, f k * g k := by
  rw [show (Host.dotGeneral D prec l r : FVec Ideal so .f32) j = ∑ k : D.contr.Idx, l (D.lhsIdx j k) * r (D.rhsIdx j k) from Ideal.dotGeneral_apply _ _ _ _ _ _,
    ← Equiv.sum_comp (contrEquiv1 D n hr hs).symm]
  refine Finset.sum_congr rfl fun k _ => ?_
  have hk := contrEquiv1_symm_val D n hr hs k
  rw [hf k _ hk, hg k _ hk]

end Cert.Proof.Val

end
-- ==== Proof.KitKI.lean ====
/-
  The program `KernelIdeal` up to its one pallas_call: what each buffer holds there, the two index tables, the windows' blocks.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What core `c`'s buffers hold when the call is reached. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- A buffer no host operation writes is found as launched. -/
theorem V_untouched (c : Dev nD) (b : Ref sig .tc)
    (h : (List.flatten [hostOps0, hostOps0_1, hostOps0_2] : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) :=
  V_untouched m c main_arg0 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg1 (c : Dev nD) : V m c main_arg1 = m ((c : Thread nD τ).loc main_arg1) :=
  V_untouched m c main_arg1 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg2 (c : Dev nD) : V m c main_arg2 = m ((c : Thread nD τ).loc main_arg2) :=
  V_untouched m c main_arg2 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg3 (c : Dev nD) : V m c main_arg3 = m ((c : Thread nD τ).loc main_arg3) :=
  V_untouched m c main_arg3 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg4 (c : Dev nD) : V m c main_arg4 = m ((c : Thread nD τ).loc main_arg4) :=
  V_untouched m c main_arg4 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-! ## The two tables -/

/-- The tables' contents at the call (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S528 .i32 := Memref.whole main_c
abbrev htbM0 : tbM0.IsWhole := Memref.isWhole_whole _
abbrev tbM1 : Memref sig .tc .smem S528 .i32 := Memref.whole main_c_0
abbrev htbM1 : tbM1.IsWhole := Memref.isWhole_whole _

/-- A table's contents, and the table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, of its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7 (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

theorem frame_of (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).2 main_arg2 (by decide : main_arg2 ∈ Pipeline.restRefs sig spec0)).trans (V_arg2 m c),
      ((h c).2 main_arg3 (by decide : main_arg3 ∈ Pipeline.restRefs sig spec0)).trans (V_arg3 m c),
      ((h c).2 main_arg4 (by decide : main_arg4 ∈ Pipeline.restRefs sig spec0)).trans (V_arg4 m c)⟩) h

end Cert.Proof.KI

end
-- ==== Proof.RunKI.lean ====
/-
  One step of the kernel on whole buffers: what it leaves in the three results' windows and the two accumulators, in terms of
  the eight input blocks and of what was there, for each of the five ways its conditions fall out.
-/
module

public import proofs.«01_k».proof.Proof.KitKI
public import Idealize.ShloMosaic.Lib.VecWindow

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The step as a function of values -/

/-- The eight input blocks of a step: rows of the query side (`q`, `go`, `dl`, `ls`, `pc`) and of the key side (`k`, `v`, `pr`). -/
structure Blocks (F : FTy → Type) where
  q : Vec F S512x256 .bf16
  k : Vec F S512x256 .bf16
  v : Vec F S512x256 .bf16
  go : Vec F S512x256 .f32
  dl : Vec F S512x256 .f32
  ls : Vec F S512x256 .f32
  pc : Vec F S512x1 .f32
  pr : Vec F S1x512 .f32

/-- The first and the second head's lanes of a block of two heads. -/
abbrev lo {e : EltTy} (x : Vec F S512x256 e) : Vec F S512x128 e :=
  VecWindow.window x ![0, 0] S512x128.size inb_S512x256_S512x128_0_0
abbrev hi {e : EltTy} (x : Vec F S512x256 e) : Vec F S512x128 e :=
  VecWindow.window x ![0, 128] S512x128.size inb_S512x256_S512x128_0_128
/-- A block of two heads from the heads' own lanes, over `x`. -/
abbrev putLo (x : Vec F S512x256 .f32) (w : Vec F S512x128 .f32) : Vec F S512x256 .f32 :=
  VecWindow.put x ![0, 0] S512x128.size w
abbrev putHi (x : Vec F S512x256 .f32) (w : Vec F S512x128 .f32) : Vec F S512x256 .f32 :=
  VecWindow.put x ![0, 128] S512x128.size w

theorem rowsLo {r : ℕ} (hr : r + 512 ≤ 16384) : ∀ a, (![r, 0] : Fin 2 → ℕ) a + S512x128.size a ≤ S16384x256.size a :=
  Fin.forall_fin_two.mpr ⟨hr, show 0 + 128 ≤ 256 by decide⟩
theorem rowsHi {r : ℕ} (hr : r + 512 ≤ 16384) : ∀ a, (![r, 128] : Fin 2 → ℕ) a + S512x128.size a ≤ S16384x256.size a :=
  Fin.forall_fin_two.mpr ⟨hr, show 128 + 128 ≤ 256 by decide⟩

/-- Off the diagonal: the accumulators and the queries' window at row `r` after the step. -/
def offV (B : Blocks F) (x : Vec F S512x256 .f32) : Vec F S512x256 .f32 :=
  putHi (putLo x (k0_pay14 (lo B.q) (lo B.k) (lo B.go) (lo B.ls) (lo x)))
    (k0_pay5 (k0_pay20 (hi B.go)) (k0_pay21 (hi B.q) (hi B.k) (hi B.ls)) (hi x))
def offK (B : Blocks F) (x : Vec F S512x256 .f32) : Vec F S512x256 .f32 :=
  putHi (putLo x (k0_pay16 (lo x) (k0_pay15 (lo B.q) (lo B.k) (lo B.go) (lo B.ls) (lo B.v) (lo B.dl))))
    (k0_pay6 (k0_pay18 (hi B.q)) (k0_pay21 (hi B.q) (hi B.k) (hi B.ls)) (k0_pay22 (hi B.go) (hi B.v)) (k0_pay23 (hi B.dl)) (hi x))
def offQ (B : Blocks F) (r : ℕ) (hr : r + 512 ≤ 16384) (x : Vec F S16384x256 .f32) : Vec F S16384x256 .f32 :=
  VecWindow.put
    (VecWindow.put x ![r, 0] S512x128.size
      (k0_pay17 (k0_pay10 (lo B.k)) (k0_pay13 (lo B.q) (lo B.k) (lo B.go) (lo B.ls) (lo B.v) (lo B.dl))
        (VecWindow.window x ![r, 0] S512x128.size (rowsLo hr))))
    ![r, 128] S512x128.size
    (k0_pay7 (k0_pay19 (hi B.k)) (k0_pay21 (hi B.q) (hi B.k) (hi B.ls)) (k0_pay22 (hi B.go) (hi B.v)) (k0_pay23 (hi B.dl))
      (VecWindow.window x ![r, 128] S512x128.size (rowsHi hr)))

/-- On the diagonal: the same, the entries above it masked. -/
def diaV (B : Blocks F) (x : Vec F S512x256 .f32) : Vec F S512x256 .f32 :=
  putHi (putLo x (k0_pay32 (lo x) (k0_pay30 B.pr B.pc (lo B.q) (lo B.k) (lo B.ls)) (k0_pay31 (lo B.go)) (constant S512x128 .f32 0x00000000#32)))
    (k0_pay41 (k0_pay24 B.pr B.pc) (k0_pay37 (hi B.go)) (k0_pay38 (hi B.q) (hi B.k) (hi B.ls)) (hi x))
def diaK (B : Blocks F) (x : Vec F S512x256 .f32) : Vec F S512x256 .f32 :=
  putHi (putLo x (k0_pay33 (k0_pay25 (lo B.q)) (k0_pay29 B.pr B.pc (lo B.q) (lo B.k) (lo B.go) (lo B.ls) (lo B.v) (lo B.dl)) (lo x)))
    (k0_pay42 (k0_pay24 B.pr B.pc) (k0_pay35 (hi B.q)) (k0_pay37 (hi B.go)) (k0_pay38 (hi B.q) (hi B.k) (hi B.ls)) (hi B.v) (hi B.dl) (hi x))
def diaQ (B : Blocks F) (r : ℕ) (hr : r + 512 ≤ 16384) (x : Vec F S16384x256 .f32) : Vec F S16384x256 .f32 :=
  VecWindow.put
    (VecWindow.put x ![r, 0] S512x128.size
      (k0_pay34 (k0_pay26 (lo B.k)) (k0_pay29 B.pr B.pc (lo B.q) (lo B.k) (lo B.go) (lo B.ls) (lo B.v) (lo B.dl))
        (VecWindow.window x ![r, 0] S512x128.size (rowsLo hr))))
    ![r, 128] S512x128.size
    (k0_pay43 (k0_pay24 B.pr B.pc) (k0_pay36 (hi B.k)) (k0_pay37 (hi B.go)) (k0_pay38 (hi B.q) (hi B.k) (hi B.ls)) (hi B.v) (hi B.dl)
      (VecWindow.window x ![r, 128] S512x128.size (rowsHi hr)))

/-! ## The words and the conditions -/

/-- The word of a table at a step. -/
abbrev word {c : Dev nD} (M : Memref sig .tc .smem S528 .i32) (t : TbBuf (F := F) c M) (i : grid0.Coords) : BitVec 32 :=
  View.readAt (Elt F) M.view (Rect.unit (s := S528) (k0_off1 i) S1.size (k0_off1_inb i)).toLoadRect t (Shape.Idx.first (show 0 < S1.numel by decide))

/-- The condition under which the accumulators start anew: the two words are equal. -/
abbrev eqW (a b : BitVec 32) : Prop := Scalar.cmpi .ne (Scalar.extui (Scalar.cmpi .eq a b) : BitVec 32) 0#32 = 1#1

/-! ## The step run -/

theorem read_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl
theorem read_win {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb :=
  View.readAt_unit v f inb rfl inb

/-- The second head's lanes are untouched by a store of the first head's. -/
theorem win_lo_hi {α : Type} (x : S512x256.Idx → α) (w : ((a : Fin 2) → Fin (S512x128.size a)) → α) (inb) :
    VecWindow.window (VecWindow.put x ![0, 0] S512x128.size w) ![0, 128] S512x128.size inb = VecWindow.window x ![0, 128] S512x128.size inb :=
  VecWindow.window_put_of_disjoint x _ _ _ _ _ w 1 (Or.inr (show 0 + 128 ≤ 128 by decide))
theorem win_rows {α : Type} (x : S16384x256.Idx → α) (r : ℕ) (w : ((a : Fin 2) → Fin (S512x128.size a)) → α) (inb) :
    VecWindow.window (VecWindow.put x ![r, 0] S512x128.size w) ![r, 128] S512x128.size inb = VecWindow.window x ![r, 128] S512x128.size inb :=
  VecWindow.window_put_of_disjoint x _ _ _ _ _ w 1 (Or.inr (show 0 + 128 ≤ 128 by decide))
/-- Both heads' lanes put, nothing of what was there is left. -/
theorem put_lo_hi {α : Type} (x z : S512x256.Idx → α) (a b : ((a : Fin 2) → Fin (S512x128.size a)) → α) :
    VecWindow.put (VecWindow.put x ![0, 0] S512x128.size a) ![0, 128] S512x128.size b = VecWindow.put (VecWindow.put z ![0, 0] S512x128.size a) ![0, 128] S512x128.size b := by
  funext y
  unfold VecWindow.put
  split
  · rfl
  · rename_i h
    have h0 := (y 0).isLt
    have h1 := (y 1).isLt
    have hl : ∀ c, (![0, 0] : Fin 2 → ℕ) c ≤ (y c).val ∧ (y c).val < (![0, 0] : Fin 2 → ℕ) c + S512x128.size c := by
      refine Fin.forall_fin_two.mpr ⟨⟨Nat.zero_le _, show _ < 0 + 512 by change _ < 512 at h0; omega⟩, ⟨Nat.zero_le _, show _ < 0 + 128 from ?_⟩⟩
      refine Nat.lt_of_not_le fun hge => h (Fin.forall_fin_two.mpr ⟨⟨Nat.zero_le _, show _ < 0 + 512 by change _ < 512 at h0; omega⟩, ⟨?_, show _ < 128 + 128 by change _ < 256 at h1; omega⟩⟩)
      show 128 ≤ _
      omega
    split
    · rfl
    · rename_i h'
      exact absurd hl h'
theorem put_all {n k : ℕ} {α : Type} (x w : (⟨2, ![n, k]⟩ : Shape).Idx → α) : VecWindow.put x ![0, 0] (⟨2, ![n, k]⟩ : Shape).size w = w := by
  funext y
  have h : ∀ a, (![0, 0] : Fin 2 → ℕ) a ≤ (y a).val ∧ (y a).val < (![0, 0] : Fin 2 → ℕ) a + (⟨2, ![n, k]⟩ : Shape).size a :=
    Fin.forall_fin_two.mpr ⟨⟨Nat.zero_le _, by have := (y 0).isLt; show _ < 0 + _; omega⟩, ⟨Nat.zero_le _, by have := (y 1).isLt; show _ < 0 + _; omega⟩⟩
  exact (dif_pos h).trans (congrArg w (funext fun a => Fin.ext (by
    fin_cases a <;> exact Nat.sub_zero _)))
theorem win_all {n k : ℕ} {α : Type} (x : (⟨2, ![n, k]⟩ : Shape).Idx → α) (inb) : VecWindow.window x ![0, 0] (⟨2, ![n, k]⟩ : Shape).size inb = x := by
  funext y
  exact congrArg x (funext fun a => Fin.ext (by fin_cases a <;> exact (Nat.zero_add _).trans (Nat.one_mul _)))

set_option backward.isDefEq.respectTransparency.types false in
set_option maxHeartbeats 4000000 in
theorem bodyA (c : Dev nD) (i : grid0.Coords)
    (M2 : Memref sig .tc .smem S528 .i32) (h2 : M2.IsWhole) (M3 : Memref sig .tc .smem S528 .i32) (h3 : M3.IsWhole)
    (M4 : Memref sig .tc .vmem S512x256 .bf16) (h4 : M4.IsWhole)
    (M5 : Memref sig .tc .vmem S512x256 .bf16) (h5 : M5.IsWhole)
    (M6 : Memref sig .tc .vmem S512x256 .bf16) (h6 : M6.IsWhole)
    (M7 : Memref sig .tc .vmem S512x256 .f32) (h7 : M7.IsWhole)
    (M8 : Memref sig .tc .vmem S512x256 .f32) (h8 : M8.IsWhole)
    (M9 : Memref sig .tc .vmem S512x256 .f32) (h9 : M9.IsWhole)
    (M10 : Memref sig .tc .vmem S512x1 .f32) (h10 : M10.IsWhole)
    (M11 : Memref sig .tc .vmem S1x512 .f32) (h11 : M11.IsWhole)
    (M12 : Memref sig .tc .vmem S16384x256 .f32) (h12 : M12.IsWhole)
    (M13 : Memref sig .tc .vmem S512x256 .f32) (h13 : M13.IsWhole)
    (M14 : Memref sig .tc .vmem S512x256 .f32) (h14 : M14.IsWhole)
    (M15 : Memref sig .tc .vmem S512x256 .f32) (h15 : M15.IsWhole)
    (M16 : Memref sig .tc .vmem S512x256 .f32) (h16 : M16.IsWhole)
    (t2 : TbBuf (F := F) c M2) (t3 : TbBuf (F := F) c M3) (B : Blocks F) (x12 : Vec F S16384x256 .f32) (x13 x14 x15 x16 : Vec F S512x256 .f32)
    (r : ℕ) (hr : r + 512 ≤ 16384) (h12a : ![r, 0] = k0_off4 (word M2 t2 i)) (h12b : ![r, 128] = k0_off5 (word M2 t2 i))
    (hc1 : k0_chk1 (word M2 t2 i)) (hc2 : k0_chk2 (word M2 t2 i) (word M3 t3 i))
    (hy1 : k0_cond1 i = 1#1) (hy2 : eqW (word M2 t2 i) (word M3 t3 i)) (hn3 : ¬ k0_cond3 (word M2 t2 i) (word M3 t3 i) = 1#1) (hy4 : k0_cond4 (word M2 t2 i) (word M3 t3 i) = 1#1) (hn5 : ¬ k0_cond5 (word M2 t2 i) = 1#1) (E : Set ℕ) (Q : PUnit → sProp 𝕄) :
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare (diaQ B r hr k0_pay1) ∗ owns (c : Thread nD τ) M13 fullShare x13 ∗ owns (c : Thread nD τ) M14 fullShare x14 ∗ owns (c : Thread nD τ) M15 fullShare (diaK B k0_pay2) ∗ owns (c : Thread nD τ) M16 fullShare (diaV B k0_pay3)) -∗ Q ⟨⟩))
    ⊢ wp frame (wpE (defs₀ (F := F)) Variants.none c none) E (cc0_attn_bwd i M2 h2 M3 h3 M4 h4 M5 h5 M6 h6 M7 h7 M8 h8 M9 h9 M10 h10 M11 h11 M12 h12 M13 h13 M14 h14 M15 h15 M16 h16) Q := by
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_unfold [cc0_attn_bwd]
  sl_exec (disch := first | sl_exact hc1 | sl_exact hc2 | sl_exact hy1 | sl_exact hy2 | sl_exact hn3 | sl_exact hy4 | sl_exact hn5)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    delta bodyA.sl.H12_1 bodyA.sl.H12_2 bodyA.sl.H15_1 bodyA.sl.H15_2 bodyA.sl.H16_1 bodyA.sl.H16_2 bodyA.sl.cst_25 bodyA.sl.r bodyA.sl.r_1 bodyA.sl.r_10 bodyA.sl.r_11 bodyA.sl.r_12 bodyA.sl.r_2 bodyA.sl.r_3 bodyA.sl.r_4 bodyA.sl.r_5 bodyA.sl.r_6 bodyA.sl.r_7 bodyA.sl.r_8 bodyA.sl.r_9 bodyA.sl.v10 bodyA.sl.v107 bodyA.sl.v115 bodyA.sl.v123 bodyA.sl.v55 bodyA.sl.v63 bodyA.sl.v7 bodyA.sl.v71 bodyA.sl.v8 bodyA.sl.v9
    have hpA := fun f inb w L => View.read_writes_cons_put (Val := Elt F) (off := k0_off4 (word M2 t2 i)) (off' := ![r, 0]) (size := S512x128.size) M12.view f inb w L h12a.symm
    have hwA := fun f inb => View.readAt_unit (Val := Elt F) (off := k0_off4 (word M2 t2 i)) (off' := ![r, 0]) (size := S512x128.size) M12.view f inb h12a.symm (rowsLo hr)
    have hpB := fun f inb w L => View.read_writes_cons_put (Val := Elt F) (off := k0_off5 (word M2 t2 i)) (off' := ![r, 128]) (size := S512x128.size) M12.view f inb w L h12b.symm
    have hwB := fun f inb => View.readAt_unit (Val := Elt F) (off := k0_off5 (word M2 t2 i)) (off' := ![r, 128]) (size := S512x128.size) M12.view f inb h12b.symm (rowsHi hr)
    simp only [View.readCov, hpA, hpB, hwA, hwB]
    simp only [diaQ, View.readCov, read_put, read_win, View.writes_nil, hf4, hf5, hf6, hf7, hf8, hf9, hf10, hf11, hf12, hf13, hf14, hf15, hf16]
    repeat rw [put_all]
    repeat rw [win_all]
    repeat rw [win_rows]
    try rfl
  isplitl [H13]
  · iexists _; isplitr; · ipureintro; exact hf13
    iexact H13
  isplitl [H14]
  · iexists _; isplitr; · ipureintro; exact hf14
    iexact H14
  isplitl [H15]
  · iexists _; isplitr; swap; · iexact H15
    ipureintro
    delta bodyA.sl.H12_1 bodyA.sl.H12_2 bodyA.sl.H15_1 bodyA.sl.H15_2 bodyA.sl.H16_1 bodyA.sl.H16_2 bodyA.sl.cst_25 bodyA.sl.r bodyA.sl.r_1 bodyA.sl.r_10 bodyA.sl.r_11 bodyA.sl.r_12 bodyA.sl.r_2 bodyA.sl.r_3 bodyA.sl.r_4 bodyA.sl.r_5 bodyA.sl.r_6 bodyA.sl.r_7 bodyA.sl.r_8 bodyA.sl.r_9 bodyA.sl.v10 bodyA.sl.v107 bodyA.sl.v115 bodyA.sl.v123 bodyA.sl.v55 bodyA.sl.v63 bodyA.sl.v7 bodyA.sl.v71 bodyA.sl.v8 bodyA.sl.v9
    simp only [diaK, View.readCov, read_put, read_win, View.writes_nil, hf4, hf5, hf6, hf7, hf8, hf9, hf10, hf11, hf12, hf13, hf14, hf15, hf16]
    repeat rw [put_all]
    repeat rw [win_all]
    repeat rw [win_lo_hi]
    try rfl
  iexists _; isplitr; swap; · iexact H16
  ipureintro
  delta bodyA.sl.H12_1 bodyA.sl.H12_2 bodyA.sl.H15_1 bodyA.sl.H15_2 bodyA.sl.H16_1 bodyA.sl.H16_2 bodyA.sl.cst_25 bodyA.sl.r bodyA.sl.r_1 bodyA.sl.r_10 bodyA.sl.r_11 bodyA.sl.r_12 bodyA.sl.r_2 bodyA.sl.r_3 bodyA.sl.r_4 bodyA.sl.r_5 bodyA.sl.r_6 bodyA.sl.r_7 bodyA.sl.r_8 bodyA.sl.r_9 bodyA.sl.v10 bodyA.sl.v107 bodyA.sl.v115 bodyA.sl.v123 bodyA.sl.v55 bodyA.sl.v63 bodyA.sl.v7 bodyA.sl.v71 bodyA.sl.v8 bodyA.sl.v9
  simp only [diaV, View.readCov, read_put, read_win, View.writes_nil, hf4, hf5, hf6, hf7, hf8, hf9, hf10, hf11, hf12, hf13, hf14, hf15, hf16]
  repeat rw [put_all]
  repeat rw [win_all]
  repeat rw [win_lo_hi]
  try rfl

set_option backward.isDefEq.respectTransparency.types false in
set_option maxHeartbeats 4000000 in
theorem bodyB (c : Dev nD) (i : grid0.Coords)
    (M2 : Memref sig .tc .smem S528 .i32) (h2 : M2.IsWhole) (M3 : Memref sig .tc .smem S528 .i32) (h3 : M3.IsWhole)
    (M4 : Memref sig .tc .vmem S512x256 .bf16) (h4 : M4.IsWhole)
    (M5 : Memref sig .tc .vmem S512x256 .bf16) (h5 : M5.IsWhole)
    (M6 : Memref sig .tc .vmem S512x256 .bf16) (h6 : M6.IsWhole)
    (M7 : Memref sig .tc .vmem S512x256 .f32) (h7 : M7.IsWhole)
    (M8 : Memref sig .tc .vmem S512x256 .f32) (h8 : M8.IsWhole)
    (M9 : Memref sig .tc .vmem S512x256 .f32) (h9 : M9.IsWhole)
    (M10 : Memref sig .tc .vmem S512x1 .f32) (h10 : M10.IsWhole)
    (M11 : Memref sig .tc .vmem S1x512 .f32) (h11 : M11.IsWhole)
    (M12 : Memref sig .tc .vmem S16384x256 .f32) (h12 : M12.IsWhole)
    (M13 : Memref sig .tc .vmem S512x256 .f32) (h13 : M13.IsWhole)
    (M14 : Memref sig .tc .vmem S512x256 .f32) (h14 : M14.IsWhole)
    (M15 : Memref sig .tc .vmem S512x256 .f32) (h15 : M15.IsWhole)
    (M16 : Memref sig .tc .vmem S512x256 .f32) (h16 : M16.IsWhole)
    (t2 : TbBuf (F := F) c M2) (t3 : TbBuf (F := F) c M3) (B : Blocks F) (x12 : Vec F S16384x256 .f32) (x13 x14 x15 x16 : Vec F S512x256 .f32)
    (r : ℕ) (hr : r + 512 ≤ 16384) (h12a : ![r, 0] = k0_off4 (word M2 t2 i)) (h12b : ![r, 128] = k0_off5 (word M2 t2 i))
    (hc1 : k0_chk1 (word M2 t2 i)) (hc2 : k0_chk2 (word M2 t2 i) (word M3 t3 i))
    (hn1 : ¬ k0_cond1 i = 1#1) (hy2 : eqW (word M2 t2 i) (word M3 t3 i)) (hn3 : ¬ k0_cond3 (word M2 t2 i) (word M3 t3 i) = 1#1) (hy4 : k0_cond4 (word M2 t2 i) (word M3 t3 i) = 1#1) (hn5 : ¬ k0_cond5 (word M2 t2 i) = 1#1) (E : Set ℕ) (Q : PUnit → sProp 𝕄) :
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare (diaQ B r hr x12) ∗ owns (c : Thread nD τ) M13 fullShare x13 ∗ owns (c : Thread nD τ) M14 fullShare x14 ∗ owns (c : Thread nD τ) M15 fullShare (diaK B k0_pay2) ∗ owns (c : Thread nD τ) M16 fullShare (diaV B k0_pay3)) -∗ Q ⟨⟩))
    ⊢ wp frame (wpE (defs₀ (F := F)) Variants.none c none) E (cc0_attn_bwd i M2 h2 M3 h3 M4 h4 M5 h5 M6 h6 M7 h7 M8 h8 M9 h9 M10 h10 M11 h11 M12 h12 M13 h13 M14 h14 M15 h15 M16 h16) Q := by
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_unfold [cc0_attn_bwd]
  sl_exec (disch := first | sl_exact hc1 | sl_exact hc2 | sl_exact hn1 | sl_exact hy2 | sl_exact hn3 | sl_exact hy4 | sl_exact hn5)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    delta bodyB.sl.H12_1 bodyB.sl.H15_1 bodyB.sl.H15_2 bodyB.sl.H16_1 bodyB.sl.H16_2 bodyB.sl.cst_25 bodyB.sl.r bodyB.sl.r_1 bodyB.sl.r_10 bodyB.sl.r_11 bodyB.sl.r_12 bodyB.sl.r_2 bodyB.sl.r_3 bodyB.sl.r_4 bodyB.sl.r_5 bodyB.sl.r_6 bodyB.sl.r_7 bodyB.sl.r_8 bodyB.sl.r_9 bodyB.sl.v10 bodyB.sl.v107 bodyB.sl.v115 bodyB.sl.v123 bodyB.sl.v55 bodyB.sl.v63 bodyB.sl.v7 bodyB.sl.v8 bodyB.sl.v9
    have hpA := fun f inb w L => View.read_writes_cons_put (Val := Elt F) (off := k0_off4 (word M2 t2 i)) (off' := ![r, 0]) (size := S512x128.size) M12.view f inb w L h12a.symm
    have hwA := fun f inb => View.readAt_unit (Val := Elt F) (off := k0_off4 (word M2 t2 i)) (off' := ![r, 0]) (size := S512x128.size) M12.view f inb h12a.symm (rowsLo hr)
    have hpB := fun f inb w L => View.read_writes_cons_put (Val := Elt F) (off := k0_off5 (word M2 t2 i)) (off' := ![r, 128]) (size := S512x128.size) M12.view f inb w L h12b.symm
    have hwB := fun f inb => View.readAt_unit (Val := Elt F) (off := k0_off5 (word M2 t2 i)) (off' := ![r, 128]) (size := S512x128.size) M12.view f inb h12b.symm (rowsHi hr)
    simp only [View.readCov, hpA, hpB, hwA, hwB]
    simp only [diaQ, View.readCov, read_put, read_win, View.writes_nil, hf4, hf5, hf6, hf7, hf8, hf9, hf10, hf11, hf12, hf13, hf14, hf15, hf16]
    repeat rw [put_all]
    repeat rw [win_all]
    repeat rw [win_rows]
    try rfl
  isplitl [H13]
  · iexists _; isplitr; · ipureintro; exact hf13
    iexact H13
  isplitl [H14]
  · iexists _; isplitr; · ipureintro; exact hf14
    iexact H14
  isplitl [H15]
  · iexists _; isplitr; swap; · iexact H15
    ipureintro
    delta bodyB.sl.H12_1 bodyB.sl.H15_1 bodyB.sl.H15_2 bodyB.sl.H16_1 bodyB.sl.H16_2 bodyB.sl.cst_25 bodyB.sl.r bodyB.sl.r_1 bodyB.sl.r_10 bodyB.sl.r_11 bodyB.sl.r_12 bodyB.sl.r_2 bodyB.sl.r_3 bodyB.sl.r_4 bodyB.sl.r_5 bodyB.sl.r_6 bodyB.sl.r_7 bodyB.sl.r_8 bodyB.sl.r_9 bodyB.sl.v10 bodyB.sl.v107 bodyB.sl.v115 bodyB.sl.v123 bodyB.sl.v55 bodyB.sl.v63 bodyB.sl.v7 bodyB.sl.v8 bodyB.sl.v9
    simp only [diaK, View.readCov, read_put, read_win, View.writes_nil, hf4, hf5, hf6, hf7, hf8, hf9, hf10, hf11, hf12, hf13, hf14, hf15, hf16]
    repeat rw [put_all]
    repeat rw [win_all]
    repeat rw [win_lo_hi]
    try rfl
  iexists _; isplitr; swap; · iexact H16
  ipureintro
  delta bodyB.sl.H12_1 bodyB.sl.H15_1 bodyB.sl.H15_2 bodyB.sl.H16_1 bodyB.sl.H16_2 bodyB.sl.cst_25 bodyB.sl.r bodyB.sl.r_1 bodyB.sl.r_10 bodyB.sl.r_11 bodyB.sl.r_12 bodyB.sl.r_2 bodyB.sl.r_3 bodyB.sl.r_4 bodyB.sl.r_5 bodyB.sl.r_6 bodyB.sl.r_7 bodyB.sl.r_8 bodyB.sl.r_9 bodyB.sl.v10 bodyB.sl.v107 bodyB.sl.v115 bodyB.sl.v123 bodyB.sl.v55 bodyB.sl.v63 bodyB.sl.v7 bodyB.sl.v8 bodyB.sl.v9
  simp only [diaV, View.readCov, read_put, read_win, View.writes_nil, hf4, hf5, hf6, hf7, hf8, hf9, hf10, hf11, hf12, hf13, hf14, hf15, hf16]
  repeat rw [put_all]
  repeat rw [win_all]
  repeat rw [win_lo_hi]
  try rfl

set_option backward.isDefEq.respectTransparency.types false in
set_option maxHeartbeats 4000000 in
theorem bodyC (c : Dev nD) (i : grid0.Coords)
    (M2 : Memref sig .tc .smem S528 .i32) (h2 : M2.IsWhole) (M3 : Memref sig .tc .smem S528 .i32) (h3 : M3.IsWhole)
    (M4 : Memref sig .tc .vmem S512x256 .bf16) (h4 : M4.IsWhole)
    (M5 : Memref sig .tc .vmem S512x256 .bf16) (h5 : M5.IsWhole)
    (M6 : Memref sig .tc .vmem S512x256 .bf16) (h6 : M6.IsWhole)
    (M7 : Memref sig .tc .vmem S512x256 .f32) (h7 : M7.IsWhole)
    (M8 : Memref sig .tc .vmem S512x256 .f32) (h8 : M8.IsWhole)
    (M9 : Memref sig .tc .vmem S512x256 .f32) (h9 : M9.IsWhole)
    (M10 : Memref sig .tc .vmem S512x1 .f32) (h10 : M10.IsWhole)
    (M11 : Memref sig .tc .vmem S1x512 .f32) (h11 : M11.IsWhole)
    (M12 : Memref sig .tc .vmem S16384x256 .f32) (h12 : M12.IsWhole)
    (M13 : Memref sig .tc .vmem S512x256 .f32) (h13 : M13.IsWhole)
    (M14 : Memref sig .tc .vmem S512x256 .f32) (h14 : M14.IsWhole)
    (M15 : Memref sig .tc .vmem S512x256 .f32) (h15 : M15.IsWhole)
    (M16 : Memref sig .tc .vmem S512x256 .f32) (h16 : M16.IsWhole)
    (t2 : TbBuf (F := F) c M2) (t3 : TbBuf (F := F) c M3) (B : Blocks F) (x12 : Vec F S16384x256 .f32) (x13 x14 x15 x16 : Vec F S512x256 .f32)
    (r : ℕ) (hr : r + 512 ≤ 16384) (h12a : ![r, 0] = k0_off2 (word M2 t2 i)) (h12b : ![r, 128] = k0_off3 (word M2 t2 i))
    (hc1 : k0_chk1 (word M2 t2 i)) (hc2 : k0_chk2 (word M2 t2 i) (word M3 t3 i))
    (hn1 : ¬ k0_cond1 i = 1#1) (hn2 : ¬ eqW (word M2 t2 i) (word M3 t3 i)) (hy3 : k0_cond3 (word M2 t2 i) (word M3 t3 i) = 1#1) (hn4 : ¬ k0_cond4 (word M2 t2 i) (word M3 t3 i) = 1#1) (hn5 : ¬ k0_cond5 (word M2 t2 i) = 1#1) (E : Set ℕ) (Q : PUnit → sProp 𝕄) :
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare (offQ B r hr x12) ∗ owns (c : Thread nD τ) M13 fullShare x13 ∗ owns (c : Thread nD τ) M14 fullShare x14 ∗ owns (c : Thread nD τ) M15 fullShare (offK B x15) ∗ owns (c : Thread nD τ) M16 fullShare (offV B x16)) -∗ Q ⟨⟩))
    ⊢ wp frame (wpE (defs₀ (F := F)) Variants.none c none) E (cc0_attn_bwd i M2 h2 M3 h3 M4 h4 M5 h5 M6 h6 M7 h7 M8 h8 M9 h9 M10 h10 M11 h11 M12 h12 M13 h13 M14 h14 M15 h15 M16 h16) Q := by
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_unfold [cc0_attn_bwd]
  sl_exec (disch := first | sl_exact hc1 | sl_exact hc2 | sl_exact hn1 | sl_exact hn2 | sl_exact hy3 | sl_exact hn4 | sl_exact hn5)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    delta bodyC.sl.H12_1 bodyC.sl.r bodyC.sl.r_1 bodyC.sl.r_10 bodyC.sl.r_11 bodyC.sl.r_2 bodyC.sl.r_3 bodyC.sl.r_4 bodyC.sl.r_5 bodyC.sl.r_6 bodyC.sl.r_7 bodyC.sl.r_8 bodyC.sl.r_9 bodyC.sl.v10 bodyC.sl.v104 bodyC.sl.v112 bodyC.sl.v7 bodyC.sl.v8 bodyC.sl.v9 bodyC.sl.v96
    have hpA := fun f inb w L => View.read_writes_cons_put (Val := Elt F) (off := k0_off2 (word M2 t2 i)) (off' := ![r, 0]) (size := S512x128.size) M12.view f inb w L h12a.symm
    have hwA := fun f inb => View.readAt_unit (Val := Elt F) (off := k0_off2 (word M2 t2 i)) (off' := ![r, 0]) (size := S512x128.size) M12.view f inb h12a.symm (rowsLo hr)
    have hpB := fun f inb w L => View.read_writes_cons_put (Val := Elt F) (off := k0_off3 (word M2 t2 i)) (off' := ![r, 128]) (size := S512x128.size) M12.view f inb w L h12b.symm
    have hwB := fun f inb => View.readAt_unit (Val := Elt F) (off := k0_off3 (word M2 t2 i)) (off' := ![r, 128]) (size := S512x128.size) M12.view f inb h12b.symm (rowsHi hr)
    simp only [View.readCov, hpA, hpB, hwA, hwB]
    simp only [offQ, View.readCov, read_put, read_win, View.writes_nil, hf4, hf5, hf6, hf7, hf8, hf9, hf10, hf11, hf12, hf13, hf14, hf15, hf16]
    repeat rw [put_all]
    repeat rw [win_all]
    repeat rw [win_rows]
    try rfl
  isplitl [H13]
  · iexists _; isplitr; · ipureintro; exact hf13
    iexact H13
  isplitl [H14]
  · iexists _; isplitr; · ipureintro; exact hf14
    iexact H14
  isplitl [H15]
  · iexists _; isplitr; swap; · iexact H15
    ipureintro
    delta bodyC.sl.H12_1 bodyC.sl.r bodyC.sl.r_1 bodyC.sl.r_10 bodyC.sl.r_11 bodyC.sl.r_2 bodyC.sl.r_3 bodyC.sl.r_4 bodyC.sl.r_5 bodyC.sl.r_6 bodyC.sl.r_7 bodyC.sl.r_8 bodyC.sl.r_9 bodyC.sl.v10 bodyC.sl.v104 bodyC.sl.v112 bodyC.sl.v7 bodyC.sl.v8 bodyC.sl.v9 bodyC.sl.v96
    simp only [offK, View.readCov, read_put, read_win, View.writes_nil, hf4, hf5, hf6, hf7, hf8, hf9, hf10, hf11, hf12, hf13, hf14, hf15, hf16]
    repeat rw [put_all]
    repeat rw [win_all]
    repeat rw [win_lo_hi]
    try rfl
  iexists _; isplitr; swap; · iexact H16
  ipureintro
  delta bodyC.sl.H12_1 bodyC.sl.r bodyC.sl.r_1 bodyC.sl.r_10 bodyC.sl.r_11 bodyC.sl.r_2 bodyC.sl.r_3 bodyC.sl.r_4 bodyC.sl.r_5 bodyC.sl.r_6 bodyC.sl.r_7 bodyC.sl.r_8 bodyC.sl.r_9 bodyC.sl.v10 bodyC.sl.v104 bodyC.sl.v112 bodyC.sl.v7 bodyC.sl.v8 bodyC.sl.v9 bodyC.sl.v96
  simp only [offV, View.readCov, read_put, read_win, View.writes_nil, hf4, hf5, hf6, hf7, hf8, hf9, hf10, hf11, hf12, hf13, hf14, hf15, hf16]
  repeat rw [put_all]
  repeat rw [win_all]
  repeat rw [win_lo_hi]
  try rfl

set_option backward.isDefEq.respectTransparency.types false in
set_option maxHeartbeats 4000000 in
theorem bodyD (c : Dev nD) (i : grid0.Coords)
    (M2 : Memref sig .tc .smem S528 .i32) (h2 : M2.IsWhole) (M3 : Memref sig .tc .smem S528 .i32) (h3 : M3.IsWhole)
    (M4 : Memref sig .tc .vmem S512x256 .bf16) (h4 : M4.IsWhole)
    (M5 : Memref sig .tc .vmem S512x256 .bf16) (h5 : M5.IsWhole)
    (M6 : Memref sig .tc .vmem S512x256 .bf16) (h6 : M6.IsWhole)
    (M7 : Memref sig .tc .vmem S512x256 .f32) (h7 : M7.IsWhole)
    (M8 : Memref sig .tc .vmem S512x256 .f32) (h8 : M8.IsWhole)
    (M9 : Memref sig .tc .vmem S512x256 .f32) (h9 : M9.IsWhole)
    (M10 : Memref sig .tc .vmem S512x1 .f32) (h10 : M10.IsWhole)
    (M11 : Memref sig .tc .vmem S1x512 .f32) (h11 : M11.IsWhole)
    (M12 : Memref sig .tc .vmem S16384x256 .f32) (h12 : M12.IsWhole)
    (M13 : Memref sig .tc .vmem S512x256 .f32) (h13 : M13.IsWhole)
    (M14 : Memref sig .tc .vmem S512x256 .f32) (h14 : M14.IsWhole)
    (M15 : Memref sig .tc .vmem S512x256 .f32) (h15 : M15.IsWhole)
    (M16 : Memref sig .tc .vmem S512x256 .f32) (h16 : M16.IsWhole)
    (t2 : TbBuf (F := F) c M2) (t3 : TbBuf (F := F) c M3) (B : Blocks F) (x12 : Vec F S16384x256 .f32) (x13 x14 x15 x16 : Vec F S512x256 .f32)
    (r : ℕ) (hr : r + 512 ≤ 16384) (h12a : ![r, 0] = k0_off2 (word M2 t2 i)) (h12b : ![r, 128] = k0_off3 (word M2 t2 i))
    (hc1 : k0_chk1 (word M2 t2 i)) (hc2 : k0_chk2 (word M2 t2 i) (word M3 t3 i))
    (hn1 : ¬ k0_cond1 i = 1#1) (hn2 : ¬ eqW (word M2 t2 i) (word M3 t3 i)) (hy3 : k0_cond3 (word M2 t2 i) (word M3 t3 i) = 1#1) (hn4 : ¬ k0_cond4 (word M2 t2 i) (word M3 t3 i) = 1#1) (hy5 : k0_cond5 (word M2 t2 i) = 1#1) (E : Set ℕ) (Q : PUnit → sProp 𝕄) :
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare (offQ B r hr x12) ∗ owns (c : Thread nD τ) M13 fullShare (k0_pay8 (offK B x15)) ∗ owns (c : Thread nD τ) M14 fullShare (offV B x16) ∗ owns (c : Thread nD τ) M15 fullShare (offK B x15) ∗ owns (c : Thread nD τ) M16 fullShare (offV B x16)) -∗ Q ⟨⟩))
    ⊢ wp frame (wpE (defs₀ (F := F)) Variants.none c none) E (cc0_attn_bwd i M2 h2 M3 h3 M4 h4 M5 h5 M6 h6 M7 h7 M8 h8 M9 h9 M10 h10 M11 h11 M12 h12 M13 h13 M14 h14 M15 h15 M16 h16) Q := by
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_unfold [cc0_attn_bwd]
  sl_exec (disch := first | sl_exact hc1 | sl_exact hc2 | sl_exact hn1 | sl_exact hn2 | sl_exact hy3 | sl_exact hn4 | sl_exact hy5)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    delta bodyD.sl.H12_1 bodyD.sl.H15_2 bodyD.sl.H16_2 bodyD.sl.r bodyD.sl.r_1 bodyD.sl.r_10 bodyD.sl.r_11 bodyD.sl.r_2 bodyD.sl.r_3 bodyD.sl.r_4 bodyD.sl.r_5 bodyD.sl.r_6 bodyD.sl.r_7 bodyD.sl.r_8 bodyD.sl.r_9 bodyD.sl.v10 bodyD.sl.v104 bodyD.sl.v112 bodyD.sl.v21 bodyD.sl.v25 bodyD.sl.v7 bodyD.sl.v8 bodyD.sl.v9 bodyD.sl.v96
    have hpA := fun f inb w L => View.read_writes_cons_put (Val := Elt F) (off := k0_off2 (word M2 t2 i)) (off' := ![r, 0]) (size := S512x128.size) M12.view f inb w L h12a.symm
    have hwA := fun f inb => View.readAt_unit (Val := Elt F) (off := k0_off2 (word M2 t2 i)) (off' := ![r, 0]) (size := S512x128.size) M12.view f inb h12a.symm (rowsLo hr)
    have hpB := fun f inb w L => View.read_writes_cons_put (Val := Elt F) (off := k0_off3 (word M2 t2 i)) (off' := ![r, 128]) (size := S512x128.size) M12.view f inb w L h12b.symm
    have hwB := fun f inb => View.readAt_unit (Val := Elt F) (off := k0_off3 (word M2 t2 i)) (off' := ![r, 128]) (size := S512x128.size) M12.view f inb h12b.symm (rowsHi hr)
    simp only [View.readCov, hpA, hpB, hwA, hwB]
    simp only [offQ, View.readCov, read_put, read_win, View.writes_nil, hf4, hf5, hf6, hf7, hf8, hf9, hf10, hf11, hf12, hf13, hf14, hf15, hf16]
    repeat rw [put_all]
    repeat rw [win_all]
    repeat rw [win_rows]
    try rfl
  isplitl [H13]
  · iexists _; isplitr; swap; · iexact H13
    ipureintro
    delta bodyD.sl.H12_1 bodyD.sl.H15_2 bodyD.sl.H16_2 bodyD.sl.r bodyD.sl.r_1 bodyD.sl.r_10 bodyD.sl.r_11 bodyD.sl.r_2 bodyD.sl.r_3 bodyD.sl.r_4 bodyD.sl.r_5 bodyD.sl.r_6 bodyD.sl.r_7 bodyD.sl.r_8 bodyD.sl.r_9 bodyD.sl.v10 bodyD.sl.v104 bodyD.sl.v112 bodyD.sl.v21 bodyD.sl.v25 bodyD.sl.v7 bodyD.sl.v8 bodyD.sl.v9 bodyD.sl.v96
    simp only [offK, View.readCov, read_put, read_win, View.writes_nil, hf4, hf5, hf6, hf7, hf8, hf9, hf10, hf11, hf12, hf13, hf14, hf15, hf16]
    repeat rw [put_all]
    repeat rw [win_all]
    repeat rw [win_lo_hi]
    first | rfl | exact put_lo_hi _ _ _ _ | exact congrArg k0_pay8 (put_lo_hi _ _ _ _)
  isplitl [H14]
  · iexists _; isplitr; swap; · iexact H14
    ipureintro
    delta bodyD.sl.H12_1 bodyD.sl.H15_2 bodyD.sl.H16_2 bodyD.sl.r bodyD.sl.r_1 bodyD.sl.r_10 bodyD.sl.r_11 bodyD.sl.r_2 bodyD.sl.r_3 bodyD.sl.r_4 bodyD.sl.r_5 bodyD.sl.r_6 bodyD.sl.r_7 bodyD.sl.r_8 bodyD.sl.r_9 bodyD.sl.v10 bodyD.sl.v104 bodyD.sl.v112 bodyD.sl.v21 bodyD.sl.v25 bodyD.sl.v7 bodyD.sl.v8 bodyD.sl.v9 bodyD.sl.v96
    simp only [offV, View.readCov, read_put, read_win, View.writes_nil, hf4, hf5, hf6, hf7, hf8, hf9, hf10, hf11, hf12, hf13, hf14, hf15, hf16]
    repeat rw [put_all]
    repeat rw [win_all]
    repeat rw [win_lo_hi]
    first | rfl | exact put_lo_hi _ _ _ _ | exact congrArg k0_pay8 (put_lo_hi _ _ _ _)
  isplitl [H15]
  · iexists _; isplitr; swap; · iexact H15
    ipureintro
    delta bodyD.sl.H12_1 bodyD.sl.H15_2 bodyD.sl.H16_2 bodyD.sl.r bodyD.sl.r_1 bodyD.sl.r_10 bodyD.sl.r_11 bodyD.sl.r_2 bodyD.sl.r_3 bodyD.sl.r_4 bodyD.sl.r_5 bodyD.sl.r_6 bodyD.sl.r_7 bodyD.sl.r_8 bodyD.sl.r_9 bodyD.sl.v10 bodyD.sl.v104 bodyD.sl.v112 bodyD.sl.v21 bodyD.sl.v25 bodyD.sl.v7 bodyD.sl.v8 bodyD.sl.v9 bodyD.sl.v96
    simp only [offK, View.readCov, read_put, read_win, View.writes_nil, hf4, hf5, hf6, hf7, hf8, hf9, hf10, hf11, hf12, hf13, hf14, hf15, hf16]
    repeat rw [put_all]
    repeat rw [win_all]
    repeat rw [win_lo_hi]
    try rfl
  iexists _; isplitr; swap; · iexact H16
  ipureintro
  delta bodyD.sl.H12_1 bodyD.sl.H15_2 bodyD.sl.H16_2 bodyD.sl.r bodyD.sl.r_1 bodyD.sl.r_10 bodyD.sl.r_11 bodyD.sl.r_2 bodyD.sl.r_3 bodyD.sl.r_4 bodyD.sl.r_5 bodyD.sl.r_6 bodyD.sl.r_7 bodyD.sl.r_8 bodyD.sl.r_9 bodyD.sl.v10 bodyD.sl.v104 bodyD.sl.v112 bodyD.sl.v21 bodyD.sl.v25 bodyD.sl.v7 bodyD.sl.v8 bodyD.sl.v9 bodyD.sl.v96
  simp only [offV, View.readCov, read_put, read_win, View.writes_nil, hf4, hf5, hf6, hf7, hf8, hf9, hf10, hf11, hf12, hf13, hf14, hf15, hf16]
  repeat rw [put_all]
  repeat rw [win_all]
  repeat rw [win_lo_hi]
  try rfl

set_option backward.isDefEq.respectTransparency.types false in
set_option maxHeartbeats 4000000 in
theorem bodyE (c : Dev nD) (i : grid0.Coords)
    (M2 : Memref sig .tc .smem S528 .i32) (h2 : M2.IsWhole) (M3 : Memref sig .tc .smem S528 .i32) (h3 : M3.IsWhole)
    (M4 : Memref sig .tc .vmem S512x256 .bf16) (h4 : M4.IsWhole)
    (M5 : Memref sig .tc .vmem S512x256 .bf16) (h5 : M5.IsWhole)
    (M6 : Memref sig .tc .vmem S512x256 .bf16) (h6 : M6.IsWhole)
    (M7 : Memref sig .tc .vmem S512x256 .f32) (h7 : M7.IsWhole)
    (M8 : Memref sig .tc .vmem S512x256 .f32) (h8 : M8.IsWhole)
    (M9 : Memref sig .tc .vmem S512x256 .f32) (h9 : M9.IsWhole)
    (M10 : Memref sig .tc .vmem S512x1 .f32) (h10 : M10.IsWhole)
    (M11 : Memref sig .tc .vmem S1x512 .f32) (h11 : M11.IsWhole)
    (M12 : Memref sig .tc .vmem S16384x256 .f32) (h12 : M12.IsWhole)
    (M13 : Memref sig .tc .vmem S512x256 .f32) (h13 : M13.IsWhole)
    (M14 : Memref sig .tc .vmem S512x256 .f32) (h14 : M14.IsWhole)
    (M15 : Memref sig .tc .vmem S512x256 .f32) (h15 : M15.IsWhole)
    (M16 : Memref sig .tc .vmem S512x256 .f32) (h16 : M16.IsWhole)
    (t2 : TbBuf (F := F) c M2) (t3 : TbBuf (F := F) c M3) (B : Blocks F) (x12 : Vec F S16384x256 .f32) (x13 x14 x15 x16 : Vec F S512x256 .f32)
    (r : ℕ) (hr : r + 512 ≤ 16384) (h12a : ![r, 0] = k0_off4 (word M2 t2 i)) (h12b : ![r, 128] = k0_off5 (word M2 t2 i))
    (hc1 : k0_chk1 (word M2 t2 i)) (hc2 : k0_chk2 (word M2 t2 i) (word M3 t3 i))
    (hn1 : ¬ k0_cond1 i = 1#1) (hy2 : eqW (word M2 t2 i) (word M3 t3 i)) (hn3 : ¬ k0_cond3 (word M2 t2 i) (word M3 t3 i) = 1#1) (hy4 : k0_cond4 (word M2 t2 i) (word M3 t3 i) = 1#1) (hy5 : k0_cond5 (word M2 t2 i) = 1#1) (E : Set ℕ) (Q : PUnit → sProp 𝕄) :
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare (diaQ B r hr x12) ∗ owns (c : Thread nD τ) M13 fullShare (k0_pay8 (diaK B k0_pay2)) ∗ owns (c : Thread nD τ) M14 fullShare (diaV B k0_pay3) ∗ owns (c : Thread nD τ) M15 fullShare (diaK B k0_pay2) ∗ owns (c : Thread nD τ) M16 fullShare (diaV B k0_pay3)) -∗ Q ⟨⟩))
    ⊢ wp frame (wpE (defs₀ (F := F)) Variants.none c none) E (cc0_attn_bwd i M2 h2 M3 h3 M4 h4 M5 h5 M6 h6 M7 h7 M8 h8 M9 h9 M10 h10 M11 h11 M12 h12 M13 h13 M14 h14 M15 h15 M16 h16) Q := by
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_unfold [cc0_attn_bwd]
  sl_exec (disch := first | sl_exact hc1 | sl_exact hc2 | sl_exact hn1 | sl_exact hy2 | sl_exact hn3 | sl_exact hy4 | sl_exact hy5)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    delta bodyE.sl.H12_1 bodyE.sl.H15_1 bodyE.sl.H15_2 bodyE.sl.H15_3 bodyE.sl.H16_1 bodyE.sl.H16_2 bodyE.sl.H16_3 bodyE.sl.cst_25 bodyE.sl.r bodyE.sl.r_1 bodyE.sl.r_10 bodyE.sl.r_11 bodyE.sl.r_12 bodyE.sl.r_2 bodyE.sl.r_3 bodyE.sl.r_4 bodyE.sl.r_5 bodyE.sl.r_6 bodyE.sl.r_7 bodyE.sl.r_8 bodyE.sl.r_9 bodyE.sl.v10 bodyE.sl.v107 bodyE.sl.v115 bodyE.sl.v123 bodyE.sl.v21 bodyE.sl.v25 bodyE.sl.v55 bodyE.sl.v63 bodyE.sl.v7 bodyE.sl.v8 bodyE.sl.v9
    have hpA := fun f inb w L => View.read_writes_cons_put (Val := Elt F) (off := k0_off4 (word M2 t2 i)) (off' := ![r, 0]) (size := S512x128.size) M12.view f inb w L h12a.symm
    have hwA := fun f inb => View.readAt_unit (Val := Elt F) (off := k0_off4 (word M2 t2 i)) (off' := ![r, 0]) (size := S512x128.size) M12.view f inb h12a.symm (rowsLo hr)
    have hpB := fun f inb w L => View.read_writes_cons_put (Val := Elt F) (off := k0_off5 (word M2 t2 i)) (off' := ![r, 128]) (size := S512x128.size) M12.view f inb w L h12b.symm
    have hwB := fun f inb => View.readAt_unit (Val := Elt F) (off := k0_off5 (word M2 t2 i)) (off' := ![r, 128]) (size := S512x128.size) M12.view f inb h12b.symm (rowsHi hr)
    simp only [View.readCov, hpA, hpB, hwA, hwB]
    simp only [diaQ, View.readCov, read_put, read_win, View.writes_nil, hf4, hf5, hf6, hf7, hf8, hf9, hf10, hf11, hf12, hf13, hf14, hf15, hf16]
    repeat rw [put_all]
    repeat rw [win_all]
    repeat rw [win_rows]
    try rfl
  isplitl [H13]
  · iexists _; isplitr; swap; · iexact H13
    ipureintro
    delta bodyE.sl.H12_1 bodyE.sl.H15_1 bodyE.sl.H15_2 bodyE.sl.H15_3 bodyE.sl.H16_1 bodyE.sl.H16_2 bodyE.sl.H16_3 bodyE.sl.cst_25 bodyE.sl.r bodyE.sl.r_1 bodyE.sl.r_10 bodyE.sl.r_11 bodyE.sl.r_12 bodyE.sl.r_2 bodyE.sl.r_3 bodyE.sl.r_4 bodyE.sl.r_5 bodyE.sl.r_6 bodyE.sl.r_7 bodyE.sl.r_8 bodyE.sl.r_9 bodyE.sl.v10 bodyE.sl.v107 bodyE.sl.v115 bodyE.sl.v123 bodyE.sl.v21 bodyE.sl.v25 bodyE.sl.v55 bodyE.sl.v63 bodyE.sl.v7 bodyE.sl.v8 bodyE.sl.v9
    simp only [diaK, View.readCov, read_put, read_win, View.writes_nil, hf4, hf5, hf6, hf7, hf8, hf9, hf10, hf11, hf12, hf13, hf14, hf15, hf16]
    repeat rw [put_all]
    repeat rw [win_all]
    repeat rw [win_lo_hi]
    try rfl
  isplitl [H14]
  · iexists _; isplitr; swap; · iexact H14
    ipureintro
    delta bodyE.sl.H12_1 bodyE.sl.H15_1 bodyE.sl.H15_2 bodyE.sl.H15_3 bodyE.sl.H16_1 bodyE.sl.H16_2 bodyE.sl.H16_3 bodyE.sl.cst_25 bodyE.sl.r bodyE.sl.r_1 bodyE.sl.r_10 bodyE.sl.r_11 bodyE.sl.r_12 bodyE.sl.r_2 bodyE.sl.r_3 bodyE.sl.r_4 bodyE.sl.r_5 bodyE.sl.r_6 bodyE.sl.r_7 bodyE.sl.r_8 bodyE.sl.r_9 bodyE.sl.v10 bodyE.sl.v107 bodyE.sl.v115 bodyE.sl.v123 bodyE.sl.v21 bodyE.sl.v25 bodyE.sl.v55 bodyE.sl.v63 bodyE.sl.v7 bodyE.sl.v8 bodyE.sl.v9
    simp only [diaV, View.readCov, read_put, read_win, View.writes_nil, hf4, hf5, hf6, hf7, hf8, hf9, hf10, hf11, hf12, hf13, hf14, hf15, hf16]
    repeat rw [put_all]
    repeat rw [win_all]
    repeat rw [win_lo_hi]
    try rfl
  isplitl [H15]
  · iexists _; isplitr; swap; · iexact H15
    ipureintro
    delta bodyE.sl.H12_1 bodyE.sl.H15_1 bodyE.sl.H15_2 bodyE.sl.H15_3 bodyE.sl.H16_1 bodyE.sl.H16_2 bodyE.sl.H16_3 bodyE.sl.cst_25 bodyE.sl.r bodyE.sl.r_1 bodyE.sl.r_10 bodyE.sl.r_11 bodyE.sl.r_12 bodyE.sl.r_2 bodyE.sl.r_3 bodyE.sl.r_4 bodyE.sl.r_5 bodyE.sl.r_6 bodyE.sl.r_7 bodyE.sl.r_8 bodyE.sl.r_9 bodyE.sl.v10 bodyE.sl.v107 bodyE.sl.v115 bodyE.sl.v123 bodyE.sl.v21 bodyE.sl.v25 bodyE.sl.v55 bodyE.sl.v63 bodyE.sl.v7 bodyE.sl.v8 bodyE.sl.v9
    simp only [diaK, View.readCov, read_put, read_win, View.writes_nil, hf4, hf5, hf6, hf7, hf8, hf9, hf10, hf11, hf12, hf13, hf14, hf15, hf16]
    repeat rw [put_all]
    repeat rw [win_all]
    repeat rw [win_lo_hi]
    try rfl
  iexists _; isplitr; swap; · iexact H16
  ipureintro
  delta bodyE.sl.H12_1 bodyE.sl.H15_1 bodyE.sl.H15_2 bodyE.sl.H15_3 bodyE.sl.H16_1 bodyE.sl.H16_2 bodyE.sl.H16_3 bodyE.sl.cst_25 bodyE.sl.r bodyE.sl.r_1 bodyE.sl.r_10 bodyE.sl.r_11 bodyE.sl.r_12 bodyE.sl.r_2 bodyE.sl.r_3 bodyE.sl.r_4 bodyE.sl.r_5 bodyE.sl.r_6 bodyE.sl.r_7 bodyE.sl.r_8 bodyE.sl.r_9 bodyE.sl.v10 bodyE.sl.v107 bodyE.sl.v115 bodyE.sl.v123 bodyE.sl.v21 bodyE.sl.v25 bodyE.sl.v55 bodyE.sl.v63 bodyE.sl.v7 bodyE.sl.v8 bodyE.sl.v9
  simp only [diaV, View.readCov, read_put, read_win, View.writes_nil, hf4, hf5, hf6, hf7, hf8, hf9, hf10, hf11, hf12, hf13, hf14, hf15, hf16]
  repeat rw [put_all]
  repeat rw [win_all]
  repeat rw [win_lo_hi]
  try rfl

end Cert.Proof.KI

end
-- ==== Proof.TabKI.lean ====
/-
  The two index tables: which blocks the steps of a group of heads work on, in which order, and what the step's conditions say of them.
-/
module

public import proofs.«01_k».proof.Proof.RunKI
public import Idealize.ShloMosaic.Lib.StableHlo.RunRead

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The tables' numbers -/

/-- The query block and the key block of step `s` of a group of heads. -/
def qB (s : Fin 528) : ℕ := (lit0 s).toNat
def kB (s : Fin 528) : ℕ := (lit1 s).toNat

theorem words : ∀ s : Fin 528,
    (qB s < 32 ∧ kB s ≤ qB s ∧ (Scalar.muli (lit0 s) 512#32).toNat = qB s * 512 ∧ k0_chk1 (lit0 s))
    ∧ (kB s = qB s ↔ eqW (lit0 s) (lit1 s)) ∧ (kB s ≠ qB s ↔ k0_cond3 (lit0 s) (lit1 s) = 1#1)
    ∧ (kB s = qB s ↔ k0_cond4 (lit0 s) (lit1 s) = 1#1) ∧ (qB s = 31 ↔ k0_cond5 (lit0 s) = 1#1)
    ∧ (s.val = kB s * (65 - kB s) / 2 + (qB s - kB s)) := by
  decide +kernel

theorem qB_lt (s) : qB s < 32 := (words s).1.1
theorem kB_le (s) : kB s ≤ qB s := (words s).1.2.1
theorem kB_lt (s) : kB s < 32 := lt_of_le_of_lt (kB_le s) (qB_lt s)
theorem place (s : Fin 528) : s.val = kB s * (65 - kB s) / 2 + (qB s - kB s) := (words s).2.2.2.2.2

/-- The steps run through a key block's query blocks from its own to the last, key block by key block. -/
theorem next : ∀ s : Fin 527,
    (qB s.castSucc = 31 → kB s.succ = kB s.castSucc + 1 ∧ qB s.succ = kB s.castSucc + 1)
    ∧ (qB s.castSucc ≠ 31 → kB s.succ = kB s.castSucc ∧ qB s.succ = qB s.castSucc + 1) := by
  decide +kernel

theorem first : qB 0 = 0 ∧ kB 0 = 0 ∧ qB 527 = 31 ∧ kB 527 = 31 := by decide +kernel

theorem off2_eq (s : Fin 528) : ![qB s * 512, 0] = k0_off2 (lit0 s) := by
  rw [← (words s).1.2.2.1]; rfl
theorem off3_eq (s : Fin 528) : ![qB s * 512, 128] = k0_off3 (lit0 s) := by
  rw [← (words s).1.2.2.1]; rfl
theorem off4_eq (s : Fin 528) : ![qB s * 512, 0] = k0_off4 (lit0 s) := by
  rw [← (words s).1.2.2.1]; rfl
theorem off5_eq (s : Fin 528) : ![qB s * 512, 128] = k0_off5 (lit0 s) := by
  rw [← (words s).1.2.2.1]; rfl
theorem rows (s : Fin 528) : qB s * 512 + 512 ≤ 16384 := by have := qB_lt s; omega
theorem chk2 (s : Fin 528) : k0_chk2 (lit0 s) (lit1 s) :=
  ⟨fun _ => by rw [← off2_eq]; exact rowsLo (rows s), fun _ => by rw [← off3_eq]; exact rowsHi (rows s),
    fun _ => by rw [← off4_eq]; exact rowsLo (rows s), fun _ => by rw [← off5_eq]; exact rowsHi (rows s)⟩

/-! ## The tables as the call finds them -/

theorem tbl0 : tbl m 0 = fun i => lit0 (S528.rowMajor i) := by
  unfold tbl V
  simp only [hostOps0, hostOps0_1, hostOps0_2, List.flatten_cons, List.flatten_nil, List.append_nil, List.cons_append, List.nil_append]
  after_reads_simp
  rfl
theorem tbl1 : tbl m 1 = fun i => lit1 (S528.rowMajor i) := by
  unfold tbl V
  simp only [hostOps0, hostOps0_1, hostOps0_2, List.flatten_cons, List.flatten_nil, List.append_nil, List.cons_append, List.nil_append]
  after_reads_simp
  rfl

/-- The step a grid point is at, in its group of heads. -/
abbrev stp (i : grid0.Coords) : Fin 528 := ⟨(i 1).val, (i 1).isLt⟩
/-- Its group of heads. -/
abbrev grp (i : grid0.Coords) : Fin 4 := ⟨(i 0).val, (i 0).isLt⟩

theorem off1_eq (i : grid0.Coords) : k0_off1 i = ![(i 1).val] := by
  unfold k0_off1
  have e : (Scalar.indexCast (BitVec.ofNat 32 (i 1).val) : Index).toNat = (i 1).val := by
    show (BitVec.ofNat 32 (i 1).val).toNat = _
    rw [BitVec.toNat_ofNat]
    exact Nat.mod_eq_of_lt (by have h : (i 1).val < 528 := (i 1).isLt; omega)
  simp only [e]

theorem at_eq (i : grid0.Coords) (j : S528.Idx) (h : (j 0).val = (i 1).val) : S528.rowMajor j = stp i :=
  Fin.ext ((Shape.rowMajor_val_one j).trans h)

theorem ofNat_grp (i : grid0.Coords) : (BitVec.ofNat 32 (i 0).val).toNat = (i 0).val := by
  rw [BitVec.toNat_ofNat]
  exact Nat.mod_eq_of_lt (by have h : (i 0).val < 4 := (i 0).isLt; omega)

theorem at0 (i : grid0.Coords) (inb) (h1) : (tbl m).at 0 (Rect.unit (s := S528) (k0_off1 i) S1.size inb) h1 = lit0 (stp i) := by
  refine (congrFun (tbl0 m) _).trans (congrArg lit0 (at_eq i _ ?_))
  show k0_off1 i 0 + 1 * 0 = _
  rw [off1_eq]; rfl
theorem at1 (i : grid0.Coords) (inb) (h1) : (tbl m).at 1 (Rect.unit (s := S528) (k0_off1 i) S1.size inb) h1 = lit1 (stp i) := by
  refine (congrFun (tbl1 m) _).trans (congrArg lit1 (at_eq i _ ?_))
  show k0_off1 i 0 + 1 * 0 = _
  rw [off1_eq]; rfl
theorem atD0 (i : grid0.Coords) : (tbl m).atD 0 (k0_off1 i) = lit0 (stp i) := by
  unfold Pipeline.Prefetch.Contents.atD
  have hb : ∀ a : Fin 1, k0_off1 i a + 1 ≤ S528.size a := fun a => by
    have ea : a = 0 := Subsingleton.elim _ _
    subst ea; exact k0_off1_inb i 0
  have hj : (S528.rowMajor fun a => ⟨k0_off1 i a, Nat.lt_of_succ_le (hb a)⟩) = stp i := at_eq i _ (by
    show k0_off1 i 0 = _
    rw [off1_eq]; rfl)
  refine (dif_pos hb).trans ?_
  rw [tbl0]
  exact congrArg lit0 hj
theorem atD1 (i : grid0.Coords) : (tbl m).atD 1 (k0_off1 i) = lit1 (stp i) := by
  unfold Pipeline.Prefetch.Contents.atD
  have hb : ∀ a : Fin 1, k0_off1 i a + 1 ≤ S528.size a := fun a => by
    have ea : a = 0 := Subsingleton.elim _ _
    subst ea; exact k0_off1_inb i 0
  have hj : (S528.rowMajor fun a => ⟨k0_off1 i a, Nat.lt_of_succ_le (hb a)⟩) = stp i := at_eq i _ (by
    show k0_off1 i 0 = _
    rw [off1_eq]; rfl)
  refine (dif_pos hb).trans ?_
  rw [tbl1]
  exact congrArg lit1 hj
theorem word0 (c : Dev nD) (i : grid0.Coords) : word (c := c) tbM0 (tbl m 0) i = lit0 (stp i) := by
  refine (congrFun (tbl0 m) _).trans (congrArg lit0 (at_eq i _ ?_))
  show k0_off1 i 0 + 1 * 0 = _
  rw [off1_eq]; rfl
theorem word1 (c : Dev nD) (i : grid0.Coords) : word (c := c) tbM1 (tbl m 1) i = lit1 (stp i) := by
  refine (congrFun (tbl1 m) _).trans (congrArg lit1 (at_eq i _ ?_))
  show k0_off1 i 0 + 1 * 0 = _
  rw [off1_eq]; rfl

theorem ix_q (i : grid0.Coords) : cc0_transform_0 k0_off1_inb numel1_S1 (tbl m) i = ![qB (stp i), (i 0).val] := by
  show ![((tbl m).at 0 (Rect.unit (s := S528) (k0_off1 i) S1.size (k0_off1_inb i)) numel1_S1).toNat, (BitVec.ofNat 32 (i 0).val).toNat] = _
  rw [at0 m i (k0_off1_inb i) numel1_S1, ofNat_grp]; rfl
theorem ix_k (i : grid0.Coords) : cc0_transform_1 k0_off1_inb numel1_S1 (tbl m) i = ![kB (stp i), (i 0).val] := by
  show ![((tbl m).at 1 (Rect.unit (s := S528) (k0_off1 i) S1.size (k0_off1_inb i)) numel1_S1).toNat, (BitVec.ofNat 32 (i 0).val).toNat] = _
  rw [at1 m i (k0_off1_inb i) numel1_S1, ofNat_grp]; rfl
theorem ix_pc (i : grid0.Coords) : cc0_transform_6 k0_off1_inb numel1_S1 (tbl m) i = ![qB (stp i), 0] := by
  show ![((tbl m).at 0 (Rect.unit (s := S528) (k0_off1 i) S1.size (k0_off1_inb i)) numel1_S1).toNat, 0] = _
  rw [at0 m i (k0_off1_inb i) numel1_S1]; rfl
theorem ix_pr (i : grid0.Coords) : cc0_transform_7 k0_off1_inb numel1_S1 (tbl m) i = ![0, kB (stp i)] := by
  show ![0, ((tbl m).at 1 (Rect.unit (s := S528) (k0_off1 i) S1.size (k0_off1_inb i)) numel1_S1).toNat] = _
  rw [at1 m i (k0_off1_inb i) numel1_S1]; rfl

/-! ## Every block lies inside its array -/

theorem in_bf : ∀ (a : Fin 32) (b : Fin 4), ∃ h : (∀ x, ((![a.val, b.val] : Fin 2 → ℕ) x + 1) * S512x256.size x ≤ S16384x1024.size x),
    EltTy.bits .bf16 = 32 ∨ (Rect.block (s := S16384x1024) S512x256.size ![a.val, b.val] h).WholeWords (EltTy.packing .bf16) := by
  decide +kernel
theorem in_f : ∀ (a : Fin 32) (b : Fin 4), (∀ x, ((![a.val, b.val] : Fin 2 → ℕ) x + 1) * S512x256.size x ≤ S16384x1024.size x) := by
  decide +kernel
theorem in_pc : ∀ (a : Fin 32), (∀ x, ((![a.val, 0] : Fin 2 → ℕ) x + 1) * S512x1.size x ≤ S16384x1.size x) := by
  decide +kernel
theorem in_pr : ∀ (a : Fin 32), (∀ x, ((![0, a.val] : Fin 2 → ℕ) x + 1) * S1x512.size x ≤ S1x16384.size x) := by
  decide +kernel

theorem ok : Ok m := by
  have hb (ix : Fin 2 → ℕ) (a : Fin 32) (b : Fin 4) (e : ix = ![a.val, b.val]) : ∃ h : (∀ x, (ix x + 1) * S512x256.size x ≤ S16384x1024.size x),
      EltTy.bits .bf16 = 32 ∨ (Rect.block (s := S16384x1024) S512x256.size ix h).WholeWords (EltTy.packing .bf16) := by
    subst e; exact in_bf a b
  have hf (ix : Fin 2 → ℕ) (a : Fin 32) (b : Fin 4) (e : ix = ![a.val, b.val]) : ∃ h : (∀ x, (ix x + 1) * S512x256.size x ≤ S16384x1024.size x),
      EltTy.bits .f32 = 32 ∨ (Rect.block (s := S16384x1024) S512x256.size ix h).WholeWords (EltTy.packing .f32) := by
    subst e; exact ⟨in_f a b, .inl rfl⟩
  have hc (ix : Fin 2 → ℕ) (a : Fin 32) (e : ix = ![a.val, 0]) : ∃ h : (∀ x, (ix x + 1) * S512x1.size x ≤ S16384x1.size x),
      EltTy.bits .f32 = 32 ∨ (Rect.block (s := S16384x1) S512x1.size ix h).WholeWords (EltTy.packing .f32) := by
    subst e; exact ⟨in_pc a, .inl rfl⟩
  have hr (ix : Fin 2 → ℕ) (a : Fin 32) (e : ix = ![0, a.val]) : ∃ h : (∀ x, (ix x + 1) * S1x512.size x ≤ S1x16384.size x),
      EltTy.bits .f32 = 32 ∨ (Rect.block (s := S1x16384) S1x512.size ix h).WholeWords (EltTy.packing .f32) := by
    subst e; exact ⟨in_pr a, .inl rfl⟩
  exact ⟨fun i => hb _ ⟨_, qB_lt _⟩ (grp i) (ix_q m i), fun i => hb _ ⟨_, kB_lt _⟩ (grp i) (ix_k m i), fun i => hb _ ⟨_, kB_lt _⟩ (grp i) (ix_k m i),
    fun i => hf _ ⟨_, qB_lt _⟩ (grp i) (ix_q m i), fun i => hf _ ⟨_, qB_lt _⟩ (grp i) (ix_q m i), fun i => hf _ ⟨_, qB_lt _⟩ (grp i) (ix_q m i),
    fun i => hc _ ⟨_, qB_lt _⟩ (ix_pc m i), fun i => hr _ ⟨_, kB_lt _⟩ (ix_pr m i),
    fun i => hf _ ⟨_, kB_lt _⟩ (grp i) (ix_k m i), fun i => hf _ ⟨_, kB_lt _⟩ (grp i) (ix_k m i)⟩

end Cert.Proof.KI

end
-- ==== Proof.OblKI.lean ====
/-
  The call's run: what the accumulators and the queries' window hold after each point, the body at every point, the frame claim.
-/
module

public import proofs.«01_k».proof.Proof.TabKI

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One step -/

/-- The two accumulators and the queries' window. -/
structure State (F : FTy → Type) where
  k : Vec F S512x256 .f32
  v : Vec F S512x256 .f32
  q : Vec F S16384x256 .f32

open Classical in
/-- What step `s` of a group of heads makes of them: a key block's first step starts the accumulators over, the first step of all the window. -/
def step (B : Blocks F) (s : Fin 528) (x : State F) : State F :=
  if kB s = qB s then
    ⟨diaK B k0_pay2, diaV B k0_pay3, diaQ B (qB s * 512) (rows s) (if s = 0 then k0_pay1 else x.q)⟩
  else ⟨offK B x.k, offV B x.v, offQ B (qB s * 512) (rows s) x.q⟩

/-- The two outputs' blocks after a step: written at a key block's last step alone. -/
def outK (s : Fin 528) (x : State F) (y : Vec F S512x256 .f32) : Vec F S512x256 .f32 := if qB s = 31 then k0_pay8 x.k else y
def outV (s : Fin 528) (x : State F) (y : Vec F S512x256 .f32) : Vec F S512x256 .f32 := if qB s = 31 then x.v else y

theorem cond1_of : ∀ s : Fin 528, (s = 0 ↔ Scalar.cmpi .ne (Scalar.extui (Scalar.cmpi .eq (BitVec.ofNat 32 s.val) 0#32) : BitVec 32) 0#32 = 1#1) := by
  decide +kernel
theorem cond1 (i : grid0.Coords) : stp i = 0 ↔ k0_cond1 i = 1#1 := cond1_of (stp i)

set_option maxHeartbeats 1000000 in
/-- The body at any point. -/
theorem body (c : Dev nD) (i : grid0.Coords) (M2 : Memref sig .tc .smem S528 .i32) (h2 : M2.IsWhole) (M3 : Memref sig .tc .smem S528 .i32) (h3 : M3.IsWhole) (M4 : Memref sig .tc .vmem S512x256 .bf16) (h4 : M4.IsWhole) (M5 : Memref sig .tc .vmem S512x256 .bf16) (h5 : M5.IsWhole) (M6 : Memref sig .tc .vmem S512x256 .bf16) (h6 : M6.IsWhole) (M7 : Memref sig .tc .vmem S512x256 .f32) (h7 : M7.IsWhole) (M8 : Memref sig .tc .vmem S512x256 .f32) (h8 : M8.IsWhole) (M9 : Memref sig .tc .vmem S512x256 .f32) (h9 : M9.IsWhole) (M10 : Memref sig .tc .vmem S512x1 .f32) (h10 : M10.IsWhole) (M11 : Memref sig .tc .vmem S1x512 .f32) (h11 : M11.IsWhole) (M12 : Memref sig .tc .vmem S16384x256 .f32) (h12 : M12.IsWhole) (M13 : Memref sig .tc .vmem S512x256 .f32) (h13 : M13.IsWhole) (M14 : Memref sig .tc .vmem S512x256 .f32) (h14 : M14.IsWhole) (M15 : Memref sig .tc .vmem S512x256 .f32) (h15 : M15.IsWhole) (M16 : Memref sig .tc .vmem S512x256 .f32) (h16 : M16.IsWhole)
    (t2 : TbBuf (F := F) c M2) (t3 : TbBuf (F := F) c M3) (s : Fin 528) (hs : stp i = s) (e2 : word M2 t2 i = lit0 s) (e3 : word M3 t3 i = lit1 s)
    (B : Blocks F) (x12 : Vec F S16384x256 .f32) (x13 x14 x15 x16 : Vec F S512x256 .f32) (E : Set ℕ) (Q : PUnit → sProp 𝕄) :
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.go ∗ owns (c : Thread nD τ) M8 fullShare B.dl ∗ owns (c : Thread nD τ) M9 fullShare B.ls ∗ owns (c : Thread nD τ) M10 fullShare B.pc ∗ owns (c : Thread nD τ) M11 fullShare B.pr ∗ owns (c : Thread nD τ) M12 fullShare (step B s ⟨x15, x16, x12⟩).q ∗ owns (c : Thread nD τ) M13 fullShare (outK s (step B s ⟨x15, x16, x12⟩) x13) ∗ owns (c : Thread nD τ) M14 fullShare (outV s (step B s ⟨x15, x16, x12⟩) x14) ∗ owns (c : Thread nD τ) M15 fullShare (step B s ⟨x15, x16, x12⟩).k ∗ owns (c : Thread nD τ) M16 fullShare (step B s ⟨x15, x16, x12⟩).v) -∗ Q ⟨⟩))
    ⊢ wp frame (wpE (defs₀ (F := F)) Variants.none c none) E (cc0_attn_bwd i M2 h2 M3 h3 M4 h4 M5 h5 M6 h6 M7 h7 M8 h8 M9 h9 M10 h10 M11 h11 M12 h12 M13 h13 M14 h14 M15 h15 M16 h16) Q := by
  obtain ⟨⟨w1, w2, w3, w4⟩, w5, w6, w7, w8, w9⟩ := words s
  have h1 := cond1 i
  rw [hs] at h1
  rw [← e2] at w4 w5 w6 w7 w8
  rw [← e3] at w5 w6 w7
  have ha : ![qB s * 512, 0] = k0_off4 (word M2 t2 i) := by rw [e2]; exact off4_eq s
  have hb : ![qB s * 512, 128] = k0_off5 (word M2 t2 i) := by rw [e2]; exact off5_eq s
  have hc1 : k0_chk1 (word M2 t2 i) := w4
  have hc2 : k0_chk2 (word M2 t2 i) (word M3 t3 i) := by rw [e2, e3]; exact chk2 s
  by_cases hd : kB s = qB s
  · have y2 := w5.1 hd
    have n3 := fun h => w6.2 h hd
    have y4 := w7.1 hd
    by_cases hl : qB s = 31
    · have hz : s ≠ 0 := fun h => by rw [h, first.1] at hl; omega
      have e : step B s ⟨x15, x16, x12⟩ = ⟨diaK B k0_pay2, diaV B k0_pay3, diaQ B (qB s * 512) (rows s) x12⟩ := by
        unfold step; rw [if_pos hd, if_neg hz]
      rw [e, outK, outV, if_pos hl, if_pos hl]
      exact bodyE c i M2 h2 M3 h3 M4 h4 M5 h5 M6 h6 M7 h7 M8 h8 M9 h9 M10 h10 M11 h11 M12 h12 M13 h13 M14 h14 M15 h15 M16 h16 t2 t3 B x12 x13 x14 x15 x16 (qB s * 512) (rows s) ha hb hc1 hc2 (fun h => hz (h1.2 h)) y2 (fun h => w6.2 h hd) y4 (w8.1 hl) E Q
    · by_cases hz : s = 0
      · have e : step B s ⟨x15, x16, x12⟩ = ⟨diaK B k0_pay2, diaV B k0_pay3, diaQ B (qB s * 512) (rows s) k0_pay1⟩ := by
          unfold step; rw [if_pos hd, if_pos hz]
        rw [e, outK, outV, if_neg hl, if_neg hl]
        exact bodyA c i M2 h2 M3 h3 M4 h4 M5 h5 M6 h6 M7 h7 M8 h8 M9 h9 M10 h10 M11 h11 M12 h12 M13 h13 M14 h14 M15 h15 M16 h16 t2 t3 B x12 x13 x14 x15 x16 (qB s * 512) (rows s) ha hb hc1 hc2 (h1.1 hz) y2 (fun h => w6.2 h hd) y4 (fun h => hl (w8.2 h)) E Q
      · have e : step B s ⟨x15, x16, x12⟩ = ⟨diaK B k0_pay2, diaV B k0_pay3, diaQ B (qB s * 512) (rows s) x12⟩ := by
          unfold step; rw [if_pos hd, if_neg hz]
        rw [e, outK, outV, if_neg hl, if_neg hl]
        exact bodyB c i M2 h2 M3 h3 M4 h4 M5 h5 M6 h6 M7 h7 M8 h8 M9 h9 M10 h10 M11 h11 M12 h12 M13 h13 M14 h14 M15 h15 M16 h16 t2 t3 B x12 x13 x14 x15 x16 (qB s * 512) (rows s) ha hb hc1 hc2 (fun h => hz (h1.2 h)) y2 (fun h => w6.2 h hd) y4 (fun h => hl (w8.2 h)) E Q
  · have hz : s ≠ 0 := fun h => hd (by rw [h, first.1, first.2.1])
    have e : step B s ⟨x15, x16, x12⟩ = ⟨offK B x15, offV B x16, offQ B (qB s * 512) (rows s) x12⟩ := by
      unfold step; rw [if_neg hd]
    by_cases hl : qB s = 31
    · rw [e, outK, outV, if_pos hl, if_pos hl]
      exact bodyD c i M2 h2 M3 h3 M4 h4 M5 h5 M6 h6 M7 h7 M8 h8 M9 h9 M10 h10 M11 h11 M12 h12 M13 h13 M14 h14 M15 h15 M16 h16 t2 t3 B x12 x13 x14 x15 x16 (qB s * 512) (rows s) ha hb hc1 hc2 (fun h => hz (h1.2 h)) (fun h => hd (w5.2 h)) (w6.1 hd) (fun h => hd (w7.2 h)) (w8.1 hl) E Q
    · rw [e, outK, outV, if_neg hl, if_neg hl]
      exact bodyC c i M2 h2 M3 h3 M4 h4 M5 h5 M6 h6 M7 h7 M8 h8 M9 h9 M10 h10 M11 h11 M12 h12 M13 h13 M14 h14 M15 h15 M16 h16 t2 t3 B x12 x13 x14 x15 x16 (qB s * 512) (rows s) ha hb hc1 hc2 (fun h => hz (h1.2 h)) (fun h => hd (w5.2 h)) (w6.1 hd) (fun h => hd (w7.2 h)) (fun h => hl (w8.2 h)) E Q

attribute [local irreducible] tbl

/-! ## The state along the points -/

/-- The blocks of point `t`. -/
def blks (hO : Ok m) (c : Dev nD) (t : Fin (cfgM m hO).N) : Blocks F :=
  ⟨iblk m hO c 0 t, iblk m hO c 1 t, iblk m hO c 2 t, iblk m hO c 3 t, iblk m hO c 4 t, iblk m hO c 5 t, iblk m hO c 6 t, iblk m hO c 7 t⟩

/-- The state before point `n`. -/
def st (hO : Ok m) (c : Dev nD) : ℕ → State F
  | 0 => ⟨k0_pay2, k0_pay3, k0_pay1⟩
  | n + 1 => if h : n < (cfgM m hO).N then step (blks m hO c ⟨n, h⟩) ⟨n % 528, Nat.mod_lt _ (by decide)⟩ (st hO c n) else st hO c n

theorem co1 (t : Fin grid0.N) : ((grid0.coords t) 1).val = t.val % 528 := by
  have := Pipeline.Grid.coords_val t 1 (S := 1) (B := 528) (by decide) rfl
  rwa [Nat.div_one] at this
theorem co0 (t : Fin grid0.N) : ((grid0.coords t) 0).val = t.val / 528 := by
  have := Pipeline.Grid.coords_val t 0 (S := 528) (B := 4) (by decide) rfl
  rw [this]; exact Nat.mod_eq_of_lt (by have h : t.val < 2112 := t.isLt; omega)
theorem stp_eq (t : Fin grid0.N) : stp (grid0.coords t) = ⟨t.val % 528, Nat.mod_lt _ (by decide)⟩ := Fin.ext (co1 t)

theorem st_succ (hO : Ok m) (c : Dev nD) (t : Fin (cfgM m hO).N) :
    st m hO c (t.val + 1) = step (blks m hO c t) (stp (grid0.coords t)) (st m hO c t.val) := by
  rw [stp_eq]
  exact dif_pos t.isLt

/-- The state before a point is read only where the step before belongs to the same group of heads. -/
theorem step_congr (B : Blocks F) (s : Fin 528) (x y : State F) (hk : s ≠ 0 → x.k = y.k) (hv : s ≠ 0 → x.v = y.v) (hq : s ≠ 0 → x.q = y.q) :
    step B s x = step B s y := by
  by_cases h : s = 0
  · subst h; unfold step; rw [if_pos (by rw [first.1, first.2.1]), if_pos rfl, if_pos (by rw [first.1, first.2.1]), if_pos rfl]
  · obtain ⟨a, b, d⟩ := x; obtain ⟨a', b', d'⟩ := y
    obtain rfl := hk h; obtain rfl := hv h; obtain rfl := hq h; rfl

/-! ## Which points write back -/

theorem gridN : grid0.N = 2112 := by decide +kernel
theorem N_eq (hO : Ok m) : (cfgM m hO).N = 2112 := gridN

theorem flush_no (hO : Ok m) (w : Fin 11) (t : Fin (cfgM m hO).N) (h : t.val + 1 < (cfgM m hO).N)
    (e : ((cfgM m hO).win w).index ⟨t.val + 1, h⟩ = ((cfgM m hO).win w).index t) : ((cfgM m hO).win w).flush t = false := by
  have hN : (cfgM m hO).N = (cfgM m hO).grid.N := rfl
  have ht := t.isLt
  unfold Pipeline.Window.flush
  rw [decide_eq_false (by omega : ¬ t.val + 1 = (cfgM m hO).grid.N), decide_eq_false (by rintro ⟨_, hh⟩; exact hh e)]
  simp

theorem flush_yes (hO : Ok m) (w : Fin 11) (t : Fin (cfgM m hO).N) (ho : ((cfgM m hO).win w).isOut = true)
    (e : ∀ h : t.val + 1 < (cfgM m hO).N, ((cfgM m hO).win w).index ⟨t.val + 1, h⟩ ≠ ((cfgM m hO).win w).index t) : ((cfgM m hO).win w).flush t = true := by
  have hN : (cfgM m hO).N = (cfgM m hO).grid.N := rfl
  have ht := t.isLt
  unfold Pipeline.Window.flush
  rw [ho, Bool.true_and, Bool.or_eq_true, decide_eq_true_iff, decide_eq_true_iff]
  by_cases h : t.val + 1 = (cfgM m hO).grid.N
  · exact .inl h
  · have hl : t.val + 1 < (cfgM m hO).grid.N := by have := t.isLt; omega
    exact .inr ⟨hl, e hl⟩

theorem index8 (hO : Ok m) (t : Fin (cfgM m hO).N) : ((cfgM m hO).win 8).index t = ![0, t.val / 528] := by
  show ![0, (BitVec.ofNat 32 ((grid0.coords t) 0).val).toNat] = _
  rw [ofNat_grp, co0]
theorem index9 (hO : Ok m) (t : Fin (cfgM m hO).N) : ((cfgM m hO).win 9).index t = ![kB ⟨t.val % 528, Nat.mod_lt _ (by decide)⟩, t.val / 528] := by
  refine (ix_k m (grid0.coords t)).trans ?_
  rw [stp_eq, co0]
theorem index10 (hO : Ok m) (t : Fin (cfgM m hO).N) : ((cfgM m hO).win 10).index t = ![kB ⟨t.val % 528, Nat.mod_lt _ (by decide)⟩, t.val / 528] := by
  refine (ix_k m (grid0.coords t)).trans ?_
  rw [stp_eq, co0]

theorem flush8_no (hO : Ok m) (t : Fin (cfgM m hO).N) (h : t.val % 528 ≠ 527) : ((cfgM m hO).win 8).flush t = false := by
  have hN := N_eq m hO
  have ht := t.isLt
  refine flush_no m hO 8 t (by omega) ?_
  rw [index8, index8, show (t.val + 1) / 528 = t.val / 528 by omega]

theorem next' (n : ℕ) (h : qB ⟨n % 528, Nat.mod_lt _ (by decide)⟩ ≠ 31) :
    n % 528 ≠ 527 ∧ kB ⟨(n + 1) % 528, Nat.mod_lt _ (by decide)⟩ = kB ⟨n % 528, Nat.mod_lt _ (by decide)⟩ := by
  have h1 : n % 528 ≠ 527 := fun e => h (by
    have : (⟨n % 528, Nat.mod_lt _ (by decide)⟩ : Fin 528) = 527 := Fin.ext e
    rw [this]; exact first.2.2.1)
  refine ⟨h1, ?_⟩
  have hl : n % 528 < 527 := by omega
  have h2 := ((next ⟨n % 528, hl⟩).2 h).1
  have e : (⟨(n + 1) % 528, Nat.mod_lt _ (by decide)⟩ : Fin 528) = (⟨n % 528, hl⟩ : Fin 527).succ := Fin.ext (by
    show (n + 1) % 528 = n % 528 + 1
    omega)
  rw [e, h2]; rfl

theorem flush9_no (hO : Ok m) (t : Fin (cfgM m hO).N) (h : qB ⟨t.val % 528, Nat.mod_lt _ (by decide)⟩ ≠ 31) : ((cfgM m hO).win 9).flush t = false := by
  have hN := N_eq m hO
  have ht := t.isLt
  obtain ⟨h1, h2⟩ := next' t.val h
  refine flush_no m hO 9 t (by omega) ?_
  rw [index9, index9]
  show ![kB ⟨(t.val + 1) % 528, _⟩, (t.val + 1) / 528] = _
  rw [h2, show (t.val + 1) / 528 = t.val / 528 by omega]
theorem flush10_no (hO : Ok m) (t : Fin (cfgM m hO).N) (h : qB ⟨t.val % 528, Nat.mod_lt _ (by decide)⟩ ≠ 31) : ((cfgM m hO).win 10).flush t = false := by
  have hN := N_eq m hO
  have ht := t.isLt
  obtain ⟨h1, h2⟩ := next' t.val h
  refine flush_no m hO 10 t (by omega) ?_
  rw [index10, index10]
  show ![kB ⟨(t.val + 1) % 528, _⟩, (t.val + 1) / 528] = _
  rw [h2, show (t.val + 1) / 528 = t.val / 528 by omega]

theorem idle8 (i : grid0.Coords) : idle0 (tbl m) 8 i = false := by
  have key : ∀ a b : BitVec 32, a = lit0 (stp i) → b = lit1 (stp i) →
      (!(k0_cond1 i == 1#1) && !(k0_cond3 a b == 1#1) && !(k0_cond4 a b == 1#1)) = false := by
    rintro _ _ rfl rfl
    obtain ⟨-, -, w6, w7, -, -⟩ := words (stp i)
    by_cases hd : kB (stp i) = qB (stp i)
    · rw [w7.1 hd]; simp
    · rw [w6.1 hd]; simp
  exact key _ _ (atD0 m i) (atD1 m i)
theorem idle9 (i : grid0.Coords) : idle0 (tbl m) 9 i = !decide (qB (stp i) = 31) := by
  have key : ∀ a : BitVec 32, a = lit0 (stp i) → (!(k0_cond5 a == 1#1)) = !decide (qB (stp i) = 31) := by
    rintro _ rfl
    obtain ⟨-, -, -, -, w8, -⟩ := words (stp i)
    congr 1
    by_cases h : k0_cond5 (lit0 (stp i)) = 1#1
    · rw [h, decide_eq_true (w8.2 h)]; rfl
    · rw [decide_eq_false (fun e => h (w8.1 e))]; simpa using h
  exact key _ (atD0 m i)
theorem idle10 (i : grid0.Coords) : idle0 (tbl m) 10 i = !decide (qB (stp i) = 31) := idle9 m i

/-! ## The call's data -/

/-- An accumulator's buffer at some contents. -/
abbrev scr0 (c : Dev nD) (x : Vec F S512x256 .f32) : sProp 𝕄 := (c : Thread nD τ).loc cc0_scratch0 ↦{fullShare} x
abbrev scr1 (c : Dev nD) (x : Vec F S512x256 .f32) : sProp 𝕄 := (c : Thread nD τ).loc cc0_scratch1 ↦{fullShare} x
theorem scr0_eq (c : Dev nD) (x : Vec F S512x256 .f32) : (owns (c : Thread nD τ) (Memref.whole cc0_scratch0) fullShare x : sProp 𝕄) = scr0 c x := owns_whole _ _ _ _
theorem scr1_eq (c : Dev nD) (x : Vec F S512x256 .f32) : (owns (c : Thread nD τ) (Memref.whole cc0_scratch1) fullShare x : sProp 𝕄) = scr1 c x := owns_whole _ _ _ _

/-- Between points: the accumulators hold the state's, and the tables are as the call found them. -/
def Inv (hO : Ok m) (c : Dev nD) (n : ℕ) : sProp 𝕄 :=
  iprop((∃ x15 x16, ⌜n ≠ 0 → x15 = (st m hO c n).k ∧ x16 = (st m hO c n).v⌝ ∗ scr0 c x15 ∗ scr1 c x16)
    ∗ (tbPt c tbM0 (tbl m 0) ∗ tbPt c tbM1 (tbl m 1)) ∗ ∃ r, prngReg c r)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (st m hO c (t.val + 1)).q
    | ⟨9, _⟩ => k0_pay8 (st m hO c (t.val + 1)).k
    | ⟨10, _⟩ => (st m hO c (t.val + 1)).v
  Φ n := Inv m hO c n.val
  q _ := fullShare
  owed _ := 0

theorem after0 (hO : Ok m) (c : Dev nD) (t : Fin (cfgM m hO).N) : (dats m hO 0 c).after 0 t = iblk m hO c 0 t := rfl
theorem after1 (hO : Ok m) (c : Dev nD) (t : Fin (cfgM m hO).N) : (dats m hO 0 c).after 1 t = iblk m hO c 1 t := rfl
theorem after2 (hO : Ok m) (c : Dev nD) (t : Fin (cfgM m hO).N) : (dats m hO 0 c).after 2 t = iblk m hO c 2 t := rfl
theorem after3 (hO : Ok m) (c : Dev nD) (t : Fin (cfgM m hO).N) : (dats m hO 0 c).after 3 t = iblk m hO c 3 t := rfl
theorem after4 (hO : Ok m) (c : Dev nD) (t : Fin (cfgM m hO).N) : (dats m hO 0 c).after 4 t = iblk m hO c 4 t := rfl
theorem after5 (hO : Ok m) (c : Dev nD) (t : Fin (cfgM m hO).N) : (dats m hO 0 c).after 5 t = iblk m hO c 5 t := rfl
theorem after6 (hO : Ok m) (c : Dev nD) (t : Fin (cfgM m hO).N) : (dats m hO 0 c).after 6 t = iblk m hO c 6 t := rfl
theorem after7 (hO : Ok m) (c : Dev nD) (t : Fin (cfgM m hO).N) : (dats m hO 0 c).after 7 t = iblk m hO c 7 t := rfl
theorem after8 (hO : Ok m) (c : Dev nD) (t : Fin (cfgM m hO).N) : (dats m hO 0 c).after 8 t = (st m hO c (t.val + 1)).q := rfl
theorem after9 (hO : Ok m) (c : Dev nD) (t : Fin (cfgM m hO).N) : (dats m hO 0 c).after 9 t = k0_pay8 (st m hO c (t.val + 1)).k := rfl
theorem after10 (hO : Ok m) (c : Dev nD) (t : Fin (cfgM m hO).N) : (dats m hO 0 c).after 10 t = (st m hO c (t.val + 1)).v := rfl
theorem bef0 (hO : Ok m) (c : Dev nD) (t : Fin (cfgM m hO).N) (d) : (dats m hO 0 c).before 0 t d = iblk m hO c 0 t :=
  before_0 m hO (dats m hO 0 c) rfl (after0 m hO c) t d
theorem bef1 (hO : Ok m) (c : Dev nD) (t : Fin (cfgM m hO).N) (d) : (dats m hO 0 c).before 1 t d = iblk m hO c 1 t :=
  before_1 m hO (dats m hO 0 c) rfl (after1 m hO c) t d
theorem bef2 (hO : Ok m) (c : Dev nD) (t : Fin (cfgM m hO).N) (d) : (dats m hO 0 c).before 2 t d = iblk m hO c 2 t :=
  before_2 m hO (dats m hO 0 c) rfl (after2 m hO c) t d
theorem bef3 (hO : Ok m) (c : Dev nD) (t : Fin (cfgM m hO).N) (d) : (dats m hO 0 c).before 3 t d = iblk m hO c 3 t :=
  before_3 m hO (dats m hO 0 c) rfl (after3 m hO c) t d
theorem bef4 (hO : Ok m) (c : Dev nD) (t : Fin (cfgM m hO).N) (d) : (dats m hO 0 c).before 4 t d = iblk m hO c 4 t :=
  before_4 m hO (dats m hO 0 c) rfl (after4 m hO c) t d
theorem bef5 (hO : Ok m) (c : Dev nD) (t : Fin (cfgM m hO).N) (d) : (dats m hO 0 c).before 5 t d = iblk m hO c 5 t :=
  before_5 m hO (dats m hO 0 c) rfl (after5 m hO c) t d
theorem bef6 (hO : Ok m) (c : Dev nD) (t : Fin (cfgM m hO).N) (d) : (dats m hO 0 c).before 6 t d = iblk m hO c 6 t :=
  before_6 m hO (dats m hO 0 c) rfl (after6 m hO c) t d
theorem bef7 (hO : Ok m) (c : Dev nD) (t : Fin (cfgM m hO).N) (d) : (dats m hO 0 c).before 7 t d = iblk m hO c 7 t :=
  before_7 m hO (dats m hO 0 c) rfl (after7 m hO c) t d

theorem bef8 (hO : Ok m) (c : Dev nD) (t : Fin (cfgM m hO).N) (h : stp (grid0.coords t) ≠ 0) (d) :
    (dats m hO 0 c).before 8 t d = (st m hO c t.val).q := by
  have h1 : t.val % 528 ≠ 0 := fun e => h (Fin.ext ((co1 t).trans e))
  have h0 : t.val ≠ 0 := fun e => h1 (by rw [e])
  refine ((dats m hO 0 c).before_out_kept 8 rfl t h0 (flush8_no m hO _ ?_) (fun i => idle8 m i) (fun _ _ => rfl) d).trans ?_
  · show (t.val - 1) % 528 ≠ 527
    omega
  · refine (after8 m hO c _).trans ?_
    show (st m hO c (t.val - 1 + 1)).q = _
    rw [Nat.sub_add_cancel (Nat.pos_of_ne_zero h0)]

end Cert.Proof.KI

end
-- ==== Proof.ValPay.lean ====
/-
  What one step of the call makes of arrays of real numbers.
-/
module

public import proofs.«01_k».proof.Proof.ValOps
public import proofs.«01_k».proof.Proof.OblKI

@[expose] public section

set_option maxRecDepth 16384

noncomputable section

namespace Cert.Proof.Val

open Cert.KernelIdeal Cert.KernelIdeal.Gen Cert.Proof.KI
open Idealize.ShloMosaic Idealize.ShloMosaic.ValueIdx
open scoped BigOperators

/-! ## The block products -/

theorem mmT (φ₁ φ₂ : FTy) (A B : ℕ → ℕ → ℝ) :
    matmul (F := Ideal) (φ₁ := φ₁) (φ₂ := φ₂) dot_S512x128_S512x128_S512x512_1_1_0_0_n_n none (up A) (up B) (up fun _ _ => 0)
      = up fun i j => ∑ d ∈ Finset.range 128, A i d * B j d := by
  funext j
  refine (matmul1 dot_S512x128_S512x128_S512x512_1_1_0_0_n_n 128 rfl rfl none (up A) (up B) (up fun _ _ => 0) j
    (fun k => ((A (j 0).val k.val : ℝ) : EReal)) (fun k => ((B (j 1).val k.val : ℝ) : EReal)) (fun k c hk => ?_) (fun k c hk => ?_)).trans ?_
  · rw [← hk]; rfl
  · rw [← hk]; rfl
  · show ((0 : ℝ) : EReal) + _ = ((∑ d ∈ Finset.range 128, _ : ℝ) : EReal)
    rw [coe_sum_fin, EReal.coe_zero, zero_add]
    exact Finset.sum_congr rfl fun k _ => (EReal.coe_mul _ _).symm

theorem mmL (φ₁ φ₂ : FTy) (A B : ℕ → ℕ → ℝ) :
    matmul (F := Ideal) (φ₁ := φ₁) (φ₂ := φ₂) dot_S512x512_S512x128_S512x128_0_0_1_1_n_n none (up A) (up B) (up fun _ _ => 0)
      = up fun j e => ∑ i ∈ Finset.range 512, A i j * B i e := by
  funext j
  refine (matmul1 dot_S512x512_S512x128_S512x128_0_0_1_1_n_n 512 rfl rfl none (up A) (up B) (up fun _ _ => 0) j
    (fun k => ((A k.val (j 0).val : ℝ) : EReal)) (fun k => ((B k.val (j 1).val : ℝ) : EReal)) (fun k c hk => ?_) (fun k c hk => ?_)).trans ?_
  · rw [← hk]; rfl
  · rw [← hk]; rfl
  · show ((0 : ℝ) : EReal) + _ = ((∑ d ∈ Finset.range 512, _ : ℝ) : EReal)
    rw [coe_sum_fin, EReal.coe_zero, zero_add]
    exact Finset.sum_congr rfl fun k _ => (EReal.coe_mul _ _).symm

theorem mmR (φ₁ φ₂ : FTy) (A B : ℕ → ℕ → ℝ) :
    matmul (F := Ideal) (φ₁ := φ₁) (φ₂ := φ₂) dot_S512x512_S512x128_S512x128_1_0_0_1_n_n none (up A) (up B) (up fun _ _ => 0)
      = up fun i e => ∑ j ∈ Finset.range 512, A i j * B j e := by
  funext j
  refine (matmul1 dot_S512x512_S512x128_S512x128_1_0_0_1_n_n 512 rfl rfl none (up A) (up B) (up fun _ _ => 0) j
    (fun k => ((A (j 0).val k.val : ℝ) : EReal)) (fun k => ((B k.val (j 1).val : ℝ) : EReal)) (fun k c hk => ?_) (fun k c hk => ?_)).trans ?_
  · rw [← hk]; rfl
  · rw [← hk]; rfl
  · show ((0 : ℝ) : EReal) + _ = ((∑ d ∈ Finset.range 512, _ : ℝ) : EReal)
    rw [coe_sum_fin, EReal.coe_zero, zero_add]
    exact Finset.sum_congr rfl fun k _ => (EReal.coe_mul _ _).symm

/-! ## The constants -/

/-- The scale of the scores, and the scale over the logarithm of two. -/
def sc : ℝ := 3424635 / 33554432
def lc : ℝ := (3424635 / 33554432) * (Real.log 2)⁻¹

theorem ofBits_scale : Ideal.ofBits .f32 0x3DD105EC#32 = ((sc : ℝ) : EReal) := by
  unfold sc
  simp [Ideal.ofBits, Ideal.ieee]
  rw [← EReal.coe_mul]
  norm_num
theorem scalar_scale : (Scalar.ofBits .f32 0x3DD105EC#32 : Ideal .f32) = ((sc : ℝ) : EReal) := ofBits_scale
theorem scalar_zero : (Scalar.ofBits .f32 0x00000000#32 : Ideal .f32) = ((0 : ℝ) : EReal) := Ideal.ofBits_zero_f32
theorem named_scale : (Named.named Cert.KernelIdeal.κ "scale_log2e" 0x3E16C740#32 : Ideal .f32) = ((lc : ℝ) : EReal) :=
  IdealRules.named_const.ideal_named_scalar _ _ _ _ rfl
theorem named_masked : (Named.named Cert.KernelIdeal.κ "masked" 0xF149F2CA#32 : Ideal .f32) = (⊥ : EReal) :=
  IdealRules.named_const.ideal_named_scalar _ _ _ _ rfl
theorem zeros {a b : ℕ} : constant (F := Ideal) (⟨2, ![a, b]⟩ : Shape) .f32 0x00000000#32 = up fun _ _ => 0 :=
  funext fun _ => Ideal.ofBits_zero_f32

/-! ## One head's weights and their gradients in a block -/

def eP (q k ls : ℕ → ℕ → ℝ) (i j : ℕ) : ℝ := Real.rpow 2 ((∑ d ∈ Finset.range 128, q i d * k j d) * lc - ls i 0)
def eM (pr pc q k ls : ℕ → ℕ → ℝ) (i j : ℕ) : ℝ := if pr 0 j ≤ pc i 0 then eP q k ls i j else 0
def eD (go v dl : ℕ → ℕ → ℝ) (i j : ℕ) : ℝ := (∑ d ∈ Finset.range 128, go i d * v j d) - dl i 0

section pays
variable (q k v go dl ls x y : ℕ → ℕ → ℝ) (pr pc : ℕ → ℕ → ℝ)

theorem pay9 : k0_pay9 (F := Ideal) (up q) = up q := by unfold k0_pay9; exact shapeCast_self _ _
theorem pay10 : k0_pay10 (F := Ideal) (up q) = up q := by unfold k0_pay10; exact shapeCast_self _ _
theorem pay11 : k0_pay11 (F := Ideal) (up q) = up q := by unfold k0_pay11; exact shapeCast_self _ _
theorem pay18 : k0_pay18 (F := Ideal) (up q) = up q := by unfold k0_pay18; exact shapeCast_self _ _
theorem pay19 : k0_pay19 (F := Ideal) (up q) = up q := by unfold k0_pay19; exact shapeCast_self _ _
theorem pay20 : k0_pay20 (F := Ideal) (up q) = up q := by unfold k0_pay20; exact shapeCast_self _ _
theorem pay25 : k0_pay25 (F := Ideal) (up q) = up q := by unfold k0_pay25; exact shapeCast_self _ _
theorem pay26 : k0_pay26 (F := Ideal) (up q) = up q := by unfold k0_pay26; exact shapeCast_self _ _
theorem pay27 : k0_pay27 (F := Ideal) (up q) = up q := by unfold k0_pay27; exact shapeCast_self _ _
theorem pay31 : k0_pay31 (F := Ideal) (up q) = up q := by unfold k0_pay31; simp only [pay27]; rfl
theorem pay35 : k0_pay35 (F := Ideal) (up q) = up q := by unfold k0_pay35; exact shapeCast_self _ _
theorem pay36 : k0_pay36 (F := Ideal) (up q) = up q := by unfold k0_pay36; exact shapeCast_self _ _
theorem pay37 : k0_pay37 (F := Ideal) (up q) = up q := by unfold k0_pay37; exact shapeCast_self _ _

theorem pay12 : k0_pay12 (F := Ideal) (up q) (up k) (up ls) = up (eP q k ls) := by
  unfold k0_pay12
  simp only [pay9, pay10, shapeCast_self, slice_up, col_up, zeros, mmT, named_scale, broadcast_coe, mulf_up, subf_up, exp2_up]
  rfl
theorem pay21 : k0_pay21 (F := Ideal) (up q) (up k) (up ls) = up (eP q k ls) := by
  unfold k0_pay21
  simp only [pay18, pay19, shapeCast_self, slice_up, col_up, zeros, mmT, named_scale, broadcast_coe, mulf_up, subf_up, exp2_up]
  rfl
theorem pay22 : k0_pay22 (F := Ideal) (up go) (up v) = up fun i j => ∑ d ∈ Finset.range 128, go i d * v j d := by
  unfold k0_pay22
  simp only [pay20, shapeCast_self, truncf_up, zeros, mmT]
theorem pay23 : k0_pay23 (F := Ideal) (up dl) = up fun i _ => dl i 0 := by
  unfold k0_pay23
  simp only [shapeCast_self, slice_up, col_up]
theorem pay13 : k0_pay13 (F := Ideal) (up q) (up k) (up go) (up ls) (up v) (up dl) = up fun i j => eP q k ls i j * eD go v dl i j := by
  unfold k0_pay13
  simp only [pay11, pay12, shapeCast_self, slice_up, col_up, truncf_up, zeros, mmT, mulf_up, subf_up]
  rfl
theorem pay14 : k0_pay14 (F := Ideal) (up q) (up k) (up go) (up ls) (up x) = up fun j e => x j e + ∑ i ∈ Finset.range 512, eP q k ls i j * go i e := by
  unfold k0_pay14
  simp only [pay11, pay12, shapeCast_self, truncf_up, zeros, mmL, addf_up]
theorem pay15 : k0_pay15 (F := Ideal) (up q) (up k) (up go) (up ls) (up v) (up dl)
    = up fun j e => ∑ i ∈ Finset.range 512, (eP q k ls i j * eD go v dl i j) * q i e := by
  unfold k0_pay15
  simp only [pay9, pay13, shapeCast_self, truncf_up, zeros, mmL, addf_up]
theorem pay16 : k0_pay16 (F := Ideal) (up x) (up y) = up fun j e => x j e + y j e := by
  unfold k0_pay16
  simp only [shapeCast_self, addf_up]
theorem pay17 : k0_pay17 (F := Ideal) (up k) (up y) (up x) = up fun i e => x i e + (∑ j ∈ Finset.range 512, y i j * k j e) * sc := by
  unfold k0_pay17
  simp only [shapeCast_self, truncf_up, zeros, mmR, scalar_scale, broadcast_coe, mulf_up, addf_up]
theorem pay4 (a b c : ℕ → ℕ → ℝ) : k0_pay4 (F := Ideal) (up a) (up b) (up c) = up fun i j => a i j * (b i j - c i j) := by
  unfold k0_pay4
  simp only [mulf_up, subf_up]
theorem pay5 (p : ℕ → ℕ → ℝ) : k0_pay5 (F := Ideal) (up go) (up p) (up x) = up fun j e => x j e + ∑ i ∈ Finset.range 512, p i j * go i e := by
  unfold k0_pay5
  simp only [shapeCast_self, truncf_up, zeros, mmL, addf_up]
theorem pay6 (a b c : ℕ → ℕ → ℝ) : k0_pay6 (F := Ideal) (up q) (up a) (up b) (up c) (up x)
    = up fun j e => x j e + ∑ i ∈ Finset.range 512, (a i j * (b i j - c i j)) * q i e := by
  unfold k0_pay6
  simp only [pay4, shapeCast_self, truncf_up, zeros, mmL, addf_up]
theorem pay7 (a b c : ℕ → ℕ → ℝ) : k0_pay7 (F := Ideal) (up k) (up a) (up b) (up c) (up x)
    = up fun i e => x i e + (∑ j ∈ Finset.range 512, (a i j * (b i j - c i j)) * k j e) * sc := by
  unfold k0_pay7
  simp only [pay4, shapeCast_self, truncf_up, zeros, mmR, scalar_scale, broadcast_coe, mulf_up, addf_up]
theorem pay8 : k0_pay8 (F := Ideal) (up x) = up fun i e => x i e * sc := by
  unfold k0_pay8
  simp only [scalar_scale, broadcast_coe, mulf_up]
theorem pay1 : k0_pay1 (F := Ideal) = up fun _ _ => 0 := by
  unfold k0_pay1; simp only [scalar_zero, broadcast_coe]
theorem pay2 : k0_pay2 (F := Ideal) = up fun _ _ => 0 := by
  unfold k0_pay2; simp only [scalar_zero, broadcast_coe, shapeCast_self]
theorem pay3 : k0_pay3 (F := Ideal) = up fun _ _ => 0 := by
  unfold k0_pay3; simp only [scalar_zero, broadcast_coe, shapeCast_self]

theorem pay24 : k0_pay24 (F := Ideal) (up pr) (up pc) = cmpf (F := Ideal) (φ := .f32) .ole (up fun _ j => pr 0 j) (up fun i _ => pc i 0) := by
  unfold k0_pay24
  simp only [shapeCast_self, row_up, col_up]
theorem pay28 : k0_pay28 (F := Ideal) (up pr) (up pc) (up q) (up k) (up ls) = up (eM pr pc q k ls) := by
  unfold k0_pay28
  simp only [pay24, pay25, pay26, shapeCast_self, slice_up, col_up, zeros, mmT, named_scale, named_masked, broadcast_coe, mulf_up, subf_up, masked_up]
  rfl
theorem pay38 : k0_pay38 (F := Ideal) (up q) (up k) (up ls) = up fun i j => (∑ d ∈ Finset.range 128, q i d * k j d) * lc - ls i 0 := by
  unfold k0_pay38
  simp only [pay35, pay36, shapeCast_self, slice_up, col_up, zeros, mmT, named_scale, broadcast_coe, mulf_up, subf_up]
theorem pay39 : k0_pay39 (F := Ideal) (k0_pay24 (F := Ideal) (up pr) (up pc)) (k0_pay38 (F := Ideal) (up q) (up k) (up ls)) = up (eM pr pc q k ls) := by
  rw [pay38]
  unfold k0_pay39
  simp only [pay24, named_masked, masked_up]
  rfl
theorem pay29 : k0_pay29 (F := Ideal) (up pr) (up pc) (up q) (up k) (up go) (up ls) (up v) (up dl)
    = up fun i j => eM pr pc q k ls i j * eD go v dl i j := by
  unfold k0_pay29
  simp only [pay27, pay28, shapeCast_self, slice_up, col_up, truncf_up, zeros, mmT, mulf_up, subf_up]
  rfl
theorem pay30 : k0_pay30 (F := Ideal) (up pr) (up pc) (up q) (up k) (up ls) = up (eM pr pc q k ls) := by
  unfold k0_pay30
  simp only [pay28, truncf_up]
theorem pay32 (p : ℕ → ℕ → ℝ) : k0_pay32 (F := Ideal) (up x) (up p) (up go) (constant S512x128 .f32 0x00000000#32)
    = up fun j e => x j e + ∑ i ∈ Finset.range 512, p i j * go i e := by
  unfold k0_pay32
  simp only [shapeCast_self, zeros, mmL, addf_up]
theorem pay33 (p : ℕ → ℕ → ℝ) : k0_pay33 (F := Ideal) (up q) (up p) (up x) = up fun j e => x j e + ∑ i ∈ Finset.range 512, p i j * q i e := by
  unfold k0_pay33
  simp only [shapeCast_self, truncf_up, zeros, mmL, addf_up]
theorem pay34 (p : ℕ → ℕ → ℝ) : k0_pay34 (F := Ideal) (up k) (up p) (up x) = up fun i e => x i e + (∑ j ∈ Finset.range 512, p i j * k j e) * sc := by
  unfold k0_pay34
  simp only [shapeCast_self, truncf_up, zeros, mmR, scalar_scale, broadcast_coe, mulf_up, addf_up]
theorem pay40 : k0_pay40 (F := Ideal) (k0_pay24 (F := Ideal) (up pr) (up pc)) (up go) (k0_pay38 (F := Ideal) (up q) (up k) (up ls)) (up v) (up dl)
    = up fun i j => eM pr pc q k ls i j * eD go v dl i j := by
  unfold k0_pay40
  simp only [pay39, shapeCast_self, slice_up, col_up, truncf_up, zeros, mmT, mulf_up, subf_up]
  rfl
theorem pay41 : k0_pay41 (F := Ideal) (k0_pay24 (F := Ideal) (up pr) (up pc)) (up go) (k0_pay38 (F := Ideal) (up q) (up k) (up ls)) (up x)
    = up fun j e => x j e + ∑ i ∈ Finset.range 512, eM pr pc q k ls i j * go i e := by
  unfold k0_pay41
  simp only [pay39, shapeCast_self, truncf_up, zeros, mmL, addf_up]
theorem pay42 : k0_pay42 (F := Ideal) (k0_pay24 (F := Ideal) (up pr) (up pc)) (up q) (up go) (k0_pay38 (F := Ideal) (up q) (up k) (up ls)) (up v) (up dl) (up x)
    = up fun j e => x j e + ∑ i ∈ Finset.range 512, (eM pr pc q k ls i j * eD go v dl i j) * q i e := by
  unfold k0_pay42
  simp only [pay40, shapeCast_self, truncf_up, zeros, mmL, addf_up]
theorem pay43 : k0_pay43 (F := Ideal) (k0_pay24 (F := Ideal) (up pr) (up pc)) (up k) (up go) (k0_pay38 (F := Ideal) (up q) (up k) (up ls)) (up v) (up dl) (up x)
    = up fun i e => x i e + (∑ j ∈ Finset.range 512, (eM pr pc q k ls i j * eD go v dl i j) * k j e) * sc := by
  unfold k0_pay43
  simp only [pay40, shapeCast_self, truncf_up, zeros, mmR, scalar_scale, broadcast_coe, mulf_up, addf_up]

end pays

/-! ## Windows of lanes -/

section windows
variable {a b c d : ℕ}

theorem window_up (A : ℕ → ℕ → ℝ) (o0 o1 : ℕ) (h : ∀ x, (![o0, o1] : Fin 2 → ℕ) x + (⟨2, ![c, d]⟩ : Shape).size x ≤ (⟨2, ![a, b]⟩ : Shape).size x) :
    VecWindow.window (s := ⟨2, ![a, b]⟩) (up A) ![o0, o1] (⟨2, ![c, d]⟩ : Shape).size h
      = (up fun i j => A (o0 + i) (o1 + j) : (⟨2, ![c, d]⟩ : Shape).Idx → EReal) := by
  funext y
  show ((A (o0 + 1 * (y 0).val) (o1 + 1 * (y 1).val) : ℝ) : EReal) = ((A (o0 + (y 0).val) (o1 + (y 1).val) : ℝ) : EReal)
  rw [Nat.one_mul, Nat.one_mul]

theorem put_up (A B : ℕ → ℕ → ℝ) (o0 o1 : ℕ) :
    VecWindow.put (s := ⟨2, ![a, b]⟩) (up A) ![o0, o1] (⟨2, ![c, d]⟩ : Shape).size (up B : (⟨2, ![c, d]⟩ : Shape).Idx → EReal)
      = up fun i j => if (o0 ≤ i ∧ i < o0 + c) ∧ (o1 ≤ j ∧ j < o1 + d) then B (i - o0) (j - o1) else A i j := by
  funext y
  by_cases h : (o0 ≤ (y 0).val ∧ (y 0).val < o0 + c) ∧ (o1 ≤ (y 1).val ∧ (y 1).val < o1 + d)
  · refine (dif_pos (Fin.forall_fin_two.mpr ⟨h.1, h.2⟩)).trans ?_
    show ((B _ _ : ℝ) : EReal) = (((if _ then _ else _) : ℝ) : EReal)
    rw [if_pos h]; rfl
  · refine (dif_neg fun hh => h ⟨hh 0, hh 1⟩).trans ?_
    show ((A _ _ : ℝ) : EReal) = (((if _ then _ else _) : ℝ) : EReal)
    rw [if_neg h]

end windows

end Cert.Proof.Val

end
-- ==== Proof.ValStep.lean ====
/-
  One step of the call on blocks of real numbers.
-/
module

public import proofs.«01_k».proof.Proof.ValPay

@[expose] public section

set_option maxRecDepth 16384

noncomputable section

namespace Cert.Proof.Val

open Cert.KernelIdeal Cert.KernelIdeal.Gen Cert.Proof.KI
open Idealize.ShloMosaic Idealize.ShloMosaic.ValueIdx
open scoped BigOperators

/-- The blocks of a step, of reals. -/
structure RB where
  q : ℕ → ℕ → ℝ
  k : ℕ → ℕ → ℝ
  v : ℕ → ℕ → ℝ
  go : ℕ → ℕ → ℝ
  dl : ℕ → ℕ → ℝ
  ls : ℕ → ℕ → ℝ
  pc : ℕ → ℕ → ℝ
  pr : ℕ → ℕ → ℝ

def upB (b : RB) : Blocks Ideal := ⟨up b.q, up b.k, up b.v, up b.go, up b.dl, up b.ls, up b.pc, up b.pr⟩

/-- A head's lanes. -/
def sh (o : ℕ) (A : ℕ → ℕ → ℝ) (i l : ℕ) : ℝ := A (0 + i) (o + l)

/-- A head's weights in a block and their gradients, off the diagonal and on it. -/
def oP (b : RB) (o : ℕ) : ℕ → ℕ → ℝ := eP (sh o b.q) (sh o b.k) (sh o b.ls)
def oD (b : RB) (o i j : ℕ) : ℝ := oP b o i j * eD (sh o b.go) (sh o b.v) (sh o b.dl) i j
def mP (b : RB) (o : ℕ) : ℕ → ℕ → ℝ := eM b.pr b.pc (sh o b.q) (sh o b.k) (sh o b.ls)
def mD (b : RB) (o i j : ℕ) : ℝ := mP b o i j * eD (sh o b.go) (sh o b.v) (sh o b.dl) i j

/-- Two heads' lanes written side by side. -/
theorem join_up (x f g : ℕ → ℕ → ℝ) :
    putHi (F := Ideal) (putLo (F := Ideal) (up x) (up f)) (up g) = up fun i l => if l < 128 then f i l else g i (l - 128) := by
  unfold putHi putLo
  rw [show VecWindow.put (s := S512x256) (up x) ![0, 0] S512x128.size (up f : S512x128.Idx → EReal) = _ from put_up (a := 512) (b := 256) (c := 512) (d := 128) x f 0 0]
  refine (put_up (a := 512) (b := 256) (c := 512) (d := 128) _ g 0 128).trans (up_congr fun i l hi hl => ?_)
  by_cases h : l < 128
  · rw [if_pos h, if_neg (by omega), if_pos (by omega)]; rfl
  · rw [if_neg h, if_pos (by omega)]; rfl

theorem joinQ_up (x f g : ℕ → ℕ → ℝ) (r : ℕ) :
    VecWindow.put (s := S16384x256) (VecWindow.put (s := S16384x256) (up x) ![r, 0] S512x128.size (up f : S512x128.Idx → EReal)) ![r, 128] S512x128.size (up g : S512x128.Idx → EReal)
      = up fun i l => if r ≤ i ∧ i < r + 512 then (if l < 128 then f (i - r) l else g (i - r) (l - 128)) else x i l := by
  rw [show VecWindow.put (s := S16384x256) (up x) ![r, 0] S512x128.size (up f : S512x128.Idx → EReal) = _ from put_up (a := 16384) (b := 256) (c := 512) (d := 128) x f r 0]
  refine (put_up (a := 16384) (b := 256) (c := 512) (d := 128) _ g r 128).trans (up_congr fun i l hi hl => ?_)
  by_cases hr : r ≤ i ∧ i < r + 512
  · rw [if_pos hr]
    by_cases h : l < 128
    · rw [if_pos h, if_neg (by omega), if_pos (by omega)]; rfl
    · rw [if_neg h, if_pos (by omega)]
  · rw [if_neg hr, if_neg (by omega), if_neg (by omega)]

theorem lo_b (A : ℕ → ℕ → ℝ) : lo (F := Ideal) (e := .bf16) (up A) = up (sh 0 A) := window_up (a := 512) (b := 256) (c := 512) (d := 128) A 0 0 _
theorem hi_b (A : ℕ → ℕ → ℝ) : hi (F := Ideal) (e := .bf16) (up A) = up (sh 128 A) := window_up (a := 512) (b := 256) (c := 512) (d := 128) A 0 128 _
theorem lo_f (A : ℕ → ℕ → ℝ) : lo (F := Ideal) (e := .f32) (up A) = up (sh 0 A) := window_up (a := 512) (b := 256) (c := 512) (d := 128) A 0 0 _
theorem hi_f (A : ℕ → ℕ → ℝ) : hi (F := Ideal) (e := .f32) (up A) = up (sh 128 A) := window_up (a := 512) (b := 256) (c := 512) (d := 128) A 0 128 _

theorem half0 {l : ℕ} (h : l < 128) : 128 * (l / 128) = 0 := by omega
theorem half1 {l : ℕ} (h : ¬ l < 128) (h' : l < 256) : 128 * (l / 128) = 128 := by omega
theorem sh0 (A : ℕ → ℕ → ℝ) (i l : ℕ) : sh 0 A i l = A i l := by unfold sh; rw [Nat.zero_add, Nat.zero_add]
theorem sh1 (A : ℕ → ℕ → ℝ) (i l : ℕ) (h : ¬ l < 128) : sh 128 A i (l - 128) = A i l := by unfold sh; rw [Nat.zero_add, show 128 + (l - 128) = l by omega]

variable (b : RB) (x : ℕ → ℕ → ℝ)

theorem offV_up : offV (upB b) (up x) = up fun j l => x j l + ∑ i ∈ Finset.range 512, oP b (128 * (l / 128)) i j * b.go i l := by
  unfold offV upB
  dsimp only
  rw [lo_b, lo_b, hi_b, hi_b, lo_f, lo_f, lo_f, hi_f, hi_f, hi_f, pay14, pay20, pay21, pay5]
  refine (join_up _ _ _).trans (up_congr fun j l hj hl => ?_)
  by_cases h : l < 128
  · rw [if_pos h, half0 h]; simp only [sh0]; rfl
  · rw [if_neg h, half1 h hl]; simp only [sh1 _ _ _ h]; rfl

theorem offK_up : offK (upB b) (up x) = up fun j l => x j l + ∑ i ∈ Finset.range 512, oD b (128 * (l / 128)) i j * b.q i l := by
  unfold offK upB
  dsimp only
  rw [lo_b, lo_b, lo_b, hi_b, hi_b, hi_b, lo_f, lo_f, lo_f, lo_f, hi_f, hi_f, hi_f, hi_f, pay15, pay16, pay18, pay21, pay22, pay23, pay6]
  refine (join_up _ _ _).trans (up_congr fun j l hj hl => ?_)
  by_cases h : l < 128
  · rw [if_pos h, half0 h]; simp only [sh0]; rfl
  · rw [if_neg h, half1 h hl]; simp only [sh1 _ _ _ h]; rfl

theorem offQ_up (r : ℕ) (hr : r + 512 ≤ 16384) : offQ (upB b) r hr (up x)
    = up fun i l => if r ≤ i ∧ i < r + 512 then x i l + (∑ j ∈ Finset.range 512, oD b (128 * (l / 128)) (i - r) j * b.k j l) * sc else x i l := by
  unfold offQ upB
  dsimp only
  rw [lo_b, lo_b, lo_b, hi_b, hi_b, hi_b, lo_f, lo_f, lo_f, hi_f, hi_f, hi_f, pay10, pay13, pay19, pay21, pay22, pay23,
    window_up (a := 16384) (b := 256) (c := 512) (d := 128) x r 0, window_up (a := 16384) (b := 256) (c := 512) (d := 128) x r 128, pay17, pay7]
  refine (joinQ_up _ _ _ r).trans (up_congr fun i l hi hl => ?_)
  by_cases hr : r ≤ i ∧ i < r + 512
  · rw [if_pos hr, if_pos hr]
    by_cases h : l < 128
    · rw [if_pos h, half0 h]; simp only [sh0, Nat.zero_add, Nat.add_sub_cancel' hr.1]; rfl
    · rw [if_neg h, half1 h hl]; simp only [sh1 _ _ _ h, Nat.add_sub_cancel' hr.1, Nat.add_sub_cancel' (Nat.not_lt.mp h)]; rfl
  · rw [if_neg hr, if_neg hr]

theorem diaV_up : diaV (upB b) (up x) = up fun j l => x j l + ∑ i ∈ Finset.range 512, mP b (128 * (l / 128)) i j * b.go i l := by
  unfold diaV upB
  dsimp only
  rw [lo_b, lo_b, hi_b, hi_b, lo_f, lo_f, lo_f, hi_f, hi_f, hi_f, pay30, pay31, pay32, pay37, pay41]
  refine (join_up _ _ _).trans (up_congr fun j l hj hl => ?_)
  by_cases h : l < 128
  · rw [if_pos h, half0 h]; simp only [sh0]; rfl
  · rw [if_neg h, half1 h hl]; simp only [sh1 _ _ _ h]; rfl

theorem diaK_up : diaK (upB b) (up x) = up fun j l => x j l + ∑ i ∈ Finset.range 512, mD b (128 * (l / 128)) i j * b.q i l := by
  unfold diaK upB
  dsimp only
  rw [lo_b, lo_b, lo_b, hi_b, hi_b, hi_b, lo_f, lo_f, lo_f, lo_f, hi_f, hi_f, hi_f, hi_f, pay25, pay29, pay33, pay35, pay37, pay42]
  refine (join_up _ _ _).trans (up_congr fun j l hj hl => ?_)
  by_cases h : l < 128
  · rw [if_pos h, half0 h]; simp only [sh0]; rfl
  · rw [if_neg h, half1 h hl]; simp only [sh1 _ _ _ h]; rfl

theorem diaQ_up (r : ℕ) (hr : r + 512 ≤ 16384) : diaQ (upB b) r hr (up x)
    = up fun i l => if r ≤ i ∧ i < r + 512 then x i l + (∑ j ∈ Finset.range 512, mD b (128 * (l / 128)) (i - r) j * b.k j l) * sc else x i l := by
  unfold diaQ upB
  dsimp only
  rw [lo_b, lo_b, lo_b, hi_b, hi_b, hi_b, lo_f, lo_f, lo_f, hi_f, hi_f, hi_f, pay26, pay29, pay36, pay37,
    window_up (a := 16384) (b := 256) (c := 512) (d := 128) x r 0, window_up (a := 16384) (b := 256) (c := 512) (d := 128) x r 128, pay34, pay43]
  refine (joinQ_up _ _ _ r).trans (up_congr fun i l hi hl => ?_)
  by_cases hr : r ≤ i ∧ i < r + 512
  · rw [if_pos hr, if_pos hr]
    by_cases h : l < 128
    · rw [if_pos h, half0 h]; simp only [sh0, Nat.zero_add, Nat.add_sub_cancel' hr.1]; rfl
    · rw [if_neg h, half1 h hl]; simp only [sh1 _ _ _ h, Nat.add_sub_cancel' hr.1, Nat.add_sub_cancel' (Nat.not_lt.mp h)]; rfl
  · rw [if_neg hr, if_neg hr]

end Cert.Proof.Val

end
-- ==== Proof.ValInv.lean ====
/-
  What the accumulators and the queries' window hold after every step, as sums over rows of the whole arrays.
-/
module

public import proofs.«01_k».proof.Proof.ValStep

@[expose] public section

set_option maxRecDepth 16384

noncomputable section

namespace Cert.Proof.Val

open Cert.KernelIdeal Cert.KernelIdeal.Gen Cert.Proof.KI
open Idealize.ShloMosaic Idealize.ShloMosaic.ValueIdx
open scoped BigOperators

/-- The call's whole arrays: rows by lanes, and the rows' positions. -/
structure GA where
  q : ℕ → ℕ → ℝ
  k : ℕ → ℕ → ℝ
  v : ℕ → ℕ → ℝ
  go : ℕ → ℕ → ℝ
  dl : ℕ → ℕ → ℝ
  ls : ℕ → ℕ → ℝ
  p : ℕ → ℝ

variable (a : GA)

/-- The blocks step `s` of the group of heads `g` works on. -/
def rb (g : ℕ) (s : Fin 528) : RB where
  q := fun i l => a.q (512 * qB s + i) (256 * g + l)
  k := fun i l => a.k (512 * kB s + i) (256 * g + l)
  v := fun i l => a.v (512 * kB s + i) (256 * g + l)
  go := fun i l => a.go (512 * qB s + i) (256 * g + l)
  dl := fun i l => a.dl (512 * qB s + i) (256 * g + l)
  ls := fun i l => a.ls (512 * qB s + i) (256 * g + l)
  pc := fun i _ => a.p (512 * qB s + i)
  pr := fun _ j => a.p (512 * kB s + j)

/-- The first lane of a lane's head. -/
def hd (l : ℕ) : ℕ := 128 * (l / 128)

/-- The weight of key row `J` for query row `I`, and the gradient of its logit. -/
def WP (l I J : ℕ) : ℝ :=
  if J ≤ I then Real.rpow 2 ((∑ d ∈ Finset.range 128, a.q I (hd l + d) * a.k J (hd l + d)) * lc - a.ls I (hd l)) else 0
def WD (l I J : ℕ) : ℝ := WP a l I J * ((∑ d ∈ Finset.range 128, a.go I (hd l + d) * a.v J (hd l + d)) - a.dl I (hd l))

theorem hd_add (g l : ℕ) : hd (256 * g + l) = 256 * g + 128 * (l / 128) := by unfold hd; omega

theorem WP_off (l I J : ℕ) (h : I < J) : WP a l I J = 0 := if_neg (by omega)
theorem WD_off (l I J : ℕ) (h : I < J) : WD a l I J = 0 := by unfold WD; rw [WP_off a l I J h, zero_mul]

theorem oP_eq (g : ℕ) (s : Fin 528) (h : kB s ≠ qB s) (l i j : ℕ) (hj : j < 512) :
    oP (rb a g s) (128 * (l / 128)) i j = WP a (256 * g + l) (512 * qB s + i) (512 * kB s + j) := by
  have := kB_le s
  unfold WP oP eP sh rb
  rw [if_pos (by omega), hd_add]
  simp only [Nat.zero_add, Nat.add_zero, Nat.add_assoc]

theorem oD_eq (g : ℕ) (s : Fin 528) (h : kB s ≠ qB s) (l i j : ℕ) (hj : j < 512) :
    oD (rb a g s) (128 * (l / 128)) i j = WD a (256 * g + l) (512 * qB s + i) (512 * kB s + j) := by
  unfold oD WD
  rw [oP_eq a g s h l i j hj]
  unfold eD sh rb
  rw [hd_add]
  simp only [Nat.zero_add, Nat.add_zero, Nat.add_assoc]

section
variable (hp : ∀ I J, I < 16384 → J < 16384 → (a.p J ≤ a.p I ↔ J ≤ I))
include hp

theorem mP_eq (g : ℕ) (s : Fin 528) (l i j : ℕ) (hi : i < 512) (hj : j < 512) :
    mP (rb a g s) (128 * (l / 128)) i j = WP a (256 * g + l) (512 * qB s + i) (512 * kB s + j) := by
  have := kB_lt s
  have := qB_lt s
  unfold WP mP eM
  have e := hp (512 * qB s + i) (512 * kB s + j) (by omega) (by omega)
  refine if_congr e ?_ rfl
  unfold eP sh rb
  rw [hd_add]
  simp only [Nat.zero_add, Nat.add_zero, Nat.add_assoc]

theorem mD_eq (g : ℕ) (s : Fin 528) (l i j : ℕ) (hi : i < 512) (hj : j < 512) :
    mD (rb a g s) (128 * (l / 128)) i j = WD a (256 * g + l) (512 * qB s + i) (512 * kB s + j) := by
  unfold mD WD
  rw [mP_eq a hp g s l i j hi hj]
  unfold eD sh rb
  rw [hd_add]
  simp only [Nat.zero_add, Nat.add_zero, Nat.add_assoc]
end

/-- The sums, over the first `n` rows. -/
def sumV (n J l : ℕ) : ℝ := ∑ I ∈ Finset.range n, WP a l I J * a.go I l
def sumK (n J l : ℕ) : ℝ := ∑ I ∈ Finset.range n, WD a l I J * a.q I l
def sumQ (n I l : ℕ) : ℝ := (∑ J ∈ Finset.range n, WD a l I J * a.k J l) * sc

theorem sumV_zero (n J l : ℕ) (h : n ≤ J) : sumV a n J l = 0 :=
  Finset.sum_eq_zero fun I hI => by rw [WP_off a l I J (by have := Finset.mem_range.1 hI; omega), zero_mul]
theorem sumK_zero (n J l : ℕ) (h : n ≤ J) : sumK a n J l = 0 :=
  Finset.sum_eq_zero fun I hI => by rw [WD_off a l I J (by have := Finset.mem_range.1 hI; omega), zero_mul]
theorem sumQ_more (n I l : ℕ) (h : I < n) : sumQ a (n + 512) I l = sumQ a n I l := by
  unfold sumQ
  rw [Finset.sum_range_add, Finset.sum_eq_zero (s := Finset.range 512), add_zero]
  intro J _
  rw [WD_off a l I _ (by omega), zero_mul]

/-- The state after a step, and the queries' window before it. -/
def upS (k v q : ℕ → ℕ → ℝ) : State Ideal := ⟨up k, up v, up q⟩
def stQ (g : ℕ) (s : Fin 528) (i l : ℕ) : ℝ := sumQ a (512 * kB s + if i / 512 ≤ qB s then 512 else 0) i (256 * g + l)
def prQ (g : ℕ) (s : Fin 528) (i l : ℕ) : ℝ := sumQ a (512 * kB s + if i / 512 < qB s then 512 else 0) i (256 * g + l)
def stK (g : ℕ) (s : Fin 528) (j l : ℕ) : ℝ := sumK a (512 * qB s + 512) (512 * kB s + j) (256 * g + l)
def prK (g : ℕ) (s : Fin 528) (j l : ℕ) : ℝ := sumK a (512 * qB s) (512 * kB s + j) (256 * g + l)
def stV (g : ℕ) (s : Fin 528) (j l : ℕ) : ℝ := sumV a (512 * qB s + 512) (512 * kB s + j) (256 * g + l)
def prV (g : ℕ) (s : Fin 528) (j l : ℕ) : ℝ := sumV a (512 * qB s) (512 * kB s + j) (256 * g + l)

theorem addV (g : ℕ) (s : Fin 528) (E : ℕ → ℕ → ℝ) (j l : ℕ) (h : ∀ i < 512, E i j = WP a (256 * g + l) (512 * qB s + i) (512 * kB s + j)) :
    prV a g s j l + ∑ i ∈ Finset.range 512, E i j * (rb a g s).go i l = stV a g s j l := by
  unfold prV stV sumV
  rw [Finset.sum_range_add]
  refine congrArg _ (Finset.sum_congr rfl fun i hi => ?_)
  rw [h i (Finset.mem_range.1 hi)]; rfl
theorem addK (g : ℕ) (s : Fin 528) (E : ℕ → ℕ → ℝ) (j l : ℕ) (h : ∀ i < 512, E i j = WD a (256 * g + l) (512 * qB s + i) (512 * kB s + j)) :
    prK a g s j l + ∑ i ∈ Finset.range 512, E i j * (rb a g s).q i l = stK a g s j l := by
  unfold prK stK sumK
  rw [Finset.sum_range_add]
  refine congrArg _ (Finset.sum_congr rfl fun i hi => ?_)
  rw [h i (Finset.mem_range.1 hi)]; rfl
theorem addQ (g : ℕ) (s : Fin 528) (E : ℕ → ℕ → ℝ) (i l : ℕ)
    (h : qB s * 512 ≤ i ∧ i < qB s * 512 + 512 → ∀ j < 512, E (i - qB s * 512) j = WD a (256 * g + l) (512 * qB s + (i - qB s * 512)) (512 * kB s + j)) :
    (if qB s * 512 ≤ i ∧ i < qB s * 512 + 512 then prQ a g s i l + (∑ j ∈ Finset.range 512, E (i - qB s * 512) j * (rb a g s).k j l) * sc else prQ a g s i l) = stQ a g s i l := by
  unfold prQ stQ
  by_cases hr : qB s * 512 ≤ i ∧ i < qB s * 512 + 512
  · rw [if_pos hr, if_neg (by omega), if_pos (by omega), Nat.add_zero]
    unfold sumQ
    rw [Finset.sum_range_add, add_mul]
    refine congrArg (fun z => _ + z * sc) (Finset.sum_congr rfl fun j hj => ?_)
    rw [h hr j (Finset.mem_range.1 hj), show 512 * qB s + (i - qB s * 512) = i by omega]; rfl
  · rw [if_neg hr]
    refine congrArg (fun n => sumQ a (512 * kB s + n) i (256 * g + l)) (if_congr ?_ rfl rfl)
    omega

section
variable (hp : ∀ I J, I < 16384 → J < 16384 → (a.p J ≤ a.p I ↔ J ≤ I))
include hp

/-- One step: the sums take in its block. -/
theorem step_up (g : ℕ) (s : Fin 528) (x : State Ideal) (hk : kB s ≠ qB s → x.k = up (prK a g s)) (hv : kB s ≠ qB s → x.v = up (prV a g s))
    (hq : s ≠ 0 → x.q = up (prQ a g s)) : step (upB (rb a g s)) s x = upS (stK a g s) (stV a g s) (stQ a g s) := by
  unfold step upS
  by_cases hd : kB s = qB s
  · rw [if_pos hd]
    have ek : k0_pay2 (F := Ideal) = up (prK a g s) := pay2.trans (up_congr fun j l _ _ => (sumK_zero a (512 * qB s) (512 * kB s + j) (256 * g + l) (by omega)).symm)
    have ev : k0_pay3 (F := Ideal) = up (prV a g s) := pay3.trans (up_congr fun j l _ _ => (sumV_zero a (512 * qB s) (512 * kB s + j) (256 * g + l) (by omega)).symm)
    have eq : (if s = 0 then k0_pay1 (F := Ideal) else x.q) = up (prQ a g s) := by
      by_cases h : s = 0
      · rw [if_pos h]
        refine pay1.trans (up_congr fun i l _ _ => ?_)
        subst h
        unfold prQ sumQ
        rw [first.1, first.2.1, if_neg (by omega)]; simp
      · rw [if_neg h, hq h]
    rw [ek, ev, eq, diaK_up, diaV_up, diaQ_up]
    congr 1
    · exact up_congr fun j l hj hl => addK a g s _ j l fun i hi => mD_eq a hp g s l i j hi hj
    · exact up_congr fun j l hj hl => addV a g s _ j l fun i hi => mP_eq a hp g s l i j hi hj
    · exact up_congr fun i l hi hl => addQ a g s _ i l fun hr j hj => mD_eq a hp g s l _ j (by omega) hj
  · rw [if_neg hd, hk hd, hv hd, hq (fun h => hd (by rw [h, first.1, first.2.1])), offK_up, offV_up, offQ_up]
    congr 1
    · exact up_congr fun j l hj hl => addK a g s _ j l fun i hi => oD_eq a g s hd l i j hj
    · exact up_congr fun j l hj hl => addV a g s _ j l fun i hi => oP_eq a g s hd l i j hj
    · exact up_congr fun i l hi hl => addQ a g s _ i l fun hr j hj => oD_eq a g s hd l _ j hj

/-- The state after every step. -/
theorem states (N : ℕ) (f : ℕ → State Ideal)
    (hf : ∀ n < N, f (n + 1) = step (upB (rb a (n / 528) ⟨n % 528, Nat.mod_lt _ (by decide)⟩)) ⟨n % 528, Nat.mod_lt _ (by decide)⟩ (f n)) (n : ℕ) (hn : n < N) :
    f (n + 1) = upS (stK a (n / 528) ⟨n % 528, Nat.mod_lt _ (by decide)⟩) (stV a (n / 528) ⟨n % 528, Nat.mod_lt _ (by decide)⟩) (stQ a (n / 528) ⟨n % 528, Nat.mod_lt _ (by decide)⟩) := by
  induction n with
  | zero =>
    rw [hf 0 hn]
    have e : (⟨0 % 528, Nat.mod_lt _ (by decide)⟩ : Fin 528) = 0 := rfl
    rw [e]
    refine step_up a hp _ 0 _ (fun h => absurd ?_ h) (fun h => absurd ?_ h) (fun h => absurd rfl h) <;> rw [first.1, first.2.1]
  | succ n ih =>
    rw [hf (n + 1) hn]
    by_cases h0 : (n + 1) % 528 = 0
    · have e : (⟨(n + 1) % 528, Nat.mod_lt _ (by decide)⟩ : Fin 528) = 0 := Fin.ext h0
      rw [e]
      refine step_up a hp _ 0 _ (fun h => absurd ?_ h) (fun h => absurd ?_ h) (fun h => absurd rfl h) <;> rw [first.1, first.2.1]
    · have hm : (n + 1) % 528 = n % 528 + 1 := by omega
      have hg : (n + 1) / 528 = n / 528 := by omega
      have hl : n % 528 < 527 := by omega
      obtain ⟨n1, n2⟩ := next ⟨n % 528, hl⟩
      have ea : (⟨n % 528, hl⟩ : Fin 527).castSucc = (⟨n % 528, Nat.mod_lt _ (by decide)⟩ : Fin 528) := rfl
      have eb : (⟨n % 528, hl⟩ : Fin 527).succ = (⟨(n + 1) % 528, Nat.mod_lt _ (by decide)⟩ : Fin 528) := Fin.ext hm.symm
      rw [ea, eb] at n1 n2
      rw [ih (by omega), hg]
      generalize (⟨n % 528, Nat.mod_lt _ (by decide)⟩ : Fin 528) = s at n1 n2 ⊢
      generalize (⟨(n + 1) % 528, Nat.mod_lt _ (by decide)⟩ : Fin 528) = s' at n1 n2 ⊢
      refine step_up a hp _ s' _ (fun h => ?_) (fun h => ?_) (fun h => ?_)
      · by_cases h31 : qB s = 31
        · exact absurd ((n1 h31).1.trans (n1 h31).2.symm) h
        · refine up_congr fun j l _ _ => ?_
          unfold stK prK
          rw [(n2 h31).1, (n2 h31).2]; rfl
      · by_cases h31 : qB s = 31
        · exact absurd ((n1 h31).1.trans (n1 h31).2.symm) h
        · refine up_congr fun j l _ _ => ?_
          unfold stV prV
          rw [(n2 h31).1, (n2 h31).2]; rfl
      · refine up_congr fun i l hi _ => ?_
        unfold stQ prQ
        by_cases h31 : qB s = 31
        · rw [(n1 h31).1, (n1 h31).2, if_pos (by omega), show 512 * kB s + 512 = 512 * (kB s + 1) by ring]
          by_cases hr : i / 512 < kB s + 1
          · rw [if_pos hr, sumQ_more a _ _ _ (by omega)]
          · rw [if_neg hr]; rfl
        · rw [(n2 h31).1, (n2 h31).2]
          refine congrArg (fun n => sumQ a (512 * kB s + n) i _) (if_congr ?_ rfl rfl)
          omega

end

end Cert.Proof.Val

end
-- ==== Proof.FrmKI.lean ====
/-
  The call's run at every point, and the frame claim.
-/
module

public import proofs.«01_k».proof.Proof.OblKI

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] tbl st iblk step

/-- The state after a point, from what the point finds. -/
theorem st_step (hO : Ok m) (c : Dev nD) (t : Fin (cfgM m hO).N) (x15 x16 : Vec F S512x256 .f32)
    (h : t.val ≠ 0 → x15 = (st m hO c t.val).k ∧ x16 = (st m hO c t.val).v) (d) :
    step (blks m hO c t) (stp (grid0.coords t)) ⟨x15, x16, (dats m hO 0 c).before 8 t d⟩ = st m hO c (t.val + 1) := by
  rw [st_succ]
  have h0 : stp (grid0.coords t) ≠ 0 → t.val ≠ 0 := fun hs e => hs (Fin.ext ((co1 t).trans (by rw [e]; rfl)))
  exact step_congr _ _ _ _ (fun hs => (h (h0 hs)).1) (fun hs => (h (h0 hs)).2) (fun hs => bef8 m hO c t hs d)

theorem phi_at (hO : Ok m) (c : Dev nD) (n) : (dats (F := F) m hO 0 c).Φ n = Inv m hO c n.val := rfl
theorem at_cast {α : Sort _} {N : ℕ} (S : ℕ → α) (t : Fin N) : S (Fin.castSucc t).val = S t.val := rfl
theorem at_succ {α : Sort _} {N : ℕ} (S : ℕ → α) (t : Fin N) : S (Fin.succ t).val = S (t.val + 1) := rfl
theorem owes_at (hO : Ok m) (c : Dev nD) (n n') : (dats (F := F) m hO 0 c).owesAt () n = (dats (F := F) m hO 0 c).owesAt () n' := rfl

set_option maxHeartbeats 1000000 in
theorem body_obligation (hO : Ok m) (c : Dev nD) : BodyObligation (dats (F := F) m hO 0 c) (defs₀ (F := F)) Variants.none () Set.univ := fun t => by
  rw [bigSep_W0, bigSep_W0]
  sl_whnfR [defs₀, Defs.onTc]
  simp only [bef0]
  rw [(phi_at m hO c t.castSucc).trans (at_cast (Inv m hO c) t), (phi_at m hO c t.succ).trans (at_succ (Inv m hO c) t),
    owes_at m hO c t.succ t.castSucc,
    after0, after1, after2, after3, after4, after5, after6, after7, after8]
  have i8 : idle0 (tbl m) 8 ((pcfg0.gridAt (tbl m)).coords t) = false := idle8 m _
  rw [i8]
  have hst := st_step m hO c t
  generalize hs : stp (grid0.coords t) = s at hst
  have e2 : word (c := c) tbM0 (tbl m 0) (grid0.coords t) = lit0 s := (word0 m c _).trans (by rw [hs])
  have e3 : word (c := c) tbM1 (tbl m 1) (grid0.coords t) = lit1 s := (word1 m c _).trans (by rw [hs])
  by_cases hl : qB s = 31
  · have i9 : idle0 (tbl m) 9 ((pcfg0.gridAt (tbl m)).coords t) = false := (idle9 m (grid0.coords t)).trans (by rw [hs, decide_eq_true hl]; rfl)
    have i10 : idle0 (tbl m) 10 ((pcfg0.gridAt (tbl m)).coords t) = false := (idle10 m (grid0.coords t)).trans (by rw [hs, decide_eq_true hl]; rfl)
    rw [i9]; try rw [i10]
    dsimp only
    rw [after9, after10]
    unfold Inv
    simp only [← scr0_eq, ← scr1_eq]
    iintro ⟨⟨⟨%x15, %x16, %hx, S0, S1⟩, ⟨T0, T1⟩, R⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [bef0 m hO c t d0, bef1 m hO c t d1, bef2 m hO c t d2, bef3 m hO c t d3, bef4 m hO c t d4, bef5 m hO c t d5, bef6 m hO c t d6, bef7 m hO c t d7]
    rw [← hst x15 x16 hx d8]
    have o13 : ∀ x y, outK (F := F) s x y = k0_pay8 x.k := fun x y => if_pos hl
    have o14 : ∀ x y, outV (F := F) s x y = x.v := fun x y => if_pos hl
    rw [← o13 _ ((dats m hO 0 c).before 9 t d9), ← o14 _ ((dats m hO 0 c).before 10 t d10)]
    iapply (body c (grid0.coords t) _ _ _ _ _ _ _ _ _ _ _ _ _ _ _ _ _ _ _ _ _ _ _ _ _ _ _ _ _ _ (tbl m 0) (tbl m 1) s hs e2 e3 (blks m hO c t) ((dats m hO 0 c).before 8 t d8) ((dats m hO 0 c).before 9 t d9) ((dats m hO 0 c).before 10 t d10) x15 x16 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    iintro ⟨T0, T1, H0, H1, H2, H3, H4, H5, H6, H7, H8, H9, H10, S0, S1⟩
    isplitl [S0 S1 T0 T1 R]
    · isplitl [S0 S1]
      · iexists _; iexists _
        isplitr; swap
        · isplitl [S0]; · iexact S0
          iexact S1
        ipureintro; exact fun _ => ⟨rfl, (o14 _ _).symm⟩
      isplitl [T0 T1]
      · isplitl [T0]; · iexact T0
        iexact T1
      iexact R
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have i9 : idle0 (tbl m) 9 ((pcfg0.gridAt (tbl m)).coords t) = true := (idle9 m (grid0.coords t)).trans (by rw [hs, decide_eq_false hl]; rfl)
    have i10 : idle0 (tbl m) 10 ((pcfg0.gridAt (tbl m)).coords t) = true := (idle10 m (grid0.coords t)).trans (by rw [hs, decide_eq_false hl]; rfl)
    have hq : qB ⟨t.val % 528, Nat.mod_lt _ (by decide)⟩ ≠ 31 := by rw [← stp_eq, hs]; exact hl
    have f9 : (pcfg0.win (adm m hO) 9).flush t = false := flush9_no m hO t hq
    have f10 : (pcfg0.win (adm m hO) 10).flush t = false := flush10_no m hO t hq
    rw [i9]; try rw [i10]
    dsimp only
    unfold Inv
    simp only [← scr0_eq, ← scr1_eq]
    iintro ⟨⟨⟨%x15, %x16, %hx, S0, S1⟩, ⟨T0, T1⟩, R⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [bef0 m hO c t d0, bef1 m hO c t d1, bef2 m hO c t d2, bef3 m hO c t d3, bef4 m hO c t d4, bef5 m hO c t d5, bef6 m hO c t d6, bef7 m hO c t d7]
    rw [← hst x15 x16 hx d8]
    iapply (body c (grid0.coords t) _ _ _ _ _ _ _ _ _ _ _ _ _ _ _ _ _ _ _ _ _ _ _ _ _ _ _ _ _ _ (tbl m 0) (tbl m 1) s hs e2 e3 (blks m hO c t) ((dats m hO 0 c).before 8 t d8) ((dats m hO 0 c).before 9 t d9) ((dats m hO 0 c).before 10 t d10) x15 x16 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    iintro ⟨T0, T1, H0, H1, H2, H3, H4, H5, H6, H7, H8, H9, H10, S0, S1⟩
    isplitl [S0 S1 T0 T1 R]
    · isplitl [S0 S1]
      · iexists _; iexists _
        isplitr; swap
        · isplitl [S0]; · iexact S0
          iexact S1
        ipureintro; exact fun _ => ⟨rfl, rfl⟩
      isplitl [T0 T1]
      · isplitl [T0]; · iexact T0
        iexact T1
      iexact R
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [show outK s (step (blks m hO c t) s ⟨x15, x16, (dats m hO 0 c).before 8 t d8⟩) ((dats m hO 0 c).before 9 t d9) = (dats m hO 0 c).before 9 t d9 from if_neg hl,
      show outV s (step (blks m hO c t) s ⟨x15, x16, (dats m hO 0 c).before 8 t d8⟩) ((dats m hO 0 c).before 10 t d10) = (dats m hO 0 c).before 10 t d10 from if_neg hl]
    isplitl [H9]
    · split
      · iexists _; iexact H9
      · rename_i h; exact absurd (f9.symm.trans h) Bool.false_ne_true
    split
    · iexists _; iexact H10
    · rename_i h; exact absurd (f10.symm.trans h) Bool.false_ne_true

theorem scoped_eq (c : Dev nD) :
    (Pipeline.ΦA spec0 c : sProp 𝕄) = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

theorem hin (c : Dev nD) : iprop((Pipeline.ΦA spec0 c : sProp 𝕄) ∗ Pipeline.ΦT pre0 (tbl m) c) ⊢ Inv m (ok m) c 0 := by
  rw [scoped_eq, PhiT_eq]
  unfold Inv
  iintro ⟨⟨⟨⟨%f, S0⟩, ⟨%g, S1⟩⟩, R⟩, T⟩
  isplitl [S0 S1]
  · iexists f; iexists g
    isplitr
    · ipureintro; exact fun h => absurd rfl h
    isplitl [S0]; · iexact S0
    iexact S1
  isplitl [T]; · iexact T
  iexact R

theorem hout (c : Dev nD) (n : ℕ) : Inv m (ok m) c n ⊢ (Pipeline.ΦA spec0 c : sProp 𝕄) := by
  rw [scoped_eq]
  unfold Inv
  iintro ⟨⟨%x15, %x16, -, S0, S1⟩, -, R⟩
  isplitl [S0 S1]
  · isplitl [S0]
    · iexists x15; iexact S0
    iexists x16; iexact S1
  iexact R

set_option backward.isDefEq.respectTransparency.types false in
/-- Every weakly fair execution ends, each array at what the points' write-backs leave there. -/
theorem run_main : θ_run defs (onTc (τ := τ) (main (F := F))) (s₀ m ρ)
    (fun r => Pipeline.FramePost (Pipeline.pin pcfgs fun _ => adm m (ok m)) (dats m (ok m)) 0 (V m) r ∧ r.2.sem = fun _ => 0) :=
  Pipeline.θ_run_frameP_track (Q' := fun r => Pipeline.FramePost (Pipeline.pin pcfgs fun _ => adm m (ok m)) (dats m (ok m)) 0 (V m) r ∧ r.2.sem = fun _ => 0)
    pcfgs (fun _ => adm m (ok m)) (dats m (ok m)) 0 launch0 defs₀ Variants.none m ρ main
    (hbody := fun c => (body_obligation m (ok m) c).loose) (hshare := fun c => (dats m (ok m) 0 c).share_full fun _ => rfl)
    (howed := fun _ _ => rfl) (V := V m) (hmain := hmain m Variants.none) (hA := fun _ _ => rfl) (hpf := V_pre m)
    (hin := fun c => hin m c) (hout := fun c => hout m c _) (hQ' := fun _ h => h)

/-- The frame claim: every execution ends, the arguments as found, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) :=
  θ_run_with_sems (frame_of m ρ (ok m) (dats m (ok m))) (run_main m ρ)

end Cert.Proof.KI

end
-- ==== Proof.ValArr.lean ====
/-
  What the call leaves in its three output arrays, where its input arrays are of reals.
-/
module

public import proofs.«01_k».proof.Proof.ValInv
public import proofs.«01_k».proof.Proof.FrmKI
public import Idealize.ShloMosaic.Lib.Pipeline.ValueKit.Geometry
public import Idealize.ShloMosaic.Lib.Pipeline.Covers

@[expose] public section

set_option maxRecDepth 16384

noncomputable section

namespace Cert.Proof.Val

open Cert.KernelIdeal Cert.KernelIdeal.Gen Cert.Proof.KI
open Idealize.ShloMosaic Idealize.ShloMosaic.ValueIdx Idealize.ShloMosaic.TcCoe
open scoped BigOperators

variable (m : (ℓ : Loc nD τ sig) → Buf (Elt Ideal) ℓ) (hO : Ok m) (c : Dev nD) (a : GA)

attribute [local irreducible] tbl

/-- The call finds these arrays. -/
structure Finds : Prop where
  q : V m c main_v30 = (up a.q : S16384x1024.Idx → EReal)
  k : V m c main_v33 = (up a.k : S16384x1024.Idx → EReal)
  v : V m c main_v36 = (up a.v : S16384x1024.Idx → EReal)
  go : V m c main_v38 = (up a.go : S16384x1024.Idx → EReal)
  dl : V m c main_v41 = (up a.dl : S16384x1024.Idx → EReal)
  ls : V m c main_v46 = (up a.ls : S16384x1024.Idx → EReal)
  pc : V m c main_v47 = (up (fun i _ => a.p i) : S16384x1.Idx → EReal)
  pr : V m c main_v48 = (up (fun _ j => a.p j) : S1x16384.Idx → EReal)

abbrev gr (t : Fin (cfgM m hO).N) : ℕ := t.val / 528
abbrev sp (t : Fin (cfgM m hO).N) : Fin 528 := ⟨t.val % 528, Nat.mod_lt _ (by decide)⟩

theorem ixw0 (t : Fin (cfgM m hO).N) : ((cfgM m hO).win 0).index t = ![qB (sp m hO t), gr m hO t] := by
  refine (ix_q m (grid0.coords t)).trans ?_
  rw [stp_eq, co0]
theorem ixw3 (t : Fin (cfgM m hO).N) : ((cfgM m hO).win 3).index t = ![qB (sp m hO t), gr m hO t] := by
  refine (ix_q m (grid0.coords t)).trans ?_
  rw [stp_eq, co0]
theorem ixw4 (t : Fin (cfgM m hO).N) : ((cfgM m hO).win 4).index t = ![qB (sp m hO t), gr m hO t] := by
  refine (ix_q m (grid0.coords t)).trans ?_
  rw [stp_eq, co0]
theorem ixw5 (t : Fin (cfgM m hO).N) : ((cfgM m hO).win 5).index t = ![qB (sp m hO t), gr m hO t] := by
  refine (ix_q m (grid0.coords t)).trans ?_
  rw [stp_eq, co0]
theorem ixw1 (t : Fin (cfgM m hO).N) : ((cfgM m hO).win 1).index t = ![kB (sp m hO t), gr m hO t] := by
  refine (ix_k m (grid0.coords t)).trans ?_
  rw [stp_eq, co0]
theorem ixw2 (t : Fin (cfgM m hO).N) : ((cfgM m hO).win 2).index t = ![kB (sp m hO t), gr m hO t] := by
  refine (ix_k m (grid0.coords t)).trans ?_
  rw [stp_eq, co0]
theorem ixw6 (t : Fin (cfgM m hO).N) : ((cfgM m hO).win 6).index t = ![qB (sp m hO t), 0] := by
  refine (ix_pc m (grid0.coords t)).trans ?_
  rw [stp_eq]
theorem ixw7 (t : Fin (cfgM m hO).N) : ((cfgM m hO).win 7).index t = ![0, kB (sp m hO t)] := by
  refine (ix_pr m (grid0.coords t)).trans ?_
  rw [stp_eq]

theorem blk0 (h : V m c main_v30 = (up a.q : S16384x1024.Idx → EReal)) (t : Fin (cfgM m hO).N) : iblk m hO c 0 t = up (rb a (gr m hO t) (sp m hO t)).q := by
  unfold iblk
  refine (congrArg (fun z => ((((cfgM m hO).win 0).blk t).view.read (Elt Ideal) z)) h).trans ?_
  refine funext fun x => ?_
  have r0 := ((cfgM m hO).win 0).rect_emb_val t x (0 : Fin 2)
  have r1 := ((cfgM m hO).win 0).rect_emb_val t x (1 : Fin 2)
  rw [ixw0] at r0 r1
  show ((a.q ((((cfgM m hO).win 0).rect t).emb x (0 : Fin 2)).val ((((cfgM m hO).win 0).rect t).emb x (1 : Fin 2)).val : ℝ) : EReal) = ((a.q (512 * qB (sp m hO t) + (x (0 : Fin 2)).val) (256 * gr m hO t + (x (1 : Fin 2)).val) : ℝ) : EReal)
  rw [r0, r1, Nat.mul_comm 512, Nat.mul_comm 256]
  rfl
theorem blk1 (h : V m c main_v33 = (up a.k : S16384x1024.Idx → EReal)) (t : Fin (cfgM m hO).N) : iblk m hO c 1 t = up (rb a (gr m hO t) (sp m hO t)).k := by
  unfold iblk
  refine (congrArg (fun z => ((((cfgM m hO).win 1).blk t).view.read (Elt Ideal) z)) h).trans ?_
  refine funext fun x => ?_
  have r0 := ((cfgM m hO).win 1).rect_emb_val t x (0 : Fin 2)
  have r1 := ((cfgM m hO).win 1).rect_emb_val t x (1 : Fin 2)
  rw [ixw1] at r0 r1
  show ((a.k ((((cfgM m hO).win 1).rect t).emb x (0 : Fin 2)).val ((((cfgM m hO).win 1).rect t).emb x (1 : Fin 2)).val : ℝ) : EReal) = ((a.k (512 * kB (sp m hO t) + (x (0 : Fin 2)).val) (256 * gr m hO t + (x (1 : Fin 2)).val) : ℝ) : EReal)
  rw [r0, r1, Nat.mul_comm 512, Nat.mul_comm 256]
  rfl
theorem blk2 (h : V m c main_v36 = (up a.v : S16384x1024.Idx → EReal)) (t : Fin (cfgM m hO).N) : iblk m hO c 2 t = up (rb a (gr m hO t) (sp m hO t)).v := by
  unfold iblk
  refine (congrArg (fun z => ((((cfgM m hO).win 2).blk t).view.read (Elt Ideal) z)) h).trans ?_
  refine funext fun x => ?_
  have r0 := ((cfgM m hO).win 2).rect_emb_val t x (0 : Fin 2)
  have r1 := ((cfgM m hO).win 2).rect_emb_val t x (1 : Fin 2)
  rw [ixw2] at r0 r1
  show ((a.v ((((cfgM m hO).win 2).rect t).emb x (0 : Fin 2)).val ((((cfgM m hO).win 2).rect t).emb x (1 : Fin 2)).val : ℝ) : EReal) = ((a.v (512 * kB (sp m hO t) + (x (0 : Fin 2)).val) (256 * gr m hO t + (x (1 : Fin 2)).val) : ℝ) : EReal)
  rw [r0, r1, Nat.mul_comm 512, Nat.mul_comm 256]
  rfl
theorem blk3 (h : V m c main_v38 = (up a.go : S16384x1024.Idx → EReal)) (t : Fin (cfgM m hO).N) : iblk m hO c 3 t = up (rb a (gr m hO t) (sp m hO t)).go := by
  unfold iblk
  refine (congrArg (fun z => ((((cfgM m hO).win 3).blk t).view.read (Elt Ideal) z)) h).trans ?_
  refine funext fun x => ?_
  have r0 := ((cfgM m hO).win 3).rect_emb_val t x (0 : Fin 2)
  have r1 := ((cfgM m hO).win 3).rect_emb_val t x (1 : Fin 2)
  rw [ixw3] at r0 r1
  show ((a.go ((((cfgM m hO).win 3).rect t).emb x (0 : Fin 2)).val ((((cfgM m hO).win 3).rect t).emb x (1 : Fin 2)).val : ℝ) : EReal) = ((a.go (512 * qB (sp m hO t) + (x (0 : Fin 2)).val) (256 * gr m hO t + (x (1 : Fin 2)).val) : ℝ) : EReal)
  rw [r0, r1, Nat.mul_comm 512, Nat.mul_comm 256]
  rfl
theorem blk4 (h : V m c main_v41 = (up a.dl : S16384x1024.Idx → EReal)) (t : Fin (cfgM m hO).N) : iblk m hO c 4 t = up (rb a (gr m hO t) (sp m hO t)).dl := by
  unfold iblk
  refine (congrArg (fun z => ((((cfgM m hO).win 4).blk t).view.read (Elt Ideal) z)) h).trans ?_
  refine funext fun x => ?_
  have r0 := ((cfgM m hO).win 4).rect_emb_val t x (0 : Fin 2)
  have r1 := ((cfgM m hO).win 4).rect_emb_val t x (1 : Fin 2)
  rw [ixw4] at r0 r1
  show ((a.dl ((((cfgM m hO).win 4).rect t).emb x (0 : Fin 2)).val ((((cfgM m hO).win 4).rect t).emb x (1 : Fin 2)).val : ℝ) : EReal) = ((a.dl (512 * qB (sp m hO t) + (x (0 : Fin 2)).val) (256 * gr m hO t + (x (1 : Fin 2)).val) : ℝ) : EReal)
  rw [r0, r1, Nat.mul_comm 512, Nat.mul_comm 256]
  rfl
theorem blk5 (h : V m c main_v46 = (up a.ls : S16384x1024.Idx → EReal)) (t : Fin (cfgM m hO).N) : iblk m hO c 5 t = up (rb a (gr m hO t) (sp m hO t)).ls := by
  unfold iblk
  refine (congrArg (fun z => ((((cfgM m hO).win 5).blk t).view.read (Elt Ideal) z)) h).trans ?_
  refine funext fun x => ?_
  have r0 := ((cfgM m hO).win 5).rect_emb_val t x (0 : Fin 2)
  have r1 := ((cfgM m hO).win 5).rect_emb_val t x (1 : Fin 2)
  rw [ixw5] at r0 r1
  show ((a.ls ((((cfgM m hO).win 5).rect t).emb x (0 : Fin 2)).val ((((cfgM m hO).win 5).rect t).emb x (1 : Fin 2)).val : ℝ) : EReal) = ((a.ls (512 * qB (sp m hO t) + (x (0 : Fin 2)).val) (256 * gr m hO t + (x (1 : Fin 2)).val) : ℝ) : EReal)
  rw [r0, r1, Nat.mul_comm 512, Nat.mul_comm 256]
  rfl
theorem blk6 (h : V m c main_v47 = (up (fun i _ => a.p i) : S16384x1.Idx → EReal)) (t : Fin (cfgM m hO).N) : iblk m hO c 6 t = up (rb a (gr m hO t) (sp m hO t)).pc := by
  unfold iblk
  refine (congrArg (fun z => ((((cfgM m hO).win 6).blk t).view.read (Elt Ideal) z)) h).trans ?_
  refine funext fun x => ?_
  have r0 := ((cfgM m hO).win 6).rect_emb_val t x (0 : Fin 2)
  rw [ixw6] at r0
  show ((a.p ((((cfgM m hO).win 6).rect t).emb x (0 : Fin 2)).val : ℝ) : EReal) = ((a.p (512 * qB (sp m hO t) + (x (0 : Fin 2)).val) : ℝ) : EReal)
  rw [r0, Nat.mul_comm 512]
  rfl
theorem blk7 (h : V m c main_v48 = (up (fun _ j => a.p j) : S1x16384.Idx → EReal)) (t : Fin (cfgM m hO).N) : iblk m hO c 7 t = up (rb a (gr m hO t) (sp m hO t)).pr := by
  unfold iblk
  refine (congrArg (fun z => ((((cfgM m hO).win 7).blk t).view.read (Elt Ideal) z)) h).trans ?_
  refine funext fun x => ?_
  have r0 := ((cfgM m hO).win 7).rect_emb_val t x (1 : Fin 2)
  rw [ixw7] at r0
  show ((a.p ((((cfgM m hO).win 7).rect t).emb x (1 : Fin 2)).val : ℝ) : EReal) = ((a.p (512 * kB (sp m hO t) + (x (1 : Fin 2)).val) : ℝ) : EReal)
  rw [r0, Nat.mul_comm 512]
  rfl

theorem allK : ∀ b : Fin 32, ∃ s : Fin 528, kB s = b.val := by decide +kernel

variable (hf : Finds m c a) (hp : ∀ I J, I < 16384 → J < 16384 → (a.p J ≤ a.p I ↔ J ≤ I))
include hf

theorem blks_up (t : Fin (cfgM m hO).N) : blks m hO c t = upB (rb a (gr m hO t) (sp m hO t)) := by
  unfold blks upB
  rw [blk0 m hO c a hf.q, blk1 m hO c a hf.k, blk2 m hO c a hf.v, blk3 m hO c a hf.go, blk4 m hO c a hf.dl, blk5 m hO c a hf.ls,
    blk6 m hO c a hf.pc, blk7 m hO c a hf.pr]

include hp

theorem st_up (t : Fin (cfgM m hO).N) : st m hO c (t.val + 1)
    = upS (stK a (gr m hO t) (sp m hO t)) (stV a (gr m hO t) (sp m hO t)) (stQ a (gr m hO t) (sp m hO t)) := by
  refine states a hp (cfgM m hO).N (st m hO c) (fun n hn => ?_) t.val t.isLt
  refine (st_succ m hO c ⟨n, hn⟩).trans ?_
  rw [blks_up m hO c a hf, stp_eq]

/-- The gradients of the queries. -/
theorem arr8 : (dats m hO 0 c).arrAt 8 (cfgM m hO).N = (up (fun I l => sumQ a 16384 I l) : S16384x1024.Idx → EReal) := by
  refine (dats m hO 0 c).arrAt_eq_of_covers 8 _ (((cfgM m hO).win 8).covers_of_index_surj rfl (fun x => by fin_cases x <;> exact Nat.succ_pos _) fun β => ?_) fun t ht y => ?_
  · have b0 : (β (0 : Fin 2)).val < 1 := lt_of_lt_of_eq (β (0 : Fin 2)).isLt (by decide : (16384 + 16383) / 16384 = 1)
    have b1 : (β (1 : Fin 2)).val < 4 := lt_of_lt_of_eq (β (1 : Fin 2)).isLt (by decide : (1024 + 255) / 256 = 4)
    have hN : (cfgM m hO).grid.N = 2112 := N_eq m hO
    refine ⟨⟨528 * (β (1 : Fin 2)).val, by omega⟩, fun x => ?_⟩
    rw [index8]
    fin_cases x
    · show 0 = (β (0 : Fin 2)).val
      omega
    · show 528 * (β (1 : Fin 2)).val / 528 = (β (1 : Fin 2)).val
      omega
  · have hs : sp m hO t = 527 := by
      by_contra h
      exact absurd ht (by rw [flush8_no m hO t (fun e => h (Fin.ext e))]; decide)
    have e := congrArg State.q (st_up m hO c a hf hp t)
    have r0 := ((cfgM m hO).win 8).rect_emb_val t y (0 : Fin 2)
    have r1 := ((cfgM m hO).win 8).rect_emb_val t y (1 : Fin 2)
    rw [index8] at r0 r1
    refine (congrFun e y).trans ?_
    show ((stQ a (gr m hO t) (sp m hO t) (y (0 : Fin 2)).val (y (1 : Fin 2)).val : ℝ) : EReal)
      = ((sumQ a 16384 ((((cfgM m hO).win 8).rect t).emb y (0 : Fin 2)).val ((((cfgM m hO).win 8).rect t).emb y (1 : Fin 2)).val : ℝ) : EReal)
    rw [r0, r1, hs]
    have hy : (y (0 : Fin 2)).val < 16384 := (y (0 : Fin 2)).isLt
    have e0 : (![0, t.val / 528] : Fin 2 → ℕ) 0 * ((cfgM m hO).win 8).size (0 : Fin 2) + (y (0 : Fin 2)).val = (y (0 : Fin 2)).val := by
      show 0 * _ + _ = _
      omega
    have e1 : (![0, t.val / 528] : Fin 2 → ℕ) 1 * ((cfgM m hO).win 8).size (1 : Fin 2) + (y (1 : Fin 2)).val = 256 * gr m hO t + (y (1 : Fin 2)).val := by
      show t.val / 528 * 256 + _ = _
      rw [Nat.mul_comm]
    rw [e0, e1]
    unfold stQ
    rw [first.2.2.1, first.2.2.2, if_pos (by omega)]

/-- The gradients of the keys. -/
theorem arr9 : (dats m hO 0 c).arrAt 9 (cfgM m hO).N = (up (fun J l => sumK a 16384 J l * sc) : S16384x1024.Idx → EReal) := by
  refine (dats m hO 0 c).arrAt_eq_of_covers 9 _ (((cfgM m hO).win 9).covers_of_index_surj rfl (fun x => by fin_cases x <;> exact Nat.succ_pos _) fun β => ?_) fun t ht y => ?_
  · have b0 : (β (0 : Fin 2)).val < 32 := lt_of_lt_of_eq (β (0 : Fin 2)).isLt (by decide : (16384 + 511) / 512 = 32)
    have b1 : (β (1 : Fin 2)).val < 4 := lt_of_lt_of_eq (β (1 : Fin 2)).isLt (by decide : (1024 + 255) / 256 = 4)
    have hN : (cfgM m hO).grid.N = 2112 := N_eq m hO
    obtain ⟨s, hs⟩ := allK ⟨_, b0⟩
    have hs' := s.isLt
    have em : (528 * (β (1 : Fin 2)).val + s.val) % 528 = s.val := by omega
    have ed : (528 * (β (1 : Fin 2)).val + s.val) / 528 = (β (1 : Fin 2)).val := by omega
    refine ⟨⟨528 * (β (1 : Fin 2)).val + s.val, by omega⟩, fun x => ?_⟩
    rw [index9]
    fin_cases x
    · show kB ⟨(528 * (β (1 : Fin 2)).val + s.val) % 528, _⟩ = (β (0 : Fin 2)).val
      refine Eq.trans (congrArg kB (Fin.ext em)) hs
    · exact ed
  · have hs : qB (sp m hO t) = 31 := by
      by_contra h
      exact absurd ht (by rw [flush9_no m hO t h]; decide)
    have e := congrArg State.k (st_up m hO c a hf hp t)
    have r0 := ((cfgM m hO).win 9).rect_emb_val t y (0 : Fin 2)
    have r1 := ((cfgM m hO).win 9).rect_emb_val t y (1 : Fin 2)
    rw [index9] at r0 r1
    refine (congrFun (congrArg (fun z => k0_pay8 (F := Ideal) z) e) y).trans ((congrFun (pay8 _) y).trans ?_)
    show ((stK a (gr m hO t) (sp m hO t) (y (0 : Fin 2)).val (y (1 : Fin 2)).val * sc : ℝ) : EReal)
      = ((sumK a 16384 ((((cfgM m hO).win 9).rect t).emb y (0 : Fin 2)).val ((((cfgM m hO).win 9).rect t).emb y (1 : Fin 2)).val * sc : ℝ) : EReal)
    rw [r0, r1]
    have e0 : (![kB ⟨t.val % 528, Nat.mod_lt _ (by decide)⟩, t.val / 528] : Fin 2 → ℕ) 0 * ((cfgM m hO).win 9).size (0 : Fin 2) + (y (0 : Fin 2)).val = 512 * kB (sp m hO t) + (y (0 : Fin 2)).val := by
      show kB _ * 512 + _ = _
      rw [Nat.mul_comm]
    have e1 : (![kB ⟨t.val % 528, Nat.mod_lt _ (by decide)⟩, t.val / 528] : Fin 2 → ℕ) 1 * ((cfgM m hO).win 9).size (1 : Fin 2) + (y (1 : Fin 2)).val = 256 * gr m hO t + (y (1 : Fin 2)).val := by
      show t.val / 528 * 256 + _ = _
      rw [Nat.mul_comm]
    rw [e0, e1]
    unfold stK
    rw [hs]

/-- The gradients of the values. -/
theorem arr10 : (dats m hO 0 c).arrAt 10 (cfgM m hO).N = (up (fun J l => sumV a 16384 J l) : S16384x1024.Idx → EReal) := by
  refine (dats m hO 0 c).arrAt_eq_of_covers 10 _ (((cfgM m hO).win 10).covers_of_index_surj rfl (fun x => by fin_cases x <;> exact Nat.succ_pos _) fun β => ?_) fun t ht y => ?_
  · have b0 : (β (0 : Fin 2)).val < 32 := lt_of_lt_of_eq (β (0 : Fin 2)).isLt (by decide : (16384 + 511) / 512 = 32)
    have b1 : (β (1 : Fin 2)).val < 4 := lt_of_lt_of_eq (β (1 : Fin 2)).isLt (by decide : (1024 + 255) / 256 = 4)
    have hN : (cfgM m hO).grid.N = 2112 := N_eq m hO
    obtain ⟨s, hs⟩ := allK ⟨_, b0⟩
    have hs' := s.isLt
    have em : (528 * (β (1 : Fin 2)).val + s.val) % 528 = s.val := by omega
    have ed : (528 * (β (1 : Fin 2)).val + s.val) / 528 = (β (1 : Fin 2)).val := by omega
    refine ⟨⟨528 * (β (1 : Fin 2)).val + s.val, by omega⟩, fun x => ?_⟩
    rw [index10]
    fin_cases x
    · show kB ⟨(528 * (β (1 : Fin 2)).val + s.val) % 528, _⟩ = (β (0 : Fin 2)).val
      refine Eq.trans (congrArg kB (Fin.ext em)) hs
    · exact ed
  · have hs : qB (sp m hO t) = 31 := by
      by_contra h
      exact absurd ht (by rw [flush10_no m hO t h]; decide)
    have e := congrArg State.v (st_up m hO c a hf hp t)
    have r0 := ((cfgM m hO).win 10).rect_emb_val t y (0 : Fin 2)
    have r1 := ((cfgM m hO).win 10).rect_emb_val t y (1 : Fin 2)
    rw [index10] at r0 r1
    refine (congrFun e y).trans ?_
    show ((stV a (gr m hO t) (sp m hO t) (y (0 : Fin 2)).val (y (1 : Fin 2)).val : ℝ) : EReal)
      = ((sumV a 16384 ((((cfgM m hO).win 10).rect t).emb y (0 : Fin 2)).val ((((cfgM m hO).win 10).rect t).emb y (1 : Fin 2)).val : ℝ) : EReal)
    rw [r0, r1]
    have e0 : (![kB ⟨t.val % 528, Nat.mod_lt _ (by decide)⟩, t.val / 528] : Fin 2 → ℕ) 0 * ((cfgM m hO).win 10).size (0 : Fin 2) + (y (0 : Fin 2)).val = 512 * kB (sp m hO t) + (y (0 : Fin 2)).val := by
      show kB _ * 512 + _ = _
      rw [Nat.mul_comm]
    have e1 : (![kB ⟨t.val % 528, Nat.mod_lt _ (by decide)⟩, t.val / 528] : Fin 2 → ℕ) 1 * ((cfgM m hO).win 10).size (1 : Fin 2) + (y (1 : Fin 2)).val = 256 * gr m hO t + (y (1 : Fin 2)).val := by
      show t.val / 528 * 256 + _ = _
      rw [Nat.mul_comm]
    rw [e0, e1]
    unfold stV
    rw [hs]

end Cert.Proof.Val

end
-- ==== Proof.ValReal.lean ====
/-
  The attention's real numbers, and that the accumulated sums over the padded lanes are its gradients.
-/
module

public import proofs.«01_k».proof.Proof.ValInv

@[expose] public section

noncomputable section

namespace Cert.Proof.Val

/-- Real inputs: queries, keys, values and the gradient of the output by row, head and lane, and the rows' positions. -/
structure Rd where
  Q : ℕ → ℕ → ℕ → ℝ
  K : ℕ → ℕ → ℕ → ℝ
  V : ℕ → ℕ → ℕ → ℝ
  G : ℕ → ℕ → ℕ → ℝ
  p : ℕ → ℝ

variable (x : Rd)

/-- The scores. -/
def S (h i j : ℕ) : ℝ := (∑ d ∈ Finset.range 96, x.Q i h d * x.K j h d) * sc
/-- The largest score a row may see. -/
def M (h i : ℕ) : ℝ :=
  ((Finset.univ : Finset (Fin 16384)).fold max ⊥ fun k => if k.val ≤ i then ((S x h i k.val : ℝ) : EReal) else ⊥).toReal
/-- The weights and their sums. -/
def W (h i j : ℕ) : ℝ := if j ≤ i then Real.exp (S x h i j - M x h i) else 0
def L (h i : ℕ) : ℝ := ∑ j ∈ Finset.range 16384, W x h i j
/-- The probabilities. -/
def Pr (h i j : ℕ) : ℝ := W x h i j / L x h i
/-- The logarithm of the sum, in base two. -/
def Ls (h i : ℕ) : ℝ := (M x h i + Real.log (L x h i)) / Real.log 2
/-- The row's inner product of the output and its gradient. -/
def Dl (i h : ℕ) : ℝ := ∑ e ∈ Finset.range 64, x.G i h e * ∑ j ∈ Finset.range 16384, x.V j h e * Pr x h i j
/-- The gradient of the probabilities. -/
def DP (h i j : ℕ) : ℝ := ∑ e ∈ Finset.range 64, x.G i h e * x.V j h e
/-- The gradient of the scores, as the chain rule writes it. -/
def DS (h i j : ℕ) : ℝ :=
  if j ≤ i then (DP x h i j / L x h i + -(∑ j ∈ Finset.range 16384, DP x h i j * (1 / (L x h i * L x h i)) * W x h i j)) * W x h i j else 0

/-- Lanes past the first `n` of a head are zero. -/
def pd (n : ℕ) (A : ℕ → ℕ → ℕ → ℝ) (i l : ℕ) : ℝ := if l % 128 < n then A i (l / 128) (l % 128) else 0

def dQ (i h d : ℕ) : ℝ := ∑ j ∈ Finset.range 16384, DS x h i j * sc * x.K j h d
def dK (j h d : ℕ) : ℝ := ∑ i ∈ Finset.range 16384, DS x h i j * sc * x.Q i h d
def dV (j h e : ℕ) : ℝ := ∑ i ∈ Finset.range 16384, x.G i h e * Pr x h i j

/-- The padded arrays the call is given. -/
def ga : GA := ⟨pd 96 x.Q, pd 96 x.K, pd 64 x.V, pd 64 x.G, fun i l => Dl x i (l / 128), fun i l => Ls x (l / 128) i, x.p⟩

theorem W_nonneg (h i j : ℕ) : 0 ≤ W x h i j := by
  unfold W; split
  · exact (Real.exp_pos _).le
  · exact le_refl _

theorem L_pos {h i : ℕ} (hi : i < 16384) : 0 < L x h i := by
  refine Finset.sum_pos' (fun j _ => W_nonneg x h i j) ⟨i, Finset.mem_range.2 hi, ?_⟩
  unfold W; rw [if_pos (le_refl i)]; exact Real.exp_pos _

theorem pd_hd {n : ℕ} (A : ℕ → ℕ → ℕ → ℝ) (i l : ℕ) {d : ℕ} (hd' : d < 128) :
    pd n A i (hd l + d) = if d < n then A i (l / 128) d else 0 := by
  unfold pd hd
  rw [show (128 * (l / 128) + d) / 128 = l / 128 by omega, show (128 * (l / 128) + d) % 128 = d by omega]

theorem sum_pd {n : ℕ} (hn : n ≤ 128) (A B : ℕ → ℕ → ℕ → ℝ) (i j l : ℕ) :
    ∑ d ∈ Finset.range 128, pd n A i (hd l + d) * pd n B j (hd l + d) = ∑ d ∈ Finset.range n, A i (l / 128) d * B j (l / 128) d := by
  rw [← Finset.sum_subset (Finset.range_mono hn) (fun d h1 h2 => ?_)]
  · refine Finset.sum_congr rfl fun d hd' => ?_
    have h1 := Finset.mem_range.1 hd'
    rw [pd_hd A i l (by omega), pd_hd B j l (by omega), if_pos h1, if_pos h1]
  · rw [pd_hd A i l (Finset.mem_range.1 h1), if_neg (fun h => h2 (Finset.mem_range.2 h)), zero_mul]

theorem wp {l i j : ℕ} (hi : i < 16384) : WP (ga x) l i j = Pr x (l / 128) i j := by
  unfold WP Pr W
  by_cases h : j ≤ i
  · rw [if_pos h, if_pos h]
    show Real.rpow 2 ((∑ d ∈ Finset.range 128, pd 96 x.Q i (hd l + d) * pd 96 x.K j (hd l + d)) * lc - Ls x (hd l / 128) i) = _
    rw [sum_pd (by norm_num), show hd l / 128 = l / 128 by unfold hd; omega]
    have hL := L_pos x (h := l / 128) hi
    have h2 : Real.log 2 ≠ 0 := (Real.log_pos (by norm_num)).ne'
    show (2 : ℝ) ^ (_ : ℝ) = _
    rw [Real.rpow_def_of_pos (by norm_num)]
    have : Real.log 2 * ((∑ d ∈ Finset.range 96, x.Q i (l / 128) d * x.K j (l / 128) d) * lc - Ls x (l / 128) i)
        = (S x (l / 128) i j - M x (l / 128) i) - Real.log (L x (l / 128) i) := by
      unfold Ls S lc sc
      field_simp
      ring
    rw [this, Real.exp_sub, Real.exp_log hL]
  · rw [if_neg h, if_neg h, zero_div]

theorem dl_eq (h i : ℕ) : Dl x i h = ∑ j ∈ Finset.range 16384, DP x h i j * Pr x h i j := by
  unfold Dl DP
  simp only [Finset.mul_sum, Finset.sum_mul]
  rw [Finset.sum_comm]
  exact Finset.sum_congr rfl fun j _ => Finset.sum_congr rfl fun e _ => by ring

theorem wd {l i j : ℕ} (hi : i < 16384) : WD (ga x) l i j = DS x (l / 128) i j := by
  unfold WD
  rw [wp x hi]
  show Pr x (l / 128) i j * ((∑ d ∈ Finset.range 128, pd 64 x.G i (hd l + d) * pd 64 x.V j (hd l + d)) - Dl x i (hd l / 128)) = _
  rw [sum_pd (by norm_num), show hd l / 128 = l / 128 by unfold hd; omega, dl_eq]
  unfold DS
  have hL := (L_pos x (h := l / 128) hi).ne'
  by_cases h : j ≤ i
  · rw [if_pos h]
    have : ∑ j ∈ Finset.range 16384, DP x (l / 128) i j * (1 / (L x (l / 128) i * L x (l / 128) i)) * W x (l / 128) i j
        = (∑ j ∈ Finset.range 16384, DP x (l / 128) i j * Pr x (l / 128) i j) / L x (l / 128) i := by
      rw [Finset.sum_div]
      refine Finset.sum_congr rfl fun j _ => ?_
      unfold Pr
      field_simp
    rw [this]
    unfold Pr
    show W x (l / 128) i j / L x (l / 128) i * (DP x (l / 128) i j - _) = _
    field_simp
    ring
  · rw [if_neg h]; unfold Pr W; rw [if_neg h, zero_div, zero_mul]

theorem sumQ_eq {i : ℕ} (hi : i < 16384) (l : ℕ) : sumQ (ga x) 16384 i l = pd 96 (dQ x) i l := by
  unfold sumQ
  have : ∀ j ∈ Finset.range 16384, WD (ga x) l i j * (ga x).k j l = DS x (l / 128) i j * pd 96 x.K j l := fun j _ => by rw [wd x hi]; rfl
  rw [Finset.sum_congr rfl this, Finset.sum_mul]
  unfold pd
  split
  · exact Finset.sum_congr rfl fun j _ => by ring
  · exact Finset.sum_eq_zero fun j _ => by ring

theorem sumK_eq (j l : ℕ) : sumK (ga x) 16384 j l * sc = pd 96 (dK x) j l := by
  unfold sumK
  have : ∀ i ∈ Finset.range 16384, WD (ga x) l i j * (ga x).q i l = DS x (l / 128) i j * pd 96 x.Q i l := fun i hi => by
    rw [wd x (Finset.mem_range.1 hi)]; rfl
  rw [Finset.sum_congr rfl this, Finset.sum_mul]
  unfold pd
  split
  · exact Finset.sum_congr rfl fun j _ => by ring
  · exact Finset.sum_eq_zero fun j _ => by ring

theorem sumV_eq (j l : ℕ) : sumV (ga x) 16384 j l = pd 64 (dV x) j l := by
  unfold sumV
  have : ∀ i ∈ Finset.range 16384, WP (ga x) l i j * (ga x).go i l = Pr x (l / 128) i j * pd 64 x.G i l := fun i hi => by
    rw [wp x (Finset.mem_range.1 hi)]; rfl
  rw [Finset.sum_congr rfl this]
  unfold pd
  split
  · exact Finset.sum_congr rfl fun j _ => by ring
  · exact Finset.sum_eq_zero fun j _ => by ring

end Cert.Proof.Val

end
-- ==== Proof.Val3.lean ====
/-
  Arrays of real numbers with three axes, and what the host's operations make of them.
-/
module

public import proofs.«01_k».proof.Proof.ValOps

@[expose] public section

noncomputable section

namespace Cert.Proof.Val

open Idealize.ShloMosaic Idealize.ShloMosaic.ValueIdx

variable {a b c : ℕ}

theorem mul3 (φ : FTy) (A B : ℕ → ℕ → ℕ → ℝ) :
    mulf (F := Ideal) (φ := φ) (up3 A : (⟨3, ![a, b, c]⟩ : Shape).Idx → EReal) (up3 B) = up3 fun i j k => A i j k * B i j k :=
  funext fun _ => (EReal.coe_mul _ _).symm
theorem add3 (φ : FTy) (A B : ℕ → ℕ → ℕ → ℝ) :
    addf (F := Ideal) (φ := φ) (up3 A : (⟨3, ![a, b, c]⟩ : Shape).Idx → EReal) (up3 B) = up3 fun i j k => A i j k + B i j k :=
  funext fun _ => (EReal.coe_add _ _).symm
theorem neg3 (φ : FTy) (A : ℕ → ℕ → ℕ → ℝ) :
    Host.negf (F := Ideal) (φ := φ) (up3 A : (⟨3, ![a, b, c]⟩ : Shape).Idx → EReal) = up3 fun i j k => -A i j k :=
  funext fun _ => (EReal.coe_neg _).symm
theorem div3 (φ : FTy) (A B : ℕ → ℕ → ℕ → ℝ) (h : ∀ i j k, i < a → j < b → k < c → B i j k ≠ 0) :
    Host.divf (F := Ideal) (φ := φ) (up3 A : (⟨3, ![a, b, c]⟩ : Shape).Idx → EReal) (up3 B) = up3 fun i j k => A i j k / B i j k := by
  funext i
  have h0 : (i 0).val < a := (i 0).isLt
  have h1 : (i 1).val < b := (i 1).isLt
  have h2 : (i 2).val < c := (i 2).isLt
  show Ideal.div ((A _ _ _ : ℝ) : EReal) ((B _ _ _ : ℝ) : EReal) = ((_ / _ : ℝ) : EReal)
  rw [Ideal.div_coe (h _ _ _ h0 h1 h2), ← EReal.coe_mul, mul_one_div]
theorem log3 (φ : FTy) (A : ℕ → ℕ → ℕ → ℝ) (h : ∀ i j k, i < a → j < b → k < c → 0 < A i j k) :
    Host.log (F := Ideal) (φ := φ) (up3 A : (⟨3, ![a, b, c]⟩ : Shape).Idx → EReal) = up3 fun i j k => Real.log (A i j k) := by
  funext i
  have h0 : (i 0).val < a := (i 0).isLt
  have h1 : (i 1).val < b := (i 1).isLt
  have h2 : (i 2).val < c := (i 2).isLt
  show Ideal.log ((A _ _ _ : ℝ) : EReal) = ((Real.log _ : ℝ) : EReal)
  rw [Ideal.log_coe, if_neg (not_le.2 (h _ _ _ h0 h1 h2))]

/-- A scalar over an array. -/
theorem scal3 {r : ℝ} (y : (⟨0, ![]⟩ : Shape).Idx → EReal) (hy : ∀ i, y i = (r : EReal))
    (h : (⟨0, ![]⟩ : Shape).BroadcastsInDim ⟨3, ![a, b, c]⟩ (![] : Fin 0 → Fin 3)) :
    broadcastInDim ⟨3, ![a, b, c]⟩ ![] h y = up3 fun _ _ _ => r :=
  funext fun _ => hy _
/-- A matrix over a third axis. -/
theorem col3 (A : ℕ → ℕ → ℝ) (h : (⟨2, ![a, b]⟩ : Shape).BroadcastsInDim ⟨3, ![a, b, c]⟩ (![0, 1] : Fin 2 → Fin 3)) :
    broadcastInDim ⟨3, ![a, b, c]⟩ ![0, 1] h (up A : (⟨2, ![a, b]⟩ : Shape).Idx → EReal) = up3 fun i j _ => A i j := by
  funext j
  have h0 : (j 0).val < a := (j 0).isLt
  have h1 : (j 1).val < b := (j 1).isLt
  rw [broadcastInDim_apply _ h _ j (ix2 (j 0) (j 1)) (by
    intro x; match x with
    | ⟨0, _⟩ => show (j 0).val = if a = 1 then 0 else (j 0).val
                split
                · omega
                · rfl
    | ⟨1, _⟩ => show (j 1).val = if b = 1 then 0 else (j 1).val
                split
                · omega
                · rfl)]
  rfl
/-- A unit third axis repeated. -/
theorem lanes3 (A : ℕ → ℕ → ℕ → ℝ) (h : (⟨3, ![a, b, 1]⟩ : Shape).BroadcastsInDim ⟨3, ![a, b, c]⟩ (![0, 1, 2] : Fin 3 → Fin 3)) :
    broadcastInDim ⟨3, ![a, b, c]⟩ ![0, 1, 2] h (up3 A : (⟨3, ![a, b, 1]⟩ : Shape).Idx → EReal) = up3 fun i j _ => A i j 0 := by
  funext j
  have h0 : (j 0).val < a := (j 0).isLt
  have h1 : (j 1).val < b := (j 1).isLt
  rw [broadcastInDim_apply _ h _ j (ix3 (j 0) (j 1) (0 : Fin 1)) (by
    intro x; match x with
    | ⟨0, _⟩ => show (j 0).val = if a = 1 then 0 else (j 0).val
                split
                · omega
                · rfl
    | ⟨1, _⟩ => show (j 1).val = if b = 1 then 0 else (j 1).val
                split
                · omega
                · rfl
    | ⟨2, _⟩ => rfl)]
  rfl

theorem tr201 (A : ℕ → ℕ → ℕ → ℝ) (h : (⟨3, ![a, b, c]⟩ : Shape).Transposes [2, 0, 1] ⟨3, ![c, a, b]⟩) :
    transpose ⟨3, ![c, a, b]⟩ [2, 0, 1] (up3 A : (⟨3, ![a, b, c]⟩ : Shape).Idx → EReal) h = up3 fun k i j => A i j k := by
  funext j
  rw [transpose_apply [2, 0, 1] _ h j (ix3 (j 1) (j 2) (j 0)) (by
    intro x; match x with | ⟨0, _⟩ => rfl | ⟨1, _⟩ => rfl | ⟨2, _⟩ => rfl)]
  rfl
theorem tr120 (A : ℕ → ℕ → ℕ → ℝ) (h : (⟨3, ![a, b, c]⟩ : Shape).Transposes [1, 2, 0] ⟨3, ![b, c, a]⟩) :
    transpose ⟨3, ![b, c, a]⟩ [1, 2, 0] (up3 A : (⟨3, ![a, b, c]⟩ : Shape).Idx → EReal) h = up3 fun j k i => A i j k := by
  funext j
  rw [transpose_apply [1, 2, 0] _ h j (ix3 (j 2) (j 0) (j 1)) (by
    intro x; match x with | ⟨0, _⟩ => rfl | ⟨1, _⟩ => rfl | ⟨2, _⟩ => rfl)]
  rfl
theorem tr102 (A : ℕ → ℕ → ℕ → ℝ) (h : (⟨3, ![a, b, c]⟩ : Shape).Transposes [1, 0, 2] ⟨3, ![b, a, c]⟩) :
    transpose ⟨3, ![b, a, c]⟩ [1, 0, 2] (up3 A : (⟨3, ![a, b, c]⟩ : Shape).Idx → EReal) h = up3 fun j i k => A i j k := by
  funext j
  rw [transpose_apply [1, 0, 2] _ h j (ix3 (j 1) (j 0) (j 2)) (by
    intro x; match x with | ⟨0, _⟩ => rfl | ⟨1, _⟩ => rfl | ⟨2, _⟩ => rfl)]
  rfl
theorem tr10 (A : ℕ → ℕ → ℝ) (h : (⟨2, ![a, b]⟩ : Shape).Transposes [1, 0] ⟨2, ![b, a]⟩) :
    transpose ⟨2, ![b, a]⟩ [1, 0] (up A : (⟨2, ![a, b]⟩ : Shape).Idx → EReal) h = up fun j i => A i j := by
  funext j
  rw [transpose_apply [1, 0] _ h j (ix2 (j 1) (j 0)) (by
    intro x; match x with | ⟨0, _⟩ => rfl | ⟨1, _⟩ => rfl)]
  rfl

/-- A unit third axis dropped, or put. -/
theorem drop1 (A : ℕ → ℕ → ℕ → ℝ) (h : (⟨3, ![a, b, 1]⟩ : Shape).ShapeCasts ⟨2, ![a, b]⟩) :
    shapeCast ⟨2, ![a, b]⟩ (up3 A : (⟨3, ![a, b, 1]⟩ : Shape).Idx → EReal) h = up fun i j => A i j 0 := by
  funext j
  rw [shapeCast_apply _ h j (ix3 (j 0) (j 1) (0 : Fin 1)) (by
    rw [Shape.rowMajor_val_three, Shape.rowMajor_val_two]
    show ((j 0).val * b + (j 1).val) * 1 + 0 = (j 0).val * b + (j 1).val
    omega)]
  rfl
theorem put1 (A : ℕ → ℕ → ℝ) (h : (⟨2, ![a, b]⟩ : Shape).ShapeCasts ⟨3, ![a, b, 1]⟩) :
    shapeCast ⟨3, ![a, b, 1]⟩ (up A : (⟨2, ![a, b]⟩ : Shape).Idx → EReal) h = up3 fun i j _ => A i j := by
  funext j
  have h2 : (j 2).val < 1 := (j 2).isLt
  rw [shapeCast_apply _ h j (ix2 (j 0) (j 1)) (by
    rw [Shape.rowMajor_val_three, Shape.rowMajor_val_two]
    show (j 0).val * b + (j 1).val = ((j 0).val * b + (j 1).val) * 1 + (j 2).val
    omega)]
  rfl
/-- The heads' lanes side by side. -/
theorem flat3 (A : ℕ → ℕ → ℕ → ℝ) (h : (⟨3, ![a, 8, 128]⟩ : Shape).ShapeCasts ⟨2, ![a, 1024]⟩) :
    shapeCast ⟨2, ![a, 1024]⟩ (up3 A : (⟨3, ![a, 8, 128]⟩ : Shape).Idx → EReal) h = up fun i l => A i (l / 128) (l % 128) := by
  funext j
  have h1 : (j 1).val < 1024 := (j 1).isLt
  rw [shapeCast_apply _ h j (ix3 (j 0) (⟨(j 1).val / 128, by omega⟩ : Fin 8) (⟨(j 1).val % 128, by omega⟩ : Fin 128)) (by
    rw [Shape.rowMajor_val_three, Shape.rowMajor_val_two]
    show ((j 0).val * 8 + (j 1).val / 128) * 128 + (j 1).val % 128 = (j 0).val * 1024 + (j 1).val
    omega)]
  rfl
/-- Zeros after the lanes. -/
theorem pad3 {n e : ℕ} (A : ℕ → ℕ → ℕ → ℝ) (y : (⟨0, ![]⟩ : Shape).Idx → EReal) (hy : ∀ i, y i = 0)
    (h : (⟨3, ![a, b, n]⟩ : Shape).Pads ![0, 0, 0] ![0, 0, e] ![0, 0, 0] ⟨3, ![a, b, c]⟩) (hu : 0 < (⟨0, ![]⟩ : Shape).numel) :
    pad ⟨3, ![a, b, c]⟩ ![0, 0, 0] ![0, 0, e] ![0, 0, 0] (up3 A : (⟨3, ![a, b, n]⟩ : Shape).Idx → EReal) y h hu
      = up3 fun i j k => if k < n then A i j k else 0 := by
  funext j
  show _ = (((if (j 2).val < n then A (j 0).val (j 1).val (j 2).val else 0 : ℝ)) : EReal)
  by_cases hk : (j 2).val < n
  · rw [if_pos hk, pad_apply_of_inside _ _ _ _ y h hu j (ix3 (j 0) (j 1) (⟨(j 2).val, hk⟩ : Fin n)) (by
      intro x; match x with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega)]
    rfl
  · rw [if_neg hk, pad_apply_of_not_inside _ _ _ _ y h hu j (⟨2, by decide⟩ : Fin 3) (by
      intro hh
      have := hh.2.2
      have h2 : ((j 2).val - 0) / (0 + 1) < n := this
      simp at h2; omega), hy, EReal.coe_zero]

/-- A sum over the third axis. -/
theorem sum3 (A : ℕ → ℕ → ℕ → ℝ) (y : (⟨0, ![]⟩ : Shape).Idx → EReal) (hy : ∀ i, y i = 0)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) :
    Host.reduceAdd (F := Ideal) (φ := .f32) (up3 A : (⟨3, ![a, b, c]⟩ : Shape).Idx → EReal) y h' hu
      = up fun i j => ∑ k ∈ Finset.range c, A i j k := by
  funext j
  rw [hostReduceAdd_apply, Ideal.hostReduceAdd_single h' h, hy, zero_add]
  show _ = ((∑ k ∈ Finset.range c, A (j 0).val (j 1).val k : ℝ) : EReal)
  rw [coe_sum_fin]
  rfl

/-- The largest along the third axis. -/
theorem max3 (X : (⟨3, ![a, b, c]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (j : (⟨2, ![a, b]⟩ : Shape).Idx) :
    Host.reduce (FloatOps.maximumf (F := Ideal) (φ := .f32)) X (constant (F := Ideal) ⟨0, ![]⟩ .f32 0xFF800000#32) h' hu j
      = (Finset.univ : Finset (Fin c)).fold max ⊥ fun k => X (ix3 (j 0) (j 1) k) := by
  refine (congrFun (hostReduce_maximumf_eq_multiReduction (F := Ideal) (φ := .f32) X 0xFF800000#32 h' hu h (by decide) (by rfl)) j).trans ?_
  refine (Ideal.multiReduction_maximumf_single (φ := .f32) X 0xFF800000#32 h _ _ j).trans ?_
  have e : (FloatOps.ofBits .f32 0xFF800000#32 : Ideal .f32) = (⊥ : EReal) := by
    show Ideal.ofBits .f32 0xFF800000#32 = ⊥
    simp [Ideal.ofBits, Ideal.ieee]
  rw [e]
  refine congrArg (fun f => (Finset.univ : Finset (Fin c)).fold max ⊥ f) (funext fun k => congrArg X (funext fun x => ?_))
  match x with | ⟨0, _⟩ => rfl | ⟨1, _⟩ => rfl | ⟨2, _⟩ => rfl

/-- A largest of reals and −∞s, one of them real, is real. -/
theorem fold_max_real {n : ℕ} (f : Fin n → EReal) (k : Fin n) (hk : f k ≠ ⊥) (hf : ∀ j, f j ≠ ⊤) :
    ((((Finset.univ : Finset (Fin n)).fold max ⊥ f).toReal : ℝ) : EReal) = (Finset.univ : Finset (Fin n)).fold max ⊥ f := by
  have hs : (Finset.univ : Finset (Fin n)).fold max ⊥ f = Finset.univ.sup f := rfl
  rw [hs]
  refine EReal.coe_toReal (ne_of_lt ((Finset.sup_lt_iff bot_lt_top).2 fun j _ => lt_top_iff_ne_top.2 (hf j))) ?_
  exact fun h => hk (le_bot_iff.1 (h ▸ Finset.le_sup (f := f) (Finset.mem_univ k)))

end Cert.Proof.Val

end
-- ==== Proof.HostIn.lean ====
/-
  The five inputs of a program.
-/
module

public import proofs.«01_k».proof.Proof.ValOps

@[expose] public section

noncomputable section

namespace Cert.Proof.Val

open Idealize.ShloMosaic

/-- Queries, keys, values, the rows' positions, the gradient of the output. -/
structure In where
  q : FVec Ideal ⟨3, ![16384, 8, 96]⟩ .f32
  k : FVec Ideal ⟨3, ![16384, 8, 96]⟩ .f32
  v : FVec Ideal ⟨3, ![16384, 8, 64]⟩ .f32
  p : Vec Ideal ⟨1, ![16384]⟩ .i32
  go : FVec Ideal ⟨3, ![16384, 8, 64]⟩ .f32

end Cert.Proof.Val

end
-- ==== Proof.HostKI.lean ====
/-
  What the operations before the call leave in the call's input arrays.
-/
module

public import proofs.«01_k».proof.Proof.KitKI
public import proofs.«01_k».proof.Proof.HostIn
public import Idealize.ShloMosaic.Lib.Claim
public import Idealize.ShloMosaic.Lib.StableHlo.RunRead

@[expose] public section

set_option maxRecDepth 16384

noncomputable section

namespace Cert.Proof.Val.K

open Cert.KernelIdeal Cert.KernelIdeal.Gen Cert.Proof.KI
open Idealize.ShloMosaic Idealize.ShloMosaic.TcCoe

def t_v0 (x : In) : FVec Ideal S8x16384x16384 .f32 := Host.dotGeneral dot_S16384x8x96_S16384x8x96_S8x16384x16384_2_2_0_0_1_1 none x.q x.k
def t_cst (x : In) : FVec Ideal S_ .f32 := constant (F := Ideal) S_ .f32 0x3DD105EC#32
def t_v1 (x : In) : FVec Ideal S8x16384x16384 .f32 := broadcastInDim S8x16384x16384 ![] bcast_S_S8x16384x16384 (t_cst x)
def t_v2 (x : In) : FVec Ideal S8x16384x16384 .f32 := mulf (t_v0 x) (t_v1 x)
def t_v3 (x : In) : Vec Ideal S1x1x16384 .i32 := broadcastInDim S1x1x16384 ![2] bcast_S16384_S1x1x16384_2 x.p
def t_v4 (x : In) : Vec Ideal S1x16384x1 .i32 := broadcastInDim S1x16384x1 ![1] bcast_S16384_S1x16384x1_1 x.p
def t_v5 (x : In) : Vec Ideal S1x16384x16384 .i32 := broadcastInDim S1x16384x16384 ![0, 1, 2] bcast_S1x1x16384_S1x16384x16384_0_1_2 (t_v3 x)
def t_v6 (x : In) : Vec Ideal S1x16384x16384 .i32 := broadcastInDim S1x16384x16384 ![0, 1, 2] bcast_S1x16384x1_S1x16384x16384_0_1_2 (t_v4 x)
def t_v7 (x : In) : Vec Ideal S1x16384x16384 .i1 := cmpi .sle (t_v5 x) (t_v6 x)
def t_cst_1 (x : In) : FVec Ideal S_ .f32 := constant (F := Ideal) S_ .f32 0xFF800000#32
def t_v8 (x : In) : FVec Ideal S8x16384x16384 .f32 := select (broadcastInDim S8x16384x16384 ![0, 1, 2] bcast_S1x16384x16384_S8x16384x16384_0_1_2 (t_v7 x)) (t_v2 x) (broadcastInDim S8x16384x16384 ![] bcast_S_S8x16384x16384 (t_cst_1 x))
def t_cst_2 (x : In) : FVec Ideal S_ .f32 := constant (F := Ideal) S_ .f32 0xFF800000#32
def t_v9 (x : In) : FVec Ideal S8x16384 .f32 := Host.reduce (FloatOps.maximumf (F := Ideal) (φ := .f32)) (t_v8 x) (t_cst_2 x) reducesTo_S8x16384x16384_S8x16384_d2 h_S_
def t_v10 (x : In) : FVec Ideal S8x16384x1 .f32 := broadcastInDim S8x16384x1 ![0, 1] bcast_S8x16384_S8x16384x1_0_1 (t_v9 x)
def t_v11 (x : In) : FVec Ideal S8x16384x16384 .f32 := broadcastInDim S8x16384x16384 ![0, 1, 2] bcast_S8x16384x1_S8x16384x16384_0_1_2 (t_v10 x)
def t_v12 (x : In) : FVec Ideal S8x16384x16384 .f32 := subf (t_v8 x) (t_v11 x)
def t_v13 (x : In) : FVec Ideal S8x16384x16384 .f32 := Host.exp (t_v12 x)
def t_cst_3 (x : In) : FVec Ideal S_ .f32 := constant (F := Ideal) S_ .f32 0x00000000#32
def t_v14 (x : In) : FVec Ideal S8x16384 .f32 := Host.reduceAdd (t_v13 x) (t_cst_3 x) reducesTo_S8x16384x16384_S8x16384_d2 h_S_
def t_v15 (x : In) : FVec Ideal S8x16384x1 .f32 := broadcastInDim S8x16384x1 ![0, 1] bcast_S8x16384_S8x16384x1_0_1 (t_v14 x)
def t_v16 (x : In) : FVec Ideal S8x16384x1 .f32 := Host.log (t_v15 x)
def t_v17 (x : In) : FVec Ideal S8x16384x1 .f32 := addf (t_v10 x) (t_v16 x)
def t_cst_4 (x : In) : FVec Ideal S_ .f32 := constant (F := Ideal) S_ .f32 0x40000000#32
def t_v18 (x : In) : FVec Ideal S_ .f32 := Host.log (t_cst_4 x)
def t_v19 (x : In) : FVec Ideal S8x16384x1 .f32 := broadcastInDim S8x16384x1 ![] bcast_S_S8x16384x1 (t_v18 x)
def t_v20 (x : In) : FVec Ideal S8x16384x1 .f32 := Host.divf (t_v17 x) (t_v19 x)
def t_v21 (x : In) : FVec Ideal S8x16384x16384 .f32 := broadcastInDim S8x16384x16384 ![0, 1, 2] bcast_S8x16384x1_S8x16384x16384_0_1_2 (t_v15 x)
def t_v22 (x : In) : FVec Ideal S8x16384x16384 .f32 := Host.divf (t_v13 x) (t_v21 x)
def t_v23 (x : In) : FVec Ideal S8x64x16384 .f32 := Host.dotGeneral dot_S16384x8x64_S8x16384x16384_S8x64x16384_0_2_2_1_1_0 none x.v (t_v22 x)
def t_v24 (x : In) : FVec Ideal S16384x8x64 .f32 := transpose S16384x8x64 [2, 0, 1] (t_v23 x) transposes_S8x64x16384_S16384x8x64_2_0_1
def t_v25 (x : In) : FVec Ideal S16384x8x64 .f32 := mulf x.go (t_v24 x)
def t_cst_5 (x : In) : FVec Ideal S_ .f32 := constant (F := Ideal) S_ .f32 0x00000000#32
def t_v26 (x : In) : FVec Ideal S16384x8 .f32 := Host.reduceAdd (t_v25 x) (t_cst_5 x) reducesTo_S16384x8x64_S16384x8_d2 h_S_
def t_v27 (x : In) : FVec Ideal S16384 .f32 := sitofp .f32 x.p
def t_cst_6 (x : In) : FVec Ideal S_ .f32 := constant (F := Ideal) S_ .f32 0x00000000#32
def t_v28 (x : In) : FVec Ideal S16384x8x128 .f32 := pad S16384x8x128 ![0, 0, 0] ![0, 0, 32] ![0, 0, 0] x.q (t_cst_6 x) pads_S16384x8x96_S16384x8x128_000_000_0320 h_S_
def t_v29 (x : In) : FVec Ideal S16384x1024 .f32 := shapeCast S16384x1024 (t_v28 x) shapeCasts_S16384x8x128_S16384x1024
def t_v30 (x : In) : FVec Ideal S16384x1024 .bf16 := truncf .bf16 (t_v29 x) bitsLt_bf16_f32
def t_cst_7 (x : In) : FVec Ideal S_ .f32 := constant (F := Ideal) S_ .f32 0x00000000#32
def t_v31 (x : In) : FVec Ideal S16384x8x128 .f32 := pad S16384x8x128 ![0, 0, 0] ![0, 0, 32] ![0, 0, 0] x.k (t_cst_7 x) pads_S16384x8x96_S16384x8x128_000_000_0320 h_S_
def t_v32 (x : In) : FVec Ideal S16384x1024 .f32 := shapeCast S16384x1024 (t_v31 x) shapeCasts_S16384x8x128_S16384x1024
def t_v33 (x : In) : FVec Ideal S16384x1024 .bf16 := truncf .bf16 (t_v32 x) bitsLt_bf16_f32
def t_cst_8 (x : In) : FVec Ideal S_ .f32 := constant (F := Ideal) S_ .f32 0x00000000#32
def t_v34 (x : In) : FVec Ideal S16384x8x128 .f32 := pad S16384x8x128 ![0, 0, 0] ![0, 0, 64] ![0, 0, 0] x.v (t_cst_8 x) pads_S16384x8x64_S16384x8x128_000_000_0640 h_S_
def t_v35 (x : In) : FVec Ideal S16384x1024 .f32 := shapeCast S16384x1024 (t_v34 x) shapeCasts_S16384x8x128_S16384x1024
def t_v36 (x : In) : FVec Ideal S16384x1024 .bf16 := truncf .bf16 (t_v35 x) bitsLt_bf16_f32
def t_cst_9 (x : In) : FVec Ideal S_ .f32 := constant (F := Ideal) S_ .f32 0x00000000#32
def t_v37 (x : In) : FVec Ideal S16384x8x128 .f32 := pad S16384x8x128 ![0, 0, 0] ![0, 0, 64] ![0, 0, 0] x.go (t_cst_9 x) pads_S16384x8x64_S16384x8x128_000_000_0640 h_S_
def t_v38 (x : In) : FVec Ideal S16384x1024 .f32 := shapeCast S16384x1024 (t_v37 x) shapeCasts_S16384x8x128_S16384x1024
def t_v39 (x : In) : FVec Ideal S16384x8x1 .f32 := broadcastInDim S16384x8x1 ![0, 1] bcast_S16384x8_S16384x8x1_0_1 (t_v26 x)
def t_v40 (x : In) : FVec Ideal S16384x8x128 .f32 := broadcastInDim S16384x8x128 ![0, 1, 2] bcast_S16384x8x1_S16384x8x128_0_1_2 (t_v39 x)
def t_v41 (x : In) : FVec Ideal S16384x1024 .f32 := shapeCast S16384x1024 (t_v40 x) shapeCasts_S16384x8x128_S16384x1024
def t_v42 (x : In) : FVec Ideal S8x16384 .f32 := shapeCast S8x16384 (t_v20 x) shapeCasts_S8x16384x1_S8x16384
def t_v43 (x : In) : FVec Ideal S16384x8 .f32 := transpose S16384x8 [1, 0] (t_v42 x) transposes_S8x16384_S16384x8_1_0
def t_v44 (x : In) : FVec Ideal S16384x8x1 .f32 := broadcastInDim S16384x8x1 ![0, 1] bcast_S16384x8_S16384x8x1_0_1 (t_v43 x)
def t_v45 (x : In) : FVec Ideal S16384x8x128 .f32 := broadcastInDim S16384x8x128 ![0, 1, 2] bcast_S16384x8x1_S16384x8x128_0_1_2 (t_v44 x)
def t_v46 (x : In) : FVec Ideal S16384x1024 .f32 := shapeCast S16384x1024 (t_v45 x) shapeCasts_S16384x8x128_S16384x1024
def t_v47 (x : In) : FVec Ideal S16384x1 .f32 := shapeCast S16384x1 (t_v27 x) shapeCasts_S16384_S16384x1
def t_v48 (x : In) : FVec Ideal S1x16384 .f32 := shapeCast S1x16384 (t_v27 x) shapeCasts_S16384_S1x16384

variable (m : (ℓ : Loc nD τ sig) → Buf (Elt Ideal) ℓ) (c : Dev nD)

/-- The inputs as the program finds them. -/
def inp : In := ⟨m ((c : Thread nD τ).loc main_arg0), m ((c : Thread nD τ).loc main_arg1), m ((c : Thread nD τ).loc main_arg2), m ((c : Thread nD τ).loc main_arg3), m ((c : Thread nD τ).loc main_arg4)⟩

set_option maxRecDepth 4000 in
set_option maxHeartbeats 4000000 in
theorem V_v30 : V m c main_v30 = t_v30 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v33 : V m c main_v33 = t_v33 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v36 : V m c main_v36 = t_v36 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v38 : V m c main_v38 = t_v38 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v41 : V m c main_v41 = t_v41 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v46 : V m c main_v46 = t_v46 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v47 : V m c main_v47 = t_v47 (inp m c) := by
  unfold V
  simp only [hostOps0, hostOps0_1, hostOps0_2, List.flatten_cons, List.flatten_nil, List.append_nil, List.cons_append, List.nil_append]
  after_reads_simp
  rfl
set_option maxRecDepth 4000 in
set_option maxHeartbeats 4000000 in
theorem V_v48 : V m c main_v48 = t_v48 (inp m c) := by
  unfold V
  simp only [hostOps0, hostOps0_1, hostOps0_2, List.flatten_cons, List.flatten_nil, List.append_nil, List.cons_append, List.nil_append]
  after_reads_simp
  rfl

end Cert.Proof.Val.K

end
-- ==== Proof.ValHost.lean ====
/-
  What the call is given, on real inputs.
-/
module

public import proofs.«01_k».proof.Proof.ValReal
public import proofs.«01_k».proof.Proof.Val3
public import proofs.«01_k».proof.Proof.HostKI

@[expose] public section

noncomputable section

namespace Cert.Proof.Val

open Idealize.ShloMosaic Idealize.ShloMosaic.ValueIdx

/-- Inputs that are real, the positions increasing along the rows. -/
structure Is (y : In) (x : Rd) : Prop where
  q : y.q = up3 x.Q
  k : y.k = up3 x.K
  v : y.v = up3 x.V
  go : y.go = up3 x.G
  p : ∀ i : Fin 16384, ((y.p (ix1 i)).toInt : ℝ) = x.p i.val
  mono : ∀ I J, I < 16384 → J < 16384 → (x.p J ≤ x.p I ↔ J ≤ I)

/-- The scores a row may see; −∞ at the others. -/
def msk (x : Rd) : (⟨3, ![8, 16384, 16384]⟩ : Shape).Idx → EReal :=
  fun i => if (i 2).val ≤ (i 1).val then ((S x (i 0).val (i 1).val (i 2).val : ℝ) : EReal) else ⊥

theorem M_coe (x : Rd) {h i : ℕ} (hi : i < 16384) :
    ((M x h i : ℝ) : EReal) = (Finset.univ : Finset (Fin 16384)).fold max ⊥ fun k => if k.val ≤ i then ((S x h i k.val : ℝ) : EReal) else ⊥ := by
  refine fold_max_real _ ⟨i, hi⟩ ?_ fun j => ?_
  · rw [if_pos (le_refl i)]; exact EReal.coe_ne_bot _
  · split
    · exact EReal.coe_ne_top _
    · exact bot_ne_top

theorem exp_msk (x : Rd) (Z : (⟨3, ![8, 16384, 16384]⟩ : Shape).Idx → EReal) (hZ : Z = up3 fun h i _ => M x h i) :
    Host.exp (F := Ideal) (φ := .f32) (subf (F := Ideal) (φ := .f32) (msk x) Z) = up3 (W x) := by
  subst hZ
  funext i
  show Ideal.exp ((if (i 2).val ≤ (i 1).val then ((S x (i 0).val (i 1).val (i 2).val : ℝ) : EReal) else ⊥) - ((M x (i 0).val (i 1).val : ℝ) : EReal))
    = ((W x (i 0).val (i 1).val (i 2).val : ℝ) : EReal)
  unfold W
  by_cases h : (i 2).val ≤ (i 1).val
  · rw [if_pos h, if_pos h, ← EReal.coe_sub, Ideal.exp_coe]
  · rw [if_neg h, if_neg h]; rfl

namespace K

open Cert.KernelIdeal Cert.KernelIdeal.Gen

variable {y : In} {x : Rd} (H : Is y x)
include H

theorem v0 : t_v0 y = up3 fun h i j => ∑ d ∈ Finset.range 96, x.Q i h d * x.K j h d := by
  unfold t_v0
  rw [H.q, H.k]
  funext j
  refine (dot1 dot_S16384x8x96_S16384x8x96_S8x16384x16384_2_2_0_0_1_1 96 rfl rfl none (up3 x.Q) (up3 x.K) j
    (fun k => ((x.Q (j 1).val (j 0).val k.val : ℝ) : EReal)) (fun k => ((x.K (j 2).val (j 0).val k.val : ℝ) : EReal)) (fun k c hk => ?_) (fun k c hk => ?_)).trans ?_
  · rw [← hk]; rfl
  · rw [← hk]; rfl
  · show _ = ((∑ d ∈ Finset.range 96, _ : ℝ) : EReal)
    rw [coe_sum_fin]
    exact Finset.sum_congr rfl fun k _ => (EReal.coe_mul _ _).symm

theorem v2 : t_v2 y = up3 (S x) := by
  unfold t_v2 t_v1
  rw [v0 H, show broadcastInDim S8x16384x16384 ![] bcast_S_S8x16384x16384 (t_cst y) = up3 fun _ _ _ => sc from scal3 _ (fun _ => ofBits_scale) _]
  exact mul3 .f32 _ _

theorem v5 (j : S1x16384x16384.Idx) : t_v5 y j = y.p (ix1 (j 2)) := by
  unfold t_v5 t_v3
  refine (broadcastInDim_apply _ _ _ j (ix3 (0 : Fin 1) (0 : Fin 1) (j 2)) (by
    intro x; match x with | ⟨0, _⟩ => rfl | ⟨1, _⟩ => rfl | ⟨2, _⟩ => rfl)).trans ?_
  exact broadcastInDim_apply _ _ _ _ (ix1 (j 2)) (by intro x; match x with | ⟨0, _⟩ => rfl)

theorem v6 (j : S1x16384x16384.Idx) : t_v6 y j = y.p (ix1 (j 1)) := by
  unfold t_v6 t_v4
  refine (broadcastInDim_apply _ _ _ j (ix3 (0 : Fin 1) (j 1) (0 : Fin 1)) (by
    intro x; match x with | ⟨0, _⟩ => rfl | ⟨1, _⟩ => rfl | ⟨2, _⟩ => rfl)).trans ?_
  exact broadcastInDim_apply _ _ _ _ (ix1 (j 1)) (by intro x; match x with | ⟨0, _⟩ => rfl)

theorem v7 (j : S1x16384x16384.Idx) : t_v7 y j = BitVec.ofBool (decide ((j 2).val ≤ (j 1).val)) := by
  have h1 : (j 1).val < 16384 := (j 1).isLt
  have h2 : (j 2).val < 16384 := (j 2).isLt
  show IntOp.cmpi .sle (t_v5 y j) (t_v6 y j) = _
  rw [v5 H, v6 H, show IntOp.cmpi .sle (y.p (ix1 (j 2))) (y.p (ix1 (j 1))) = BitVec.ofBool (decide ((y.p (ix1 (j 2))).toInt ≤ (y.p (ix1 (j 1))).toInt)) from rfl]
  refine congrArg BitVec.ofBool (decide_eq_decide.2 ?_)
  rw [← H.mono (j 1).val (j 2).val h1 h2]
  have e1 : ((y.p (ix1 (j 1))).toInt : ℝ) = x.p (j 1).val := H.p (j 1)
  have e2 : ((y.p (ix1 (j 2))).toInt : ℝ) = x.p (j 2).val := H.p (j 2)
  rw [← e1, ← e2, Int.cast_le]

theorem v7b (j : S8x16384x16384.Idx) :
    broadcastInDim S8x16384x16384 ![0, 1, 2] bcast_S1x16384x16384_S8x16384x16384_0_1_2 (t_v7 y) j = BitVec.ofBool (decide ((j 2).val ≤ (j 1).val)) := by
  refine (broadcastInDim_apply _ _ _ j (ix3 (0 : Fin 1) (j 1) (j 2)) (by
    intro x; match x with | ⟨0, _⟩ => rfl | ⟨1, _⟩ => rfl | ⟨2, _⟩ => rfl)).trans ?_
  exact v7 H _

theorem v8 : t_v8 y = msk x := by
  unfold t_v8
  rw [v2 H]
  funext j
  show Scalar.select (broadcastInDim S8x16384x16384 ![0, 1, 2] bcast_S1x16384x16384_S8x16384x16384_0_1_2 (t_v7 y) j)
    ((S x (j 0).val (j 1).val (j 2).val : ℝ) : EReal) (Ideal.ofBits .f32 0xFF800000#32) = _
  rw [v7b H j]
  unfold msk
  by_cases h : (j 2).val ≤ (j 1).val
  · rw [if_pos h, decide_eq_true h]; exact select_one _ _
  · rw [if_neg h, decide_eq_false h]
    refine (select_zero _ _).trans ?_
    simp [Ideal.ofBits, Ideal.ieee]

theorem v9 : t_v9 y = up (M x) := by
  unfold t_v9 t_cst_2
  rw [v8 H]
  funext j
  have h1 : (j 1).val < 16384 := (j 1).isLt
  refine (max3 (msk x) _ (by decide) h_S_ j).trans ?_
  show _ = ((M x (j 0).val (j 1).val : ℝ) : EReal)
  rw [M_coe x h1]
  rfl

theorem v10 : t_v10 y = up3 fun h i _ => M x h i := by
  unfold t_v10; rw [v9 H]; exact col3 _ _

theorem v13 : t_v13 y = up3 (W x) := by
  unfold t_v13 t_v12
  rw [v8 H]
  refine exp_msk x _ ?_
  unfold t_v11; rw [v10 H]; exact lanes3 _ _

theorem v14 : t_v14 y = up (L x) := by
  unfold t_v14
  rw [v13 H]
  exact sum3 (W x) (t_cst_3 y) (fun _ => Ideal.ofBits_zero_f32) _ (by decide) h_S_

theorem v15 : t_v15 y = up3 fun h i _ => L x h i := by
  unfold t_v15; rw [v14 H]; exact col3 _ _

theorem v20 : t_v20 y = up3 fun h i _ => Ls x h i := by
  unfold t_v20 t_v19 t_v17 t_v16
  rw [v10 H, v15 H]
  rw [show Host.log (F := Ideal) (φ := .f32) (up3 fun h i _ => L x h i : S8x16384x1.Idx → EReal) = up3 fun h i _ => Real.log (L x h i) from
    log3 .f32 _ fun h i k _ hi _ => L_pos x hi]
  rw [show broadcastInDim S8x16384x1 ![] bcast_S_S8x16384x1 (t_v18 y) = up3 fun _ _ _ => Real.log 2 from scal3 _ (fun _ => by
    show Ideal.log (Ideal.ofBits .f32 0x40000000#32) = _
    rw [show Ideal.ofBits .f32 0x40000000#32 = ((2 : ℝ) : EReal) by simp [Ideal.ofBits, Ideal.ieee, -EReal.coe_mul]; norm_num]
    rw [Ideal.log_coe, if_neg (by norm_num)]) _]
  refine (congrArg (fun z => Host.divf (F := Ideal) (φ := .f32) z _) (add3 .f32 _ _)).trans ?_
  exact div3 .f32 _ _ fun _ _ _ _ _ _ => (Real.log_pos (by norm_num)).ne'

theorem v22 : t_v22 y = up3 (Pr x) := by
  unfold t_v22 t_v21
  rw [v13 H, v15 H]
  refine (congrArg (fun z => Host.divf (F := Ideal) (φ := .f32) _ z) (lanes3 _ _)).trans ?_
  exact div3 .f32 _ _ fun h i k _ hi _ => (L_pos x hi).ne'

theorem v23 : t_v23 y = up3 fun h e i => ∑ j ∈ Finset.range 16384, x.V j h e * Pr x h i j := by
  unfold t_v23
  rw [v22 H, H.v]
  funext j
  refine (dot1 dot_S16384x8x64_S8x16384x16384_S8x64x16384_0_2_2_1_1_0 16384 rfl rfl none (up3 x.V) (up3 (Pr x)) j
    (fun k => ((x.V k.val (j 0).val (j 1).val : ℝ) : EReal)) (fun k => ((Pr x (j 0).val (j 2).val k.val : ℝ) : EReal)) (fun k c hk => ?_) (fun k c hk => ?_)).trans ?_
  · rw [← hk]; rfl
  · rw [← hk]; rfl
  · show _ = ((∑ d ∈ Finset.range 16384, _ : ℝ) : EReal)
    rw [coe_sum_fin]
    exact Finset.sum_congr rfl fun k _ => (EReal.coe_mul _ _).symm

theorem v26 : t_v26 y = up (Dl x) := by
  unfold t_v26 t_v25 t_v24
  rw [v23 H, H.go]
  refine (congrArg (fun z => Host.reduceAdd (F := Ideal) (φ := .f32) (mulf (F := Ideal) (φ := .f32) (up3 x.G) z) _ _ _) (tr201 _ _)).trans ?_
  refine (congrArg (fun z => Host.reduceAdd (F := Ideal) (φ := .f32) z _ _ _) (mul3 .f32 _ _)).trans ?_
  exact sum3 _ (t_cst_5 y) (fun _ => Ideal.ofBits_zero_f32) _ (by decide) h_S_

theorem v30 : t_v30 y = up (pd 96 x.Q) := by
  unfold t_v30 t_v29 t_v28
  rw [H.q]
  refine (congrArg (fun z => shapeCast S16384x1024 z shapeCasts_S16384x8x128_S16384x1024) (pad3 x.Q (t_cst_6 y) (fun _ => Ideal.ofBits_zero_f32) pads_S16384x8x96_S16384x8x128_000_000_0320 h_S_)).trans ?_
  exact flat3 _ _
theorem v33 : t_v33 y = up (pd 96 x.K) := by
  unfold t_v33 t_v32 t_v31
  rw [H.k]
  refine (congrArg (fun z => shapeCast S16384x1024 z shapeCasts_S16384x8x128_S16384x1024) (pad3 x.K (t_cst_7 y) (fun _ => Ideal.ofBits_zero_f32) pads_S16384x8x96_S16384x8x128_000_000_0320 h_S_)).trans ?_
  exact flat3 _ _
theorem v36 : t_v36 y = up (pd 64 x.V) := by
  unfold t_v36 t_v35 t_v34
  rw [H.v]
  refine (congrArg (fun z => shapeCast S16384x1024 z shapeCasts_S16384x8x128_S16384x1024) (pad3 x.V (t_cst_8 y) (fun _ => Ideal.ofBits_zero_f32) pads_S16384x8x64_S16384x8x128_000_000_0640 h_S_)).trans ?_
  exact flat3 _ _
theorem v38 : t_v38 y = up (pd 64 x.G) := by
  unfold t_v38 t_v37
  rw [H.go]
  refine (congrArg (fun z => shapeCast S16384x1024 z shapeCasts_S16384x8x128_S16384x1024) (pad3 x.G (t_cst_9 y) (fun _ => Ideal.ofBits_zero_f32) pads_S16384x8x64_S16384x8x128_000_000_0640 h_S_)).trans ?_
  exact flat3 _ _

theorem v39 : t_v39 y = up3 fun i h _ => Dl x i h := by unfold t_v39; rw [v26 H]; exact col3 _ _
theorem v40 : t_v40 y = up3 fun i h _ => Dl x i h := by unfold t_v40; rw [v39 H]; exact lanes3 _ _
theorem v41 : t_v41 y = up fun i l => Dl x i (l / 128) := by unfold t_v41; rw [v40 H]; exact flat3 _ _
theorem v42 : t_v42 y = up fun h i => Ls x h i := by unfold t_v42; rw [v20 H]; exact drop1 _ _
theorem v43 : t_v43 y = up fun i h => Ls x h i := by unfold t_v43; rw [v42 H]; exact tr10 _ _
theorem v44 : t_v44 y = up3 fun i h _ => Ls x h i := by unfold t_v44; rw [v43 H]; exact col3 _ _
theorem v45 : t_v45 y = up3 fun i h _ => Ls x h i := by unfold t_v45; rw [v44 H]; exact lanes3 _ _
theorem v46 : t_v46 y = up fun i l => Ls x (l / 128) i := by unfold t_v46; rw [v45 H]; exact flat3 _ _

theorem v47 : t_v47 y = up fun i _ => x.p i := by
  unfold t_v47 t_v27
  funext j
  have h1 : (j 1).val < 1 := (j 1).isLt
  refine (shapeCast_apply _ _ j (ix1 (j 0)) (by
    rw [Shape.rowMajor_val_one, Shape.rowMajor_val_two]
    show (j 0).val = (j 0).val * 1 + (j 1).val
    omega)).trans ?_
  exact congrArg (fun r : ℝ => (r : EReal)) (H.p (j 0))
theorem v48 : t_v48 y = up fun _ j => x.p j := by
  unfold t_v48 t_v27
  funext j
  have h1 : (j 0).val < 1 := (j 0).isLt
  refine (shapeCast_apply _ _ j (ix1 (j 1)) (by
    rw [Shape.rowMajor_val_one, Shape.rowMajor_val_two]
    show (j 1).val = (j 0).val * 16384 + (j 1).val
    omega)).trans ?_
  exact congrArg (fun r : ℝ => (r : EReal)) (H.p (j 1))

end K

end Cert.Proof.Val

end
-- ==== Proof.HostR.lean ====
/-
  What the reference leaves in its results.
-/
module

public import proofs.«01_k».proof.Proof.Gen.ReferenceIdeal
public import proofs.«01_k».proof.Proof.HostIn
public import Idealize.ShloMosaic.Lib.Claim
public import Idealize.ShloMosaic.Lib.Quiescent

@[expose] public section

set_option maxRecDepth 16384

noncomputable section

namespace Cert.Proof.Val.R

open Cert.ReferenceIdeal Cert.ReferenceIdeal.Gen
open Idealize.ShloMosaic Idealize.ShloMosaic.TcCoe

def t_v0 (x : In) : FVec Ideal S8x16384x16384 .f32 := Host.dotGeneral dot_S16384x8x96_S16384x8x96_S8x16384x16384_2_2_0_0_1_1 none x.q x.k
def t_cst (x : In) : FVec Ideal S_ .f32 := constant (F := Ideal) S_ .f32 0x3DD105EC#32
def t_v1 (x : In) : FVec Ideal S8x16384x16384 .f32 := broadcastInDim S8x16384x16384 ![] bcast_S_S8x16384x16384 (t_cst x)
def t_v2 (x : In) : FVec Ideal S8x16384x16384 .f32 := mulf (t_v0 x) (t_v1 x)
def t_v3 (x : In) : Vec Ideal S1x1x16384 .i32 := broadcastInDim S1x1x16384 ![2] bcast_S16384_S1x1x16384_2 x.p
def t_v4 (x : In) : Vec Ideal S1x16384x1 .i32 := broadcastInDim S1x16384x1 ![1] bcast_S16384_S1x16384x1_1 x.p
def t_v5 (x : In) : Vec Ideal S1x16384x16384 .i32 := broadcastInDim S1x16384x16384 ![0, 1, 2] bcast_S1x1x16384_S1x16384x16384_0_1_2 (t_v3 x)
def t_v6 (x : In) : Vec Ideal S1x16384x16384 .i32 := broadcastInDim S1x16384x16384 ![0, 1, 2] bcast_S1x16384x1_S1x16384x16384_0_1_2 (t_v4 x)
def t_v7 (x : In) : Vec Ideal S1x16384x16384 .i1 := cmpi .sle (t_v5 x) (t_v6 x)
def t_cst_0 (x : In) : FVec Ideal S_ .f32 := constant (F := Ideal) S_ .f32 0xFF800000#32
def t_v8_1 (x : In) : Vec Ideal S8x16384x16384 .i1 := broadcastInDim S8x16384x16384 ![0, 1, 2] bcast_S1x16384x16384_S8x16384x16384_0_1_2 (t_v7 x)
def t_v8_0 (x : In) : FVec Ideal S8x16384x16384 .f32 := select (t_v8_1 x) (t_v2 x) (broadcastInDim S8x16384x16384 ![] bcast_S_S8x16384x16384 (t_cst_0 x))
def t_cst_1 (x : In) : FVec Ideal S_ .f32 := constant (F := Ideal) S_ .f32 0xFF800000#32
def t_v9 (x : In) : FVec Ideal S8x16384 .f32 := Host.reduce (FloatOps.maximumf (F := Ideal) (φ := .f32)) (t_v8_0 x) (t_cst_1 x) reducesTo_S8x16384x16384_S8x16384_d2 h_S_
def t_cst_3 (x : In) : FVec Ideal S_ .f32 := constant (F := Ideal) S_ .f32 0xFF800000#32
def t_v15 (x : In) : FVec Ideal S8x16384 .f32 := broadcastInDim S8x16384 ![] bcast_S_S8x16384 (t_cst_3 x)
def t_v16 (x : In) : FVec Ideal S8x16384 .f32 := maximumf (t_v15 x) (t_v9 x)
def t_v26 (x : In) : FVec Ideal S8x16384x1 .f32 := broadcastInDim S8x16384x1 ![0, 1] bcast_S8x16384_S8x16384x1_0_1 (t_v16 x)
def t_v27 (x : In) : FVec Ideal S8x16384x16384 .f32 := broadcastInDim S8x16384x16384 ![0, 1, 2] bcast_S8x16384x1_S8x16384x16384_0_1_2 (t_v26 x)
def t_v28 (x : In) : FVec Ideal S8x16384x16384 .f32 := subf (t_v8_0 x) (t_v27 x)
def t_v29 (x : In) : FVec Ideal S8x16384x16384 .f32 := Host.exp (t_v28 x)
def t_cst_9 (x : In) : FVec Ideal S_ .f32 := constant (F := Ideal) S_ .f32 0x00000000#32
def t_v30 (x : In) : FVec Ideal S8x16384 .f32 := Host.reduceAdd (t_v29 x) (t_cst_9 x) reducesTo_S8x16384x16384_S8x16384_d2 h_S_
def t_v31 (x : In) : FVec Ideal S8x16384x1 .f32 := broadcastInDim S8x16384x1 ![0, 1] bcast_S8x16384_S8x16384x1_0_1 (t_v30 x)
def t_v32 (x : In) : FVec Ideal S8x16384x16384 .f32 := broadcastInDim S8x16384x16384 ![0, 1, 2] bcast_S8x16384x1_S8x16384x16384_0_1_2 (t_v31 x)
def t_v33 (x : In) : FVec Ideal S8x16384x16384 .f32 := Host.divf (t_v29 x) (t_v32 x)
def t_v34 (x : In) : FVec Ideal S8x16384x1 .f32 := mulf (t_v31 x) (t_v31 x)
def t_cst_10 (x : In) : FVec Ideal S_ .f32 := constant (F := Ideal) S_ .f32 0x3F800000#32
def t_v35 (x : In) : FVec Ideal S8x16384x1 .f32 := broadcastInDim S8x16384x1 ![] bcast_S_S8x16384x1 (t_cst_10 x)
def t_v36 (x : In) : FVec Ideal S8x16384x1 .f32 := Host.divf (t_v35 x) (t_v34 x)
def t_v39 (x : In) : FVec Ideal S8x64x16384 .f32 := transpose S8x64x16384 [1, 2, 0] x.go transposes_S16384x8x64_S8x64x16384_1_2_0
def t_v40 (x : In) : FVec Ideal S8x16384x16384 .f32 := Host.dotGeneral dot_S8x64x16384_S16384x8x64_S8x16384x16384_1_2_2_0_0_1 none (t_v39 x) x.v
def t_v41 (x : In) : FVec Ideal S8x64x16384 .f32 := Host.dotGeneral dot_S8x64x16384_S8x16384x16384_S8x64x16384_2_1_1_2_0_0 none (t_v39 x) (t_v33 x)
def t_v42 (x : In) : FVec Ideal S16384x8x64 .f32 := transpose S16384x8x64 [2, 0, 1] (t_v41 x) transposes_S8x64x16384_S16384x8x64_2_0_1
def t_v43 (x : In) : FVec Ideal S8x16384x16384 .f32 := broadcastInDim S8x16384x16384 ![0, 1, 2] bcast_S8x16384x1_S8x16384x16384_0_1_2 (t_v36 x)
def t_v44 (x : In) : FVec Ideal S8x16384x16384 .f32 := mulf (t_v40 x) (t_v43 x)
def t_v45 (x : In) : FVec Ideal S8x16384x16384 .f32 := mulf (t_v44 x) (t_v29 x)
def t_cst_11 (x : In) : FVec Ideal S_ .f32 := constant (F := Ideal) S_ .f32 0x00000000#32
def t_v46 (x : In) : FVec Ideal S8x16384 .f32 := Host.reduceAdd (t_v45 x) (t_cst_11 x) reducesTo_S8x16384x16384_S8x16384_d2 h_S_
def t_v47 (x : In) : FVec Ideal S8x16384x1 .f32 := shapeCast S8x16384x1 (t_v46 x) shapeCasts_S8x16384_S8x16384x1
def t_v48 (x : In) : FVec Ideal S8x16384x1 .f32 := Host.negf (t_v47 x)
def t_v49 (x : In) : FVec Ideal S8x16384x16384 .f32 := broadcastInDim S8x16384x16384 ![0, 1, 2] bcast_S8x16384x1_S8x16384x16384_0_1_2 (t_v31 x)
def t_v50 (x : In) : FVec Ideal S8x16384x16384 .f32 := Host.divf (t_v40 x) (t_v49 x)
def t_cst_12 (x : In) : FVec Ideal S_ .f32 := constant (F := Ideal) S_ .f32 0x00000000#32
def t_v51 (x : In) : FVec Ideal S8x16384 .f32 := Host.reduceAdd (t_v48 x) (t_cst_12 x) reducesTo_S8x16384x1_S8x16384_d2 h_S_
def t_v52 (x : In) : FVec Ideal S8x16384x16384 .f32 := broadcastInDim S8x16384x16384 ![0, 1] bcast_S8x16384_S8x16384x16384_0_1 (t_v51 x)
def t_v53 (x : In) : FVec Ideal S8x16384x16384 .f32 := addf (t_v50 x) (t_v52 x)
def t_v54 (x : In) : FVec Ideal S8x16384x16384 .f32 := mulf (t_v53 x) (t_v29 x)
def t_v55 (x : In) : FVec Ideal S8x16384x16384 .f32 := select (t_v8_1 x) (t_v54 x) (broadcastInDim S8x16384x16384 ![] bcast_S_S8x16384x16384 (constant (F := Ideal) S_ .f32 0x00000000#32))
def t_cst_13 (x : In) : FVec Ideal S_ .f32 := constant (F := Ideal) S_ .f32 0x3DD105EC#32
def t_v56 (x : In) : FVec Ideal S8x16384x16384 .f32 := broadcastInDim S8x16384x16384 ![] bcast_S_S8x16384x16384 (t_cst_13 x)
def t_v57 (x : In) : FVec Ideal S8x16384x16384 .f32 := mulf (t_v55 x) (t_v56 x)
def t_v58 (x : In) : FVec Ideal S8x16384x96 .f32 := Host.dotGeneral dot_S8x16384x16384_S16384x8x96_S8x16384x96_1_0_2_2_0_1 none (t_v57 x) x.q
def t_v59 (x : In) : FVec Ideal S16384x8x96 .f32 := transpose S16384x8x96 [1, 0, 2] (t_v58 x) transposes_S8x16384x96_S16384x8x96_1_0_2
def t_v60 (x : In) : FVec Ideal S8x16384x96 .f32 := Host.dotGeneral dot_S8x16384x16384_S16384x8x96_S8x16384x96_2_0_1_2_0_1 none (t_v57 x) x.k
def t_v61 (x : In) : FVec Ideal S16384x8x96 .f32 := transpose S16384x8x96 [1, 0, 2] (t_v60 x) transposes_S8x16384x96_S16384x8x96_1_0_2
def t_cst_14 (x : In) : FVec Ideal S_ .f32 := constant (F := Ideal) S_ .f32 0x00000000#32
def t_v62 (x : In) : FVec Ideal S16384x8x128 .f32 := pad S16384x8x128 ![0, 0, 0] ![0, 0, 32] ![0, 0, 0] (t_v61 x) (t_cst_14 x) pads_S16384x8x96_S16384x8x128_000_000_0320 h_S_
def t_v63 (x : In) : FVec Ideal S16384x1024 .f32 := shapeCast S16384x1024 (t_v62 x) shapeCasts_S16384x8x128_S16384x1024
def t_cst_15 (x : In) : FVec Ideal S_ .f32 := constant (F := Ideal) S_ .f32 0x00000000#32
def t_v64 (x : In) : FVec Ideal S16384x8x128 .f32 := pad S16384x8x128 ![0, 0, 0] ![0, 0, 32] ![0, 0, 0] (t_v59 x) (t_cst_15 x) pads_S16384x8x96_S16384x8x128_000_000_0320 h_S_
def t_v65 (x : In) : FVec Ideal S16384x1024 .f32 := shapeCast S16384x1024 (t_v64 x) shapeCasts_S16384x8x128_S16384x1024
def t_cst_16 (x : In) : FVec Ideal S_ .f32 := constant (F := Ideal) S_ .f32 0x00000000#32
def t_v66 (x : In) : FVec Ideal S16384x8x128 .f32 := pad S16384x8x128 ![0, 0, 0] ![0, 0, 64] ![0, 0, 0] (t_v42 x) (t_cst_16 x) pads_S16384x8x64_S16384x8x128_000_000_0640 h_S_
def t_v67 (x : In) : FVec Ideal S16384x1024 .f32 := shapeCast S16384x1024 (t_v66 x) shapeCasts_S16384x8x128_S16384x1024

variable (m : (ℓ : Loc nD τ sig) → Buf (Elt Ideal) ℓ) (g : Dev nD → PrngReg)

/-- The inputs as the reference finds them. -/
def inp (c : Dev nD) : In := ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩

set_option maxRecDepth 4000 in
set_option maxHeartbeats 8000000 in
theorem run : θ_run (defs (F := Ideal)) (onTc (τ := τ) (main (F := Ideal))) ⟨m, fun _ => 0, g⟩ (fun r => ∀ c : Dev nD,
      (r.2.mem ((c.tc : Thread nD τ).loc main_v63) = t_v63 (inp m c)
      ∧ r.2.mem ((c.tc : Thread nD τ).loc main_v65) = t_v65 (inp m c)
      ∧ r.2.mem ((c.tc : Thread nD τ).loc main_v67) = t_v67 (inp m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  all_goals rfl

theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => (h c).2, sem_eq_zero_of_no_sems (by decide) r.2⟩) (run m g)

end Cert.Proof.Val.R

end
-- ==== Proof.ValRef.lean ====
/-
  What the reference leaves, on real inputs.
-/
module

public import proofs.«01_k».proof.Proof.ValHost
public import proofs.«01_k».proof.Proof.HostR

@[expose] public section

noncomputable section

namespace Cert.Proof.Val.R

open Idealize.ShloMosaic Idealize.ShloMosaic.ValueIdx
open Cert.ReferenceIdeal Cert.ReferenceIdeal.Gen

variable {y : In} {x : Rd} (H : Is y x)
include H

theorem v8b (j : S8x16384x16384.Idx) : t_v8_1 y j = BitVec.ofBool (decide ((j 2).val ≤ (j 1).val)) := K.v7b H j

theorem v8 : t_v8_0 y = msk x := K.v8 H

theorem v9 : t_v9 y = up (M x) := K.v9 H

theorem v16 : t_v16 y = up (M x) := by
  unfold t_v16
  rw [v9 H]
  funext j
  show max (Ideal.ofBits .f32 0xFF800000#32) ((M x (j 0).val (j 1).val : ℝ) : EReal) = ((M x (j 0).val (j 1).val : ℝ) : EReal)
  rw [show Ideal.ofBits .f32 0xFF800000#32 = (⊥ : EReal) by simp [Ideal.ofBits, Ideal.ieee]]
  exact max_eq_right bot_le

theorem v26 : t_v26 y = up3 fun h i _ => M x h i := by unfold t_v26; rw [v16 H]; exact col3 _ _
theorem v27 : t_v27 y = up3 fun h i _ => M x h i := by unfold t_v27; rw [v26 H]; exact lanes3 _ _
theorem v29 : t_v29 y = up3 (W x) := by
  unfold t_v29 t_v28
  rw [v8 H, v27 H]
  exact exp_msk x _ rfl
theorem v30 : t_v30 y = up (L x) := by
  unfold t_v30; rw [v29 H]
  exact sum3 (W x) (t_cst_9 y) (fun _ => Ideal.ofBits_zero_f32) _ (by decide) h_S_
theorem v31 : t_v31 y = up3 fun h i _ => L x h i := by unfold t_v31; rw [v30 H]; exact col3 _ _
theorem v32 : t_v32 y = up3 fun h i _ => L x h i := by unfold t_v32; rw [v31 H]; exact lanes3 _ _
theorem v33 : t_v33 y = up3 (Pr x) := by
  unfold t_v33; rw [v29 H, v32 H]
  exact div3 .f32 _ _ fun h i k _ hi _ => (L_pos x hi).ne'
theorem v34 : t_v34 y = up3 fun h i _ => L x h i * L x h i := by unfold t_v34; rw [v31 H]; exact mul3 .f32 _ _
theorem v35 : t_v35 y = up3 fun _ _ _ => 1 := scal3 _ (fun _ => Ideal.ofBits_one_f32) _
theorem v36 : t_v36 y = up3 fun h i _ => 1 / (L x h i * L x h i) := by
  unfold t_v36; rw [v34 H, v35 H]
  exact div3 .f32 _ _ fun h i k _ hi _ => (mul_pos (L_pos x hi) (L_pos x hi)).ne'
theorem v39 : t_v39 y = up3 fun h e i => x.G i h e := by unfold t_v39; rw [H.go]; exact tr120 _ _

theorem v40 : t_v40 y = up3 (DP x) := by
  unfold t_v40
  rw [v39 H, H.v]
  funext j
  refine (dot1 dot_S8x64x16384_S16384x8x64_S8x16384x16384_1_2_2_0_0_1 64 rfl rfl none (up3 fun h e i => x.G i h e) (up3 x.V) j
    (fun k => ((x.G (j 1).val (j 0).val k.val : ℝ) : EReal)) (fun k => ((x.V (j 2).val (j 0).val k.val : ℝ) : EReal)) (fun k c hk => ?_) (fun k c hk => ?_)).trans ?_
  · rw [← hk]; rfl
  · rw [← hk]; rfl
  · show _ = ((∑ d ∈ Finset.range 64, _ : ℝ) : EReal)
    rw [coe_sum_fin]
    exact Finset.sum_congr rfl fun k _ => (EReal.coe_mul _ _).symm

theorem v41 : t_v41 y = up3 fun h e j => dV x j h e := by
  unfold t_v41
  rw [v39 H, v33 H]
  funext j
  refine (dot1 dot_S8x64x16384_S8x16384x16384_S8x64x16384_2_1_1_2_0_0 16384 rfl rfl none (up3 fun h e i => x.G i h e) (up3 (Pr x)) j
    (fun k => ((x.G k.val (j 0).val (j 1).val : ℝ) : EReal)) (fun k => ((Pr x (j 0).val k.val (j 2).val : ℝ) : EReal)) (fun k c hk => ?_) (fun k c hk => ?_)).trans ?_
  · rw [← hk]; rfl
  · rw [← hk]; rfl
  · show _ = ((∑ d ∈ Finset.range 16384, _ : ℝ) : EReal)
    rw [coe_sum_fin]
    exact Finset.sum_congr rfl fun k _ => (EReal.coe_mul _ _).symm

theorem v42 : t_v42 y = up3 (dV x) := by unfold t_v42; rw [v41 H]; exact tr201 _ _
theorem v43 : t_v43 y = up3 fun h i _ => 1 / (L x h i * L x h i) := by unfold t_v43; rw [v36 H]; exact lanes3 _ _
theorem v44 : t_v44 y = up3 fun h i j => DP x h i j * (1 / (L x h i * L x h i)) := by unfold t_v44; rw [v40 H, v43 H]; exact mul3 .f32 _ _
theorem v45 : t_v45 y = up3 fun h i j => DP x h i j * (1 / (L x h i * L x h i)) * W x h i j := by
  unfold t_v45; rw [v44 H, v29 H]; exact mul3 .f32 _ _
theorem v46 : t_v46 y = up fun h i => ∑ j ∈ Finset.range 16384, DP x h i j * (1 / (L x h i * L x h i)) * W x h i j := by
  unfold t_v46; rw [v45 H]
  exact sum3 _ (t_cst_11 y) (fun _ => Ideal.ofBits_zero_f32) _ (by decide) h_S_
theorem v47 : t_v47 y = up3 fun h i _ => ∑ j ∈ Finset.range 16384, DP x h i j * (1 / (L x h i * L x h i)) * W x h i j := by
  unfold t_v47; rw [v46 H]; exact put1 _ _
theorem v48 : t_v48 y = up3 fun h i _ => -∑ j ∈ Finset.range 16384, DP x h i j * (1 / (L x h i * L x h i)) * W x h i j := by
  unfold t_v48; rw [v47 H]; exact neg3 .f32 _
theorem v49 : t_v49 y = up3 fun h i _ => L x h i := by unfold t_v49; rw [v31 H]; exact lanes3 _ _
theorem v50 : t_v50 y = up3 fun h i j => DP x h i j / L x h i := by
  unfold t_v50; rw [v40 H, v49 H]
  exact div3 .f32 _ _ fun h i k _ hi _ => (L_pos x hi).ne'
theorem v51 : t_v51 y = up fun h i => -∑ j ∈ Finset.range 16384, DP x h i j * (1 / (L x h i * L x h i)) * W x h i j := by
  unfold t_v51; rw [v48 H]
  refine (sum3 _ (t_cst_12 y) (fun _ => Ideal.ofBits_zero_f32) _ (by decide) h_S_).trans ?_
  exact up_congr fun h i _ _ => Finset.sum_range_one _
theorem v52 : t_v52 y = up3 fun h i _ => -∑ j ∈ Finset.range 16384, DP x h i j * (1 / (L x h i * L x h i)) * W x h i j := by
  unfold t_v52; rw [v51 H]; exact col3 _ _
theorem v53 : t_v53 y = up3 fun h i j => DP x h i j / L x h i + -∑ j ∈ Finset.range 16384, DP x h i j * (1 / (L x h i * L x h i)) * W x h i j := by
  unfold t_v53; rw [v50 H, v52 H]; exact add3 .f32 _ _
theorem v54 : t_v54 y = up3 fun h i j => (DP x h i j / L x h i + -∑ j ∈ Finset.range 16384, DP x h i j * (1 / (L x h i * L x h i)) * W x h i j) * W x h i j := by
  unfold t_v54; rw [v53 H, v29 H]; exact mul3 .f32 _ _
theorem v55 : t_v55 y = up3 (DS x) := by
  unfold t_v55
  rw [v54 H]
  funext j
  show Scalar.select (t_v8_1 y j) (((DP x (j 0).val (j 1).val (j 2).val / L x (j 0).val (j 1).val + -_) * W x (j 0).val (j 1).val (j 2).val : ℝ) : EReal) (Ideal.ofBits .f32 0x00000000#32)
    = ((DS x (j 0).val (j 1).val (j 2).val : ℝ) : EReal)
  rw [v8b H j]
  unfold DS
  by_cases h : (j 2).val ≤ (j 1).val
  · rw [if_pos h, decide_eq_true h]; exact select_one _ _
  · rw [if_neg h, decide_eq_false h]
    exact (select_zero _ _).trans Ideal.ofBits_zero_f32
theorem v56 : t_v56 y = up3 fun _ _ _ => sc := scal3 _ (fun _ => ofBits_scale) _
theorem v57 : t_v57 y = up3 fun h i j => DS x h i j * sc := by unfold t_v57; rw [v55 H, v56 H]; exact mul3 .f32 _ _

theorem v58 : t_v58 y = up3 fun h j d => dK x j h d := by
  unfold t_v58
  rw [v57 H, H.q]
  funext j
  refine (dot1 dot_S8x16384x16384_S16384x8x96_S8x16384x96_1_0_2_2_0_1 16384 rfl rfl none (up3 fun h i j => DS x h i j * sc) (up3 x.Q) j
    (fun k => ((DS x (j 0).val k.val (j 1).val * sc : ℝ) : EReal)) (fun k => ((x.Q k.val (j 0).val (j 2).val : ℝ) : EReal)) (fun k c hk => ?_) (fun k c hk => ?_)).trans ?_
  · rw [← hk]; rfl
  · rw [← hk]; rfl
  · show _ = ((∑ d ∈ Finset.range 16384, _ : ℝ) : EReal)
    rw [coe_sum_fin]
    exact Finset.sum_congr rfl fun k _ => (EReal.coe_mul _ _).symm
theorem v59 : t_v59 y = up3 (dK x) := by unfold t_v59; rw [v58 H]; exact tr102 _ _
theorem v60 : t_v60 y = up3 fun h i d => dQ x i h d := by
  unfold t_v60
  rw [v57 H, H.k]
  funext j
  refine (dot1 dot_S8x16384x16384_S16384x8x96_S8x16384x96_2_0_1_2_0_1 16384 rfl rfl none (up3 fun h i j => DS x h i j * sc) (up3 x.K) j
    (fun k => ((DS x (j 0).val (j 1).val k.val * sc : ℝ) : EReal)) (fun k => ((x.K k.val (j 0).val (j 2).val : ℝ) : EReal)) (fun k c hk => ?_) (fun k c hk => ?_)).trans ?_
  · rw [← hk]; rfl
  · rw [← hk]; rfl
  · show _ = ((∑ d ∈ Finset.range 16384, _ : ℝ) : EReal)
    rw [coe_sum_fin]
    exact Finset.sum_congr rfl fun k _ => (EReal.coe_mul _ _).symm
theorem v61 : t_v61 y = up3 (dQ x) := by unfold t_v61; rw [v60 H]; exact tr102 _ _

theorem v63 : t_v63 y = up (pd 96 (dQ x)) := by
  unfold t_v63 t_v62
  rw [v61 H]
  refine (congrArg (fun z => shapeCast S16384x1024 z shapeCasts_S16384x8x128_S16384x1024) (pad3 (dQ x) (t_cst_14 y) (fun _ => Ideal.ofBits_zero_f32) pads_S16384x8x96_S16384x8x128_000_000_0320 h_S_)).trans ?_
  exact flat3 _ _
theorem v65 : t_v65 y = up (pd 96 (dK x)) := by
  unfold t_v65 t_v64
  rw [v59 H]
  refine (congrArg (fun z => shapeCast S16384x1024 z shapeCasts_S16384x8x128_S16384x1024) (pad3 (dK x) (t_cst_15 y) (fun _ => Ideal.ofBits_zero_f32) pads_S16384x8x96_S16384x8x128_000_000_0320 h_S_)).trans ?_
  exact flat3 _ _
theorem v67 : t_v67 y = up (pd 64 (dV x)) := by
  unfold t_v67 t_v66
  rw [v42 H]
  refine (congrArg (fun z => shapeCast S16384x1024 z shapeCasts_S16384x8x128_S16384x1024) (pad3 (dV x) (t_cst_16 y) (fun _ => Ideal.ofBits_zero_f32) pads_S16384x8x64_S16384x8x128_000_000_0640 h_S_)).trans ?_
  exact flat3 _ _

end Cert.Proof.Val.R

end
-- ==== Proof.ValFin.lean ====
/-
  The call's results on inputs that meet the precondition.
-/
module

public import proofs.«01_k».proof.Defs
public import proofs.«01_k».proof.Proof.Gen.Pre_attention_inputs
public import proofs.«01_k».proof.Proof.ValArr
public import proofs.«01_k».proof.Proof.ValRef

@[expose] public section

noncomputable section

namespace Cert.Proof.Val

open Idealize.ShloMosaic Idealize.ShloMosaic.ValueIdx

/-! ## Real inputs -/

/-- The real numbers of an array with three axes. -/
def re3 {a b c : ℕ} (f : (⟨3, ![a, b, c]⟩ : Shape).Idx → EReal) (i j k : ℕ) : ℝ :=
  if h : i < a ∧ j < b ∧ k < c then (f (ix3 ⟨i, h.1⟩ ⟨j, h.2.1⟩ ⟨k, h.2.2⟩)).toReal else 0

theorem re3_eq {a b c : ℕ} (f : (⟨3, ![a, b, c]⟩ : Shape).Idx → EReal) (hf : ∀ i, f i ≠ ⊥ ∧ f i ≠ ⊤) : f = up3 (re3 f) := by
  funext i
  have h0 : (i 0).val < a := (i 0).isLt
  have h1 : (i 1).val < b := (i 1).isLt
  have h2 : (i 2).val < c := (i 2).isLt
  have e : (ix3 ⟨(i 0).val, h0⟩ ⟨(i 1).val, h1⟩ ⟨(i 2).val, h2⟩ : (⟨3, ![a, b, c]⟩ : Shape).Idx) = i :=
    funext fun x => by match x with | ⟨0, _⟩ => rfl | ⟨1, _⟩ => rfl | ⟨2, _⟩ => rfl
  show f i = ((re3 f (i 0).val (i 1).val (i 2).val : ℝ) : EReal)
  unfold re3
  rw [dif_pos ⟨h0, h1, h2⟩, e, EReal.coe_toReal (hf i).2 (hf i).1]

theorem real_of (z : EReal) (h : Ideal.cmp .olt (max z (-z)) (Ideal.ofBits .f32 0x7F800000#32) = 1#1) : z ≠ ⊥ ∧ z ≠ ⊤ := by
  have e : Ideal.ofBits .f32 0x7F800000#32 = (⊤ : EReal) := by simp [Ideal.ofBits, Ideal.ieee]
  rw [e] at h
  refine ⟨?_, ?_⟩
  · rintro rfl
    revert h
    simp [Ideal.cmp]
  · rintro rfl
    revert h
    simp [Ideal.cmp]

def pos (y : In) (i : ℕ) : ℝ := if h : i < 16384 then ((y.p (ix1 ⟨i, h⟩)).toInt : ℝ) else 0

/-- The real inputs. -/
def rd (y : In) : Rd := ⟨re3 y.q, re3 y.k, re3 y.v, re3 y.go, pos y⟩

theorem lt_of_steps (f : ℕ → ℝ) (N : ℕ) (h : ∀ n, n + 1 < N → f n < f (n + 1)) (i d : ℕ) (hd : i + d + 1 < N) : f i < f (i + d + 1) := by
  induction d with
  | zero => exact h i hd
  | succ d ih => exact (ih (by omega)).trans (h _ hd)

theorem le_iff_of_steps (f : ℕ → ℝ) (N : ℕ) (h : ∀ n, n + 1 < N → f n < f (n + 1)) (I J : ℕ) (hI : I < N) (hJ : J < N) : f J ≤ f I ↔ J ≤ I := by
  constructor
  · intro hle
    by_contra hc
    have := lt_of_steps f N h I (J - I - 1) (by omega)
    rw [show I + (J - I - 1) + 1 = J by omega] at this
    exact absurd hle (not_le.2 this)
  · intro hle
    rcases Nat.eq_or_lt_of_le hle with rfl | hlt
    · exact le_refl _
    · have := lt_of_steps f N h J (I - J - 1) (by omega)
      rw [show J + (I - J - 1) + 1 = I by omega] at this
      exact this.le

/-- Positions of which each is below the next are in the order of their indices. -/
theorem pos_mono (y : In) (h1 h2)
    (h : cmpi .slt (extractStridedSlice Cert.Pre_attention_inputs.S16383 ![0] y.p h1) (extractStridedSlice Cert.Pre_attention_inputs.S16383 ![1] y.p h2) = fun _ => 1#1)
    (I J : ℕ) (hI : I < 16384) (hJ : J < 16384) : pos y J ≤ pos y I ↔ J ≤ I :=
  le_iff_of_steps (pos y) 16384 (fun n hn => by
    have h1 : IntOp.cmpi .slt (y.p (ix1 (⟨n, by omega⟩ : Fin 16384))) (y.p (ix1 (⟨n + 1, hn⟩ : Fin 16384))) = 1#1 := by
      have := congrFun h (ix1 (⟨n, by omega⟩ : Fin 16383))
      refine Eq.trans ?_ this
      show _ = IntOp.cmpi .slt (y.p _) (y.p _)
      refine congrArg₂ (IntOp.cmpi .slt) (congrArg y.p (funext fun x => ?_)) (congrArg y.p (funext fun x => ?_))
      · match x with | ⟨0, _⟩ => exact Fin.ext (by show n = 0 + n; omega)
      · match x with | ⟨0, _⟩ => exact Fin.ext (by show n + 1 = 1 + n; omega)
    have h2 : (y.p (ix1 (⟨n, by omega⟩ : Fin 16384))).toInt < (y.p (ix1 (⟨n + 1, hn⟩ : Fin 16384))).toInt := by
      by_contra hc
      rw [show IntOp.cmpi .slt (y.p (ix1 (⟨n, by omega⟩ : Fin 16384))) (y.p (ix1 (⟨n + 1, hn⟩ : Fin 16384)))
        = BitVec.ofBool (decide ((y.p (ix1 (⟨n, by omega⟩ : Fin 16384))).toInt < (y.p (ix1 (⟨n + 1, hn⟩ : Fin 16384))).toInt)) from rfl, decide_eq_false hc] at h1
      exact absurd h1 (by decide)
    show pos y n < pos y (n + 1)
    unfold pos
    rw [dif_pos (by omega : n < 16384), dif_pos hn]
    exact_mod_cast h2) I J hI hJ

theorem pos_eq (y : In) (i : Fin 16384) : ((y.p (ix1 i)).toInt : ℝ) = pos y i.val := by
  unfold pos
  rw [dif_pos i.isLt]

theorem is_of (y : In)
    (h : (Cert.Pre_attention_inputs.fn (F := Ideal) y.q y.k y.v y.p y.go).1 = (fun _ => 1#1)
      ∧ (Cert.Pre_attention_inputs.fn (F := Ideal) y.q y.k y.v y.p y.go).2.1 = (fun _ => 1#1)
      ∧ (Cert.Pre_attention_inputs.fn (F := Ideal) y.q y.k y.v y.p y.go).2.2.1 = (fun _ => 1#1)
      ∧ (Cert.Pre_attention_inputs.fn (F := Ideal) y.q y.k y.v y.p y.go).2.2.2.1 = (fun _ => 1#1)
      ∧ (Cert.Pre_attention_inputs.fn (F := Ideal) y.q y.k y.v y.p y.go).2.2.2.2 = (fun _ => 1#1)) : Is y (rd y) where
  q := re3_eq y.q fun i => real_of _ (congrFun h.1 i)
  k := re3_eq y.k fun i => real_of _ (congrFun h.2.1 i)
  v := re3_eq y.v fun i => real_of _ (congrFun h.2.2.1 i)
  go := re3_eq y.go fun i => real_of _ (congrFun h.2.2.2.2 i)
  p := pos_eq y
  mono := pos_mono y _ _ h.2.2.2.1

/-! ## The run -/

open Cert.KernelIdeal Cert.KernelIdeal.Gen Cert.Proof.KI
open Idealize.ShloMosaic.TcCoe

variable (m : (ℓ : Loc nD τ sig) → Buf (Elt Ideal) ℓ) (g : Dev nD → PrngReg)

theorem finds (c : Dev nD) {x : Rd} (H : Is (K.inp m c) x) : Finds m c (ga x) where
  q := (K.V_v30 m c).trans (K.v30 H)
  k := (K.V_v33 m c).trans (K.v33 H)
  v := (K.V_v36 m c).trans (K.v36 H)
  go := (K.V_v38 m c).trans (K.v38 H)
  dl := (K.V_v41 m c).trans (K.v41 H)
  ls := (K.V_v46 m c).trans (K.v46 H)
  pc := (K.V_v47 m c).trans (K.v47 H)
  pr := (K.V_v48 m c).trans (K.v48 H)

/-- Each result is the reference's on the same inputs, and the arguments are as found. -/
theorem run_value (hp : ∀ c, Is (K.inp m c) (rd (K.inp m c))) :
    θ_run (defs (F := Ideal)) (onTc (τ := τ) (main (F := Ideal))) ⟨m, fun _ => 0, g⟩ (fun r => ∀ c : Dev nD,
      r.2.mem ((c.tc : Thread nD τ).loc main_v49_0) = R.t_v63 (K.inp m c)
      ∧ r.2.mem ((c.tc : Thread nD τ).loc main_v49_1) = R.t_v65 (K.inp m c)
      ∧ r.2.mem ((c.tc : Thread nD τ).loc main_v49_2) = R.t_v67 (K.inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h.1 c).1 8).trans ((arr8 m (ok m) c (ga (rd (K.inp m c))) (finds m c (hp c)) (hp c).mono).trans
        ((up_congr fun I l hI _ => sumQ_eq (rd (K.inp m c)) hI l).trans (R.v63 (hp c)).symm)),
      ((h.1 c).1 9).trans ((arr9 m (ok m) c (ga (rd (K.inp m c))) (finds m c (hp c)) (hp c).mono).trans
        ((up_congr fun J l _ _ => sumK_eq (rd (K.inp m c)) J l).trans (R.v65 (hp c)).symm)),
      ((h.1 c).1 10).trans ((arr10 m (ok m) c (ga (rd (K.inp m c))) (finds m c (hp c)) (hp c).mono).trans
        ((up_congr fun J l _ _ => sumV_eq (rd (K.inp m c)) J l).trans (R.v67 (hp c)).symm)),
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩) (run_main m g)

end Cert.Proof.Val

end
-- ==== Proof.KitFI.lean ====
/-
  The program `KernelFwdIdeal` up to its one pallas_call: what each buffer holds there, the two index tables, the windows' blocks.
-/
module

public import proofs.«01_k».proof.Proof.Gen.KernelFwdIdeal.Launch
public import proofs.«01_k».proof.Proof.Gen.KernelFwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.FI

open Cert.KernelFwdIdeal Cert.KernelFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What core `c`'s buffers hold when the call is reached. -/
abbrev V (c : Dev nD) (b : Ref sig .tc) : Buf (Elt F) ((c : Thread nD τ).loc b) :=
  StableHlo.after (List.flatten [hostOps0]) (fun b => m (c, b)) b

theorem fresh0 : (hostOps0 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub)
    (by simp only [List.Forall]; exact fresh0) main_chain

/-- A buffer no host operation writes is found as launched. -/
theorem V_untouched (c : Dev nD) (b : Ref sig .tc)
    (h : (List.flatten [hostOps0] : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) :=
  V_untouched m c main_arg0 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg1 (c : Dev nD) : V m c main_arg1 = m ((c : Thread nD τ).loc main_arg1) :=
  V_untouched m c main_arg1 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg2 (c : Dev nD) : V m c main_arg2 = m ((c : Thread nD τ).loc main_arg2) :=
  V_untouched m c main_arg2 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem V_arg3 (c : Dev nD) : V m c main_arg3 = m ((c : Thread nD τ).loc main_arg3) :=
  V_untouched m c main_arg3 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-! ## The two tables -/

/-- The tables' contents at the call (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S528 .i32 := Memref.whole main_c
abbrev htbM0 : tbM0.IsWhole := Memref.isWhole_whole _
abbrev tbM1 : Memref sig .tc .smem S528 .i32 := Memref.whole main_c_0
abbrev htbM1 : tbM1.IsWhole := Memref.isWhole_whole _

/-- A table's contents, and the table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, of its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

theorem frame_of (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).2 main_arg2 (by decide : main_arg2 ∈ Pipeline.restRefs sig spec0)).trans (V_arg2 m c),
      ((h c).2 main_arg3 (by decide : main_arg3 ∈ Pipeline.restRefs sig spec0)).trans (V_arg3 m c)⟩) h

end Cert.Proof.FI

end
-- ==== Proof.RunFI.lean ====
/-
  One step of the forward kernel on whole buffers: what it leaves in the two results' windows and the two running buffers, in terms of
  the five input blocks and of what was there, for each of the four ways its conditions fall out.
-/
module

public import proofs.«01_k».proof.Proof.KitFI
public import Idealize.ShloMosaic.Lib.VecWindow

@[expose] public section

set_option maxRecDepth 16384

noncomputable section

namespace Cert.Proof.FI

open Cert.KernelFwdIdeal Cert.KernelFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The step as a function of values -/

/-- The five input blocks of a step. -/
structure Blocks (F : FTy → Type) where
  q : Vec F S512x512 .bf16
  k : Vec F S512x512 .bf16
  v : Vec F S512x512 .bf16
  pc : Vec F S512x1 .f32
  pr : Vec F S1x512 .f32

theorem laneInb (j : Fin 4) : ∀ a, (![0, 128 * j.val] : Fin 2 → ℕ) a + S512x128.size a ≤ S512x512.size a := by
  revert j; decide
/-- Head `j`'s lanes of a block of four heads. -/
abbrev lane {e : EltTy} (x : Vec F S512x512 e) (j : Fin 4) : Vec F S512x128 e :=
  VecWindow.window x ![0, 128 * j.val] S512x128.size (laneInb j)
/-- A block of four heads from the heads' own lanes. -/
def join {α : Type} (f : Fin 4 → ((a : Fin 2) → Fin (S512x128.size a)) → α) : S512x512.Idx → α := fun y =>
  f ⟨(y 1).val / 128, by have h : (y 1).val < 512 := (y 1).isLt; omega⟩
    (fun a => ⟨if a = 0 then (y 0).val else (y 1).val % 128, by
      have h : (y 0).val < 512 := (y 0).isLt
      fin_cases a
      · exact h
      · exact Nat.mod_lt _ (show 0 < 128 by decide)⟩)

abbrev c2 : F .f32 := Named.named κ "scale_log2e" 0x3E16C740#32
abbrev lg : F .f32 := Named.named κ "log2e" 0x3FB8AA3B#32
abbrev msk : F .f32 := Named.named κ "masked" 0xF149F2CA#32

/-- The scores of one head, and those on the diagonal. -/
def sO (q k : Vec F S512x128 .bf16) : FVec F S512x512 .f32 :=
  matmul dot_S512x128_S512x128_S512x512_1_1_0_0_n_n none (shapeCast S512x128 q shapeCasts_S512x128_S512x128) (shapeCast S512x128 k shapeCasts_S512x128_S512x128)
    (constant S512x512 .f32 0x00000000#32)
def sD (pc : Vec F S512x1 .f32) (pr : Vec F S1x512 .f32) (q k : Vec F S512x128 .bf16) : FVec F S512x512 .f32 :=
  select (cmpf .ole (broadcastTo S512x512 (shapeCast S1x512 pr shapeCasts_S1x512_S1x512 : FVec F S1x512 .f32) broadcasts_S1x512_S512x512)
    (broadcastTo S512x512 (shapeCast S512x1 pc shapeCasts_S512x1_S512x1 : FVec F S512x1 .f32) broadcasts_S512x1_S512x512)) (sO q k) (broadcast S512x512 msk)
/-- The new running maximum. -/
def mN (s : FVec F S512x512 .f32) (mp : FVec F S512x128 .f32) : FVec F S512x128 .f32 :=
  maximumf mp (broadcastTo S512x128 (shapeCast S512x1 (multiReduction .maximumf [1] S512 s 0xFF800000#32 reduces_S512x512_S512 (.inl rfl) rfl : FVec F S512 .f32)
    shapeCasts_S512_S512x1) broadcasts_S512x1_S512x128)
/-- The new running sums. -/
def aN (s : FVec F S512x512 .f32) (mp ac : FVec F S512x128 .f32) (v : Vec F S512x128 .bf16) : FVec F S512x128 .f32 :=
  addf (mulf (exp2 (mulf (subf mp (mN s mp)) (broadcast S512x128 c2))) ac)
    (matmul dot_S512x512_S512x128_S512x128_1_0_0_1_n_n none
      (truncf .bf16 (exp2 (mulf (subf s (broadcastTo S512x512 (extractStridedSlice S512x1 ![0, 0] (mN s mp) slices_S512x128_o0_0_S512x1) broadcasts_S512x1_S512x512))
        (broadcast S512x512 c2))) bitsLt_bf16_f32)
      (shapeCast S512x128 v shapeCasts_S512x128_S512x128) (constant S512x128 .f32 0x00000000#32))
def lN (a : FVec F S512x128 .f32) : FVec F S512x1 .f32 := extractStridedSlice S512x1 ![0, 64] a slices_S512x128_o0_64_S512x1
def oN (a : FVec F S512x128 .f32) : FVec F S512x128 .f32 := divf a (broadcastTo S512x128 (lN a) broadcasts_S512x1_S512x128)
def eN (m a : FVec F S512x128 .f32) : FVec F S512x128 .f32 :=
  addf (mulf m (broadcast S512x128 c2)) (broadcastTo S512x128 (mulf (log (lN a)) (broadcast S512x1 lg)) broadcasts_S512x1_S512x128)

/-- Off the diagonal: the running buffers after the step. -/
def offM (B : Blocks F) (m : Vec F S512x512 .f32) (j : Fin 4) : Vec F S512x128 .f32 :=
  shapeCast S512x128 (mN (sO (lane B.q j) (lane B.k j)) (lane m j)) shapeCasts_S512x128_S512x128
def offA (B : Blocks F) (m a : Vec F S512x512 .f32) (j : Fin 4) : Vec F S512x128 .f32 :=
  shapeCast S512x128 (aN (sO (lane B.q j) (lane B.k j)) (lane m j) (lane a j) (lane B.v j)) shapeCasts_S512x128_S512x128
/-- On the diagonal: the two results. -/
def diaO (B : Blocks F) (m a : Vec F S512x512 .f32) (j : Fin 4) : Vec F S512x128 .f32 :=
  oN (aN (sD B.pc B.pr (lane B.q j) (lane B.k j)) (lane m j) (lane a j) (lane B.v j))
def diaE (B : Blocks F) (m a : Vec F S512x512 .f32) (j : Fin 4) : Vec F S512x128 .f32 :=
  eN (mN (sD B.pc B.pr (lane B.q j) (lane B.k j)) (lane m j)) (aN (sD B.pc B.pr (lane B.q j) (lane B.k j)) (lane m j) (lane a j) (lane B.v j))

/-! ## The words and the conditions -/

/-- The word of a table at a step. -/
abbrev word {c : Dev nD} (M : Memref sig .tc .smem S528 .i32) (t : TbBuf (F := F) c M) (i : grid0.Coords) : BitVec 32 :=
  View.readAt (Elt F) M.view (Rect.unit (s := S528) (k0_off1 i) S1.size (k0_off1_inb i)).toLoadRect t (Shape.Idx.first (show 0 < S1.numel by decide))

/-- The conditions under which the running buffers start anew, and under which the step is off the diagonal. -/
abbrev iniW (b : BitVec 32) : Prop := Scalar.cmpi .ne (Scalar.extui (Scalar.cmpi .eq b 0#32) : BitVec 32) 0#32 = 1#1
abbrev neW (a b : BitVec 32) : Prop := Scalar.cmpi .ne (Scalar.extui (Scalar.cmpi .ne b a) : BitVec 32) 0#32 = 1#1

/-! ## The step run -/

theorem read_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl
theorem read_win {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb :=
  View.readAt_unit v f inb rfl inb

/-- A head's lanes are untouched by a store of another head's. -/
theorem win_put {α : Type} (x : S512x512.Idx → α) (o p : ℕ) (w : ((a : Fin 2) → Fin (S512x128.size a)) → α) (inb) (h : o + 128 ≤ p ∨ p + 128 ≤ o) :
    VecWindow.window (VecWindow.put x ![0, o] S512x128.size w) ![0, p] S512x128.size inb = VecWindow.window x ![0, p] S512x128.size inb :=
  VecWindow.window_put_of_disjoint x _ _ _ _ _ w 1 (h.symm)

theorem put_at {α : Type} (x : S512x512.Idx → α) (f : Fin 4 → ((a : Fin 2) → Fin (S512x128.size a)) → α) (j : Fin 4) (o : ℕ) (ho : o = 128 * j.val)
    (y : S512x512.Idx) : VecWindow.put x ![0, o] S512x128.size (f j) y = if (y 1).val / 128 = j.val then join f y else x y := by
  subst ho
  have h0 : (y 0).val < 512 := (y 0).isLt
  have h1 : (y 1).val < 512 := (y 1).isLt
  have hj := j.isLt
  unfold VecWindow.put
  by_cases hc : (y 1).val / 128 = j.val
  · have hl : ∀ c, (![0, 128 * j.val] : Fin 2 → ℕ) c ≤ (y c).val ∧ (y c).val < (![0, 128 * j.val] : Fin 2 → ℕ) c + S512x128.size c :=
      Fin.forall_fin_two.mpr ⟨⟨Nat.zero_le _, show _ < 0 + 512 by omega⟩, ⟨show 128 * j.val ≤ _ by omega, show _ < 128 * j.val + 128 by omega⟩⟩
    rw [dif_pos hl, if_pos hc]
    unfold join
    have e : (⟨(y 1).val / 128, by omega⟩ : Fin 4) = j := Fin.ext hc
    rw [e]
    refine congrArg (f j) (funext fun a => Fin.ext ?_)
    fin_cases a
    · exact Nat.sub_zero _
    · show (y 1).val - 128 * j.val = (y 1).val % 128
      omega
  · rw [if_neg hc]
    refine dif_neg fun hl => hc ?_
    have := hl 1
    have a1 : 128 * j.val ≤ (y 1).val := this.1
    have a2 : (y 1).val < 128 * j.val + 128 := this.2
    omega

/-- The four heads' lanes put, nothing of what was there is left. -/
theorem put4 {α : Type} (x : S512x512.Idx → α) (f : Fin 4 → ((a : Fin 2) → Fin (S512x128.size a)) → α) :
    VecWindow.put (VecWindow.put (VecWindow.put (VecWindow.put x ![0, 0] S512x128.size (f 0)) ![0, 128] S512x128.size (f 1)) ![0, 256] S512x128.size (f 2))
      ![0, 384] S512x128.size (f 3) = join f := by
  funext y
  rw [put_at _ f 3 384 rfl, put_at _ f 2 256 rfl, put_at _ f 1 128 rfl, put_at _ f 0 0 rfl,
    show (3 : Fin 4).val = 3 from rfl, show (2 : Fin 4).val = 2 from rfl, show (1 : Fin 4).val = 1 from rfl, show (0 : Fin 4).val = 0 from rfl]
  have h1 : (y 1).val < 512 := (y 1).isLt
  by_cases a3 : (y 1).val / 128 = 3
  · exact if_pos a3
  by_cases a2 : (y 1).val / 128 = 2
  · rw [if_neg a3]; exact if_pos a2
  by_cases a1 : (y 1).val / 128 = 1
  · rw [if_neg a3, if_neg a2]; exact if_pos a1
  · rw [if_neg a3, if_neg a2, if_neg a1]; exact if_pos (show (y 1).val / 128 = 0 by omega)

theorem put_all {n k : ℕ} {α : Type} (x w : (⟨2, ![n, k]⟩ : Shape).Idx → α) : VecWindow.put x ![0, 0] (⟨2, ![n, k]⟩ : Shape).size w = w := by
  funext y
  have h : ∀ a, (![0, 0] : Fin 2 → ℕ) a ≤ (y a).val ∧ (y a).val < (![0, 0] : Fin 2 → ℕ) a + (⟨2, ![n, k]⟩ : Shape).size a :=
    Fin.forall_fin_two.mpr ⟨⟨Nat.zero_le _, by have := (y 0).isLt; show _ < 0 + _; omega⟩, ⟨Nat.zero_le _, by have := (y 1).isLt; show _ < 0 + _; omega⟩⟩
  exact (dif_pos h).trans (congrArg w (funext fun a => Fin.ext (by
    fin_cases a <;> exact Nat.sub_zero _)))
theorem win_all {n k : ℕ} {α : Type} (x : (⟨2, ![n, k]⟩ : Shape).Idx → α) (inb) : VecWindow.window x ![0, 0] (⟨2, ![n, k]⟩ : Shape).size inb = x := by
  funext y
  exact congrArg x (funext fun a => Fin.ext (by fin_cases a <;> exact (Nat.zero_add _).trans (Nat.one_mul _)))

/-- From the five blocks, the results' windows and the running buffers as they are, the body runs and leaves these four as said. -/
abbrev Step (c : Dev nD) (i : grid0.Coords)
    (M2 : Memref sig .tc .smem S528 .i32) (h2 : M2.IsWhole) (M3 : Memref sig .tc .smem S528 .i32) (h3 : M3.IsWhole)
    (M4 : Memref sig .tc .vmem S512x512 .bf16) (h4 : M4.IsWhole) (M5 : Memref sig .tc .vmem S512x512 .bf16) (h5 : M5.IsWhole)
    (M6 : Memref sig .tc .vmem S512x512 .bf16) (h6 : M6.IsWhole) (M7 : Memref sig .tc .vmem S512x1 .f32) (h7 : M7.IsWhole)
    (M8 : Memref sig .tc .vmem S1x512 .f32) (h8 : M8.IsWhole) (M9 : Memref sig .tc .vmem S512x512 .f32) (h9 : M9.IsWhole)
    (M10 : Memref sig .tc .vmem S512x512 .f32) (h10 : M10.IsWhole) (M11 : Memref sig .tc .vmem S512x512 .f32) (h11 : M11.IsWhole)
    (M12 : Memref sig .tc .vmem S512x512 .f32) (h12 : M12.IsWhole)
    (t2 : TbBuf (F := F) c M2) (t3 : TbBuf (F := F) c M3) (B : Blocks F) (x9 x10 x11 x12 y9 y10 y11 y12 : Vec F S512x512 .f32) : Prop :=
  ∀ (E : Set ℕ) (Q : PUnit → sProp 𝕄),
    iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.pc ∗ owns (c : Thread nD τ) M8 fullShare B.pr ∗ owns (c : Thread nD τ) M9 fullShare x9 ∗ owns (c : Thread nD τ) M10 fullShare x10 ∗ owns (c : Thread nD τ) M11 fullShare x11 ∗ owns (c : Thread nD τ) M12 fullShare x12
      ∗ (iprop(tbPt c M2 t2 ∗ tbPt c M3 t3 ∗ owns (c : Thread nD τ) M4 fullShare B.q ∗ owns (c : Thread nD τ) M5 fullShare B.k ∗ owns (c : Thread nD τ) M6 fullShare B.v ∗ owns (c : Thread nD τ) M7 fullShare B.pc ∗ owns (c : Thread nD τ) M8 fullShare B.pr ∗ owns (c : Thread nD τ) M9 fullShare y9 ∗ owns (c : Thread nD τ) M10 fullShare y10 ∗ owns (c : Thread nD τ) M11 fullShare y11 ∗ owns (c : Thread nD τ) M12 fullShare y12) -∗ Q ⟨⟩))
    ⊢ wp frame (wpE (defs₀ (F := F)) Variants.none c none) E (cc0_attn_fwd i M2 h2 M3 h3 M4 h4 M5 h5 M6 h6 M7 h7 M8 h8 M9 h9 M10 h10 M11 h11 M12 h12) Q

variable (c : Dev nD) (i : grid0.Coords)
    (M2 : Memref sig .tc .smem S528 .i32) (h2 : M2.IsWhole) (M3 : Memref sig .tc .smem S528 .i32) (h3 : M3.IsWhole)
    (M4 : Memref sig .tc .vmem S512x512 .bf16) (h4 : M4.IsWhole) (M5 : Memref sig .tc .vmem S512x512 .bf16) (h5 : M5.IsWhole)
    (M6 : Memref sig .tc .vmem S512x512 .bf16) (h6 : M6.IsWhole) (M7 : Memref sig .tc .vmem S512x1 .f32) (h7 : M7.IsWhole)
    (M8 : Memref sig .tc .vmem S1x512 .f32) (h8 : M8.IsWhole) (M9 : Memref sig .tc .vmem S512x512 .f32) (h9 : M9.IsWhole)
    (M10 : Memref sig .tc .vmem S512x512 .f32) (h10 : M10.IsWhole) (M11 : Memref sig .tc .vmem S512x512 .f32) (h11 : M11.IsWhole)
    (M12 : Memref sig .tc .vmem S512x512 .f32) (h12 : M12.IsWhole)
    (t2 : TbBuf (F := F) c M2) (t3 : TbBuf (F := F) c M3) (B : Blocks F) (x9 x10 x11 x12 : Vec F S512x512 .f32)

set_option backward.isDefEq.respectTransparency.types false in
set_option maxHeartbeats 4000000 in
/-- On the diagonal, the running buffers started anew. -/
theorem bodyA (hy1 : iniW (word M3 t3 i)) (hn2 : ¬ neW (word M2 t2 i) (word M3 t3 i)) (hy3 : k0_cond3 (word M2 t2 i) (word M3 t3 i) = 1#1) :
    Step c i M2 h2 M3 h3 M4 h4 M5 h5 M6 h6 M7 h7 M8 h8 M9 h9 M10 h10 M11 h11 M12 h12 t2 t3 B x9 x10 x11 x12 (join (diaO B k0_pay1 k0_pay2)) (join (diaE B k0_pay1 k0_pay2)) k0_pay1 k0_pay2 := by
  intro E Q
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  sl_unfold [cc0_attn_fwd]
  sl_exec (disch := first | sl_exact hy1 | sl_exact hn2 | sl_exact hy3)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; swap; · iexact H9
    ipureintro
    delta bodyA.sl.H11_1 bodyA.sl.H12_1 bodyA.sl.r bodyA.sl.r_1 bodyA.sl.r_10 bodyA.sl.r_11 bodyA.sl.r_12 bodyA.sl.r_13 bodyA.sl.r_14 bodyA.sl.r_2 bodyA.sl.r_3 bodyA.sl.r_4 bodyA.sl.r_5 bodyA.sl.r_6 bodyA.sl.r_7 bodyA.sl.r_8 bodyA.sl.r_9 bodyA.sl.v109 bodyA.sl.v124 bodyA.sl.v150 bodyA.sl.v165 bodyA.sl.v27 bodyA.sl.v4 bodyA.sl.v42 bodyA.sl.v5 bodyA.sl.v6 bodyA.sl.v68 bodyA.sl.v7 bodyA.sl.v8 bodyA.sl.v83 bodyA.sl.v9
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    exact put4 _ (diaO B k0_pay1 k0_pay2)
  isplitl [H10]
  · iexists _; isplitr; swap; · iexact H10
    ipureintro
    delta bodyA.sl.H11_1 bodyA.sl.H12_1 bodyA.sl.r bodyA.sl.r_1 bodyA.sl.r_10 bodyA.sl.r_11 bodyA.sl.r_12 bodyA.sl.r_13 bodyA.sl.r_14 bodyA.sl.r_2 bodyA.sl.r_3 bodyA.sl.r_4 bodyA.sl.r_5 bodyA.sl.r_6 bodyA.sl.r_7 bodyA.sl.r_8 bodyA.sl.r_9 bodyA.sl.v109 bodyA.sl.v124 bodyA.sl.v150 bodyA.sl.v165 bodyA.sl.v27 bodyA.sl.v4 bodyA.sl.v42 bodyA.sl.v5 bodyA.sl.v6 bodyA.sl.v68 bodyA.sl.v7 bodyA.sl.v8 bodyA.sl.v83 bodyA.sl.v9
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    exact put4 _ (diaE B k0_pay1 k0_pay2)
  isplitl [H11]
  · iexists _; isplitr; swap; · iexact H11
    ipureintro
    delta bodyA.sl.H11_1 bodyA.sl.H12_1 bodyA.sl.r bodyA.sl.r_1 bodyA.sl.r_10 bodyA.sl.r_11 bodyA.sl.r_12 bodyA.sl.r_13 bodyA.sl.r_14 bodyA.sl.r_2 bodyA.sl.r_3 bodyA.sl.r_4 bodyA.sl.r_5 bodyA.sl.r_6 bodyA.sl.r_7 bodyA.sl.r_8 bodyA.sl.r_9 bodyA.sl.v109 bodyA.sl.v124 bodyA.sl.v150 bodyA.sl.v165 bodyA.sl.v27 bodyA.sl.v4 bodyA.sl.v42 bodyA.sl.v5 bodyA.sl.v6 bodyA.sl.v68 bodyA.sl.v7 bodyA.sl.v8 bodyA.sl.v83 bodyA.sl.v9
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    try rfl
  iexists _; isplitr; swap; · iexact H12
  ipureintro
  delta bodyA.sl.H11_1 bodyA.sl.H12_1 bodyA.sl.r bodyA.sl.r_1 bodyA.sl.r_10 bodyA.sl.r_11 bodyA.sl.r_12 bodyA.sl.r_13 bodyA.sl.r_14 bodyA.sl.r_2 bodyA.sl.r_3 bodyA.sl.r_4 bodyA.sl.r_5 bodyA.sl.r_6 bodyA.sl.r_7 bodyA.sl.r_8 bodyA.sl.r_9 bodyA.sl.v109 bodyA.sl.v124 bodyA.sl.v150 bodyA.sl.v165 bodyA.sl.v27 bodyA.sl.v4 bodyA.sl.v42 bodyA.sl.v5 bodyA.sl.v6 bodyA.sl.v68 bodyA.sl.v7 bodyA.sl.v8 bodyA.sl.v83 bodyA.sl.v9
  try simp only [View.readCov, read_put, read_win, View.writes_nil, hf4, hf5, hf6, hf7, hf8, hf9, hf10, hf11, hf12]
  repeat rw [put_all]
  repeat rw [win_all]
  repeat rw [win_put _ 0 128 _ _ (by decide)]
  repeat rw [win_put _ 128 256 _ _ (by decide)]
  repeat rw [win_put _ 0 256 _ _ (by decide)]
  repeat rw [win_put _ 256 384 _ _ (by decide)]
  repeat rw [win_put _ 128 384 _ _ (by decide)]
  repeat rw [win_put _ 0 384 _ _ (by decide)]
  try rfl

set_option backward.isDefEq.respectTransparency.types false in
set_option maxHeartbeats 4000000 in
/-- Off the diagonal, the running buffers started anew. -/
theorem bodyB (hy1 : iniW (word M3 t3 i)) (hy2 : neW (word M2 t2 i) (word M3 t3 i)) (hn3 : ¬ k0_cond3 (word M2 t2 i) (word M3 t3 i) = 1#1) :
    Step c i M2 h2 M3 h3 M4 h4 M5 h5 M6 h6 M7 h7 M8 h8 M9 h9 M10 h10 M11 h11 M12 h12 t2 t3 B x9 x10 x11 x12 x9 x10 (join (offM B k0_pay1)) (join (offA B k0_pay1 k0_pay2)) := by
  intro E Q
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  sl_unfold [cc0_attn_fwd]
  sl_exec (disch := first | sl_exact hy1 | sl_exact hy2 | sl_exact hn3)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; swap; · iexact H11
    ipureintro
    delta bodyB.sl.H11_1 bodyB.sl.H11_2 bodyB.sl.H11_3 bodyB.sl.H11_4 bodyB.sl.H12_1 bodyB.sl.H12_2 bodyB.sl.H12_3 bodyB.sl.H12_4 bodyB.sl.r bodyB.sl.r_1 bodyB.sl.r_2 bodyB.sl.r_3 bodyB.sl.r_4 bodyB.sl.r_5 bodyB.sl.v117 bodyB.sl.v132 bodyB.sl.v18 bodyB.sl.v33 bodyB.sl.v4 bodyB.sl.v5 bodyB.sl.v51 bodyB.sl.v6 bodyB.sl.v66 bodyB.sl.v7 bodyB.sl.v8 bodyB.sl.v84 bodyB.sl.v9 bodyB.sl.v99
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    exact put4 _ (offM B k0_pay1)
  iexists _; isplitr; swap; · iexact H12
  ipureintro
  delta bodyB.sl.H11_1 bodyB.sl.H11_2 bodyB.sl.H11_3 bodyB.sl.H11_4 bodyB.sl.H12_1 bodyB.sl.H12_2 bodyB.sl.H12_3 bodyB.sl.H12_4 bodyB.sl.r bodyB.sl.r_1 bodyB.sl.r_2 bodyB.sl.r_3 bodyB.sl.r_4 bodyB.sl.r_5 bodyB.sl.v117 bodyB.sl.v132 bodyB.sl.v18 bodyB.sl.v33 bodyB.sl.v4 bodyB.sl.v5 bodyB.sl.v51 bodyB.sl.v6 bodyB.sl.v66 bodyB.sl.v7 bodyB.sl.v8 bodyB.sl.v84 bodyB.sl.v9 bodyB.sl.v99
  try simp only [View.readCov, read_put, read_win, View.writes_nil, hf4, hf5, hf6, hf7, hf8, hf9, hf10, hf11, hf12]
  repeat rw [put_all]
  repeat rw [win_all]
  repeat rw [win_put _ 0 128 _ _ (by decide)]
  repeat rw [win_put _ 128 256 _ _ (by decide)]
  repeat rw [win_put _ 0 256 _ _ (by decide)]
  repeat rw [win_put _ 256 384 _ _ (by decide)]
  repeat rw [win_put _ 128 384 _ _ (by decide)]
  repeat rw [win_put _ 0 384 _ _ (by decide)]
  exact put4 _ (offA B k0_pay1 k0_pay2)

set_option backward.isDefEq.respectTransparency.types false in
set_option maxHeartbeats 4000000 in
/-- Off the diagonal, the running buffers as they are. -/
theorem bodyC (hn1 : ¬ iniW (word M3 t3 i)) (hy2 : neW (word M2 t2 i) (word M3 t3 i)) (hn3 : ¬ k0_cond3 (word M2 t2 i) (word M3 t3 i) = 1#1) :
    Step c i M2 h2 M3 h3 M4 h4 M5 h5 M6 h6 M7 h7 M8 h8 M9 h9 M10 h10 M11 h11 M12 h12 t2 t3 B x9 x10 x11 x12 x9 x10 (join (offM B x11)) (join (offA B x11 x12)) := by
  intro E Q
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  sl_unfold [cc0_attn_fwd]
  sl_exec (disch := first | sl_exact hn1 | sl_exact hy2 | sl_exact hn3)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; swap; · iexact H11
    ipureintro
    delta bodyC.sl.r bodyC.sl.r_1 bodyC.sl.r_2 bodyC.sl.r_3 bodyC.sl.r_4 bodyC.sl.r_5 bodyC.sl.v117 bodyC.sl.v132 bodyC.sl.v4 bodyC.sl.v5 bodyC.sl.v51 bodyC.sl.v6 bodyC.sl.v66 bodyC.sl.v7 bodyC.sl.v8 bodyC.sl.v84 bodyC.sl.v9 bodyC.sl.v99
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    exact put4 _ (offM B x11)
  iexists _; isplitr; swap; · iexact H12
  ipureintro
  delta bodyC.sl.r bodyC.sl.r_1 bodyC.sl.r_2 bodyC.sl.r_3 bodyC.sl.r_4 bodyC.sl.r_5 bodyC.sl.v117 bodyC.sl.v132 bodyC.sl.v4 bodyC.sl.v5 bodyC.sl.v51 bodyC.sl.v6 bodyC.sl.v66 bodyC.sl.v7 bodyC.sl.v8 bodyC.sl.v84 bodyC.sl.v9 bodyC.sl.v99
  try simp only [View.readCov, read_put, read_win, View.writes_nil, hf4, hf5, hf6, hf7, hf8, hf9, hf10, hf11, hf12]
  repeat rw [put_all]
  repeat rw [win_all]
  repeat rw [win_put _ 0 128 _ _ (by decide)]
  repeat rw [win_put _ 128 256 _ _ (by decide)]
  repeat rw [win_put _ 0 256 _ _ (by decide)]
  repeat rw [win_put _ 256 384 _ _ (by decide)]
  repeat rw [win_put _ 128 384 _ _ (by decide)]
  repeat rw [win_put _ 0 384 _ _ (by decide)]
  exact put4 _ (offA B x11 x12)

set_option backward.isDefEq.respectTransparency.types false in
set_option maxHeartbeats 4000000 in
/-- On the diagonal, the running buffers as they are. -/
theorem bodyD (hn1 : ¬ iniW (word M3 t3 i)) (hn2 : ¬ neW (word M2 t2 i) (word M3 t3 i)) (hy3 : k0_cond3 (word M2 t2 i) (word M3 t3 i) = 1#1) :
    Step c i M2 h2 M3 h3 M4 h4 M5 h5 M6 h6 M7 h7 M8 h8 M9 h9 M10 h10 M11 h11 M12 h12 t2 t3 B x9 x10 x11 x12 (join (diaO B x11 x12)) (join (diaE B x11 x12)) x11 x12 := by
  intro E Q
  unfold owns
  iintro ⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  sl_unfold [cc0_attn_fwd]
  sl_exec (disch := first | sl_exact hn1 | sl_exact hn2 | sl_exact hy3)
  sl_step
  iapply Hk
  isplitl [H2]; · iexact H2
  isplitl [H3]; · iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; swap; · iexact H9
    ipureintro
    delta bodyD.sl.r bodyD.sl.r_1 bodyD.sl.r_10 bodyD.sl.r_11 bodyD.sl.r_12 bodyD.sl.r_13 bodyD.sl.r_14 bodyD.sl.r_2 bodyD.sl.r_3 bodyD.sl.r_4 bodyD.sl.r_5 bodyD.sl.r_6 bodyD.sl.r_7 bodyD.sl.r_8 bodyD.sl.r_9 bodyD.sl.v4 bodyD.sl.v5 bodyD.sl.v6 bodyD.sl.v7 bodyD.sl.v8 bodyD.sl.v9
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    exact put4 _ (diaO B x11 x12)
  isplitl [H10]
  · iexists _; isplitr; swap; · iexact H10
    ipureintro
    delta bodyD.sl.r bodyD.sl.r_1 bodyD.sl.r_10 bodyD.sl.r_11 bodyD.sl.r_12 bodyD.sl.r_13 bodyD.sl.r_14 bodyD.sl.r_2 bodyD.sl.r_3 bodyD.sl.r_4 bodyD.sl.r_5 bodyD.sl.r_6 bodyD.sl.r_7 bodyD.sl.r_8 bodyD.sl.r_9 bodyD.sl.v4 bodyD.sl.v5 bodyD.sl.v6 bodyD.sl.v7 bodyD.sl.v8 bodyD.sl.v9
    try simp only [View.readCov, read_put, read_win, View.writes_nil, hf4, hf5, hf6, hf7, hf8, hf9, hf10, hf11, hf12]
    repeat rw [put_all]
    repeat rw [win_all]
    repeat rw [win_put _ 0 128 _ _ (by decide)]
    repeat rw [win_put _ 128 256 _ _ (by decide)]
    repeat rw [win_put _ 0 256 _ _ (by decide)]
    repeat rw [win_put _ 256 384 _ _ (by decide)]
    repeat rw [win_put _ 128 384 _ _ (by decide)]
    repeat rw [win_put _ 0 384 _ _ (by decide)]
    exact put4 _ (diaE B x11 x12)
  isplitl [H11]
  · iexists _; isplitr; · ipureintro; exact hf11
    iexact H11
  iexists _; isplitr; · ipureintro; exact hf12
  iexact H12

end Cert.Proof.FI

end
-- ==== Proof.FwStep.lean ====
/-
  One head of a step of the forward kernel on real blocks: the running maximum is some real number, the same along a row, and the running
  sums are the sums of the weights taken against it; so are the two results, which do not depend on which number it is.
-/
module

public import proofs.«01_k».proof.Proof.RunFI
public import proofs.«01_k».proof.Proof.ValPay
public import proofs.«01_k».proof.Proof.Val3

@[expose] public section

set_option maxRecDepth 16384

noncomputable section

namespace Cert.Proof.Fw

open Cert.KernelFwdIdeal Cert.KernelFwdIdeal.Gen Cert.Proof.FI
open Cert.Proof.Val (up up_congr coe_sum_fin sc lc zeros mulf_up addf_up subf_up truncf_up broadcast_coe col_up row_up slice_up fold_max_real)
open Idealize.ShloMosaic Idealize.ShloMosaic.ValueIdx
open scoped BigOperators

theorem c2_eq : (c2 : Ideal .f32) = ((lc : ℝ) : EReal) := IdealRules.named_const.ideal_named_scalar _ _ _ _ rfl
theorem lg_eq : (lg : Ideal .f32) = (((Real.log 2)⁻¹ : ℝ) : EReal) := IdealRules.named_const.ideal_named_scalar _ _ _ _ rfl
theorem msk_eq : (msk : Ideal .f32) = (⊥ : EReal) := IdealRules.named_const.ideal_named_scalar _ _ _ _ rfl
theorem lc_pos : 0 < lc := by
  unfold lc
  have := Real.log_pos (show (1 : ℝ) < 2 by norm_num)
  positivity

/-- Scores that key row `j` of the block adds for query row `i`, where the keys' block starts at row `κ` and the queries' at `ρ`; −∞ past the diagonal. -/
def mS (κ ρ : ℕ) (s : ℕ → ℕ → ℝ) : S512x512.Idx → EReal := fun y => if κ + (y 1).val ≤ ρ + (y 0).val then ((s (y 0).val (y 1).val : ℝ) : EReal) else ⊥

theorem sO_up (q k : ℕ → ℕ → ℝ) : sO (F := Ideal) (up q) (up k) = up fun i j => ∑ d ∈ Finset.range 128, q i d * k j d := by
  unfold sO
  rw [zeros]
  exact (congr (congrArg (fun a b => matmul (F := Ideal) (φ₁ := .bf16) (φ₂ := .bf16) dot_S512x128_S512x128_S512x512_1_1_0_0_n_n none a b (up fun _ _ => 0))
    (shapeCast_self _ _)) (shapeCast_self _ _)).trans (Val.mmT .bf16 .bf16 q k)

theorem up_mS (κ ρ : ℕ) (s : ℕ → ℕ → ℝ) (h : κ + 512 ≤ ρ) : up s = mS κ ρ s := funext fun y => by
  have h1 : (y 1).val < 512 := (y 1).isLt
  exact (if_pos (show κ + (y 1).val ≤ ρ + (y 0).val by omega)).symm

theorem sD_up (κ ρ : ℕ) (pc pr q k : ℕ → ℕ → ℝ) (h : ∀ i j, i < 512 → j < 512 → (pr 0 j ≤ pc i 0 ↔ κ + j ≤ ρ + i)) :
    sD (F := Ideal) (up pc) (up pr) (up q) (up k) = mS κ ρ fun i j => ∑ d ∈ Finset.range 128, q i d * k j d := by
  unfold sD
  rw [sO_up, msk_eq]
  refine (congr (congrArg (fun a b => select (cmpf (F := Ideal) (φ := .f32) .ole a b) _ _)
    ((congrArg (fun z => broadcastTo S512x512 z broadcasts_S1x512_S512x512) (shapeCast_self _ _)).trans (row_up _ _)))
    ((congrArg (fun z => broadcastTo S512x512 z broadcasts_S512x1_S512x512) (shapeCast_self _ _)).trans (col_up _ _))).trans ?_
  funext y
  have h0 : (y 0).val < 512 := (y 0).isLt
  have h1 : (y 1).val < 512 := (y 1).isLt
  have e := h _ _ h0 h1
  show Scalar.select (Ideal.cmp .ole ((pr 0 (y 1).val : ℝ) : EReal) ((pc (y 0).val 0 : ℝ) : EReal)) _ ⊥ = if _ then _ else _
  by_cases hc : κ + (y 1).val ≤ ρ + (y 0).val
  · rw [if_pos hc]
    have : Ideal.cmp .ole ((pr 0 (y 1).val : ℝ) : EReal) ((pc (y 0).val 0 : ℝ) : EReal) = 1#1 := by
      unfold Ideal.cmp; simp only [EReal.coe_le_coe_iff, e.2 hc]; rfl
    rw [this, select_one]; rfl
  · rw [if_neg hc]
    have : Ideal.cmp .ole ((pr 0 (y 1).val : ℝ) : EReal) ((pc (y 0).val 0 : ℝ) : EReal) = 0#1 := by
      unfold Ideal.cmp; simp only [EReal.coe_le_coe_iff]; rw [decide_eq_false fun hh => hc (e.1 hh)]; rfl
    rw [this, select_zero]

/-! ## The running maximum -/

theorem mN_apply (S : S512x512.Idx → EReal) (mp : S512x128.Idx → EReal) (y : S512x128.Idx) :
    mN (F := Ideal) S mp y = max (mp y) ((Finset.univ : Finset (Fin 512)).fold max ⊥ fun k => S (ix2 (y 0) k)) := by
  unfold mN
  have hx : ∀ Z : S512x128.Idx → EReal, maximumf (F := Ideal) (φ := .f32) mp Z y = max (mp y) (Z y) := fun _ => rfl
  refine (hx _).trans (congrArg (max (mp y)) ?_)
  obtain ⟨i, hi⟩ : ∃ i : Fin 512, i = y 0 := ⟨_, rfl⟩
  rw [← hi]
  refine (broadcastTo_apply _ _ y (ix2 i (0 : Fin 1)) (by
    intro x; match x with
    | ⟨0, _⟩ => exact congrArg Fin.val hi
    | ⟨1, _⟩ => rfl)).trans ?_
  refine (shapeCast_apply _ _ (ix2 i (0 : Fin 1)) (ix1 i) (by
    rw [Shape.rowMajor_val_one, Shape.rowMajor_val_two]
    show i.val = i.val * 1 + 0
    omega)).trans ?_
  refine (Ideal.multiReduction_maximumf_single (φ := .f32) S 0xFF800000#32 reduces_S512x512_S512 _ _ _).trans ?_
  have e : (FloatOps.ofBits .f32 0xFF800000#32 : Ideal .f32) = (⊥ : EReal) := by
    show Ideal.ofBits .f32 0xFF800000#32 = ⊥
    simp [Ideal.ofBits, Ideal.ieee]
  rw [e]
  refine congrArg (fun f => (Finset.univ : Finset (Fin 512)).fold max ⊥ f) (funext fun k => congrArg S (funext fun x => ?_))
  match x with | ⟨0, _⟩ => rfl | ⟨1, _⟩ => rfl

/-- Whatever the running maximum was, it is some real number along each row afterwards. -/
theorem mN_up (κ ρ : ℕ) (hκ : κ ≤ ρ) (s : ℕ → ℕ → ℝ) (mp : S512x128.Idx → EReal) (f : ℕ → EReal) (hf : ∀ i, f i ≠ ⊤) (hm : mp = fun y => f (y 0).val) :
    ∃ ν : ℕ → ℝ, mN (F := Ideal) (mS κ ρ s) mp = up fun i _ => ν i := by
  refine ⟨fun i => (max (f i) ((Finset.univ : Finset (Fin 512)).fold max ⊥ fun k => if κ + k.val ≤ ρ + i then ((s i k.val : ℝ) : EReal) else ⊥)).toReal, funext fun y => ?_⟩
  rw [mN_apply, hm]
  have hr := fold_max_real (fun k : Fin 512 => if κ + k.val ≤ ρ + (y 0).val then ((s (y 0).val k.val : ℝ) : EReal) else ⊥) 0 (by
    show (if κ + 0 ≤ ρ + (y 0).val then _ else _) ≠ _
    rw [if_pos (by omega)]; exact EReal.coe_ne_bot _) (fun j => by
    split
    · exact EReal.coe_ne_top _
    · exact bot_ne_top)
  exact (EReal.coe_toReal (ne_of_lt (max_lt (lt_top_iff_ne_top.2 (hf (y 0).val)) (hr ▸ EReal.coe_lt_top _)))
    (ne_of_gt (lt_of_lt_of_le (hr ▸ EReal.bot_lt_coe _) (le_max_right (f (y 0).val) _)))).symm

/-! ## The running sums -/

/-- The weight of key row `J` for the block's query row `i`, taken against `ν`. -/
def wt (sg : ℕ → ℕ → ℝ) (ρ : ℕ) (ν : ℕ → ℝ) (i J : ℕ) : ℝ := if J ≤ ρ + i then Real.rpow 2 ((sg i J - ν i) * lc) else 0

theorem p_up (κ ρ : ℕ) (sg : ℕ → ℕ → ℝ) (ν : ℕ → ℝ) :
    exp2 (F := Ideal) (φ := .f32) (mulf (F := Ideal) (φ := .f32) (subf (F := Ideal) (φ := .f32) (mS κ ρ fun i j => sg i (κ + j)) (up fun i _ => ν i)) (up fun _ _ => lc))
      = up fun i j => wt sg ρ ν i (κ + j) := by
  funext y
  show Ideal.exp2 (((if κ + (y 1).val ≤ ρ + (y 0).val then ((sg (y 0).val (κ + (y 1).val) : ℝ) : EReal) else ⊥) - ((ν (y 0).val : ℝ) : EReal)) * ((lc : ℝ) : EReal))
    = ((wt sg ρ ν (y 0).val (κ + (y 1).val) : ℝ) : EReal)
  unfold wt
  by_cases h : κ + (y 1).val ≤ ρ + (y 0).val
  · rw [if_pos h, if_pos h, ← EReal.coe_sub, ← EReal.coe_mul]; rfl
  · rw [if_neg h, if_neg h, EReal.bot_sub, EReal.bot_mul_coe_of_pos lc_pos]; rfl

theorem aN_up (κ ρ : ℕ) (sg : ℕ → ℕ → ℝ) (mp ac : S512x128.Idx → EReal) (ν : ℕ → ℝ) (h : mN (F := Ideal) (mS κ ρ fun i j => sg i (κ + j)) mp = up fun i _ => ν i)
    (v A : ℕ → ℕ → ℝ)
    (hα : mulf (F := Ideal) (φ := .f32) (exp2 (F := Ideal) (φ := .f32) (mulf (F := Ideal) (φ := .f32) (subf (F := Ideal) (φ := .f32) mp (up fun i _ => ν i)) (up fun _ _ => lc))) ac = up A) :
    aN (F := Ideal) (mS κ ρ fun i j => sg i (κ + j)) mp ac (up v)
      = up fun i e => A i e + ∑ j ∈ Finset.range 512, wt sg ρ ν i (κ + j) * v j e := by
  unfold aN
  rw [h, c2_eq, zeros]
  refine (congr (congrArg (fun a b => addf (F := Ideal) (φ := .f32) a b) hα)
    ((congr (congrArg (fun a b => matmul (F := Ideal) (φ₁ := .bf16) (φ₂ := .bf16) dot_S512x512_S512x128_S512x128_1_0_0_1_n_n none a b (up fun _ _ => 0)) ?_)
    (shapeCast_self _ _)).trans (Val.mmR .bf16 .bf16 (fun i j => wt sg ρ ν i (κ + j)) v))).trans (addf_up .f32 _ _)
  refine Eq.trans ?_ (p_up κ ρ sg ν)
  refine congrArg (fun z => exp2 (F := Ideal) (φ := .f32) (mulf (F := Ideal) (φ := .f32) (subf (F := Ideal) (φ := .f32) (mS κ ρ fun i j => sg i (κ + j)) z) (up fun _ _ => lc))) ?_
  exact (congrArg (fun z => broadcastTo S512x512 z broadcasts_S512x1_S512x512) (slice_up _ _)).trans (col_up _ _)

/-- A head's running maximum and sums after the first `n` key rows. -/
def HS (sg vg : ℕ → ℕ → ℝ) (ρ n : ℕ) (mp ac : S512x128.Idx → EReal) : Prop :=
  (n = 0 ∧ mp = (fun _ => ⊥) ∧ ac = up fun _ _ => 0)
    ∨ ∃ μ : ℕ → ℝ, mp = (up fun i _ => μ i) ∧ ac = up fun i e => ∑ J ∈ Finset.range n, wt sg ρ μ i J * vg J e

theorem wt_move (sg : ℕ → ℕ → ℝ) (ρ : ℕ) (μ ν : ℕ → ℝ) (i J : ℕ) : Real.rpow 2 ((μ i - ν i) * lc) * wt sg ρ μ i J = wt sg ρ ν i J := by
  unfold wt
  split
  · show (2 : ℝ) ^ (_ : ℝ) * (2 : ℝ) ^ (_ : ℝ) = (2 : ℝ) ^ (_ : ℝ)
    rw [← Real.rpow_add (by norm_num)]
    congr 1
    ring
  · exact mul_zero _

theorem HS_step (sg vg : ℕ → ℕ → ℝ) (κ ρ : ℕ) (hκ : κ ≤ ρ) (mp ac : S512x128.Idx → EReal) (h : HS sg vg ρ κ mp ac) :
    ∃ ν : ℕ → ℝ, mN (F := Ideal) (mS κ ρ fun i j => sg i (κ + j)) mp = (up fun i _ => ν i)
      ∧ aN (F := Ideal) (mS κ ρ fun i j => sg i (κ + j)) mp ac (up fun j e => vg (κ + j) e)
        = up fun i e => ∑ J ∈ Finset.range (κ + 512), wt sg ρ ν i J * vg J e := by
  rcases h with ⟨h0, hm, ha⟩ | ⟨μ, hm, ha⟩
  · obtain ⟨ν, hν⟩ := mN_up κ ρ hκ (fun i j => sg i (κ + j)) mp (fun _ => ⊥) (fun _ => bot_ne_top) hm
    refine ⟨ν, hν, (aN_up κ ρ sg mp ac ν hν _ (fun _ _ => 0) ?_).trans (up_congr fun i e _ _ => ?_)⟩
    · rw [ha]
      exact funext fun y => mul_zero _
    · rw [zero_add, Finset.sum_range_add, h0, Finset.sum_range_zero, zero_add]
  · obtain ⟨ν, hν⟩ := mN_up κ ρ hκ (fun i j => sg i (κ + j)) mp (fun i => ((μ i : ℝ) : EReal)) (fun _ => EReal.coe_ne_top _) hm
    refine ⟨ν, hν, (aN_up κ ρ sg mp ac ν hν _ (fun i e => ∑ J ∈ Finset.range κ, wt sg ρ ν i J * vg J e) ?_).trans (up_congr fun i e _ _ => ?_)⟩
    · rw [ha, hm]
      refine ((congrArg (fun z => mulf (F := Ideal) (φ := .f32) (exp2 (F := Ideal) (φ := .f32) z) (up fun i e => ∑ J ∈ Finset.range κ, wt sg ρ μ i J * vg J e))
        ((congrArg (fun z => mulf (F := Ideal) (φ := .f32) z (up fun _ _ => lc)) (subf_up .f32 _ _)).trans (mulf_up .f32 _ _))).trans ((congrArg (fun z => mulf (F := Ideal) (φ := .f32) z (up fun i e => ∑ J ∈ Finset.range κ, wt sg ρ μ i J * vg J e)) (Val.exp2_up .f32 _)).trans (mulf_up .f32 _ _))).trans (up_congr fun i e _ _ => ?_)
      rw [Finset.mul_sum]
      exact Finset.sum_congr rfl fun J _ => by rw [← mul_assoc, wt_move]
    · rw [Finset.sum_range_add]

/-! ## The results -/

theorem lN_up (A : ℕ → ℕ → ℝ) : lN (F := Ideal) (up A) = up fun i _ => A i 64 := by
  funext y
  have h1 : (y 1).val < 1 := (y 1).isLt
  show ((A (0 + (y 0).val) (64 + (y 1).val) : ℝ) : EReal) = ((A (y 0).val 64 : ℝ) : EReal)
  rw [Nat.zero_add, show 64 + (y 1).val = 64 by omega]

theorem oN_up (A : ℕ → ℕ → ℝ) (h : ∀ i, i < 512 → A i 64 ≠ 0) : oN (F := Ideal) (up A) = up fun i e => A i e / A i 64 := by
  unfold oN
  rw [lN_up]
  refine (congrArg (fun z => divf (F := Ideal) (φ := .f32) (up A) z) (col_up _ _)).trans (funext fun y => ?_)
  have h0 : (y 0).val < 512 := (y 0).isLt
  show Ideal.div ((A _ _ : ℝ) : EReal) ((A _ 64 : ℝ) : EReal) = ((_ / _ : ℝ) : EReal)
  rw [Ideal.div_coe (h _ h0), ← EReal.coe_mul, mul_one_div]

theorem eN_up (ν : ℕ → ℝ) (A : ℕ → ℕ → ℝ) (h : ∀ i, i < 512 → 0 < A i 64) :
    eN (F := Ideal) (up fun i _ => ν i) (up A) = up fun i _ => ν i * lc + Real.log (A i 64) * (Real.log 2)⁻¹ := by
  unfold eN
  rw [lN_up, c2_eq, lg_eq]
  have e : log (F := Ideal) (φ := .f32) (up fun i _ => A i 64 : S512x1.Idx → EReal) = up fun i _ => Real.log (A i 64) := funext fun y => by
    have h0 : (y 0).val < 512 := (y 0).isLt
    show Ideal.log ((A _ 64 : ℝ) : EReal) = ((Real.log _ : ℝ) : EReal)
    rw [Ideal.log_coe, if_neg (not_le.2 (h _ h0))]
  rw [e]
  refine (congr (congrArg (fun a b => addf (F := Ideal) (φ := .f32) a b) (mulf_up .f32 (fun i _ => ν i) (fun _ _ => lc)))
    ((congrArg (fun z => broadcastTo S512x128 z broadcasts_S512x1_S512x128) (mulf_up .f32 (fun i _ => Real.log (A i 64)) (fun _ _ => (Real.log 2)⁻¹))).trans (col_up _ _))).trans ?_
  exact addf_up .f32 _ _

end Cert.Proof.Fw

end
-- ==== Proof.FwHost.lean ====
/-
  The forward call's input arrays, from real inputs.
-/
module

public import proofs.«01_k».proof.Proof.KitFI
public import proofs.«01_k».proof.Proof.ValHost
public import Idealize.ShloMosaic.Lib.Pipeline.Value

@[expose] public section

set_option maxRecDepth 16384

noncomputable section

namespace Cert.Proof.Fw

open Cert.Proof.Val
open Idealize.ShloMosaic Idealize.ShloMosaic.ValueIdx Idealize.ShloMosaic.TcCoe
open scoped BigOperators

/-! ## The call's arrays -/

namespace K

open Cert.KernelFwdIdeal Cert.KernelFwdIdeal.Gen Cert.Proof.FI

/-- The values with a one after each head's lanes, a head's lanes padded to 128. -/
def t_v1 (x : In) : FVec Ideal S16384x8x65 .f32 :=
  concatenate S16384x8x65 2 [⟨S16384x8x64, x.v⟩, ⟨S16384x8x1, broadcastInDim S16384x8x1 ![] bcast_S_S16384x8x1 (constant (F := Ideal) S_ .f32 0x3F800000#32)⟩]
    concatenates_S16384x8x64_S16384x8x1_S16384x8x65_d2
def t_v11 (x : In) : FVec Ideal S16384x1024 .bf16 :=
  truncf .bf16 (shapeCast S16384x1024 (pad S16384x8x128 ![0, 0, 0] ![0, 0, 63] ![0, 0, 0] (t_v1 x) (constant (F := Ideal) S_ .f32 0x00000000#32)
    pads_S16384x8x65_S16384x8x128_000_000_0630 h_S_ : FVec Ideal S16384x8x128 .f32) shapeCasts_S16384x8x128_S16384x1024 : FVec Ideal S16384x1024 .f32) bitsLt_bf16_f32

variable (m : (ℓ : Loc nD τ sig) → Buf (Elt Ideal) ℓ) (c : Dev nD)

/-- The inputs as the program finds them; a gradient of the output is not among them. -/
def inp : In := ⟨m ((c : Thread nD τ).loc main_arg0), m ((c : Thread nD τ).loc main_arg1), m ((c : Thread nD τ).loc main_arg2), m ((c : Thread nD τ).loc main_arg3), fun _ => (0 : EReal)⟩

set_option maxHeartbeats 4000000 in
theorem V_v5 : V m c main_v5 = Val.K.t_v30 (inp m c) := by
  unfold V
  simp only [hostOps0, List.flatten_cons, List.flatten_nil, List.append_nil, List.cons_append, List.nil_append]
  after_reads_simp
  rfl
set_option maxHeartbeats 4000000 in
theorem V_v8 : V m c main_v8 = Val.K.t_v33 (inp m c) := by
  unfold V
  simp only [hostOps0, List.flatten_cons, List.flatten_nil, List.append_nil, List.cons_append, List.nil_append]
  after_reads_simp
  rfl
set_option maxHeartbeats 4000000 in
theorem V_v11 : V m c main_v11 = t_v11 (inp m c) := by
  unfold V
  simp only [hostOps0, List.flatten_cons, List.flatten_nil, List.append_nil, List.cons_append, List.nil_append]
  after_reads_simp
  rfl
set_option maxHeartbeats 4000000 in
theorem V_v12 : V m c main_v12 = Val.K.t_v47 (inp m c) := by
  unfold V
  simp only [hostOps0, List.flatten_cons, List.flatten_nil, List.append_nil, List.cons_append, List.nil_append]
  after_reads_simp
  rfl
set_option maxHeartbeats 4000000 in
theorem V_v13 : V m c main_v13 = Val.K.t_v48 (inp m c) := by
  unfold V
  simp only [hostOps0, List.flatten_cons, List.flatten_nil, List.append_nil, List.cons_append, List.nil_append]
  after_reads_simp
  rfl

end K

/-- A head's 64 lanes, a one, zeros. -/
def one64 (A : ℕ → ℕ → ℕ → ℝ) (i l : ℕ) : ℝ := if l % 128 < 64 then A i (l / 128) (l % 128) else if l % 128 = 64 then 1 else 0

theorem one64_flat (A : ℕ → ℕ → ℕ → ℝ) (h1 h2 h3) :
    shapeCast Cert.KernelFwdIdeal.S16384x1024 (pad Cert.KernelFwdIdeal.S16384x8x128 ![0, 0, 0] ![0, 0, 63] ![0, 0, 0]
      (up3 (a := 16384) (b := 8) (c := 65) fun i h e => if e < 64 then A i h e else 1) (constant (F := Ideal) Cert.KernelFwdIdeal.S_ .f32 0x00000000#32) h1 h2 : FVec Ideal Cert.KernelFwdIdeal.S16384x8x128 .f32) h3
      = up (one64 A) := by
  refine (congrArg (fun z => shapeCast Cert.KernelFwdIdeal.S16384x1024 z h3)
    (pad3 (fun i h e => if e < 64 then A i h e else 1) (constant (F := Ideal) Cert.KernelFwdIdeal.S_ .f32 0x00000000#32) (fun _ => Ideal.ofBits_zero_f32)
      h1 h2)).trans ?_
  refine (flat3 _ _).trans (up_congr fun i l _ _ => ?_)
  unfold one64
  by_cases h1 : l % 128 < 64
  · rw [if_pos h1, if_pos (by omega), if_pos h1]
  · rw [if_neg h1]
    by_cases h2 : l % 128 = 64
    · rw [if_pos h2, if_pos (by omega), if_neg h1]
    · simp only [if_neg h1, if_neg h2, if_neg (by omega : ¬ l % 128 < 65)]

theorem K.v1 {y : In} {x : Rd} (H : Is y x) : K.t_v1 y = up3 fun i h e => if e < 64 then x.V i h e else 1 := by
  unfold K.t_v1
  rw [H.v]
  funext j
  have h2 : (j 2).val < 65 := (j 2).isLt
  show _ = (((if (j 2).val < 64 then x.V (j 0).val (j 1).val (j 2).val else 1 : ℝ)) : EReal)
  by_cases h : (j 2).val < 64
  · rw [if_pos h]
    exact concatenate_pair_apply_left (s₁ := Cert.KernelFwdIdeal.S16384x8x64) (s₂ := Cert.KernelFwdIdeal.S16384x8x1) 2 _ _ _ j rfl (ix3 (j 0) (j 1) (⟨(j 2).val, h⟩ : Fin 64)) (by
      intro b; match b with | ⟨0, _⟩ => rfl | ⟨1, _⟩ => rfl | ⟨2, _⟩ => rfl)
  · rw [if_neg h]
    refine (concatenate_pair_apply_right (s₁ := Cert.KernelFwdIdeal.S16384x8x64) (s₂ := Cert.KernelFwdIdeal.S16384x8x1) 2 _ _ _ j rfl rfl (ix3 (j 0) (j 1) (0 : Fin 1)) (by
      intro b hb; match b with | ⟨0, _⟩ => rfl | ⟨1, _⟩ => rfl | ⟨2, _⟩ => exact absurd rfl hb) (by
      show 0 + 64 = (j 2).val; omega)).trans ?_
    exact Ideal.ofBits_one_f32

theorem K.v11 {y : In} {x : Rd} (H : Is y x) : K.t_v11 y = up (one64 x.V) := by
  unfold K.t_v11
  rw [K.v1 H]
  exact one64_flat x.V Cert.KernelFwdIdeal.Gen.pads_S16384x8x65_S16384x8x128_000_000_0630 Cert.KernelFwdIdeal.Gen.h_S_ Cert.KernelFwdIdeal.Gen.shapeCasts_S16384x8x128_S16384x1024

end Cert.Proof.Fw

end
-- ==== Proof.FwRef.lean ====
/-
  The forward reference's results, from real inputs.
-/
module

public import proofs.«01_k».proof.Proof.FwHost
public import proofs.«01_k».proof.Proof.Gen.ReferenceFwdIdeal
public import proofs.«01_k».proof.Proof.ValRef
public import Idealize.ShloMosaic.Lib.Claim
public import Idealize.ShloMosaic.Lib.Quiescent
public import Idealize.ShloMosaic.Lib.Pipeline.Value

@[expose] public section

set_option maxRecDepth 16384

noncomputable section

namespace Cert.Proof.Fw

open Cert.Proof.Val
open Idealize.ShloMosaic Idealize.ShloMosaic.ValueIdx Idealize.ShloMosaic.TcCoe
open scoped BigOperators

namespace R

open Cert.ReferenceFwdIdeal Cert.ReferenceFwdIdeal.Gen

/-- The output with a one after each head's lanes, in the kernel's layout. -/
def t_v44 (x : In) : FVec Ideal S16384x8x65 .f32 :=
  concatenate S16384x8x65 2 [
    ⟨S16384x8x64, transpose S16384x8x64 [2, 0, 1] (Host.dotGeneral (F := Ideal) (φ₁ := .f32) (φ₂ := .f32) dot_S16384x8x64_S8x16384x16384_S8x64x16384_0_2_2_1_1_0 none x.v (Val.R.t_v33 x) : FVec Ideal S8x64x16384 .f32) transposes_S8x64x16384_S16384x8x64_2_0_1⟩,
    ⟨S16384x8x1, broadcastInDim S16384x8x1 ![] bcast_S_S16384x8x1 (constant (F := Ideal) S_ .f32 0x3F800000#32)⟩]
    concatenates_S16384x8x64_S16384x8x1_S16384x8x65_d2
def t_v46 (x : In) : FVec Ideal S16384x1024 .f32 :=
  shapeCast S16384x1024 (pad S16384x8x128 ![0, 0, 0] ![0, 0, 63] ![0, 0, 0] (t_v44 x) (constant (F := Ideal) S_ .f32 0x00000000#32)
    pads_S16384x8x65_S16384x8x128_000_000_0630 h_S_ : FVec Ideal S16384x8x128 .f32) shapeCasts_S16384x8x128_S16384x1024
/-- The logarithms of the sums. -/
def t_v49 (x : In) : FVec Ideal S16384x1024 .f32 :=
  shapeCast S16384x1024 (broadcastInDim S16384x8x128 ![0, 1, 2] bcast_S16384x8x1_S16384x8x128_0_1_2
    (transpose S16384x8x1 [1, 0, 2] (Val.K.t_v20 x) transposes_S8x16384x1_S16384x8x1_1_0_2 : FVec Ideal S16384x8x1 .f32) : FVec Ideal S16384x8x128 .f32)
    shapeCasts_S16384x8x128_S16384x1024

variable (m : (ℓ : Loc nD τ sig) → Buf (Elt Ideal) ℓ) (g : Dev nD → PrngReg)

/-- The inputs as the reference finds them. -/
def inp (c : Dev nD) : In := ⟨m ((c.tc : Thread nD τ).loc main_arg0), m ((c.tc : Thread nD τ).loc main_arg1), m ((c.tc : Thread nD τ).loc main_arg2), m ((c.tc : Thread nD τ).loc main_arg3), fun _ => (0 : EReal)⟩

set_option maxHeartbeats 8000000 in
theorem run : θ_run (defs (F := Ideal)) (onTc (τ := τ) (main (F := Ideal))) ⟨m, fun _ => 0, g⟩ (fun r => ∀ c : Dev nD,
      (r.2.mem ((c.tc : Thread nD τ).loc main_v46) = t_v46 (inp m c)
      ∧ r.2.mem ((c.tc : Thread nD τ).loc main_v49) = t_v49 (inp m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  all_goals rfl

theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2, sem_eq_zero_of_no_sems (by decide) r.2⟩) (run m g)

/-- The output of attention. -/
def O (x : Rd) (i h e : ℕ) : ℝ := ∑ j ∈ Finset.range 16384, x.V j h e * Pr x h i j

variable {y : In} {x : Rd} (H : Is y x)
include H

theorem v41 : (Host.dotGeneral (F := Ideal) (φ₁ := .f32) (φ₂ := .f32) dot_S16384x8x64_S8x16384x16384_S8x64x16384_0_2_2_1_1_0 none y.v (Val.R.t_v33 y) : FVec Ideal S8x64x16384 .f32)
    = up3 fun h e i => O x i h e := by
  rw [Val.R.v33 H, H.v]
  funext j
  refine (dot1 dot_S16384x8x64_S8x16384x16384_S8x64x16384_0_2_2_1_1_0 16384 rfl rfl none (up3 x.V) (up3 (Pr x)) j
    (fun k => ((x.V k.val (j 0).val (j 1).val : ℝ) : EReal)) (fun k => ((Pr x (j 0).val (j 2).val k.val : ℝ) : EReal)) (fun k c hk => ?_) (fun k c hk => ?_)).trans ?_
  · rw [← hk]; rfl
  · rw [← hk]; rfl
  · show _ = ((∑ d ∈ Finset.range 16384, _ : ℝ) : EReal)
    rw [coe_sum_fin]
    exact Finset.sum_congr rfl fun k _ => (EReal.coe_mul _ _).symm

theorem v44 : t_v44 y = up3 fun i h e => if e < 64 then O x i h e else 1 := by
  unfold t_v44
  rw [v41 H]
  funext j
  have h2 : (j 2).val < 65 := (j 2).isLt
  show _ = (((if (j 2).val < 64 then O x (j 0).val (j 1).val (j 2).val else 1 : ℝ)) : EReal)
  by_cases h : (j 2).val < 64
  · rw [if_pos h]
    refine (concatenate_pair_apply_left (s₁ := S16384x8x64) (s₂ := S16384x8x1) 2 _ _ _ j rfl (ix3 (j 0) (j 1) (⟨(j 2).val, h⟩ : Fin 64)) (by
      intro b; match b with | ⟨0, _⟩ => rfl | ⟨1, _⟩ => rfl | ⟨2, _⟩ => rfl)).trans ?_
    exact congrFun (tr201 (fun h e i => O x i h e) _) _
  · rw [if_neg h]
    refine (concatenate_pair_apply_right (s₁ := S16384x8x64) (s₂ := S16384x8x1) 2 _ _ _ j rfl rfl (ix3 (j 0) (j 1) (0 : Fin 1)) (by
      intro b hb; match b with | ⟨0, _⟩ => rfl | ⟨1, _⟩ => rfl | ⟨2, _⟩ => exact absurd rfl hb) (by
      show 0 + 64 = (j 2).val; omega)).trans ?_
    exact Ideal.ofBits_one_f32

theorem v46 : t_v46 y = up (one64 (O x)) := by
  unfold t_v46
  rw [v44 H]
  exact one64_flat (O x) pads_S16384x8x65_S16384x8x128_000_000_0630 h_S_ shapeCasts_S16384x8x128_S16384x1024

theorem v49 : t_v49 y = up fun i l => Ls x (l / 128) i := by
  unfold t_v49
  rw [Val.K.v20 H]
  refine (congrArg (fun z => shapeCast S16384x1024 (broadcastInDim S16384x8x128 ![0, 1, 2] bcast_S16384x8x1_S16384x8x128_0_1_2 z) _) (tr102 _ _)).trans ?_
  refine (congrArg (fun z => shapeCast S16384x1024 z _) (lanes3 _ _)).trans ?_
  exact flat3 _ _

end R

end Cert.Proof.Fw

end
-- ==== Proof.TabFI.lean ====
/-
  The forward call's two index tables: which blocks the steps of a group of heads work on, in which order, and what the step's conditions say of them.
-/
module

public import proofs.«01_k».proof.Proof.RunFI
public import Idealize.ShloMosaic.Lib.StableHlo.RunRead

@[expose] public section

set_option maxRecDepth 16384

noncomputable section

namespace Cert.Proof.FI

open Cert.KernelFwdIdeal Cert.KernelFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The tables' numbers -/

/-- The query block and the key block of step `s` of a group of heads. -/
def qB (s : Fin 528) : ℕ := (lit0 s).toNat
def kB (s : Fin 528) : ℕ := (lit1 s).toNat

theorem words : ∀ s : Fin 528,
    (qB s < 32 ∧ kB s ≤ qB s)
    ∧ (kB s = 0 ↔ iniW (lit1 s)) ∧ (kB s ≠ qB s ↔ neW (lit0 s) (lit1 s))
    ∧ (kB s = qB s ↔ k0_cond3 (lit0 s) (lit1 s) = 1#1)
    ∧ (s.val = qB s * (qB s + 1) / 2 + kB s) := by
  decide +kernel

theorem qB_lt (s) : qB s < 32 := (words s).1.1
theorem kB_le (s) : kB s ≤ qB s := (words s).1.2
theorem kB_lt (s) : kB s < 32 := lt_of_le_of_lt (kB_le s) (qB_lt s)
theorem place (s : Fin 528) : s.val = qB s * (qB s + 1) / 2 + kB s := (words s).2.2.2.2

/-- The steps run through a query block's key blocks from the first to its own, query block by query block. -/
theorem next : ∀ s : Fin 527,
    (kB s.castSucc = qB s.castSucc → kB s.succ = 0 ∧ qB s.succ = qB s.castSucc + 1)
    ∧ (kB s.castSucc ≠ qB s.castSucc → kB s.succ = kB s.castSucc + 1 ∧ qB s.succ = qB s.castSucc) := by
  decide +kernel

theorem first : qB 0 = 0 ∧ kB 0 = 0 ∧ qB 527 = 31 ∧ kB 527 = 31 := by decide +kernel

/-! ## The tables as the call finds them -/

theorem tbl0 : tbl m 0 = fun i => lit0 (S528.rowMajor i) := by
  unfold tbl V
  simp only [hostOps0, List.flatten_cons, List.flatten_nil, List.append_nil, List.cons_append, List.nil_append]
  after_reads_simp
  rfl
theorem tbl1 : tbl m 1 = fun i => lit1 (S528.rowMajor i) := by
  unfold tbl V
  simp only [hostOps0, List.flatten_cons, List.flatten_nil, List.append_nil, List.cons_append, List.nil_append]
  after_reads_simp
  rfl

/-- The step a grid point is at, in its group of heads. -/
abbrev stp (i : grid0.Coords) : Fin 528 := ⟨(i 1).val, (i 1).isLt⟩
/-- Its group of heads. -/
abbrev grp (i : grid0.Coords) : Fin 2 := ⟨(i 0).val, (i 0).isLt⟩

theorem off1_eq (i : grid0.Coords) : k0_off1 i = ![(i 1).val] := by
  unfold k0_off1
  have e : (Scalar.indexCast (BitVec.ofNat 32 (i 1).val) : Index).toNat = (i 1).val := by
    show (BitVec.ofNat 32 (i 1).val).toNat = _
    rw [BitVec.toNat_ofNat]
    exact Nat.mod_eq_of_lt (by have h : (i 1).val < 528 := (i 1).isLt; omega)
  simp only [e]

theorem at_eq (i : grid0.Coords) (j : S528.Idx) (h : (j 0).val = (i 1).val) : S528.rowMajor j = stp i :=
  Fin.ext ((Shape.rowMajor_val_one j).trans h)

theorem ofNat_grp (i : grid0.Coords) : (BitVec.ofNat 32 (i 0).val).toNat = (i 0).val := by
  rw [BitVec.toNat_ofNat]
  exact Nat.mod_eq_of_lt (by have h : (i 0).val < 2 := (i 0).isLt; omega)

theorem at0 (i : grid0.Coords) (inb) (h1) : (tbl m).at 0 (Rect.unit (s := S528) (k0_off1 i) S1.size inb) h1 = lit0 (stp i) := by
  refine (congrFun (tbl0 m) _).trans (congrArg lit0 (at_eq i _ ?_))
  show k0_off1 i 0 + 1 * 0 = _
  rw [off1_eq]; rfl
theorem at1 (i : grid0.Coords) (inb) (h1) : (tbl m).at 1 (Rect.unit (s := S528) (k0_off1 i) S1.size inb) h1 = lit1 (stp i) := by
  refine (congrFun (tbl1 m) _).trans (congrArg lit1 (at_eq i _ ?_))
  show k0_off1 i 0 + 1 * 0 = _
  rw [off1_eq]; rfl
theorem atD0 (i : grid0.Coords) : (tbl m).atD 0 (k0_off1 i) = lit0 (stp i) := by
  unfold Pipeline.Prefetch.Contents.atD
  have hb : ∀ a : Fin 1, k0_off1 i a + 1 ≤ S528.size a := fun a => by
    have ea : a = 0 := Subsingleton.elim _ _
    subst ea; exact k0_off1_inb i 0
  have hj : (S528.rowMajor fun a => ⟨k0_off1 i a, Nat.lt_of_succ_le (hb a)⟩) = stp i := at_eq i _ (by
    show k0_off1 i 0 = _
    rw [off1_eq]; rfl)
  refine (dif_pos hb).trans ?_
  rw [tbl0]
  exact congrArg lit0 hj
theorem atD1 (i : grid0.Coords) : (tbl m).atD 1 (k0_off1 i) = lit1 (stp i) := by
  unfold Pipeline.Prefetch.Contents.atD
  have hb : ∀ a : Fin 1, k0_off1 i a + 1 ≤ S528.size a := fun a => by
    have ea : a = 0 := Subsingleton.elim _ _
    subst ea; exact k0_off1_inb i 0
  have hj : (S528.rowMajor fun a => ⟨k0_off1 i a, Nat.lt_of_succ_le (hb a)⟩) = stp i := at_eq i _ (by
    show k0_off1 i 0 = _
    rw [off1_eq]; rfl)
  refine (dif_pos hb).trans ?_
  rw [tbl1]
  exact congrArg lit1 hj
theorem word0 (c : Dev nD) (i : grid0.Coords) : word (c := c) tbM0 (tbl m 0) i = lit0 (stp i) := by
  refine (congrFun (tbl0 m) _).trans (congrArg lit0 (at_eq i _ ?_))
  show k0_off1 i 0 + 1 * 0 = _
  rw [off1_eq]; rfl
theorem word1 (c : Dev nD) (i : grid0.Coords) : word (c := c) tbM1 (tbl m 1) i = lit1 (stp i) := by
  refine (congrFun (tbl1 m) _).trans (congrArg lit1 (at_eq i _ ?_))
  show k0_off1 i 0 + 1 * 0 = _
  rw [off1_eq]; rfl

theorem ix_q (i : grid0.Coords) : cc0_transform_0 k0_off1_inb numel1_S1 (tbl m) i = ![qB (stp i), (i 0).val] := by
  show ![((tbl m).at 0 (Rect.unit (s := S528) (k0_off1 i) S1.size (k0_off1_inb i)) numel1_S1).toNat, (BitVec.ofNat 32 (i 0).val).toNat] = _
  rw [at0 m i (k0_off1_inb i) numel1_S1, ofNat_grp]; rfl
theorem ix_k (i : grid0.Coords) : cc0_transform_1 k0_off1_inb numel1_S1 (tbl m) i = ![kB (stp i), (i 0).val] := by
  show ![((tbl m).at 1 (Rect.unit (s := S528) (k0_off1 i) S1.size (k0_off1_inb i)) numel1_S1).toNat, (BitVec.ofNat 32 (i 0).val).toNat] = _
  rw [at1 m i (k0_off1_inb i) numel1_S1, ofNat_grp]; rfl
theorem ix_pc (i : grid0.Coords) : cc0_transform_3 k0_off1_inb numel1_S1 (tbl m) i = ![qB (stp i), 0] := by
  show ![((tbl m).at 0 (Rect.unit (s := S528) (k0_off1 i) S1.size (k0_off1_inb i)) numel1_S1).toNat, 0] = _
  rw [at0 m i (k0_off1_inb i) numel1_S1]; rfl
theorem ix_pr (i : grid0.Coords) : cc0_transform_4 k0_off1_inb numel1_S1 (tbl m) i = ![0, kB (stp i)] := by
  show ![0, ((tbl m).at 1 (Rect.unit (s := S528) (k0_off1 i) S1.size (k0_off1_inb i)) numel1_S1).toNat] = _
  rw [at1 m i (k0_off1_inb i) numel1_S1]; rfl

/-! ## Every block lies inside its array -/

theorem in_bf : ∀ (a : Fin 32) (b : Fin 2), ∃ h : (∀ x, ((![a.val, b.val] : Fin 2 → ℕ) x + 1) * S512x512.size x ≤ S16384x1024.size x),
    EltTy.bits .bf16 = 32 ∨ (Rect.block (s := S16384x1024) S512x512.size ![a.val, b.val] h).WholeWords (EltTy.packing .bf16) := by
  decide +kernel
theorem in_f : ∀ (a : Fin 32) (b : Fin 2), (∀ x, ((![a.val, b.val] : Fin 2 → ℕ) x + 1) * S512x512.size x ≤ S16384x1024.size x) := by
  decide +kernel
theorem in_pc : ∀ (a : Fin 32), (∀ x, ((![a.val, 0] : Fin 2 → ℕ) x + 1) * S512x1.size x ≤ S16384x1.size x) := by
  decide +kernel
theorem in_pr : ∀ (a : Fin 32), (∀ x, ((![0, a.val] : Fin 2 → ℕ) x + 1) * S1x512.size x ≤ S1x16384.size x) := by
  decide +kernel

theorem ok : Ok m := by
  have hb (ix : Fin 2 → ℕ) (a : Fin 32) (b : Fin 2) (e : ix = ![a.val, b.val]) : ∃ h : (∀ x, (ix x + 1) * S512x512.size x ≤ S16384x1024.size x),
      EltTy.bits .bf16 = 32 ∨ (Rect.block (s := S16384x1024) S512x512.size ix h).WholeWords (EltTy.packing .bf16) := by
    subst e; exact in_bf a b
  have hf (ix : Fin 2 → ℕ) (a : Fin 32) (b : Fin 2) (e : ix = ![a.val, b.val]) : ∃ h : (∀ x, (ix x + 1) * S512x512.size x ≤ S16384x1024.size x),
      EltTy.bits .f32 = 32 ∨ (Rect.block (s := S16384x1024) S512x512.size ix h).WholeWords (EltTy.packing .f32) := by
    subst e; exact ⟨in_f a b, .inl rfl⟩
  have hc (ix : Fin 2 → ℕ) (a : Fin 32) (e : ix = ![a.val, 0]) : ∃ h : (∀ x, (ix x + 1) * S512x1.size x ≤ S16384x1.size x),
      EltTy.bits .f32 = 32 ∨ (Rect.block (s := S16384x1) S512x1.size ix h).WholeWords (EltTy.packing .f32) := by
    subst e; exact ⟨in_pc a, .inl rfl⟩
  have hr (ix : Fin 2 → ℕ) (a : Fin 32) (e : ix = ![0, a.val]) : ∃ h : (∀ x, (ix x + 1) * S1x512.size x ≤ S1x16384.size x),
      EltTy.bits .f32 = 32 ∨ (Rect.block (s := S1x16384) S1x512.size ix h).WholeWords (EltTy.packing .f32) := by
    subst e; exact ⟨in_pr a, .inl rfl⟩
  exact ⟨fun i => hb _ ⟨_, qB_lt _⟩ (grp i) (ix_q m i), fun i => hb _ ⟨_, kB_lt _⟩ (grp i) (ix_k m i), fun i => hb _ ⟨_, kB_lt _⟩ (grp i) (ix_k m i),
    fun i => hc _ ⟨_, qB_lt _⟩ (ix_pc m i), fun i => hr _ ⟨_, kB_lt _⟩ (ix_pr m i),
    fun i => hf _ ⟨_, qB_lt _⟩ (grp i) (ix_q m i), fun i => hf _ ⟨_, qB_lt _⟩ (grp i) (ix_q m i)⟩

end Cert.Proof.FI

end
-- ==== Proof.OblFI.lean ====
/-
  The forward call's run: what the running buffers hold after each point, the body at every point, which points write back, the call's data.
-/
module

public import proofs.«01_k».proof.Proof.TabFI

@[expose] public section

set_option maxRecDepth 16384

noncomputable section

namespace Cert.Proof.FI

open Cert.KernelFwdIdeal Cert.KernelFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One step -/

/-- The running maximum and the running sums. -/
structure State (F : FTy → Type) where
  m : Vec F S512x512 .f32
  a : Vec F S512x512 .f32

open Classical in
/-- What a step starts from: a query block's first step starts anew. -/
def base (s : Fin 528) (x : State F) : State F := if kB s = 0 then ⟨k0_pay1, k0_pay2⟩ else x
open Classical in
/-- What it leaves: the last step of a query block, on the diagonal, leaves the running buffers as they are. -/
def step (B : Blocks F) (s : Fin 528) (b : State F) : State F :=
  if kB s = qB s then b else ⟨join (offM B b.m), join (offA B b.m b.a)⟩
/-- The two results of a query block, and the outputs' blocks after a step: written on the diagonal alone. -/
def resO (B : Blocks F) (b : State F) : Vec F S512x512 .f32 := join (diaO B b.m b.a)
def resE (B : Blocks F) (b : State F) : Vec F S512x512 .f32 := join (diaE B b.m b.a)
def outO (B : Blocks F) (s : Fin 528) (b : State F) (y : Vec F S512x512 .f32) : Vec F S512x512 .f32 := if kB s = qB s then resO B b else y
def outE (B : Blocks F) (s : Fin 528) (b : State F) (y : Vec F S512x512 .f32) : Vec F S512x512 .f32 := if kB s = qB s then resE B b else y

set_option maxHeartbeats 1000000 in
/-- The body at any point. -/
theorem body (c : Dev nD) (i : grid0.Coords)
    (M2 : Memref sig .tc .smem S528 .i32) (h2 : M2.IsWhole) (M3 : Memref sig .tc .smem S528 .i32) (h3 : M3.IsWhole)
    (M4 : Memref sig .tc .vmem S512x512 .bf16) (h4 : M4.IsWhole) (M5 : Memref sig .tc .vmem S512x512 .bf16) (h5 : M5.IsWhole)
    (M6 : Memref sig .tc .vmem S512x512 .bf16) (h6 : M6.IsWhole) (M7 : Memref sig .tc .vmem S512x1 .f32) (h7 : M7.IsWhole)
    (M8 : Memref sig .tc .vmem S1x512 .f32) (h8 : M8.IsWhole) (M9 : Memref sig .tc .vmem S512x512 .f32) (h9 : M9.IsWhole)
    (M10 : Memref sig .tc .vmem S512x512 .f32) (h10 : M10.IsWhole) (M11 : Memref sig .tc .vmem S512x512 .f32) (h11 : M11.IsWhole)
    (M12 : Memref sig .tc .vmem S512x512 .f32) (h12 : M12.IsWhole)
    (t2 : TbBuf (F := F) c M2) (t3 : TbBuf (F := F) c M3) (s : Fin 528) (e2 : word M2 t2 i = lit0 s) (e3 : word M3 t3 i = lit1 s)
    (B : Blocks F) (x9 x10 x11 x12 : Vec F S512x512 .f32) :
    Step c i M2 h2 M3 h3 M4 h4 M5 h5 M6 h6 M7 h7 M8 h8 M9 h9 M10 h10 M11 h11 M12 h12 t2 t3 B x9 x10 x11 x12
      (outO B s (base s ⟨x11, x12⟩) x9) (outE B s (base s ⟨x11, x12⟩) x10) (step B s (base s ⟨x11, x12⟩)).m (step B s (base s ⟨x11, x12⟩)).a := by
  obtain ⟨-, w1, w2, w3, -⟩ := words s
  rw [← e3] at w1 w2 w3
  rw [← e2] at w2 w3
  by_cases hz : kB s = 0
  · have eb : base s ⟨x11, x12⟩ = (⟨k0_pay1, k0_pay2⟩ : State F) := if_pos hz
    rw [eb]
    by_cases hd : kB s = qB s
    · rw [outO, outE, step, if_pos hd, if_pos hd, if_pos hd]
      exact bodyA c i M2 h2 M3 h3 M4 h4 M5 h5 M6 h6 M7 h7 M8 h8 M9 h9 M10 h10 M11 h11 M12 h12 t2 t3 B x9 x10 x11 x12 (w1.1 hz) (fun h => w2.2 h hd) (w3.1 hd)
    · rw [outO, outE, step, if_neg hd, if_neg hd, if_neg hd]
      exact bodyB c i M2 h2 M3 h3 M4 h4 M5 h5 M6 h6 M7 h7 M8 h8 M9 h9 M10 h10 M11 h11 M12 h12 t2 t3 B x9 x10 x11 x12 (w1.1 hz) (w2.1 hd) (fun h => hd (w3.2 h))
  · have eb : base s ⟨x11, x12⟩ = (⟨x11, x12⟩ : State F) := if_neg hz
    rw [eb]
    by_cases hd : kB s = qB s
    · rw [outO, outE, step, if_pos hd, if_pos hd, if_pos hd]
      exact bodyD c i M2 h2 M3 h3 M4 h4 M5 h5 M6 h6 M7 h7 M8 h8 M9 h9 M10 h10 M11 h11 M12 h12 t2 t3 B x9 x10 x11 x12 (fun h => hz (w1.2 h)) (fun h => w2.2 h hd) (w3.1 hd)
    · rw [outO, outE, step, if_neg hd, if_neg hd, if_neg hd]
      exact bodyC c i M2 h2 M3 h3 M4 h4 M5 h5 M6 h6 M7 h7 M8 h8 M9 h9 M10 h10 M11 h11 M12 h12 t2 t3 B x9 x10 x11 x12 (fun h => hz (w1.2 h)) (w2.1 hd) (fun h => hd (w3.2 h))

attribute [local irreducible] tbl

/-! ## The state along the points -/

/-- The blocks of point `t`. -/
def blks (hO : Ok m) (c : Dev nD) (t : Fin (cfgM m hO).N) : Blocks F :=
  ⟨iblk m hO c 0 t, iblk m hO c 1 t, iblk m hO c 2 t, iblk m hO c 3 t, iblk m hO c 4 t⟩

/-- The step of point `n`. -/
abbrev ps (n : ℕ) : Fin 528 := ⟨n % 528, Nat.mod_lt _ (by decide)⟩

/-- The state before point `n`. -/
def st (hO : Ok m) (c : Dev nD) : ℕ → State F
  | 0 => ⟨k0_pay1, k0_pay2⟩
  | n + 1 => if h : n < (cfgM m hO).N then step (blks m hO c ⟨n, h⟩) (ps n) (base (ps n) (st hO c n)) else st hO c n

theorem co1 (t : Fin grid0.N) : ((grid0.coords t) 1).val = t.val % 528 := by
  have := Pipeline.Grid.coords_val t 1 (S := 1) (B := 528) (by decide) rfl
  rwa [Nat.div_one] at this
theorem co0 (t : Fin grid0.N) : ((grid0.coords t) 0).val = t.val / 528 := by
  have := Pipeline.Grid.coords_val t 0 (S := 528) (B := 2) (by decide) rfl
  rw [this]; exact Nat.mod_eq_of_lt (by have h : t.val < 1056 := t.isLt; omega)
theorem stp_eq (t : Fin grid0.N) : stp (grid0.coords t) = ps t.val := Fin.ext (co1 t)

theorem st_succ (hO : Ok m) (c : Dev nD) (t : Fin (cfgM m hO).N) :
    st m hO c (t.val + 1) = step (blks m hO c t) (ps t.val) (base (ps t.val) (st m hO c t.val)) :=
  dif_pos t.isLt

/-- The state before a point is read only where the step before belongs to the same query block. -/
theorem base_congr (n : ℕ) (x y : State F) (h : n ≠ 0 → x = y) : base (ps n) x = base (ps n) y := by
  by_cases h0 : n = 0
  · subst h0
    have e : kB (ps 0) = 0 := first.2.1
    exact (if_pos e).trans (if_pos e).symm
  · rw [h h0]

/-! ## Which points write back -/

theorem gridN : grid0.N = 1056 := by decide +kernel
theorem N_eq (hO : Ok m) : (cfgM m hO).N = 1056 := gridN

theorem flush_no (hO : Ok m) (w : Fin 7) (t : Fin (cfgM m hO).N) (h : t.val + 1 < (cfgM m hO).N)
    (e : ((cfgM m hO).win w).index ⟨t.val + 1, h⟩ = ((cfgM m hO).win w).index t) : ((cfgM m hO).win w).flush t = false := by
  have hN : (cfgM m hO).N = (cfgM m hO).grid.N := rfl
  have ht := t.isLt
  unfold Pipeline.Window.flush
  rw [decide_eq_false (by omega : ¬ t.val + 1 = (cfgM m hO).grid.N), decide_eq_false (by rintro ⟨_, hh⟩; exact hh e)]
  simp

theorem flush_yes (hO : Ok m) (w : Fin 7) (t : Fin (cfgM m hO).N) (ho : ((cfgM m hO).win w).isOut = true)
    (e : ∀ h : t.val + 1 < (cfgM m hO).N, ((cfgM m hO).win w).index ⟨t.val + 1, h⟩ ≠ ((cfgM m hO).win w).index t) : ((cfgM m hO).win w).flush t = true := by
  have hN : (cfgM m hO).N = (cfgM m hO).grid.N := rfl
  have ht := t.isLt
  unfold Pipeline.Window.flush
  rw [ho, Bool.true_and, Bool.or_eq_true, decide_eq_true_iff, decide_eq_true_iff]
  by_cases h : t.val + 1 = (cfgM m hO).grid.N
  · exact .inl h
  · have hl : t.val + 1 < (cfgM m hO).grid.N := by have := t.isLt; omega
    exact .inr ⟨hl, e hl⟩

theorem index5 (hO : Ok m) (t : Fin (cfgM m hO).N) : ((cfgM m hO).win 5).index t = ![qB (ps t.val), t.val / 528] := by
  refine (ix_q m (grid0.coords t)).trans ?_
  rw [stp_eq, co0]
theorem index6 (hO : Ok m) (t : Fin (cfgM m hO).N) : ((cfgM m hO).win 6).index t = ![qB (ps t.val), t.val / 528] := by
  refine (ix_q m (grid0.coords t)).trans ?_
  rw [stp_eq, co0]

theorem ps_succ (n : ℕ) (h : n % 528 < 527) : ps (n + 1) = (⟨n % 528, h⟩ : Fin 527).succ := Fin.ext (by
  show (n + 1) % 528 = n % 528 + 1
  omega)
theorem next' (n : ℕ) (h : kB (ps n) ≠ qB (ps n)) : n % 528 ≠ 527 ∧ kB (ps (n + 1)) = kB (ps n) + 1 ∧ qB (ps (n + 1)) = qB (ps n) := by
  have h1 : n % 528 ≠ 527 := fun e => h (by
    have : ps n = 527 := Fin.ext e
    rw [this, first.2.2.1, first.2.2.2])
  have hl : n % 528 < 527 := by omega
  refine ⟨h1, ?_⟩
  rw [ps_succ n hl]
  exact (next ⟨n % 528, hl⟩).2 h

theorem flush5_no (hO : Ok m) (t : Fin (cfgM m hO).N) (h : kB (ps t.val) ≠ qB (ps t.val)) : ((cfgM m hO).win 5).flush t = false := by
  have hN := N_eq m hO
  have ht := t.isLt
  obtain ⟨h1, -, h2⟩ := next' t.val h
  refine flush_no m hO 5 t (by omega) ?_
  rw [index5, index5]
  show ![qB (ps (t.val + 1)), (t.val + 1) / 528] = _
  rw [h2, show (t.val + 1) / 528 = t.val / 528 by omega]
theorem flush6_no (hO : Ok m) (t : Fin (cfgM m hO).N) (h : kB (ps t.val) ≠ qB (ps t.val)) : ((cfgM m hO).win 6).flush t = false := by
  have hN := N_eq m hO
  have ht := t.isLt
  obtain ⟨h1, -, h2⟩ := next' t.val h
  refine flush_no m hO 6 t (by omega) ?_
  rw [index6, index6]
  show ![qB (ps (t.val + 1)), (t.val + 1) / 528] = _
  rw [h2, show (t.val + 1) / 528 = t.val / 528 by omega]

theorem idle5 (i : grid0.Coords) : idle0 (tbl m) 5 i = !decide (kB (stp i) = qB (stp i)) := by
  have key : ∀ a b : BitVec 32, a = lit0 (stp i) → b = lit1 (stp i) → (!(k0_cond3 a b == 1#1)) = !decide (kB (stp i) = qB (stp i)) := by
    rintro _ _ rfl rfl
    obtain ⟨-, -, -, w3, -⟩ := words (stp i)
    congr 1
    by_cases h : k0_cond3 (lit0 (stp i)) (lit1 (stp i)) = 1#1
    · rw [h, decide_eq_true (w3.2 h)]; rfl
    · rw [decide_eq_false (fun e => h (w3.1 e))]; simpa using h
  exact key _ _ (atD0 m i) (atD1 m i)
theorem idle6 (i : grid0.Coords) : idle0 (tbl m) 6 i = !decide (kB (stp i) = qB (stp i)) := idle5 m i

/-! ## The call's data -/

/-- A running buffer at some contents. -/
abbrev scr0 (c : Dev nD) (x : Vec F S512x512 .f32) : sProp 𝕄 := (c : Thread nD τ).loc cc0_scratch0 ↦{fullShare} x
abbrev scr1 (c : Dev nD) (x : Vec F S512x512 .f32) : sProp 𝕄 := (c : Thread nD τ).loc cc0_scratch1 ↦{fullShare} x
theorem scr0_eq (c : Dev nD) (x : Vec F S512x512 .f32) : (owns (c : Thread nD τ) (Memref.whole cc0_scratch0) fullShare x : sProp 𝕄) = scr0 c x := owns_whole _ _ _ _
theorem scr1_eq (c : Dev nD) (x : Vec F S512x512 .f32) : (owns (c : Thread nD τ) (Memref.whole cc0_scratch1) fullShare x : sProp 𝕄) = scr1 c x := owns_whole _ _ _ _

/-- Between points: the running buffers hold the state's, and the tables are as the call found them. -/
def Inv (hO : Ok m) (c : Dev nD) (n : ℕ) : sProp 𝕄 :=
  iprop((∃ x11 x12, ⌜n ≠ 0 → (⟨x11, x12⟩ : State F) = st m hO c n⌝ ∗ scr0 c x11 ∗ scr1 c x12)
    ∗ (tbPt c tbM0 (tbl m 0) ∗ tbPt c tbM1 (tbl m 1)) ∗ ∃ r, prngReg c r)

/-- The state a point's step starts from. -/
def bs (hO : Ok m) (c : Dev nD) (n : ℕ) : State F := base (ps n) (st m hO c n)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => resO (blks m hO c t) (bs m hO c t.val)
    | ⟨6, _⟩ => resE (blks m hO c t) (bs m hO c t.val)
  Φ n := Inv m hO c n.val
  q _ := fullShare
  owed _ := 0

theorem after0 (hO : Ok m) (c : Dev nD) (t : Fin (cfgM m hO).N) : (dats m hO 0 c).after 0 t = iblk m hO c 0 t := rfl
theorem after1 (hO : Ok m) (c : Dev nD) (t : Fin (cfgM m hO).N) : (dats m hO 0 c).after 1 t = iblk m hO c 1 t := rfl
theorem after2 (hO : Ok m) (c : Dev nD) (t : Fin (cfgM m hO).N) : (dats m hO 0 c).after 2 t = iblk m hO c 2 t := rfl
theorem after3 (hO : Ok m) (c : Dev nD) (t : Fin (cfgM m hO).N) : (dats m hO 0 c).after 3 t = iblk m hO c 3 t := rfl
theorem after4 (hO : Ok m) (c : Dev nD) (t : Fin (cfgM m hO).N) : (dats m hO 0 c).after 4 t = iblk m hO c 4 t := rfl
theorem after5 (hO : Ok m) (c : Dev nD) (t : Fin (cfgM m hO).N) : (dats m hO 0 c).after 5 t = resO (blks m hO c t) (bs m hO c t.val) := rfl
theorem after6 (hO : Ok m) (c : Dev nD) (t : Fin (cfgM m hO).N) : (dats m hO 0 c).after 6 t = resE (blks m hO c t) (bs m hO c t.val) := rfl
theorem bef0 (hO : Ok m) (c : Dev nD) (t : Fin (cfgM m hO).N) (d) : (dats m hO 0 c).before 0 t d = iblk m hO c 0 t :=
  before_0 m hO (dats m hO 0 c) rfl (after0 m hO c) t d
theorem bef1 (hO : Ok m) (c : Dev nD) (t : Fin (cfgM m hO).N) (d) : (dats m hO 0 c).before 1 t d = iblk m hO c 1 t :=
  before_1 m hO (dats m hO 0 c) rfl (after1 m hO c) t d
theorem bef2 (hO : Ok m) (c : Dev nD) (t : Fin (cfgM m hO).N) (d) : (dats m hO 0 c).before 2 t d = iblk m hO c 2 t :=
  before_2 m hO (dats m hO 0 c) rfl (after2 m hO c) t d
theorem bef3 (hO : Ok m) (c : Dev nD) (t : Fin (cfgM m hO).N) (d) : (dats m hO 0 c).before 3 t d = iblk m hO c 3 t :=
  before_3 m hO (dats m hO 0 c) rfl (after3 m hO c) t d
theorem bef4 (hO : Ok m) (c : Dev nD) (t : Fin (cfgM m hO).N) (d) : (dats m hO 0 c).before 4 t d = iblk m hO c 4 t :=
  before_4 m hO (dats m hO 0 c) rfl (after4 m hO c) t d

end Cert.Proof.FI

end
-- ==== Proof.FwHead.lean ====
/-
  A step of the forward kernel on the blocks of real arrays, its four heads at once, and that what it writes on the diagonal is attention's output
  and the logarithms of its sums.
-/
module

public import proofs.«01_k».proof.Proof.FwStep
public import proofs.«01_k».proof.Proof.FwRef
public import proofs.«01_k».proof.Proof.OblFI
public import proofs.«01_k».proof.Proof.ValReal

@[expose] public section

set_option maxRecDepth 16384

noncomputable section

namespace Cert.Proof.Fw

open Cert.KernelFwdIdeal Cert.KernelFwdIdeal.Gen Cert.Proof.FI
open Cert.Proof.Val (up up_congr sc lc GA Rd pd)
open Idealize.ShloMosaic Idealize.ShloMosaic.ValueIdx
open scoped BigOperators

/-! ## Heads and blocks of heads -/

theorem lane_join (f : Fin 4 → S512x128.Idx → EReal) (j : Fin 4) : lane (F := Ideal) (e := .f32) (join f) j = f j := by
  funext y
  have h1 : (y 1).val < 128 := (y 1).isLt
  show f ⟨(128 * j.val + 1 * (y 1).val) / 128, _⟩ (fun a => ⟨if a = 0 then 0 + 1 * (y 0).val else (128 * j.val + 1 * (y 1).val) % 128, _⟩) = f j y
  refine congr (congrArg f (Fin.ext (by show (128 * j.val + 1 * (y 1).val) / 128 = j.val; omega))) (funext fun a => ?_)
  match a with
  | ⟨0, _⟩ => exact Fin.ext (by show 0 + 1 * (y 0).val = (y 0).val; omega)
  | ⟨1, _⟩ => exact Fin.ext (by show (128 * j.val + 1 * (y 1).val) % 128 = (y 1).val; omega)

theorem lane_f32 (A : ℕ → ℕ → ℝ) (j : Fin 4) : lane (F := Ideal) (e := .f32) (up A : S512x512.Idx → EReal) j = (up fun i l => A i (128 * j.val + l) : S512x128.Idx → EReal) := by
  refine (Val.window_up A 0 (128 * j.val) (laneInb j)).trans (up_congr fun i l _ _ => ?_)
  rw [Nat.zero_add]
theorem lane_bf16 (A : ℕ → ℕ → ℝ) (j : Fin 4) : lane (F := Ideal) (e := .bf16) (up A : S512x512.Idx → EReal) j = (up fun i l => A i (128 * j.val + l) : S512x128.Idx → EReal) :=
  lane_f32 A j

theorem join_up (A : ℕ → ℕ → ℝ) : join (fun j : Fin 4 => (up fun i l => A i (128 * j.val + l) : S512x128.Idx → EReal)) = (up A : S512x512.Idx → EReal) := by
  funext y
  have h1 : (y 1).val < 512 := (y 1).isLt
  show ((A (y 0).val (128 * ((y 1).val / 128) + (y 1).val % 128) : ℝ) : EReal) = ((A (y 0).val (y 1).val : ℝ) : EReal)
  rw [Nat.div_add_mod]

/-- The blocks of query block `Q` and key block `K` of the group of heads `g`. -/
def fB (a : GA) (g Q K : ℕ) : Blocks Ideal where
  q := up fun i l => a.q (512 * Q + i) (512 * g + l)
  k := up fun i l => a.k (512 * K + i) (512 * g + l)
  v := up fun i l => a.v (512 * K + i) (512 * g + l)
  pc := up fun i _ => a.p (512 * Q + i)
  pr := up fun _ j => a.p (512 * K + j)

/-- The inner products and the values of the head whose lanes start at `o`. -/
def sg (a : GA) (o ρ i J : ℕ) : ℝ := ∑ d ∈ Finset.range 128, a.q (ρ + i) (o + d) * a.k J (o + d)
def vg (a : GA) (o J e : ℕ) : ℝ := a.v J (o + e)

/-- The running buffers after the first `n` key rows. -/
def HB (a : GA) (g Q n : ℕ) (b : State Ideal) : Prop :=
  ∀ j : Fin 4, HS (sg a (512 * g + 128 * j.val) (512 * Q)) (vg a (512 * g + 128 * j.val)) (512 * Q) n (lane b.m j) (lane b.a j)

theorem HB_zero (a : GA) (g Q : ℕ) : HB a g Q 0 ⟨k0_pay1 (F := Ideal), k0_pay2 (F := Ideal)⟩ := fun j => .inl ⟨rfl, by
  have e : (k0_pay1 : FVec Ideal S512x512 .f32) = fun _ => (⊥ : EReal) := by
    unfold k0_pay1
    exact (shapeCast_self _ _).trans (funext fun _ => msk_eq)
  show lane (F := Ideal) (e := .f32) (k0_pay1 (F := Ideal)) j = _
  rw [e]; rfl, by
  have e : (k0_pay2 : FVec Ideal S512x512 .f32) = up fun _ _ => 0 := by
    unfold k0_pay2
    exact (shapeCast_self _ _).trans (funext fun _ => Ideal.ofBits_zero_f32)
  show lane (F := Ideal) (e := .f32) (k0_pay2 (F := Ideal)) j = _
  rw [e]; exact lane_f32 _ j⟩

section
variable (a : GA) (g Q K : ℕ) (j : Fin 4)

theorem lanes_q : lane (F := Ideal) (e := .bf16) (fB a g Q K).q j = (up fun i d => a.q (512 * Q + i) (512 * g + 128 * j.val + d) : S512x128.Idx → EReal) :=
  (lane_bf16 (fun i l => a.q (512 * Q + i) (512 * g + l)) j).trans (up_congr fun i l _ _ => congrArg (a.q _) (Nat.add_assoc _ _ _).symm)
theorem lanes_k : lane (F := Ideal) (e := .bf16) (fB a g Q K).k j = (up fun i d => a.k (512 * K + i) (512 * g + 128 * j.val + d) : S512x128.Idx → EReal) :=
  (lane_bf16 (fun i l => a.k (512 * K + i) (512 * g + l)) j).trans (up_congr fun i l _ _ => congrArg (a.k _) (Nat.add_assoc _ _ _).symm)
theorem lanes_v : lane (F := Ideal) (e := .bf16) (fB a g Q K).v j = (up fun i e => vg a (512 * g + 128 * j.val) (512 * K + i) e : S512x128.Idx → EReal) :=
  (lane_bf16 (fun i l => a.v (512 * K + i) (512 * g + l)) j).trans (up_congr fun i l _ _ => congrArg (a.v _) (Nat.add_assoc _ _ _).symm)

theorem off_s (h : K < Q) : sO (F := Ideal) (lane (fB a g Q K).q j) (lane (fB a g Q K).k j)
    = mS (512 * K) (512 * Q) fun i J => sg a (512 * g + 128 * j.val) (512 * Q) i (512 * K + J) := by
  rw [lanes_q, lanes_k]
  exact (sO_up _ _).trans (up_mS _ _ _ (by omega))

theorem dia_s (hp : ∀ i J, i < 512 → J < 512 → (a.p (512 * Q + J) ≤ a.p (512 * Q + i) ↔ J ≤ i)) :
    sD (F := Ideal) (fB a g Q Q).pc (fB a g Q Q).pr (lane (fB a g Q Q).q j) (lane (fB a g Q Q).k j)
    = mS (512 * Q) (512 * Q) fun i J => sg a (512 * g + 128 * j.val) (512 * Q) i (512 * Q + J) := by
  rw [lanes_q, lanes_k]
  exact sD_up (512 * Q) (512 * Q) (fun i _ => a.p (512 * Q + i)) (fun _ J => a.p (512 * Q + J)) _ _ fun i J hi hJ => (hp i J hi hJ).trans (by omega)
end

/-- A step off the diagonal takes the next 512 key rows in. -/
theorem HB_off (a : GA) (g Q K : ℕ) (h : K < Q) (b : State Ideal) (hb : HB a g Q (512 * K) b) :
    HB a g Q (512 * (K + 1)) ⟨join (offM (fB a g Q K) b.m), join (offA (fB a g Q K) b.m b.a)⟩ := fun j => by
  obtain ⟨ν, h1, h2⟩ := HS_step _ _ (512 * K) (512 * Q) (by omega) _ _ (hb j)
  refine .inr ⟨ν, (lane_join (offM (fB a g Q K) b.m) j).trans ?_, (lane_join (offA (fB a g Q K) b.m b.a) j).trans ?_⟩
  · unfold offM
    rw [off_s a g Q K j h]
    exact (shapeCast_self _ _).trans h1
  · unfold offA
    rw [off_s a g Q K j h, lanes_v]
    exact (shapeCast_self _ _).trans h2

/-! ## What the diagonal writes -/

/-- The padded arrays the call is given. -/
def fa (x : Rd) : GA := ⟨pd 96 x.Q, pd 96 x.K, one64 x.V, fun _ _ => 0, fun _ _ => 0, fun _ _ => 0, x.p⟩

variable (x : Rd)

theorem sg_eq (h ρ i J : ℕ) : sg (fa x) (128 * h) ρ i J * sc = Val.S x h (ρ + i) J := by
  unfold sg Val.S
  have := Val.sum_pd (n := 96) (by norm_num) x.Q x.K (ρ + i) J (128 * h)
  rw [show Val.hd (128 * h) = 128 * h by unfold Val.hd; omega, show 128 * h / 128 = h by omega] at this
  exact congrArg (· * sc) this

theorem vg_eq (h J e : ℕ) (he : e < 128) : vg (fa x) (128 * h) J e = if e < 64 then x.V J h e else if e = 64 then 1 else 0 := by
  show one64 x.V J (128 * h + e) = _
  unfold one64
  rw [show (128 * h + e) % 128 = e by omega, show (128 * h + e) / 128 = h by omega]

/-- A weight against any number is a multiple of the weight against the row's largest score. -/
theorem wt_eq (h ρ : ℕ) (ν : ℕ → ℝ) (i J : ℕ) : wt (sg (fa x) (128 * h) ρ) ρ ν i J = Real.exp (Val.M x h (ρ + i) - ν i * sc) * Val.W x h (ρ + i) J := by
  unfold wt Val.W
  split
  · have h2 : Real.log 2 ≠ 0 := (Real.log_pos (by norm_num)).ne'
    show (2 : ℝ) ^ (_ : ℝ) = _
    rw [Real.rpow_def_of_pos (by norm_num), ← Real.exp_add, ← sg_eq]
    congr 1
    have e : lc = sc * (Real.log 2)⁻¹ := rfl
    rw [e]
    field_simp
    ring
  · exact (mul_zero _).symm

theorem sum_wt (h Q : ℕ) (hQ : Q < 32) (ν : ℕ → ℝ) (i : ℕ) (hi : i < 512) (f : ℕ → ℝ) :
    ∑ J ∈ Finset.range (512 * Q + 512), wt (sg (fa x) (128 * h) (512 * Q)) (512 * Q) ν i J * f J
      = Real.exp (Val.M x h (512 * Q + i) - ν i * sc) * ∑ J ∈ Finset.range 16384, Val.W x h (512 * Q + i) J * f J := by
  rw [← Finset.sum_subset (Finset.range_mono (show 512 * Q + 512 ≤ 16384 by omega)) (fun J _ h2 => by
    unfold Val.W
    rw [if_neg (fun hh => h2 (Finset.mem_range.2 (by omega))), zero_mul]), Finset.mul_sum]
  exact Finset.sum_congr rfl fun J _ => by rw [wt_eq, mul_assoc]

section
variable (g Q : ℕ) (hQ : Q < 32) (hp : ∀ i J, i < 512 → J < 512 → (x.p (512 * Q + J) ≤ x.p (512 * Q + i) ↔ J ≤ i))
  (b : State Ideal) (hb : HB (fa x) g Q (512 * Q) b)
include hQ hp hb

theorem dia (j : Fin 4) :
    diaO (fB (fa x) g Q Q) b.m b.a j = (up fun i e => one64 (R.O x) (512 * Q + i) (512 * g + (128 * j.val + e)) : S512x128.Idx → EReal)
    ∧ diaE (fB (fa x) g Q Q) b.m b.a j = (up fun i e => Val.Ls x ((512 * g + (128 * j.val + e)) / 128) (512 * Q + i) : S512x128.Idx → EReal) := by
  obtain ⟨ν, h1, h2⟩ := HS_step _ _ (512 * Q) (512 * Q) (le_refl _) _ _ (hb j)
  have eo : 512 * g + 128 * j.val = 128 * (4 * g + j.val) := by omega
  have hA : ∀ i, i < 512 → ∑ J ∈ Finset.range (512 * Q + 512), wt (sg (fa x) (512 * g + 128 * j.val) (512 * Q)) (512 * Q) ν i J * vg (fa x) (512 * g + 128 * j.val) J 64
      = Real.exp (Val.M x (4 * g + j.val) (512 * Q + i) - ν i * sc) * Val.L x (4 * g + j.val) (512 * Q + i) := fun i hi => by
    have hs : ∑ J ∈ Finset.range 16384, Val.W x (4 * g + j.val) (512 * Q + i) J * vg (fa x) (128 * (4 * g + j.val)) J 64 = Val.L x (4 * g + j.val) (512 * Q + i) := by
      unfold Val.L
      exact Finset.sum_congr rfl fun J _ => by rw [vg_eq x _ J 64 (by norm_num), if_neg (by norm_num), if_pos rfl, mul_one]
    rw [eo, sum_wt x _ Q hQ ν i hi, hs]
  have hL : ∀ i, i < 512 → 0 < Val.L x (4 * g + j.val) (512 * Q + i) := fun i hi => Val.L_pos x (by omega)
  have hA0 : ∀ i, i < 512 → 0 < ∑ J ∈ Finset.range (512 * Q + 512), wt (sg (fa x) (512 * g + 128 * j.val) (512 * Q)) (512 * Q) ν i J * vg (fa x) (512 * g + 128 * j.val) J 64 :=
    fun i hi => by rw [hA i hi]; exact mul_pos (Real.exp_pos _) (hL i hi)
  unfold diaO diaE
  rw [dia_s (fa x) g Q j hp, lanes_v]
  constructor
  · refine ((congrArg (oN (F := Ideal)) h2).trans (oN_up _ fun i hi => (hA0 i hi).ne')).trans (up_congr fun i e hi he => ?_)
    rw [hA i hi, eo, sum_wt x _ Q hQ ν i hi, mul_div_mul_left _ _ (Real.exp_pos _).ne']
    have hl := (hL i hi).ne'
    have e1 : 512 * g + (128 * j.val + e) = 128 * (4 * g + j.val) + e := by omega
    unfold one64
    rw [e1, show (128 * (4 * g + j.val) + e) % 128 = e by omega, show (128 * (4 * g + j.val) + e) / 128 = 4 * g + j.val by omega]
    have hv : ∀ J ∈ Finset.range 16384, Val.W x (4 * g + j.val) (512 * Q + i) J * vg (fa x) (128 * (4 * g + j.val)) J e
        = Val.W x (4 * g + j.val) (512 * Q + i) J * (if e < 64 then x.V J (4 * g + j.val) e else if e = 64 then 1 else 0) := fun J _ => by rw [vg_eq x _ J e he]
    rw [Finset.sum_congr rfl hv]
    by_cases h64 : e < 64
    · simp only [if_pos h64]
      unfold R.O Val.Pr
      rw [Finset.sum_div]
      exact Finset.sum_congr rfl fun J _ => by ring
    · by_cases h65 : e = 64
      · simp only [if_neg h64, if_pos h65, mul_one]
        exact div_self hl
      · simp only [if_neg h64, if_neg h65, mul_zero, Finset.sum_const_zero, zero_div]
  · rw [h2]
    refine ((congrArg (fun z => eN (F := Ideal) z _) h1).trans (eN_up ν _ hA0)).trans (up_congr fun i e hi he => ?_)
    have h2' : Real.log 2 ≠ 0 := (Real.log_pos (by norm_num)).ne'
    rw [hA i hi, Real.log_mul (Real.exp_pos _).ne' (hL i hi).ne', Real.log_exp, show (512 * g + (128 * j.val + e)) / 128 = 4 * g + j.val by omega]
    unfold Val.Ls
    have e : lc = sc * (Real.log 2)⁻¹ := rfl
    rw [e]
    field_simp
    ring

theorem resO_up : resO (fB (fa x) g Q Q) b = (up fun i l => one64 (R.O x) (512 * Q + i) (512 * g + l) : S512x512.Idx → EReal) := by
  unfold resO
  rw [show diaO (fB (fa x) g Q Q) b.m b.a = _ from funext fun j => (dia x g Q hQ hp b hb j).1]
  exact join_up fun i l => one64 (R.O x) (512 * Q + i) (512 * g + l)
theorem resE_up : resE (fB (fa x) g Q Q) b = (up fun i l => Val.Ls x ((512 * g + l) / 128) (512 * Q + i) : S512x512.Idx → EReal) := by
  unfold resE
  rw [show diaE (fB (fa x) g Q Q) b.m b.a = _ from funext fun j => (dia x g Q hQ hp b hb j).2]
  exact join_up fun i l => Val.Ls x ((512 * g + l) / 128) (512 * Q + i)
end

end Cert.Proof.Fw

end
-- ==== Proof.FrmFI.lean ====
/-
  The call's run at every point, and the frame claim.
-/
module

public import proofs.«01_k».proof.Proof.OblFI

@[expose] public section

set_option maxRecDepth 16384

noncomputable section

namespace Cert.Proof.FI

open Cert.KernelFwdIdeal Cert.KernelFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] tbl st iblk step base bs resO resE

theorem phi_at (hO : Ok m) (c : Dev nD) (n) : (dats (F := F) m hO 0 c).Φ n = Inv m hO c n.val := rfl
theorem at_cast {α : Sort _} {N : ℕ} (S : ℕ → α) (t : Fin N) : S (Fin.castSucc t).val = S t.val := rfl
theorem at_succ {α : Sort _} {N : ℕ} (S : ℕ → α) (t : Fin N) : S (Fin.succ t).val = S (t.val + 1) := rfl
theorem owes_at (hO : Ok m) (c : Dev nD) (n n') : (dats (F := F) m hO 0 c).owesAt () n = (dats (F := F) m hO 0 c).owesAt () n' := rfl

set_option maxHeartbeats 1000000 in
theorem body_obligation (hO : Ok m) (c : Dev nD) : BodyObligation (dats (F := F) m hO 0 c) (defs₀ (F := F)) Variants.none () Set.univ := fun t => by
  rw [bigSep_W0, bigSep_W0]
  sl_whnfR [defs₀, Defs.onTc]
  simp only [bef0]
  rw [(phi_at m hO c t.castSucc).trans (at_cast (Inv m hO c) t), (phi_at m hO c t.succ).trans (at_succ (Inv m hO c) t),
    owes_at m hO c t.succ t.castSucc,
    after0, after1, after2, after3, after4]
  have hst : ∀ x11 x12, (t.val ≠ 0 → (⟨x11, x12⟩ : State F) = st m hO c t.val) → base (ps t.val) ⟨x11, x12⟩ = bs m hO c t.val :=
    fun x11 x12 h => by unfold bs; exact base_congr t.val _ _ h
  have hsu : st m hO c (t.val + 1) = step (blks m hO c t) (ps t.val) (bs m hO c t.val) := by
    unfold bs; exact st_succ m hO c t
  have hs : stp (grid0.coords t) = ps t.val := stp_eq t
  have hf5 := flush5_no m hO t
  have hf6 := flush6_no m hO t
  generalize ps t.val = s at hst hsu hs hf5 hf6
  have e2 : word (c := c) tbM0 (tbl m 0) (grid0.coords t) = lit0 s := (word0 m c _).trans (by rw [hs])
  have e3 : word (c := c) tbM1 (tbl m 1) (grid0.coords t) = lit1 s := (word1 m c _).trans (by rw [hs])
  by_cases hl : kB s = qB s
  · have i5 : idle0 (tbl m) 5 ((pcfg0.gridAt (tbl m)).coords t) = false := (idle5 m (grid0.coords t)).trans (by rw [hs, decide_eq_true hl]; rfl)
    have i6 : idle0 (tbl m) 6 ((pcfg0.gridAt (tbl m)).coords t) = false := (idle6 m (grid0.coords t)).trans (by rw [hs, decide_eq_true hl]; rfl)
    rw [i5]; try rw [i6]
    dsimp only
    rw [after5, after6]
    unfold Inv
    simp only [← scr0_eq, ← scr1_eq]
    iintro ⟨⟨⟨%x11, %x12, %hx, S0, S1⟩, ⟨T0, T1⟩, R⟩, Ho, ⟨%d0, H0⟩, ⟨%d1, H1⟩, ⟨%d2, H2⟩, ⟨%d3, H3⟩, ⟨%d4, H4⟩, ⟨%d5, H5⟩, ⟨%d6, H6⟩⟩
    rw [bef0 m hO c t d0, bef1 m hO c t d1, bef2 m hO c t d2, bef3 m hO c t d3, bef4 m hO c t d4]
    have hb := hst x11 x12 hx
    have o5 : ∀ y, outO (blks m hO c t) s (base s ⟨x11, x12⟩) y = resO (blks m hO c t) (bs m hO c t.val) := fun y => (if_pos hl).trans (by rw [hb])
    have o6 : ∀ y, outE (blks m hO c t) s (base s ⟨x11, x12⟩) y = resE (blks m hO c t) (bs m hO c t.val) := fun y => (if_pos hl).trans (by rw [hb])
    rw [← o5 ((dats m hO 0 c).before 5 t d5), ← o6 ((dats m hO 0 c).before 6 t d6)]
    iapply (body c (grid0.coords t) _ _ _ _ _ _ _ _ _ _ _ _ _ _ _ _ _ _ _ _ _ _ (tbl m 0) (tbl m 1) s e2 e3 (blks m hO c t) ((dats m hO 0 c).before 5 t d5) ((dats m hO 0 c).before 6 t d6) x11 x12 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    iintro ⟨T0, T1, H0, H1, H2, H3, H4, H5, H6, S0, S1⟩
    isplitl [S0 S1 T0 T1 R]
    · isplitl [S0 S1]
      · iexists _; iexists _
        isplitr; swap
        · isplitl [S0]; · iexact S0
          iexact S1
        ipureintro; exact fun _ => (congrArg (step (blks m hO c t) s) hb).trans hsu.symm
      isplitl [T0 T1]
      · isplitl [T0]; · iexact T0
        iexact T1
      iexact R
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have i5 : idle0 (tbl m) 5 ((pcfg0.gridAt (tbl m)).coords t) = true := (idle5 m (grid0.coords t)).trans (by rw [hs, decide_eq_false hl]; rfl)
    have i6 : idle0 (tbl m) 6 ((pcfg0.gridAt (tbl m)).coords t) = true := (idle6 m (grid0.coords t)).trans (by rw [hs, decide_eq_false hl]; rfl)
    have f5 : (pcfg0.win (adm m hO) 5).flush t = false := hf5 hl
    have f6 : (pcfg0.win (adm m hO) 6).flush t = false := hf6 hl
    rw [i5]; try rw [i6]
    dsimp only
    unfold Inv
    simp only [← scr0_eq, ← scr1_eq]
    iintro ⟨⟨⟨%x11, %x12, %hx, S0, S1⟩, ⟨T0, T1⟩, R⟩, Ho, ⟨%d0, H0⟩, ⟨%d1, H1⟩, ⟨%d2, H2⟩, ⟨%d3, H3⟩, ⟨%d4, H4⟩, ⟨%d5, H5⟩, ⟨%d6, H6⟩⟩
    rw [bef0 m hO c t d0, bef1 m hO c t d1, bef2 m hO c t d2, bef3 m hO c t d3, bef4 m hO c t d4]
    have hb := hst x11 x12 hx
    iapply (body c (grid0.coords t) _ _ _ _ _ _ _ _ _ _ _ _ _ _ _ _ _ _ _ _ _ _ (tbl m 0) (tbl m 1) s e2 e3 (blks m hO c t) ((dats m hO 0 c).before 5 t d5) ((dats m hO 0 c).before 6 t d6) x11 x12 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    iintro ⟨T0, T1, H0, H1, H2, H3, H4, H5, H6, S0, S1⟩
    isplitl [S0 S1 T0 T1 R]
    · isplitl [S0 S1]
      · iexists _; iexists _
        isplitr; swap
        · isplitl [S0]; · iexact S0
          iexact S1
        ipureintro; exact fun _ => (congrArg (step (blks m hO c t) s) hb).trans hsu.symm
      isplitl [T0 T1]
      · isplitl [T0]; · iexact T0
        iexact T1
      iexact R
    isplitl [Ho]; · iexact Ho
    isplitl [H0]; · iexact H0
    isplitl [H1]; · iexact H1
    isplitl [H2]; · iexact H2
    isplitl [H3]; · iexact H3
    isplitl [H4]; · iexact H4
    rw [show outO (blks m hO c t) s (base s ⟨x11, x12⟩) ((dats m hO 0 c).before 5 t d5) = (dats m hO 0 c).before 5 t d5 from if_neg hl,
      show outE (blks m hO c t) s (base s ⟨x11, x12⟩) ((dats m hO 0 c).before 6 t d6) = (dats m hO 0 c).before 6 t d6 from if_neg hl]
    isplitl [H5]
    · split
      · iexists _; iexact H5
      · rename_i h; exact absurd (f5.symm.trans h) Bool.false_ne_true
    split
    · iexists _; iexact H6
    · rename_i h; exact absurd (f6.symm.trans h) Bool.false_ne_true

theorem scoped_eq (c : Dev nD) :
    (Pipeline.ΦA spec0 c : sProp 𝕄) = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

theorem hin (c : Dev nD) : iprop((Pipeline.ΦA spec0 c : sProp 𝕄) ∗ Pipeline.ΦT pre0 (tbl m) c) ⊢ Inv m (ok m) c 0 := by
  rw [scoped_eq, PhiT_eq]
  unfold Inv
  iintro ⟨⟨⟨⟨%f, S0⟩, ⟨%g, S1⟩⟩, R⟩, T⟩
  isplitl [S0 S1]
  · iexists f; iexists g
    isplitr
    · ipureintro; exact fun h => absurd rfl h
    isplitl [S0]; · iexact S0
    iexact S1
  isplitl [T]; · iexact T
  iexact R

theorem hout (c : Dev nD) (n : ℕ) : Inv m (ok m) c n ⊢ (Pipeline.ΦA spec0 c : sProp 𝕄) := by
  rw [scoped_eq]
  unfold Inv
  iintro ⟨⟨%x11, %x12, -, S0, S1⟩, -, R⟩
  isplitl [S0 S1]
  · isplitl [S0]
    · iexists x11; iexact S0
    iexists x12; iexact S1
  iexact R

set_option backward.isDefEq.respectTransparency.types false in
/-- Every weakly fair execution ends, each array at what the points' write-backs leave there. -/
theorem run_main : θ_run defs (onTc (τ := τ) (main (F := F))) (s₀ m ρ)
    (fun r => Pipeline.FramePost (Pipeline.pin pcfgs fun _ => adm m (ok m)) (dats m (ok m)) 0 (V m) r ∧ r.2.sem = fun _ => 0) :=
  Pipeline.θ_run_frameP_track (Q' := fun r => Pipeline.FramePost (Pipeline.pin pcfgs fun _ => adm m (ok m)) (dats m (ok m)) 0 (V m) r ∧ r.2.sem = fun _ => 0)
    pcfgs (fun _ => adm m (ok m)) (dats m (ok m)) 0 launch0 defs₀ Variants.none m ρ main
    (hbody := fun c => (body_obligation m (ok m) c).loose) (hshare := fun c => (dats m (ok m) 0 c).share_full fun _ => rfl)
    (howed := fun _ _ => rfl) (V := V m) (hmain := hmain m Variants.none) (hA := fun _ _ => rfl) (hpf := V_pre m)
    (hin := fun c => hin m c) (hout := fun c => hout m c _) (hQ' := fun _ h => h)

/-- The frame claim: every execution ends, the arguments as found, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) ∧ r.2.sem = fun _ => 0) :=
  θ_run_with_sems (frame_of m ρ (ok m) (dats m (ok m))) (run_main m ρ)

end Cert.Proof.FI

end
-- ==== Proof.FwArr.lean ====
/-
  What the forward call leaves in its two output arrays, where its input arrays are of reals.
-/
module

public import proofs.«01_k».proof.Proof.FwHead
public import proofs.«01_k».proof.Proof.FrmFI
public import Idealize.ShloMosaic.Lib.Pipeline.ValueKit.Geometry
public import Idealize.ShloMosaic.Lib.Pipeline.Covers

@[expose] public section

set_option maxRecDepth 16384

noncomputable section

namespace Cert.Proof.Fw

open Cert.KernelFwdIdeal Cert.KernelFwdIdeal.Gen Cert.Proof.FI
open Cert.Proof.Val (up up_congr GA Rd)
open Idealize.ShloMosaic Idealize.ShloMosaic.ValueIdx Idealize.ShloMosaic.TcCoe
open scoped BigOperators

variable (m : (ℓ : Loc nD τ sig) → Buf (Elt Ideal) ℓ) (hO : Ok m) (c : Dev nD) (a : GA)

attribute [local irreducible] tbl

/-- The call finds these arrays. -/
structure Finds : Prop where
  q : V m c main_v5 = (up a.q : S16384x1024.Idx → EReal)
  k : V m c main_v8 = (up a.k : S16384x1024.Idx → EReal)
  v : V m c main_v11 = (up a.v : S16384x1024.Idx → EReal)
  pc : V m c main_v12 = (up (fun i _ => a.p i) : S16384x1.Idx → EReal)
  pr : V m c main_v13 = (up (fun _ j => a.p j) : S1x16384.Idx → EReal)

theorem ixq (t : Fin (cfgM m hO).N) : ((cfgM m hO).win 0).index t = ![qB (ps t.val), t.val / 528] := by
  refine (ix_q m (grid0.coords t)).trans ?_
  rw [stp_eq, co0]
theorem ixk (t : Fin (cfgM m hO).N) : ((cfgM m hO).win 1).index t = ![kB (ps t.val), t.val / 528] := by
  refine (ix_k m (grid0.coords t)).trans ?_
  rw [stp_eq, co0]
theorem ixv (t : Fin (cfgM m hO).N) : ((cfgM m hO).win 2).index t = ![kB (ps t.val), t.val / 528] := ixk m hO t
theorem ixpc (t : Fin (cfgM m hO).N) : ((cfgM m hO).win 3).index t = ![qB (ps t.val), 0] := by
  refine (ix_pc m (grid0.coords t)).trans ?_
  rw [stp_eq]
theorem ixpr (t : Fin (cfgM m hO).N) : ((cfgM m hO).win 4).index t = ![0, kB (ps t.val)] := by
  refine (ix_pr m (grid0.coords t)).trans ?_
  rw [stp_eq]

theorem blk0 (h : V m c main_v5 = (up a.q : S16384x1024.Idx → EReal)) (t : Fin (cfgM m hO).N) : iblk m hO c 0 t = (fB a (t.val / 528) (qB (ps t.val)) (kB (ps t.val))).q := by
  unfold iblk
  refine (congrArg (fun z => ((((cfgM m hO).win 0).blk t).view.read (Elt Ideal) z)) h).trans (funext fun x => ?_)
  have r0 := ((cfgM m hO).win 0).rect_emb_val t x (0 : Fin 2)
  have r1 := ((cfgM m hO).win 0).rect_emb_val t x (1 : Fin 2)
  rw [ixq] at r0 r1
  show ((a.q ((((cfgM m hO).win 0).rect t).emb x (0 : Fin 2)).val ((((cfgM m hO).win 0).rect t).emb x (1 : Fin 2)).val : ℝ) : EReal)
    = ((a.q (512 * qB (ps t.val) + (x (0 : Fin 2)).val) (512 * (t.val / 528) + (x (1 : Fin 2)).val) : ℝ) : EReal)
  rw [r0, r1, Nat.mul_comm 512, Nat.mul_comm 512]
  rfl
theorem blk1 (h : V m c main_v8 = (up a.k : S16384x1024.Idx → EReal)) (t : Fin (cfgM m hO).N) : iblk m hO c 1 t = (fB a (t.val / 528) (qB (ps t.val)) (kB (ps t.val))).k := by
  unfold iblk
  refine (congrArg (fun z => ((((cfgM m hO).win 1).blk t).view.read (Elt Ideal) z)) h).trans (funext fun x => ?_)
  have r0 := ((cfgM m hO).win 1).rect_emb_val t x (0 : Fin 2)
  have r1 := ((cfgM m hO).win 1).rect_emb_val t x (1 : Fin 2)
  rw [ixk] at r0 r1
  show ((a.k ((((cfgM m hO).win 1).rect t).emb x (0 : Fin 2)).val ((((cfgM m hO).win 1).rect t).emb x (1 : Fin 2)).val : ℝ) : EReal)
    = ((a.k (512 * kB (ps t.val) + (x (0 : Fin 2)).val) (512 * (t.val / 528) + (x (1 : Fin 2)).val) : ℝ) : EReal)
  rw [r0, r1, Nat.mul_comm 512, Nat.mul_comm 512]
  rfl
theorem blk2 (h : V m c main_v11 = (up a.v : S16384x1024.Idx → EReal)) (t : Fin (cfgM m hO).N) : iblk m hO c 2 t = (fB a (t.val / 528) (qB (ps t.val)) (kB (ps t.val))).v := by
  unfold iblk
  refine (congrArg (fun z => ((((cfgM m hO).win 2).blk t).view.read (Elt Ideal) z)) h).trans (funext fun x => ?_)
  have r0 := ((cfgM m hO).win 2).rect_emb_val t x (0 : Fin 2)
  have r1 := ((cfgM m hO).win 2).rect_emb_val t x (1 : Fin 2)
  rw [ixv] at r0 r1
  show ((a.v ((((cfgM m hO).win 2).rect t).emb x (0 : Fin 2)).val ((((cfgM m hO).win 2).rect t).emb x (1 : Fin 2)).val : ℝ) : EReal)
    = ((a.v (512 * kB (ps t.val) + (x (0 : Fin 2)).val) (512 * (t.val / 528) + (x (1 : Fin 2)).val) : ℝ) : EReal)
  rw [r0, r1, Nat.mul_comm 512, Nat.mul_comm 512]
  rfl
theorem blk3 (h : V m c main_v12 = (up (fun i _ => a.p i) : S16384x1.Idx → EReal)) (t : Fin (cfgM m hO).N) : iblk m hO c 3 t = (fB a (t.val / 528) (qB (ps t.val)) (kB (ps t.val))).pc := by
  unfold iblk
  refine (congrArg (fun z => ((((cfgM m hO).win 3).blk t).view.read (Elt Ideal) z)) h).trans (funext fun x => ?_)
  have r0 := ((cfgM m hO).win 3).rect_emb_val t x (0 : Fin 2)
  rw [ixpc] at r0
  show ((a.p ((((cfgM m hO).win 3).rect t).emb x (0 : Fin 2)).val : ℝ) : EReal) = ((a.p (512 * qB (ps t.val) + (x (0 : Fin 2)).val) : ℝ) : EReal)
  rw [r0, Nat.mul_comm 512]
  rfl
theorem blk4 (h : V m c main_v13 = (up (fun _ j => a.p j) : S1x16384.Idx → EReal)) (t : Fin (cfgM m hO).N) : iblk m hO c 4 t = (fB a (t.val / 528) (qB (ps t.val)) (kB (ps t.val))).pr := by
  unfold iblk
  refine (congrArg (fun z => ((((cfgM m hO).win 4).blk t).view.read (Elt Ideal) z)) h).trans (funext fun x => ?_)
  have r0 := ((cfgM m hO).win 4).rect_emb_val t x (1 : Fin 2)
  rw [ixpr] at r0
  show ((a.p ((((cfgM m hO).win 4).rect t).emb x (1 : Fin 2)).val : ℝ) : EReal) = ((a.p (512 * kB (ps t.val) + (x (1 : Fin 2)).val) : ℝ) : EReal)
  rw [r0, Nat.mul_comm 512]
  rfl

theorem allQ : ∀ b : Fin 32, ∃ s : Fin 528, qB s = b.val := by decide +kernel

section
variable (hf : Finds m c a)
include hf

theorem blks_up (t : Fin (cfgM m hO).N) : blks m hO c t = fB a (t.val / 528) (qB (ps t.val)) (kB (ps t.val)) := by
  unfold blks
  rw [blk0 m hO c a hf.q, blk1 m hO c a hf.k, blk2 m hO c a hf.v, blk3 m hO c a hf.pc, blk4 m hO c a hf.pr]

/-- What a point's step starts from has taken in the key rows before the point's key block. -/
theorem HB_at (n : ℕ) (hn : n < (cfgM m hO).N) : HB a (n / 528) (qB (ps n)) (512 * kB (ps n)) (bs m hO c n) := by
  induction n with
  | zero =>
    have e : kB (ps 0) = 0 := first.2.1
    unfold bs base
    rw [if_pos e, e]
    exact HB_zero a _ _
  | succ t ih =>
    by_cases hz : kB (ps (t + 1)) = 0
    · unfold bs base
      rw [if_pos hz, hz]
      exact HB_zero a _ _
    · have hk : kB (ps t) ≠ qB (ps t) := fun e => by
        by_cases hl : t % 528 < 527
        · refine hz ?_
          rw [ps_succ t hl]
          exact ((next ⟨t % 528, hl⟩).1 e).1
        · refine hz ?_
          have : ps (t + 1) = 0 := Fin.ext (by show (t + 1) % 528 = 0; omega)
          rw [this]; exact first.2.1
      obtain ⟨h1, e1, e2⟩ := next' t hk
      have hl : kB (ps t) < qB (ps t) := lt_of_le_of_ne (kB_le _) hk
      have hst : bs m hO c (t + 1) = ⟨join (offM (fB a (t / 528) (qB (ps t)) (kB (ps t))) (bs m hO c t).m),
          join (offA (fB a (t / 528) (qB (ps t)) (kB (ps t))) (bs m hO c t).m (bs m hO c t).a)⟩ := by
        refine (if_neg hz).trans ((st_succ m hO c ⟨t, by omega⟩).trans ?_)
        rw [blks_up m hO c a hf]
        exact if_neg hk
      rw [hst, e1, e2, show (t + 1) / 528 = t / 528 by omega]
      exact HB_off a _ _ _ hl _ (ih (by omega))
end

variable (x : Rd) (hf : Finds m c (fa x)) (hp : ∀ I J, I < 16384 → J < 16384 → (x.p J ≤ x.p I ↔ J ≤ I))
include hf hp

theorem diag (t : Fin (cfgM m hO).N) (h : kB (ps t.val) = qB (ps t.val)) :
    resO (blks m hO c t) (bs m hO c t.val) = (up fun i l => one64 (R.O x) (512 * qB (ps t.val) + i) (512 * (t.val / 528) + l) : S512x512.Idx → EReal)
    ∧ resE (blks m hO c t) (bs m hO c t.val) = (up fun i l => Val.Ls x ((512 * (t.val / 528) + l) / 128) (512 * qB (ps t.val) + i) : S512x512.Idx → EReal) := by
  have hb := HB_at m hO c (fa x) hf t.val t.isLt
  have hQ := qB_lt (ps t.val)
  have hp' : ∀ i J, i < 512 → J < 512 → (x.p (512 * qB (ps t.val) + J) ≤ x.p (512 * qB (ps t.val) + i) ↔ J ≤ i) := fun i J hi hJ =>
    (hp _ _ (by omega) (by omega)).trans (by omega)
  rw [h] at hb
  rw [blks_up m hO c (fa x) hf, h]
  exact ⟨resO_up x _ _ hQ hp' _ hb, resE_up x _ _ hQ hp' _ hb⟩

/-- The output. -/
theorem arr5 : (dats m hO 0 c).arrAt 5 (cfgM m hO).N = (up (one64 (R.O x)) : S16384x1024.Idx → EReal) := by
  refine (dats m hO 0 c).arrAt_eq_of_covers 5 _ (((cfgM m hO).win 5).covers_of_index_surj rfl (fun x => by fin_cases x <;> exact Nat.succ_pos _) fun β => ?_) fun t ht y => ?_
  · have b0 : (β (0 : Fin 2)).val < 32 := lt_of_lt_of_eq (β (0 : Fin 2)).isLt (by decide : (16384 + 511) / 512 = 32)
    have b1 : (β (1 : Fin 2)).val < 2 := lt_of_lt_of_eq (β (1 : Fin 2)).isLt (by decide : (1024 + 511) / 512 = 2)
    have hN : (cfgM m hO).grid.N = 1056 := N_eq m hO
    obtain ⟨s, hs⟩ := allQ ⟨_, b0⟩
    have hs' := s.isLt
    have em : (528 * (β (1 : Fin 2)).val + s.val) % 528 = s.val := by omega
    have ed : (528 * (β (1 : Fin 2)).val + s.val) / 528 = (β (1 : Fin 2)).val := by omega
    refine ⟨⟨528 * (β (1 : Fin 2)).val + s.val, by omega⟩, fun x => ?_⟩
    rw [index5]
    fin_cases x
    · show qB ⟨(528 * (β (1 : Fin 2)).val + s.val) % 528, _⟩ = (β (0 : Fin 2)).val
      refine Eq.trans (congrArg qB (Fin.ext em)) hs
    · exact ed
  · have hs : kB (ps t.val) = qB (ps t.val) := by
      by_contra h
      exact absurd ht (by rw [flush5_no m hO t h]; decide)
    have r0 := ((cfgM m hO).win 5).rect_emb_val t y (0 : Fin 2)
    have r1 := ((cfgM m hO).win 5).rect_emb_val t y (1 : Fin 2)
    rw [index5] at r0 r1
    refine (congrFun (diag m hO c x hf hp t hs).1 y).trans ?_
    show ((one64 (R.O x) (512 * qB (ps t.val) + (y (0 : Fin 2)).val) (512 * (t.val / 528) + (y (1 : Fin 2)).val) : ℝ) : EReal)
      = ((one64 (R.O x) ((((cfgM m hO).win 5).rect t).emb y (0 : Fin 2)).val ((((cfgM m hO).win 5).rect t).emb y (1 : Fin 2)).val : ℝ) : EReal)
    rw [r0, r1, Nat.mul_comm 512, Nat.mul_comm 512]
    rfl

/-- The logarithms of the sums. -/
theorem arr6 : (dats m hO 0 c).arrAt 6 (cfgM m hO).N = (up (fun i l => Val.Ls x (l / 128) i) : S16384x1024.Idx → EReal) := by
  refine (dats m hO 0 c).arrAt_eq_of_covers 6 _ (((cfgM m hO).win 6).covers_of_index_surj rfl (fun x => by fin_cases x <;> exact Nat.succ_pos _) fun β => ?_) fun t ht y => ?_
  · have b0 : (β (0 : Fin 2)).val < 32 := lt_of_lt_of_eq (β (0 : Fin 2)).isLt (by decide : (16384 + 511) / 512 = 32)
    have b1 : (β (1 : Fin 2)).val < 2 := lt_of_lt_of_eq (β (1 : Fin 2)).isLt (by decide : (1024 + 511) / 512 = 2)
    have hN : (cfgM m hO).grid.N = 1056 := N_eq m hO
    obtain ⟨s, hs⟩ := allQ ⟨_, b0⟩
    have hs' := s.isLt
    have em : (528 * (β (1 : Fin 2)).val + s.val) % 528 = s.val := by omega
    have ed : (528 * (β (1 : Fin 2)).val + s.val) / 528 = (β (1 : Fin 2)).val := by omega
    refine ⟨⟨528 * (β (1 : Fin 2)).val + s.val, by omega⟩, fun x => ?_⟩
    rw [index6]
    fin_cases x
    · show qB ⟨(528 * (β (1 : Fin 2)).val + s.val) % 528, _⟩ = (β (0 : Fin 2)).val
      refine Eq.trans (congrArg qB (Fin.ext em)) hs
    · exact ed
  · have hs : kB (ps t.val) = qB (ps t.val) := by
      by_contra h
      exact absurd ht (by rw [flush6_no m hO t h]; decide)
    have r0 := ((cfgM m hO).win 6).rect_emb_val t y (0 : Fin 2)
    have r1 := ((cfgM m hO).win 6).rect_emb_val t y (1 : Fin 2)
    rw [index6] at r0 r1
    refine (congrFun (diag m hO c x hf hp t hs).2 y).trans ?_
    show ((Val.Ls x ((512 * (t.val / 528) + (y (1 : Fin 2)).val) / 128) (512 * qB (ps t.val) + (y (0 : Fin 2)).val) : ℝ) : EReal)
      = ((Val.Ls x (((((cfgM m hO).win 6).rect t).emb y (1 : Fin 2)).val / 128) ((((cfgM m hO).win 6).rect t).emb y (0 : Fin 2)).val : ℝ) : EReal)
    rw [r0, r1, Nat.mul_comm 512, Nat.mul_comm 512]
    rfl

end Cert.Proof.Fw

end
-- ==== Proof.FwFin.lean ====
/-
  The forward call's results on inputs that meet the precondition.
-/
module

public import proofs.«01_k».proof.Defs
public import proofs.«01_k».proof.Proof.FwArr
public import proofs.«01_k».proof.Proof.ValFin

@[expose] public section

noncomputable section

namespace Cert.Proof.Fw

open Cert.Proof.Val
open Idealize.ShloMosaic Idealize.ShloMosaic.ValueIdx

/-- The side conditions of the forward call's precondition. -/
theorem facts : Cert.Pre_forward_inputs.Facts where
  bcast_S_S16384x8x96 := by decide
  bcast_S_S16384x8x64 := by decide
  slices_S16384_S16383_0 := by decide
  slices_S16384_S16383_1 := by decide

attribute [instance] facts

/-- Inputs that meet the precondition are real, with zeros where a gradient of the output would be. -/
theorem is_of (y : In) (hgo : y.go = fun _ => (0 : EReal))
    (h : (Cert.Pre_forward_inputs.fn (F := Ideal) y.q y.k y.v y.p).1 = (fun _ => 1#1)
      ∧ (Cert.Pre_forward_inputs.fn (F := Ideal) y.q y.k y.v y.p).2.1 = (fun _ => 1#1)
      ∧ (Cert.Pre_forward_inputs.fn (F := Ideal) y.q y.k y.v y.p).2.2.1 = (fun _ => 1#1)
      ∧ (Cert.Pre_forward_inputs.fn (F := Ideal) y.q y.k y.v y.p).2.2.2 = (fun _ => 1#1)) : Is y (rd y) where
  q := re3_eq y.q fun i => real_of _ (congrFun h.1 i)
  k := re3_eq y.k fun i => real_of _ (congrFun h.2.1 i)
  v := re3_eq y.v fun i => real_of _ (congrFun h.2.2.1 i)
  go := re3_eq y.go fun i => by
    rw [hgo]
    exact ⟨EReal.zero_ne_bot, EReal.zero_ne_top⟩
  p := pos_eq y
  mono := pos_mono y _ _ h.2.2.2

open Cert.KernelFwdIdeal Cert.KernelFwdIdeal.Gen Cert.Proof.FI
open Idealize.ShloMosaic.TcCoe

variable (m : (ℓ : Loc nD τ sig) → Buf (Elt Ideal) ℓ) (g : Dev nD → PrngReg)

theorem finds (c : Dev nD) {x : Rd} (H : Is (K.inp m c) x) : Finds m c (fa x) where
  q := (K.V_v5 m c).trans (Val.K.v30 H)
  k := (K.V_v8 m c).trans (Val.K.v33 H)
  v := (K.V_v11 m c).trans (K.v11 H)
  pc := (K.V_v12 m c).trans (Val.K.v47 H)
  pr := (K.V_v13 m c).trans (Val.K.v48 H)

/-- Both results are the reference's on the same inputs, and the arguments are as found. -/
theorem run_value (hp : ∀ c, Is (K.inp m c) (rd (K.inp m c))) :
    θ_run (defs (F := Ideal)) (onTc (τ := τ) (main (F := Ideal))) ⟨m, fun _ => 0, g⟩ (fun r => ∀ c : Dev nD,
      r.2.mem ((c.tc : Thread nD τ).loc main_v14_0) = R.t_v46 (K.inp m c)
      ∧ r.2.mem ((c.tc : Thread nD τ).loc main_v14_1) = R.t_v49 (K.inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h.1 c).1 5).trans ((arr5 m (ok m) c (rd (K.inp m c)) (finds m c (hp c)) (hp c).mono).trans (R.v46 (hp c)).symm),
      ((h.1 c).1 6).trans ((arr6 m (ok m) c (rd (K.inp m c)) (finds m c (hp c)) (hp c).mono).trans (R.v49 (hp c)).symm),
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩) (run_main m g)

/-- The forward call's results are the reference's. -/
theorem algebraic : Cert.algebraic_KernelFwdIdeal_ReferenceFwdIdeal := by
  intro m g m' g' hpre hagree
  refine ⟨fun c => R.t_v46 (K.inp m c), fun c => R.t_v49 (K.inp m c),
    run_value m g fun c => is_of (K.inp m c) rfl (hpre c), ?_⟩
  have e : ∀ c, R.inp m' c = K.inp m c := fun c => by
    obtain ⟨h0, h1, h2, h3⟩ := hagree c
    unfold R.inp K.inp
    exact congrFun (congr (congr (congr (congrArg Val.In.mk h0) h1) h2) h3) _
  refine (θ_run _ _ _).mono (fun r h c => ?_) (R.run m' g')
  obtain ⟨⟨h0, h1⟩, ha⟩ := h c
  exact ⟨h0.trans (congrArg R.t_v46 (e c)), h1.trans (congrArg R.t_v49 (e c)), ha⟩

end Cert.Proof.Fw

end
-- ==== Proof.MmSum.lean ====
/-
  Sums over the rows of a tall matrix, row block by row block: what the accumulated products of transposes need.
-/
module

public import proofs.«01_k».proof.Proof.ValOps
public import Idealize.ShloMosaic.Lib.Pipeline.Value

@[expose] public section

noncomputable section

namespace Cert.Proof.Mm

open Idealize.ShloMosaic Idealize.ShloMosaic.ValueIdx
open scoped BigOperators

/-- The entry of a matrix at two naturals, zero outside it. -/
def ent {a b : ℕ} (X : (⟨2, ![a, b]⟩ : Shape).Idx → EReal) (i j : ℕ) : EReal :=
  if h : i < a ∧ j < b then X (ix2 ⟨i, h.1⟩ ⟨j, h.2⟩) else 0

theorem ent_idx {a b : ℕ} (X : (⟨2, ![a, b]⟩ : Shape).Idx → EReal) (x : (⟨2, ![a, b]⟩ : Shape).Idx) (i j : ℕ)
    (hi : (x 0).val = i) (hj : (x 1).val = j) : X x = ent X i j := by
  have h0 : (x 0).val < a := (x 0).isLt
  have h1 : (x 1).val < b := (x 1).isLt
  subst hi; subst hj
  unfold ent
  rw [dif_pos ⟨h0, h1⟩]
  congr 1
  funext y
  match y with
  | ⟨0, _⟩ => rfl
  | ⟨1, _⟩ => rfl

/-- A sum over rows is the sum over row blocks of the sums over a block's rows. -/
theorem sum_blocks {β : Type*} [AddCommMonoid β] (m : ℕ) (f : ℕ → β) : ∀ n : ℕ,
    ∑ k ∈ Finset.range (m * n), f k = ∑ s ∈ Finset.range n, ∑ r ∈ Finset.range m, f (m * s + r)
  | 0 => by simp
  | n + 1 => by rw [Nat.mul_succ, Finset.sum_range_add, sum_blocks m f n, Finset.sum_range_succ]

/-- The entries of a block: those of the array from the block's corner on. -/
def Block {a b p q : ℕ} (X : (⟨2, ![a, b]⟩ : Shape).Idx → EReal) (x : (⟨2, ![p, q]⟩ : Shape).Idx → EReal) (u v : ℕ) : Prop :=
  ∀ r j, r < p → j < q → ent x r j = ent X (u + r) (v + j)

theorem block_of {a b p q : ℕ} (X : (⟨2, ![a, b]⟩ : Shape).Idx → EReal) (x : (⟨2, ![p, q]⟩ : Shape).Idx → EReal) (u v : ℕ)
    (e : (⟨2, ![p, q]⟩ : Shape).Idx → (⟨2, ![a, b]⟩ : Shape).Idx) (h : ∀ y, x y = X (e y))
    (h0 : ∀ y, (e y 0).val = u + (y 0).val) (h1 : ∀ y, (e y 1).val = v + (y 1).val) : Block X x u v := fun r j hr hj => by
  rw [ent, dif_pos ⟨hr, hj⟩, h]
  exact ent_idx X _ _ _ (h0 _) (h1 _)

/-- What a step adds to its block: the products of the columns of its two row blocks. -/
def Adds {p q n : ℕ} (pay : ((⟨2, ![p, q]⟩ : Shape).Idx → EReal) → ((⟨2, ![n, p]⟩ : Shape).Idx → EReal) → ((⟨2, ![n, q]⟩ : Shape).Idx → EReal) → (⟨2, ![p, q]⟩ : Shape).Idx → EReal) : Prop :=
  ∀ acc x y j, pay acc x y j = acc j + ∑ r ∈ Finset.range n, ent x r (j 0).val * ent y r (j 1).val

/-- A product of the transpose of the first factor with the second, summed over the rows. -/
structure Tn {n p q : ℕ} (D : DotDims (⟨2, ![n, p]⟩ : Shape) ⟨2, ![n, q]⟩ ⟨2, ![p, q]⟩) : Prop where
  rank : D.contr.rank = 1
  size : D.contr.size ⟨0, by omega⟩ = n
  l0 : ∀ j c, (D.lhsIdx j c 0).val = (c ⟨0, by omega⟩).val
  l1 : ∀ j c, (D.lhsIdx j c 1).val = (j 0).val
  r0 : ∀ j c, (D.rhsIdx j c 0).val = (c ⟨0, by omega⟩).val
  r1 : ∀ j c, (D.rhsIdx j c 1).val = (j 1).val

theorem Tn.adds {n p q : ℕ} {D : DotDims (⟨2, ![n, p]⟩ : Shape) ⟨2, ![n, q]⟩ ⟨2, ![p, q]⟩} (hD : Tn D)
    (pay : ((⟨2, ![p, q]⟩ : Shape).Idx → EReal) → ((⟨2, ![n, p]⟩ : Shape).Idx → EReal) → ((⟨2, ![n, q]⟩ : Shape).Idx → EReal) → (⟨2, ![p, q]⟩ : Shape).Idx → EReal)
    (h : (⟨2, ![p, q]⟩ : Shape).ShapeCasts ⟨2, ![p, q]⟩)
    (hpay : ∀ acc x y, pay acc x y = addf (F := Ideal) (φ := .f32) (shapeCast ⟨2, ![p, q]⟩ acc h)
      (matmul (F := Ideal) (φ₁ := .bf16) (φ₂ := .bf16) D none x y (constant (F := Ideal) ⟨2, ![p, q]⟩ .f32 0x00000000#32))) : Adds pay := fun acc x y j => by
  rw [hpay, Finset.sum_range]
  refine congrArg₂ (fun p q : EReal => p + q) (congrFun (shapeCast_self acc h) j) ?_
  refine (Val.matmul1 (φ₁ := .bf16) (φ₂ := .bf16) D n hD.rank hD.size none x y _ j
    (fun k => ent x k.val (j 0).val) (fun k => ent y k.val (j 1).val)
    (fun k c hk => ent_idx x _ _ _ ((hD.l0 j c).trans hk) (hD.l1 j c)) (fun k c hk => ent_idx y _ _ _ ((hD.r0 j c).trans hk) (hD.r1 j c))).trans ?_
  rw [show (constant (F := Ideal) (⟨2, ![p, q]⟩ : Shape) .f32 0x00000000#32) j = (0 : EReal) from Ideal.ofBits_zero_f32, zero_add]

/-- The host's product taken the other way round and transposed has the same entries. -/
theorem Tn.host {n p q : ℕ} {D : DotDims (⟨2, ![n, q]⟩ : Shape) ⟨2, ![n, p]⟩ ⟨2, ![q, p]⟩} (hD : Tn D)
    (h : (⟨2, ![q, p]⟩ : Shape).Transposes [1, 0] ⟨2, ![p, q]⟩) (x : (⟨2, ![n, p]⟩ : Shape).Idx → EReal) (y : (⟨2, ![n, q]⟩ : Shape).Idx → EReal)
    (i : (⟨2, ![p, q]⟩ : Shape).Idx) :
    (transpose ⟨2, ![p, q]⟩ [1, 0] (Host.dotGeneral (F := Ideal) (φ₁ := .f32) (φ₂ := .f32) D none y x : FVec Ideal ⟨2, ![q, p]⟩ .f32) h : (⟨2, ![p, q]⟩ : Shape).Idx → EReal) i
      = ∑ k ∈ Finset.range n, ent x k (i 0).val * ent y k (i 1).val := by
  refine (transpose_apply _ _ _ _ (ix2 (i 1) (i 0)) (fun c => match c with | ⟨0, _⟩ => rfl | ⟨1, _⟩ => rfl)).trans ?_
  rw [Finset.sum_range]
  refine (Val.dot1 (φ₁ := .f32) (φ₂ := .f32) D n hD.rank hD.size none y x _
    (fun k => ent y k.val (i 1).val) (fun k => ent x k.val (i 0).val)
    (fun k c hk => ent_idx y _ _ _ ((hD.l0 _ c).trans hk) (hD.l1 _ c)) (fun k c hk => ent_idx x _ _ _ ((hD.r0 _ c).trans hk) (hD.r1 _ c))).trans ?_
  exact Finset.sum_congr rfl fun k _ => mul_comm _ _

/-- Eight steps over consecutive blocks of 2048 rows, from zero: the products summed over all 16384 rows. -/
theorem fold_eq {Np K N p q : ℕ} (X : (⟨2, ![16384, K]⟩ : Shape).Idx → EReal) (Y : (⟨2, ![16384, N]⟩ : Shape).Idx → EReal)
    (pay : ((⟨2, ![p, q]⟩ : Shape).Idx → EReal) → ((⟨2, ![2048, p]⟩ : Shape).Idx → EReal) → ((⟨2, ![2048, q]⟩ : Shape).Idx → EReal) → (⟨2, ![p, q]⟩ : Shape).Idx → EReal)
    (hpay : Adds pay) (z : (⟨2, ![p, q]⟩ : Shape).Idx → EReal) (hz : ∀ j, z j = 0)
    (x : (n : ℕ) → n < Np → (⟨2, ![2048, p]⟩ : Shape).Idx → EReal) (y : (n : ℕ) → n < Np → (⟨2, ![2048, q]⟩ : Shape).Idx → EReal)
    (t u v : ℕ) (hx : ∀ s (h : 8 * t + s < Np), s < 8 → Block X (x (8 * t + s) h) (2048 * s) u)
    (hy : ∀ s (h : 8 * t + s < Np), s < 8 → Block Y (y (8 * t + s) h) (2048 * s) v)
    (h : 8 * t + 7 < Np) (i : (⟨2, ![p, q]⟩ : Shape).Idx) :
    Pipeline.accAt (fun n h => pay z (x n h) (y n h)) (fun n h acc => pay acc (x n h) (y n h)) (8 * t) 7 h i
      = ∑ k ∈ Finset.range 16384, ent X k (u + (i 0).val) * ent Y k (v + (i 1).val) := by
  have key : ∀ s (h : 8 * t + s < Np), s < 8 → ∀ acc (j : (⟨2, ![p, q]⟩ : Shape).Idx), pay acc (x (8 * t + s) h) (y (8 * t + s) h) j
      = acc j + ∑ r ∈ Finset.range 2048, ent X (2048 * s + r) (u + (j 0).val) * ent Y (2048 * s + r) (v + (j 1).val) := fun s h hs acc j => by
    have h0 : (j 0).val < p := (j 0).isLt
    have h1 : (j 1).val < q := (j 1).isLt
    rw [hpay]
    refine congrArg (acc j + ·) (Finset.sum_congr rfl fun r hr => ?_)
    have hr := Finset.mem_range.mp hr
    rw [hx s h hs r _ hr h0, hy s h hs r _ hr h1]
  refine (Pipeline.accAt_add_apply _ _ (fun _ => (0 : EReal))
    (fun n j => ∑ r ∈ Finset.range 2048, ent X (2048 * (n - 8 * t) + r) (u + (j 0).val) * ent Y (2048 * (n - 8 * t) + r) (v + (j 1).val)) (8 * t) 7
    (fun h j => ?_) (fun n h acc j hn hm => ?_) 7 le_rfl _ i).trans ?_
  · refine (key 0 h (by omega) z j).trans ?_
    rw [hz, Nat.sub_self]
  · obtain ⟨s, rfl⟩ := Nat.exists_eq_add_of_lt hn
    rw [show 8 * t + s + 1 - 8 * t = s + 1 by omega]
    exact key (s + 1) h (by omega) acc j
  · rw [zero_add]
    refine Eq.trans ?_ (sum_blocks 2048 (fun k => ent X k (u + (i 0).val) * ent Y k (v + (i 1).val)) 8).symm
    refine Finset.sum_congr rfl fun s _ => ?_
    rw [show 8 * t + s - 8 * t = s by omega]

end Cert.Proof.Mm

end
-- ==== Proof.MmUp.lean ====
/-
  The gradient of w_gate and of w_up: the accumulated products over row blocks are the product over all rows.
-/
module

public import proofs.«01_k».proof.Proof.MmSum
public import proofs.«01_k».proof.Defs
public import proofs.«01_k».proof.Proof.Gen.KernelUpIdeal.Value
public import proofs.«01_k».proof.Proof.Gen.ReferenceUpIdeal.Run

@[expose] public section

set_option maxRecDepth 16384

noncomputable section

namespace Cert.Proof.MmUp

open Cert.KernelUpIdeal Cert.KernelUpIdeal.Gen Cert.KernelUpIdeal.Value Cert.Proof.Mm
open Idealize.ShloMosaic Idealize.ShloMosaic.TcCoe Idealize.SL.Sem Idealize.ShloMosaic.ValueIdx
open scoped BigOperators

theorem adds : Adds (p := 1024) (q := 1408) (n := 2048) (k0_pay2 (F := Ideal)) :=
  Tn.adds (D := dot_S2048x1024_S2048x1408_S1024x1408_0_0_1_1_n_n) ⟨rfl, rfl, fun _ _ => rfl, fun _ _ => rfl, fun _ _ => rfl, fun _ _ => rfl⟩ _ _ fun _ _ _ => rfl

variable (m : (ℓ : Loc nD τ sig) → Buf (Elt Ideal) ℓ)

/-- The two arguments of a device. -/
abbrev A (c : Dev nD) : S16384x1024.Idx → EReal := m ((c.tc : Thread nD τ).loc main_arg0)
abbrev G (c : Dev nD) : S16384x2816.Idx → EReal := m ((c.tc : Thread nD τ).loc main_arg1)

theorem idx : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

theorem blk0 (c : Dev nD) (t : Fin cfg0.N) : Block (A m c) (iblk m c 0 t : S2048x1024.Idx → EReal) (2048 * (t.val % 8)) (1024 * (0)) := by
  obtain ⟨h0, h1, -, -⟩ := idx t
  refine block_of _ _ _ _ (fun y => ((cfg0.win 0).blk t).view.emb y) (fun y => rfl) (fun y => ?_) (fun y => ?_)
  · show win0_0.index t (0 : Fin 2) * 2048 + 1 * (y 0).val = _
    rw [h0]; omega
  · show win0_0.index t (1 : Fin 2) * 1024 + 1 * (y 1).val = _
    rw [h1]; omega

theorem blk1 (c : Dev nD) (t : Fin cfg0.N) : Block (G m c) (iblk m c 1 t : S2048x1408.Idx → EReal) (2048 * (t.val % 8)) (1408 * (t.val / 8)) := by
  obtain ⟨-, -, h0, h1⟩ := idx t
  refine block_of _ _ _ _ (fun y => ((cfg0.win 1).blk t).view.emb y) (fun y => rfl) (fun y => ?_) (fun y => ?_)
  · show win0_1.index t (0 : Fin 2) * 2048 + 1 * (y 0).val = _
    rw [h0]; omega
  · show win0_1.index t (1 : Fin 2) * 1408 + 1 * (y 1).val = _
    rw [h1]; omega

/-- The array's final entries: products summed over all rows. -/
theorem result (c : Dev nD) (i : S1024x2816.Idx) :
    (G2 m c : S1024x2816.Idx → EReal) i = ∑ k ∈ Finset.range 16384, ent (A m c) k (i 0).val * ent (G m c) k (i 1).val := by
  have h0 : (i 0).val < 1024 := (i 0).isLt
  have h1 : (i 1).val < 2816 := (i 1).isLt
  have hrun : run2Of i = (i 1).val / 1408 := by
    show 2 * ((i 0).val / 1024 - 0) + 1 * ((i 1).val / 1408 - 0) = _
    omega
  unfold G2
  rw [dif_pos (by rw [show cfg0.N = 16 from N_0, hrun]; omega)]
  have hd : ∀ s, s < 8 → (8 * run2Of i + s) % 8 = s ∧ (8 * run2Of i + s) / 8 = run2Of i := fun s hs => by omega
  refine (fold_eq (A m c) (G m c) (k0_pay2 (F := Ideal)) adds (k0_pay1 (F := Ideal)) (fun _ => Ideal.ofBits_zero_f32)
    (fun n h => iblk m c 0 ⟨n, h⟩) (fun n h => iblk m c 1 ⟨n, h⟩) (run2Of i) (1024 * (0)) (1408 * (run2Of i)) (fun s h hs => ?_) (fun s h hs => ?_) _ (loc2Of i)).trans ?_
  · have := blk0 m c ⟨8 * run2Of i + s, h⟩
    simp only [hd s hs] at this
    exact this
  · have := blk1 m c ⟨8 * run2Of i + s, h⟩
    simp only [hd s hs] at this
    exact this
  · refine Finset.sum_congr rfl fun k _ => ?_
    have e0 : 1024 * (0) + (loc2Of i 0).val = (i 0).val := by
      show _ + (i 0).val % 1024 = _
      omega
    have e1 : 1408 * (run2Of i) + (loc2Of i 1).val = (i 1).val := by
      show _ + (i 1).val % 1408 = _
      omega
    rw [e0, e1]

theorem tn : Tn (n := 16384) (p := 2816) (q := 1024) Cert.ReferenceUpIdeal.dot_S16384x2816_S16384x1024_S2816x1024_0_0_1_1_n_n :=
  ⟨rfl, rfl, fun _ _ => rfl, fun _ _ => rfl, fun _ _ => rfl, fun _ _ => rfl⟩

theorem algebraic : Cert.algebraic_KernelUpIdeal_ReferenceUpIdeal := by
  intro m g m' g' hpre hagree
  refine ⟨fun c => G2 m c, (θ_run _ _ _).mono (fun r h c => h c) (run m g), ?_⟩
  refine (θ_run _ _ _).mono (fun r h c => ?_) (Cert.ReferenceUpIdeal.Value.run (F := Ideal) m' g')
  obtain ⟨h0, h1⟩ := hagree c
  refine ⟨(h c).1.trans (funext fun i => ?_), (h c).2⟩
  refine (tn.host _ _ _ i).trans ((result m c i).trans ?_).symm
  rw [show A m c = _ from h0.symm, show G m c = _ from h1.symm]
  rfl

end Cert.Proof.MmUp

end
-- ==== Proof.MmDown.lean ====
/-
  The gradient of w_down: the accumulated products over row blocks are the product over all rows.
-/
module

public import proofs.«01_k».proof.Proof.MmSum
public import proofs.«01_k».proof.Defs
public import proofs.«01_k».proof.Proof.Gen.KernelDownIdeal.Value
public import proofs.«01_k».proof.Proof.Gen.ReferenceDownIdeal.Run

@[expose] public section

set_option maxRecDepth 16384

noncomputable section

namespace Cert.Proof.MmDown

open Cert.KernelDownIdeal Cert.KernelDownIdeal.Gen Cert.KernelDownIdeal.Value Cert.Proof.Mm
open Idealize.ShloMosaic Idealize.ShloMosaic.TcCoe Idealize.SL.Sem Idealize.ShloMosaic.ValueIdx
open scoped BigOperators

theorem adds : Adds (p := 1408) (q := 1024) (n := 2048) (k0_pay2 (F := Ideal)) :=
  Tn.adds (D := dot_S2048x1408_S2048x1024_S1408x1024_0_0_1_1_n_n) ⟨rfl, rfl, fun _ _ => rfl, fun _ _ => rfl, fun _ _ => rfl, fun _ _ => rfl⟩ _ _ fun _ _ _ => rfl

variable (m : (ℓ : Loc nD τ sig) → Buf (Elt Ideal) ℓ)

/-- The two arguments of a device. -/
abbrev A (c : Dev nD) : S16384x2816.Idx → EReal := m ((c.tc : Thread nD τ).loc main_arg0)
abbrev G (c : Dev nD) : S16384x1024.Idx → EReal := m ((c.tc : Thread nD τ).loc main_arg1)

theorem idx : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

theorem blk0 (c : Dev nD) (t : Fin cfg0.N) : Block (A m c) (iblk m c 0 t : S2048x1408.Idx → EReal) (2048 * (t.val % 8)) (1408 * (t.val / 8)) := by
  obtain ⟨h0, h1, -, -⟩ := idx t
  refine block_of _ _ _ _ (fun y => ((cfg0.win 0).blk t).view.emb y) (fun y => rfl) (fun y => ?_) (fun y => ?_)
  · show win0_0.index t (0 : Fin 2) * 2048 + 1 * (y 0).val = _
    rw [h0]; omega
  · show win0_0.index t (1 : Fin 2) * 1408 + 1 * (y 1).val = _
    rw [h1]; omega

theorem blk1 (c : Dev nD) (t : Fin cfg0.N) : Block (G m c) (iblk m c 1 t : S2048x1024.Idx → EReal) (2048 * (t.val % 8)) (1024 * (0)) := by
  obtain ⟨-, -, h0, h1⟩ := idx t
  refine block_of _ _ _ _ (fun y => ((cfg0.win 1).blk t).view.emb y) (fun y => rfl) (fun y => ?_) (fun y => ?_)
  · show win0_1.index t (0 : Fin 2) * 2048 + 1 * (y 0).val = _
    rw [h0]; omega
  · show win0_1.index t (1 : Fin 2) * 1024 + 1 * (y 1).val = _
    rw [h1]; omega

/-- The array's final entries: products summed over all rows. -/
theorem result (c : Dev nD) (i : S2816x1024.Idx) :
    (G2 m c : S2816x1024.Idx → EReal) i = ∑ k ∈ Finset.range 16384, ent (A m c) k (i 0).val * ent (G m c) k (i 1).val := by
  have h0 : (i 0).val < 2816 := (i 0).isLt
  have h1 : (i 1).val < 1024 := (i 1).isLt
  have hrun : run2Of i = (i 0).val / 1408 := by
    show 1 * ((i 0).val / 1408 - 0) + 1 * ((i 1).val / 1024 - 0) = _
    omega
  unfold G2
  rw [dif_pos (by rw [show cfg0.N = 16 from N_0, hrun]; omega)]
  have hd : ∀ s, s < 8 → (8 * run2Of i + s) % 8 = s ∧ (8 * run2Of i + s) / 8 = run2Of i := fun s hs => by omega
  refine (fold_eq (A m c) (G m c) (k0_pay2 (F := Ideal)) adds (k0_pay1 (F := Ideal)) (fun _ => Ideal.ofBits_zero_f32)
    (fun n h => iblk m c 0 ⟨n, h⟩) (fun n h => iblk m c 1 ⟨n, h⟩) (run2Of i) (1408 * (run2Of i)) (1024 * (0)) (fun s h hs => ?_) (fun s h hs => ?_) _ (loc2Of i)).trans ?_
  · have := blk0 m c ⟨8 * run2Of i + s, h⟩
    simp only [hd s hs] at this
    exact this
  · have := blk1 m c ⟨8 * run2Of i + s, h⟩
    simp only [hd s hs] at this
    exact this
  · refine Finset.sum_congr rfl fun k _ => ?_
    have e0 : 1408 * (run2Of i) + (loc2Of i 0).val = (i 0).val := by
      show _ + (i 0).val % 1408 = _
      omega
    have e1 : 1024 * (0) + (loc2Of i 1).val = (i 1).val := by
      show _ + (i 1).val % 1024 = _
      omega
    rw [e0, e1]

theorem tn : Tn (n := 16384) (p := 1024) (q := 2816) Cert.ReferenceDownIdeal.dot_S16384x1024_S16384x2816_S1024x2816_0_0_1_1_n_n :=
  ⟨rfl, rfl, fun _ _ => rfl, fun _ _ => rfl, fun _ _ => rfl, fun _ _ => rfl⟩

theorem algebraic : Cert.algebraic_KernelDownIdeal_ReferenceDownIdeal := by
  intro m g m' g' hpre hagree
  refine ⟨fun c => G2 m c, (θ_run _ _ _).mono (fun r h c => h c) (run m g), ?_⟩
  refine (θ_run _ _ _).mono (fun r h c => ?_) (Cert.ReferenceDownIdeal.Value.run (F := Ideal) m' g')
  obtain ⟨h0, h1⟩ := hagree c
  refine ⟨(h c).1.trans (funext fun i => ?_), (h c).2⟩
  refine (tn.host _ _ _ i).trans ((result m c i).trans ?_).symm
  rw [show A m c = _ from h0.symm, show G m c = _ from h1.symm]
  rfl

end Cert.Proof.MmDown

end
-- ==== Proof.MmSq.lean ====
/-
  The gradient of w_out, and of the branch gates' columns of w_in: the accumulated products over row blocks are the product over all rows.
-/
module

public import proofs.«01_k».proof.Proof.MmSum
public import proofs.«01_k».proof.Defs
public import proofs.«01_k».proof.Proof.Gen.KernelSqIdeal.Value
public import proofs.«01_k».proof.Proof.Gen.ReferenceSqIdeal.Run

@[expose] public section

set_option maxRecDepth 16384

noncomputable section

namespace Cert.Proof.MmSq

open Cert.KernelSqIdeal Cert.KernelSqIdeal.Gen Cert.KernelSqIdeal.Value Cert.Proof.Mm
open Idealize.ShloMosaic Idealize.ShloMosaic.TcCoe Idealize.SL.Sem Idealize.ShloMosaic.ValueIdx
open scoped BigOperators

theorem adds : Adds (p := 1024) (q := 1024) (n := 2048) (k0_pay2 (F := Ideal)) :=
  Tn.adds (D := dot_S2048x1024_S2048x1024_S1024x1024_0_0_1_1_n_n) ⟨rfl, rfl, fun _ _ => rfl, fun _ _ => rfl, fun _ _ => rfl, fun _ _ => rfl⟩ _ _ fun _ _ _ => rfl

variable (m : (ℓ : Loc nD τ sig) → Buf (Elt Ideal) ℓ)

/-- The two arguments of a device. -/
abbrev A (c : Dev nD) : S16384x1024.Idx → EReal := m ((c.tc : Thread nD τ).loc main_arg0)
abbrev G (c : Dev nD) : S16384x1024.Idx → EReal := m ((c.tc : Thread nD τ).loc main_arg1)

theorem idx : ∀ t : Fin cfg0.N, win0_0.index t (0 : Fin 2) = t.val % 8 ∧ win0_0.index t (1 : Fin 2) = 0
    ∧ win0_1.index t (0 : Fin 2) = t.val % 8 ∧ win0_1.index t (1 : Fin 2) = 0 :=
  (by decide +kernel : ∀ t : Fin grid0.N, _)

theorem blk0 (c : Dev nD) (t : Fin cfg0.N) : Block (A m c) (iblk m c 0 t : S2048x1024.Idx → EReal) (2048 * (t.val % 8)) (1024 * (0)) := by
  obtain ⟨h0, h1, -, -⟩ := idx t
  refine block_of _ _ _ _ (fun y => ((cfg0.win 0).blk t).view.emb y) (fun y => rfl) (fun y => ?_) (fun y => ?_)
  · show win0_0.index t (0 : Fin 2) * 2048 + 1 * (y 0).val = _
    rw [h0]; omega
  · show win0_0.index t (1 : Fin 2) * 1024 + 1 * (y 1).val = _
    rw [h1]; omega

theorem blk1 (c : Dev nD) (t : Fin cfg0.N) : Block (G m c) (iblk m c 1 t : S2048x1024.Idx → EReal) (2048 * (t.val % 8)) (1024 * (0)) := by
  obtain ⟨-, -, h0, h1⟩ := idx t
  refine block_of _ _ _ _ (fun y => ((cfg0.win 1).blk t).view.emb y) (fun y => rfl) (fun y => ?_) (fun y => ?_)
  · show win0_1.index t (0 : Fin 2) * 2048 + 1 * (y 0).val = _
    rw [h0]; omega
  · show win0_1.index t (1 : Fin 2) * 1024 + 1 * (y 1).val = _
    rw [h1]; omega

/-- The array's final entries: products summed over all rows. -/
theorem result (c : Dev nD) (i : S1024x1024.Idx) :
    (G2 m c : S1024x1024.Idx → EReal) i = ∑ k ∈ Finset.range 16384, ent (A m c) k (i 0).val * ent (G m c) k (i 1).val := by
  have h0 : (i 0).val < 1024 := (i 0).isLt
  have h1 : (i 1).val < 1024 := (i 1).isLt
  have hrun : run2Of i = 0 := by
    show 1 * ((i 0).val / 1024 - 0) + 1 * ((i 1).val / 1024 - 0) = _
    omega
  unfold G2
  rw [dif_pos (by rw [show cfg0.N = 8 from N_0, hrun]; omega)]
  have hd : ∀ s, s < 8 → (8 * run2Of i + s) % 8 = s ∧ (8 * run2Of i + s) / 8 = run2Of i := fun s hs => by omega
  refine (fold_eq (A m c) (G m c) (k0_pay2 (F := Ideal)) adds (k0_pay1 (F := Ideal)) (fun _ => Ideal.ofBits_zero_f32)
    (fun n h => iblk m c 0 ⟨n, h⟩) (fun n h => iblk m c 1 ⟨n, h⟩) (run2Of i) (1024 * (0)) (1024 * (0)) (fun s h hs => ?_) (fun s h hs => ?_) _ (loc2Of i)).trans ?_
  · have := blk0 m c ⟨8 * run2Of i + s, h⟩
    simp only [hd s hs] at this
    exact this
  · have := blk1 m c ⟨8 * run2Of i + s, h⟩
    simp only [hd s hs] at this
    exact this
  · refine Finset.sum_congr rfl fun k _ => ?_
    have e0 : 1024 * (0) + (loc2Of i 0).val = (i 0).val := by
      show _ + (i 0).val % 1024 = _
      omega
    have e1 : 1024 * (0) + (loc2Of i 1).val = (i 1).val := by
      show _ + (i 1).val % 1024 = _
      omega
    rw [e0, e1]

theorem tn : Tn (n := 16384) (p := 1024) (q := 1024) Cert.ReferenceSqIdeal.dot_S16384x1024_S16384x1024_S1024x1024_0_0_1_1_n_n :=
  ⟨rfl, rfl, fun _ _ => rfl, fun _ _ => rfl, fun _ _ => rfl, fun _ _ => rfl⟩

theorem algebraic : Cert.algebraic_KernelSqIdeal_ReferenceSqIdeal := by
  intro m g m' g' hpre hagree
  refine ⟨fun c => G2 m c, (θ_run _ _ _).mono (fun r h c => h c) (run m g), ?_⟩
  refine (θ_run _ _ _).mono (fun r h c => ?_) (Cert.ReferenceSqIdeal.Value.run (F := Ideal) m' g')
  obtain ⟨h0, h1⟩ := hagree c
  refine ⟨(h c).1.trans (funext fun i => ?_), (h c).2⟩
  refine (tn.host _ _ _ i).trans ((result m c i).trans ?_).symm
  rw [show A m c = _ from h0.symm, show G m c = _ from h1.symm]
  rfl

end Cert.Proof.MmSq

end
-- ==== Proof.FfnOps.lean ====
/-
  The channel mixer's forward formulas over matrices of extended reals, and what the operations of both programs make of such matrices.
-/
module

public import proofs.«01_k».proof.Proof.MmSum

@[expose] public section

set_option maxRecDepth 16384

noncomputable section

namespace Cert.Proof.Ffn

open Idealize.ShloMosaic Idealize.ShloMosaic.ValueIdx
open scoped BigOperators

/-- The array with these entries. -/
def mat {a b : ℕ} (f : ℕ → ℕ → EReal) : (⟨2, ![a, b]⟩ : Shape).Idx → EReal := fun i => f (i 0).val (i 1).val

theorem mat_ent {a b : ℕ} (X : (⟨2, ![a, b]⟩ : Shape).Idx → EReal) : X = mat (Mm.ent X) := funext fun i => Mm.ent_idx X i _ _ rfl rfl

/-- A matrix product of inner dimension `n`. -/
def mul (n : ℕ) (A B : ℕ → ℕ → EReal) (i j : ℕ) : EReal := ∑ k ∈ Finset.range n, A i k * B k j

/-- What the call is given: the rows, the norm's gain, scale and shift, the gate, the three weight matrices. -/
structure Args where
  x : ℕ → ℕ → EReal
  n : ℕ → ℕ → EReal
  s : ℕ → ℕ → EReal
  t : ℕ → ℕ → EReal
  g : ℕ → ℕ → EReal
  wg : ℕ → ℕ → EReal
  wu : ℕ → ℕ → EReal
  wd : ℕ → ℕ → EReal

namespace Args
variable (A : Args)

/-- The reciprocal root of a row's mean square. -/
def nrm (i : ℕ) : EReal :=
  Ideal.rsqrt (Ideal.div (∑ k ∈ Finset.range 1024, A.x i k * A.x i k) (Ideal.ofBits .f32 0x44800000#32) + Ideal.ofBits .f32 0x358637BD#32)
/-- The normed, scaled and shifted rows. -/
def h (i j : ℕ) : EReal := A.x i j * A.nrm i * A.n 0 j * (Ideal.ofBits .f32 0x3F800000#32 + A.s 0 j) + A.t 0 j
def a : ℕ → ℕ → EReal := mul 1024 A.h A.wg
def b : ℕ → ℕ → EReal := mul 1024 A.h A.wu
def u (i j : ℕ) : EReal := A.a i j * Ideal.logistic (A.a i j) * A.b i j
def dn : ℕ → ℕ → EReal := mul 2816 A.u A.wd
def xo (i j : ℕ) : EReal := A.x i j + A.g 0 j * A.dn i j

/-- The same call from row `r` on. -/
def from_ (r : ℕ) : Args := { A with x := fun i j => A.x (r + i) j }

end Args

/-- A product of two matrices by its index maps. -/
structure Nn {n p q : ℕ} (D : DotDims (⟨2, ![p, n]⟩ : Shape) ⟨2, ![n, q]⟩ ⟨2, ![p, q]⟩) : Prop where
  rank : D.contr.rank = 1
  size : D.contr.size ⟨0, by omega⟩ = n
  l0 : ∀ j c, (D.lhsIdx j c 0).val = (j 0).val
  l1 : ∀ j c, (D.lhsIdx j c 1).val = (c ⟨0, by omega⟩).val
  r0 : ∀ j c, (D.rhsIdx j c 0).val = (c ⟨0, by omega⟩).val
  r1 : ∀ j c, (D.rhsIdx j c 1).val = (j 1).val

theorem mat_at {a b : ℕ} (f : ℕ → ℕ → EReal) (x : (⟨2, ![a, b]⟩ : Shape).Idx) (i j : ℕ) (h0 : (x 0).val = i) (h1 : (x 1).val = j) :
    mat f x = f i j := by
  subst h0; subst h1; rfl

section
variable {n p q : ℕ} {D : DotDims (⟨2, ![p, n]⟩ : Shape) ⟨2, ![n, q]⟩ ⟨2, ![p, q]⟩} (hD : Nn D) (A B : ℕ → ℕ → EReal)
include hD

theorem Nn.kernel {φ₁ φ₂ : FTy} : matmul (F := Ideal) (φ₁ := φ₁) (φ₂ := φ₂) D none (mat A : (⟨2, ![p, n]⟩ : Shape).Idx → EReal)
      (mat B : (⟨2, ![n, q]⟩ : Shape).Idx → EReal) (constant (F := Ideal) ⟨2, ![p, q]⟩ .f32 0x00000000#32)
      = (mat (mul n A B) : (⟨2, ![p, q]⟩ : Shape).Idx → EReal) := by
  funext j
  refine (Val.matmul1 (φ₁ := φ₁) (φ₂ := φ₂) D n hD.rank hD.size none (mat A : (⟨2, ![p, n]⟩ : Shape).Idx → EReal) (mat B : (⟨2, ![n, q]⟩ : Shape).Idx → EReal) _ j
    (fun k => A (j 0).val k.val) (fun k => B k.val (j 1).val)
    (fun k c hk => mat_at A _ _ _ (hD.l0 j c) ((hD.l1 j c).trans hk)) (fun k c hk => mat_at B _ _ _ ((hD.r0 j c).trans hk) (hD.r1 j c))).trans ?_
  rw [show (constant (F := Ideal) (⟨2, ![p, q]⟩ : Shape) .f32 0x00000000#32) j = (0 : EReal) from Ideal.ofBits_zero_f32, zero_add]
  exact (Finset.sum_range fun k => A (j 0).val k * B k (j 1).val).symm

theorem Nn.host {φ₁ φ₂ : FTy} : (Host.dotGeneral (F := Ideal) (φ₁ := φ₁) (φ₂ := φ₂) D none (mat A : (⟨2, ![p, n]⟩ : Shape).Idx → EReal)
      (mat B : (⟨2, ![n, q]⟩ : Shape).Idx → EReal) : FVec Ideal ⟨2, ![p, q]⟩ .f32)
      = (mat (mul n A B) : (⟨2, ![p, q]⟩ : Shape).Idx → EReal) := by
  funext j
  refine (Val.dot1 (φ₁ := φ₁) (φ₂ := φ₂) D n hD.rank hD.size none (mat A : (⟨2, ![p, n]⟩ : Shape).Idx → EReal) (mat B : (⟨2, ![n, q]⟩ : Shape).Idx → EReal) j
    (fun k => A (j 0).val k.val) (fun k => B k.val (j 1).val)
    (fun k c hk => mat_at A _ _ _ (hD.l0 j c) ((hD.l1 j c).trans hk)) (fun k c hk => mat_at B _ _ _ ((hD.r0 j c).trans hk) (hD.r1 j c))).trans ?_
  exact (Finset.sum_range fun k => A (j 0).val k * B k (j 1).val).symm
end

end Cert.Proof.Ffn

end
-- ==== Proof.FfnK.lean ====
/-
  What the channel mixer's forward call leaves in its five output arrays.
-/
module

public import proofs.«01_k».proof.Proof.FfnOps
public import proofs.«01_k».proof.Proof.Gen.KernelFfnIdeal.Value
public import Idealize.ShloMosaic.Lib.Pipeline.ValueKit.Basic
public import Idealize.ShloMosaic.Lib.Pipeline.ValueKit.Geometry
public import Idealize.ShloMosaic.Lib.Pipeline.Covers

@[expose] public section

set_option maxRecDepth 16384

noncomputable section

namespace Cert.Proof.Ffn

open Cert.KernelFfnIdeal Cert.KernelFfnIdeal.Gen Cert.KernelFfnIdeal.Value
open Idealize.ShloMosaic Idealize.ShloMosaic.TcCoe Idealize.SL.Sem Idealize.ShloMosaic.ValueIdx
open scoped BigOperators

/-! ## The payloads -/

theorem nnUp : Nn (p := 256) (n := 1024) (q := 2816) dot_S256x1024_S1024x2816_S256x2816_1_0_0_1_n_n :=
  ⟨rfl, rfl, fun _ _ => rfl, fun _ _ => rfl, fun _ _ => rfl, fun _ _ => rfl⟩
theorem nnDown : Nn (p := 256) (n := 2816) (q := 1024) dot_S256x2816_S2816x1024_S256x1024_1_0_0_1_n_n :=
  ⟨rfl, rfl, fun _ _ => rfl, fun _ _ => rfl, fun _ _ => rfl, fun _ _ => rfl⟩

theorem zz : ∀ a : Fin 2, (![0, 0] : Fin 2 → ℕ) a = 0 := fun a => match a with | ⟨0, _⟩ => rfl | ⟨1, _⟩ => rfl

section
variable (A : Args)

theorem squares (y : S256.Idx) :
    (multiReduction (F := Ideal) (φ := .f32) .add [1] S256 (mulf (F := Ideal) (φ := .f32) (mat A.x : S256x1024.Idx → EReal) (mat A.x : S256x1024.Idx → EReal)) 0x00000000#32 reduces_S256x1024_S256 (.inl rfl) rfl : FVec Ideal S256 .f32) y
      = ∑ k ∈ Finset.range 1024, A.x (y 0).val k * A.x (y 0).val k := by
  rw [Finset.sum_range]
  exact Ideal.multiReduction_add_single (φ := .f32) _ _ reduces_S256x1024_S256 _ _ y

theorem pay3 : k0_pay3 (F := Ideal) (mat A.x) (mat A.n) (mat A.s) (mat A.t)
    = (mat A.h : S256x1024.Idx → EReal) := by
  funext y
  refine (congrFun (View.canon_cons_unit_lit (S := S256x1024) (Val := Elt Ideal) (e := .bf16) inb_S256x1024_S256x1024_0_0 _ [] zz) y).symm.trans ?_
  refine (canon8_eq (F := Ideal) (mat A.x : S256x1024.Idx → EReal) (mat A.n : S1x1024.Idx → EReal) (mat A.s : S1x1024.Idx → EReal) (mat A.t : S1x1024.Idx → EReal) y).trans ?_
  have hs := squares A (ix8_1 y)
  show (A.x (y 0).val (y 1).val * Ideal.rsqrt (Ideal.div (multiReduction (F := Ideal) (φ := .f32) .add [1] S256 _ _ _ _ _ (ix8_1 y)) (Ideal.ofBits .f32 0x44800000#32) + Ideal.ofBits .f32 0x358637BD#32) * A.n 0 (y 1).val * (Ideal.ofBits .f32 0x3F800000#32 + A.s 0 (y 1).val) + A.t 0 (y 1).val : EReal) = A.h (y 0).val (y 1).val
  rw [hs]
  rfl

theorem pay4 : k0_pay4 (F := Ideal) (mat A.x) (mat A.n) (mat A.s) (mat A.t) (mat A.wg)
    = (mat A.a : S256x2816.Idx → EReal) := by
  unfold k0_pay4
  rw [pay3]
  exact nnUp.kernel A.h A.wg
theorem pay5 : k0_pay5 (F := Ideal) (mat A.x) (mat A.n) (mat A.s) (mat A.t) (mat A.wu)
    = (mat A.b : S256x2816.Idx → EReal) := by
  unfold k0_pay5
  rw [pay3]
  exact nnUp.kernel A.h A.wu
theorem pay6 : k0_pay6 (F := Ideal) (mat A.x) (mat A.n) (mat A.s) (mat A.t) (mat A.wg)
    = (mat (fun i j => A.a i j * Ideal.logistic (A.a i j)) : S256x2816.Idx → EReal) := by
  unfold k0_pay6
  rw [pay4]
  rfl
theorem pay1 : k0_pay1 (F := Ideal) (mat A.b) (mat (fun i j => A.a i j * Ideal.logistic (A.a i j))) (mat A.wd)
    = (mat A.dn : S256x1024.Idx → EReal) := nnDown.kernel A.u A.wd
theorem pay2 : k0_pay2 (F := Ideal) (mat A.x) (mat A.b) (mat (fun i j => A.a i j * Ideal.logistic (A.a i j))) (mat A.wd) (mat A.g)
    = (mat A.xo : S256x1024.Idx → EReal) := by
  unfold k0_pay2
  rw [pay1]
  funext y
  refine congrArg (fun z : EReal => A.x (y 0).val (y 1).val + z * A.dn (y 0).val (y 1).val) (broadcastTo_apply _ broadcasts_S1x1024_S256x1024 y (ix2 (0 : Fin 1) (y 1)) (by
    intro x; match x with
    | ⟨1, _⟩ => exact (if_neg (by decide : ¬ (1024 : ℕ) = 1)).symm
    | ⟨0, _⟩ => exact (if_pos rfl).symm))

/-- What a point leaves, of blocks with the entries of `A`. -/
theorem outs : out0_8 (F := Ideal) (mat A.x) (mat A.n) (mat A.s) (mat A.t) (mat A.g) (mat A.wg) (mat A.wu) (mat A.wd) = (mat A.h : S256x1024.Idx → EReal)
    ∧ out0_9 (F := Ideal) (mat A.x) (mat A.n) (mat A.s) (mat A.t) (mat A.g) (mat A.wg) (mat A.wu) (mat A.wd) = (mat A.a : S256x2816.Idx → EReal)
    ∧ out0_10 (F := Ideal) (mat A.x) (mat A.n) (mat A.s) (mat A.t) (mat A.g) (mat A.wg) (mat A.wu) (mat A.wd) = (mat A.b : S256x2816.Idx → EReal)
    ∧ out0_11 (F := Ideal) (mat A.x) (mat A.n) (mat A.s) (mat A.t) (mat A.g) (mat A.wg) (mat A.wu) (mat A.wd) = (mat A.dn : S256x1024.Idx → EReal)
    ∧ out0_12 (F := Ideal) (mat A.x) (mat A.n) (mat A.s) (mat A.t) (mat A.g) (mat A.wg) (mat A.wu) (mat A.wd) = (mat A.xo : S256x1024.Idx → EReal) := by
  have l0 := View.ld_unit_lit (Val := Elt Ideal) (e := .f32) inb_S256x1024_S256x1024_0_0 (mat A.x : S256x1024.Idx → EReal) zz
  have lr : ∀ f, View.ld (Val := Elt Ideal) (e' := .f32) (mat f : S1x1024.Idx → EReal) r0_1 = (mat f : S1x1024.Idx → EReal) := fun f => View.ld_unit_lit (Val := Elt Ideal) (e := .f32) inb_S1x1024_S1x1024_0_0 (mat f : S1x1024.Idx → EReal) zz
  have lw : ∀ f, View.ld (Val := Elt Ideal) (e' := .bf16) (mat f : S1024x2816.Idx → EReal) r0_2 = (mat f : S1024x2816.Idx → EReal) := fun f => View.ld_unit_lit (Val := Elt Ideal) (e := .bf16) inb_S1024x2816_S1024x2816_0_0 (mat f : S1024x2816.Idx → EReal) zz
  have ld := View.ld_unit_lit (Val := Elt Ideal) (e := .bf16) inb_S2816x1024_S2816x1024_0_0 (mat A.wd : S2816x1024.Idx → EReal) zz
  unfold out0_8 out0_9 out0_10 out0_11 out0_12 k0_pay7 k0_pay8
  refine ⟨(View.canon_cons_unit_lit _ _ _ zz).trans ?_, (View.canon_cons_unit_lit _ _ _ zz).trans ?_, (View.canon_cons_unit_lit _ _ _ zz).trans ?_,
    (View.canon_cons_unit_lit _ _ _ zz).trans ?_, (View.canon_cons_unit_lit _ _ _ zz).trans ?_⟩
  · rw [l0, lr, lr, lr]
    exact pay3 A
  · rw [l0, lr, lr, lr, lw]
    exact pay4 A
  · rw [l0, lr, lr, lr, lw]
    exact pay5 A
  · rw [l0, lr, lr, lr, lw, lw, ld, pay5, pay6]
    exact pay1 A
  · rw [l0, lr, lr, lr, lr, lw, lw, ld, pay5, pay6]
    exact pay2 A
end

/-! ## The arrays -/

variable (m : (ℓ : Loc nD τ sig) → Buf (Elt Ideal) ℓ) (c : Dev nD)

/-- The entries of a device's arguments. -/
def given : Args where
  x := Mm.ent (m ((c.tc : Thread nD τ).loc main_arg0) : S16384x1024.Idx → EReal)
  n := Mm.ent (m ((c.tc : Thread nD τ).loc main_arg1) : S1x1024.Idx → EReal)
  s := Mm.ent (m ((c.tc : Thread nD τ).loc main_arg2) : S1x1024.Idx → EReal)
  t := Mm.ent (m ((c.tc : Thread nD τ).loc main_arg3) : S1x1024.Idx → EReal)
  g := Mm.ent (m ((c.tc : Thread nD τ).loc main_arg4) : S1x1024.Idx → EReal)
  wg := Mm.ent (m ((c.tc : Thread nD τ).loc main_arg5) : S1024x2816.Idx → EReal)
  wu := Mm.ent (m ((c.tc : Thread nD τ).loc main_arg6) : S1024x2816.Idx → EReal)
  wd := Mm.ent (m ((c.tc : Thread nD τ).loc main_arg7) : S2816x1024.Idx → EReal)

theorem co : ∀ t : Fin cfg0.N, win0_0.index t (0 : Fin 2) = t.val ∧ win0_0.index t (1 : Fin 2) = 0 :=
  (by decide +kernel : ∀ t : Fin grid0.N, _)

theorem blk0 (t : Fin cfg0.N) : (iblk m c 0 t : S256x1024.Idx → EReal) = mat ((given m c).from_ (256 * t.val)).x := by
  obtain ⟨h0, h1⟩ := co t
  refine funext fun y => Mm.ent_idx _ (((cfg0.win 0).blk t).view.emb y) _ _ ?_ ?_
  · show win0_0.index t (0 : Fin 2) * 256 + 1 * (y 0).val = _
    rw [h0]; omega
  · show win0_0.index t (1 : Fin 2) * 1024 + 1 * (y 1).val = _
    rw [h1]; omega

/-- A window that keeps to one block holds its array. -/
theorem held {a b : ℕ} (X : (⟨2, ![a, b]⟩ : Shape).Idx → EReal) (e : (⟨2, ![a, b]⟩ : Shape).Idx → (⟨2, ![a, b]⟩ : Shape).Idx)
    (h0 : ∀ y, (e y 0).val = 0 * a + 1 * (y 0).val) (h1 : ∀ y, (e y 1).val = 0 * b + 1 * (y 1).val) : (fun y => X (e y)) = mat (Mm.ent X) :=
  funext fun y => Mm.ent_idx X _ _ _ ((h0 y).trans (by omega)) ((h1 y).trans (by omega))

theorem blk1 (t : Fin cfg0.N) : (iblk m c 1 t : S1x1024.Idx → EReal) = mat (given m c).n :=
  held _ (fun y => ((cfg0.win 1).blk t).view.emb y) (fun _ => rfl) (fun _ => rfl)
theorem blk2 (t : Fin cfg0.N) : (iblk m c 2 t : S1x1024.Idx → EReal) = mat (given m c).s :=
  held _ (fun y => ((cfg0.win 2).blk t).view.emb y) (fun _ => rfl) (fun _ => rfl)
theorem blk3 (t : Fin cfg0.N) : (iblk m c 3 t : S1x1024.Idx → EReal) = mat (given m c).t :=
  held _ (fun y => ((cfg0.win 3).blk t).view.emb y) (fun _ => rfl) (fun _ => rfl)
theorem blk4 (t : Fin cfg0.N) : (iblk m c 4 t : S1x1024.Idx → EReal) = mat (given m c).g :=
  held _ (fun y => ((cfg0.win 4).blk t).view.emb y) (fun _ => rfl) (fun _ => rfl)
theorem blk5 (t : Fin cfg0.N) : (iblk m c 5 t : S1024x2816.Idx → EReal) = mat (given m c).wg :=
  held _ (fun y => ((cfg0.win 5).blk t).view.emb y) (fun _ => rfl) (fun _ => rfl)
theorem blk6 (t : Fin cfg0.N) : (iblk m c 6 t : S1024x2816.Idx → EReal) = mat (given m c).wu :=
  held _ (fun y => ((cfg0.win 6).blk t).view.emb y) (fun _ => rfl) (fun _ => rfl)
theorem blk7 (t : Fin cfg0.N) : (iblk m c 7 t : S2816x1024.Idx → EReal) = mat (given m c).wd :=
  held _ (fun y => ((cfg0.win 7).blk t).view.emb y) (fun _ => rfl) (fun _ => rfl)

/-- What a point leaves in the five output windows. -/
theorem after (t : Fin cfg0.N) : ((dats m 0 c).after 8 t : S256x1024.Idx → EReal) = mat (fun i j => (given m c).h (256 * t.val + i) j)
    ∧ ((dats m 0 c).after 9 t : S256x2816.Idx → EReal) = mat (fun i j => (given m c).a (256 * t.val + i) j)
    ∧ ((dats m 0 c).after 10 t : S256x2816.Idx → EReal) = mat (fun i j => (given m c).b (256 * t.val + i) j)
    ∧ ((dats m 0 c).after 11 t : S256x1024.Idx → EReal) = mat (fun i j => (given m c).dn (256 * t.val + i) j)
    ∧ ((dats m 0 c).after 12 t : S256x1024.Idx → EReal) = mat (fun i j => (given m c).xo (256 * t.val + i) j) := by
  rw [after0_8, after0_9, after0_10, after0_11, after0_12, blk0, blk1, blk2, blk3, blk4, blk5, blk6, blk7]
  exact outs ((given m c).from_ (256 * t.val))

/-- A block's number is a point's: there are 64 row blocks and one column block. -/
theorem point (k l : ℕ) (hk : k < (16384 + 255) / 256) (hl : l < 1) : ∃ t : Fin cfg0.N, win0_0.index t (0 : Fin 2) = k ∧ 0 = l :=
  ⟨⟨k, lt_of_lt_of_eq hk N_0.symm⟩, (co _).1, by omega⟩

/-- An entry under a point's block. -/
theorem under {a b : ℕ} (f : ℕ → ℕ → EReal) (t : Fin cfg0.N) (y : (⟨2, ![256, b]⟩ : Shape).Idx) (e : (⟨2, ![a, b]⟩ : Shape).Idx)
    (h0 : (e 0).val = win0_0.index t (0 : Fin 2) * 256 + (y 0).val) (h1 : (e 1).val = 0 * b + (y 1).val) :
    (mat (fun i j => f (256 * t.val + i) j) : (⟨2, ![256, b]⟩ : Shape).Idx → EReal) y = (mat f : (⟨2, ![a, b]⟩ : Shape).Idx → EReal) e := by
  rw [(co t).1] at h0
  exact (mat_at f e _ _ (h0.trans (by omega)) (h1.trans (by omega))).symm

theorem arr8 : ((dats m 0 c).arrAt 8 cfg0.N : S16384x1024.Idx → EReal) = mat (given m c).h := by
  refine (dats m 0 c).arrAt_eq_of_covers 8 _ ((cfg0.win 8).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun (after m c t).1 y).trans (under _ t y _ ((cfg0.win 8).rect_emb_val t y (0 : Fin 2)) ((cfg0.win 8).rect_emb_val t y (1 : Fin 2)))
theorem arr9 : ((dats m 0 c).arrAt 9 cfg0.N : S16384x2816.Idx → EReal) = mat (given m c).a := by
  refine (dats m 0 c).arrAt_eq_of_covers 9 _ ((cfg0.win 9).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun (after m c t).2.1 y).trans (under _ t y _ ((cfg0.win 9).rect_emb_val t y (0 : Fin 2)) ((cfg0.win 9).rect_emb_val t y (1 : Fin 2)))
theorem arr10 : ((dats m 0 c).arrAt 10 cfg0.N : S16384x2816.Idx → EReal) = mat (given m c).b := by
  refine (dats m 0 c).arrAt_eq_of_covers 10 _ ((cfg0.win 10).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun (after m c t).2.2.1 y).trans (under _ t y _ ((cfg0.win 10).rect_emb_val t y (0 : Fin 2)) ((cfg0.win 10).rect_emb_val t y (1 : Fin 2)))
theorem arr11 : ((dats m 0 c).arrAt 11 cfg0.N : S16384x1024.Idx → EReal) = mat (given m c).dn := by
  refine (dats m 0 c).arrAt_eq_of_covers 11 _ ((cfg0.win 11).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun (after m c t).2.2.2.1 y).trans (under _ t y _ ((cfg0.win 11).rect_emb_val t y (0 : Fin 2)) ((cfg0.win 11).rect_emb_val t y (1 : Fin 2)))
theorem arr12 : ((dats m 0 c).arrAt 12 cfg0.N : S16384x1024.Idx → EReal) = mat (given m c).xo := by
  refine (dats m 0 c).arrAt_eq_of_covers 12 _ ((cfg0.win 12).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun (after m c t).2.2.2.2 y).trans (under _ t y _ ((cfg0.win 12).rect_emb_val t y (0 : Fin 2)) ((cfg0.win 12).rect_emb_val t y (1 : Fin 2)))

end Cert.Proof.Ffn

end
-- ==== Proof.FfnR.lean ====
/-
  The channel mixer's forward as the reference computes it, and that the call computes the same.
-/
module

public import proofs.«01_k».proof.Proof.FfnK
public import proofs.«01_k».proof.Defs
public import proofs.«01_k».proof.Proof.Gen.ReferenceFfnIdeal.Run

@[expose] public section

set_option maxRecDepth 16384

noncomputable section

namespace Cert.Proof.Ffn

open Cert.ReferenceFfnIdeal Cert.ReferenceFfnIdeal.Gen
open Idealize.ShloMosaic Idealize.ShloMosaic.TcCoe Idealize.SL.Sem Idealize.ShloMosaic.ValueIdx
open scoped BigOperators

theorem nnUpR : Nn (p := 16384) (n := 1024) (q := 2816) dot_S16384x1024_S1024x2816_S16384x2816_1_0_0_1_n_n :=
  ⟨rfl, rfl, fun _ _ => rfl, fun _ _ => rfl, fun _ _ => rfl, fun _ _ => rfl⟩
theorem nnDownR : Nn (p := 16384) (n := 2816) (q := 1024) dot_S16384x2816_S2816x1024_S16384x1024_1_0_0_1_n_n :=
  ⟨rfl, rfl, fun _ _ => rfl, fun _ _ => rfl, fun _ _ => rfl, fun _ _ => rfl⟩

theorem sums (f : ℕ → ℕ → EReal) (j : S16384.Idx) :
    Host.reduceAdd (F := Ideal) (φ := .f32) (mulf (F := Ideal) (φ := .f32) (mat f : S16384x1024.Idx → EReal) (mat f : S16384x1024.Idx → EReal)) (constant (F := Ideal) S_ .f32 0x00000000#32) reducesTo_S16384x1024_S16384_d1 h_S_ j
      = ∑ k ∈ Finset.range 1024, f (j 0).val k * f (j 0).val k := by
  rw [hostReduceAdd_apply, Ideal.hostReduceAdd_single reducesTo_S16384x1024_S16384_d1 (by decide), Finset.sum_range]
  refine (congrArg₂ (fun p q : EReal => p + q) Ideal.ofBits_zero_f32 ?_).trans (zero_add _)
  rfl

variable (A : Args)

/-- The reciprocal root of the rows' mean squares, as the reference writes it. -/
def rn (x : S16384x1024.Idx → EReal) : FVec Ideal S16384x1024 .f32 :=
  broadcastInDim S16384x1024 ![0, 1] bcast_S16384x1_S16384x1024_0_1 (Host.rsqrt (F := Ideal) (φ := .f32) (addf (F := Ideal) (φ := .f32) (Host.divf (F := Ideal) (φ := .f32) (broadcastInDim S16384x1 ![0] bcast_S16384_S16384x1_0 (Host.reduceAdd (F := Ideal) (φ := .f32) (mulf (F := Ideal) (φ := .f32) x x) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))

theorem norm : rn (mat A.x) = mat fun i _ => A.nrm i := by
  unfold rn
  funext j
  refine (broadcastInDim_apply _ _ _ _ (ix2 (j 0) (0 : Fin 1)) (fun x => match x with | ⟨0, _⟩ => rfl | ⟨1, _⟩ => rfl)).trans ?_
  refine congrArg (fun z : EReal => Ideal.rsqrt (Ideal.div z (Ideal.ofBits .f32 0x44800000#32) + Ideal.ofBits .f32 0x358637BD#32)) ?_
  refine (broadcastInDim_apply _ _ _ _ (ix1 (j 0)) (fun x => match x with | ⟨0, _⟩ => rfl)).trans ?_
  exact sums A.x _

theorem row (f : ℕ → ℕ → EReal) : (broadcastInDim S16384x1024 ![0, 1] bcast_S1x1024_S16384x1024_0_1 (mat f : S1x1024.Idx → EReal) : S16384x1024.Idx → EReal) = mat fun _ j => f 0 j := by
  funext j
  exact broadcastInDim_apply _ _ _ _ (ix2 (0 : Fin 1) (j 1)) (fun x => match x with | ⟨0, _⟩ => rfl | ⟨1, _⟩ => rfl)

/-! The reference's five results, of its arguments. -/

section
variable (x : S16384x1024.Idx → EReal) (n s t g : S1x1024.Idx → EReal) (wg wu : S1024x2816.Idx → EReal) (wd : S2816x1024.Idx → EReal)

def rh : FVec Ideal S16384x1024 .f32 :=
  addf (mulf (mulf (mulf x (rn x))
    (broadcastInDim S16384x1024 ![0, 1] bcast_S1x1024_S16384x1024_0_1 n)) (broadcastInDim S16384x1024 ![0, 1] bcast_S1x1024_S16384x1024_0_1 (addf (F := Ideal) (φ := .f32) (broadcastInDim S1x1024 ![] bcast_S_S1x1024 (constant (F := Ideal) S_ .f32 0x3F800000#32)) s)))
    (broadcastInDim S16384x1024 ![0, 1] bcast_S1x1024_S16384x1024_0_1 t)
def ra (w : S1024x2816.Idx → EReal) : FVec Ideal S16384x2816 .f32 :=
  Host.dotGeneral dot_S16384x1024_S1024x2816_S16384x2816_1_0_0_1_n_n none (rh x n s t) (extf (F := Ideal) (φ := .bf16) .f32 w bitsLt_bf16_f32)
def rdn : FVec Ideal S16384x1024 .f32 :=
  Host.dotGeneral dot_S16384x2816_S2816x1024_S16384x1024_1_0_0_1_n_n none
    (mulf (mulf (ra x n s t wg) (Host.divf (broadcastInDim S16384x2816 ![] bcast_S_S16384x2816 (constant (F := Ideal) S_ .f32 0x3F800000#32)) (addf (broadcastInDim S16384x2816 ![] bcast_S_S16384x2816 (constant (F := Ideal) S_ .f32 0x3F800000#32)) (Host.exp (Host.negf (ra x n s t wg)))))) (ra x n s t wu))
    (extf (F := Ideal) (φ := .bf16) .f32 wd bitsLt_bf16_f32)
def rxo : FVec Ideal S16384x1024 .f32 :=
  addf (F := Ideal) (φ := .f32) x (mulf (broadcastInDim S16384x1024 ![0, 1] bcast_S1x1024_S16384x1024_0_1 g) (rdn x n s t wg wu wd))
end

theorem rh_mat : rh (mat A.x) (mat A.n) (mat A.s) (mat A.t) = (mat A.h : S16384x1024.Idx → EReal) := by
  unfold rh
  have hs : addf (F := Ideal) (φ := .f32) (broadcastInDim S1x1024 ![] bcast_S_S1x1024 (constant (F := Ideal) S_ .f32 0x3F800000#32)) (mat A.s : S1x1024.Idx → EReal)
      = (mat fun i j => Ideal.ofBits .f32 0x3F800000#32 + A.s i j : S1x1024.Idx → EReal) := rfl
  rw [norm, row, hs, row, row]
  rfl

theorem ra_mat (w : ℕ → ℕ → EReal) : ra (mat A.x) (mat A.n) (mat A.s) (mat A.t) (mat w) = (mat (mul 1024 A.h w) : S16384x2816.Idx → EReal) := by
  unfold ra
  rw [rh_mat]
  exact nnUpR.host A.h w

theorem rdn_mat : rdn (mat A.x) (mat A.n) (mat A.s) (mat A.t) (mat A.wg) (mat A.wu) (mat A.wd) = (mat A.dn : S16384x1024.Idx → EReal) := by
  unfold rdn
  rw [ra_mat, ra_mat]
  refine Eq.trans ?_ (nnDownR.host (φ₁ := .f32) (φ₂ := .f32) A.u A.wd)
  refine congrArg (fun z : S16384x2816.Idx → EReal => (Host.dotGeneral (F := Ideal) (φ₁ := .f32) (φ₂ := .f32) dot_S16384x2816_S2816x1024_S16384x1024_1_0_0_1_n_n none z (mat A.wd : S2816x1024.Idx → EReal) : FVec Ideal S16384x1024 .f32)) (funext fun j => ?_)
  show A.a _ _ * Ideal.div (Ideal.ofBits .f32 0x3F800000#32) (Ideal.ofBits .f32 0x3F800000#32 + Ideal.exp (-(A.a _ _))) * A.b _ _ = A.a _ _ * Ideal.logistic (A.a _ _) * A.b _ _
  rw [Ideal.ofBits_one_f32]
  rfl

theorem rxo_mat : rxo (mat A.x) (mat A.n) (mat A.s) (mat A.t) (mat A.g) (mat A.wg) (mat A.wu) (mat A.wd) = (mat A.xo : S16384x1024.Idx → EReal) := by
  unfold rxo
  rw [row, rdn_mat]
  rfl

theorem algebraic : Cert.algebraic_KernelFfnIdeal_ReferenceFfnIdeal := by
  intro m g m' g' _ hagree
  refine ⟨fun c => (mat (given m c).h : S16384x1024.Idx → EReal), fun c => (mat (given m c).a : S16384x2816.Idx → EReal), fun c => (mat (given m c).b : S16384x2816.Idx → EReal),
    fun c => (mat (given m c).dn : S16384x1024.Idx → EReal), fun c => (mat (given m c).xo : S16384x1024.Idx → EReal), ?_, ?_⟩
  · refine (θ_run _ _ _).mono (fun r h c => ?_) (Cert.KernelFfnIdeal.Value.run_blocks (F := Ideal) m g)
    obtain ⟨h8, h9, h10, h11, h12, hk⟩ := h c
    exact ⟨h8.trans (arr8 m c), h9.trans (arr9 m c), h10.trans (arr10 m c), h11.trans (arr11 m c), h12.trans (arr12 m c), hk⟩
  · refine (θ_run _ _ _).mono (fun r h c => ?_) (Cert.ReferenceFfnIdeal.Value.run (F := Ideal) m' g')
    obtain ⟨e0, e1, e2, e3, e4, e5, e6, e7⟩ := hagree c
    have a0 := e0.trans (mat_ent (a := 16384) (b := 1024) _)
    have a1 := e1.trans (mat_ent (a := 1) (b := 1024) _)
    have a2 := e2.trans (mat_ent (a := 1) (b := 1024) _)
    have a3 := e3.trans (mat_ent (a := 1) (b := 1024) _)
    have a4 := e4.trans (mat_ent (a := 1) (b := 1024) _)
    have a5 := e5.trans (mat_ent (a := 1024) (b := 2816) _)
    have a6 := e6.trans (mat_ent (a := 1024) (b := 2816) _)
    have a7 := e7.trans (mat_ent (a := 2816) (b := 1024) _)
    obtain ⟨h8, h9, h10, h11, h12, hk⟩ := h c
    rw [a0, a1, a2, a3] at h8
    rw [a0, a1, a2, a3, a5] at h9
    rw [a0, a1, a2, a3, a6] at h10
    rw [a0, a1, a2, a3, a5, a6, a7] at h11
    rw [a0, a1, a2, a3, a4, a5, a6, a7] at h12
    exact ⟨h8.trans (rh_mat (given m c)), h9.trans (ra_mat (given m c) _), h10.trans (ra_mat (given m c) _), h11.trans (rdn_mat (given m c)), h12.trans (rxo_mat (given m c)), hk⟩

end Cert.Proof.Ffn

end
-- ==== Proof.ActK.lean ====
/-
  What the channel mixer's first backward call leaves in its five output arrays.
-/
module

public import proofs.«01_k».proof.Proof.FfnK
public import proofs.«01_k».proof.Proof.Gen.KernelActIdeal.Value

@[expose] public section

set_option maxRecDepth 16384

noncomputable section

namespace Cert.Proof.Act

open Cert.KernelActIdeal Cert.KernelActIdeal.Gen Cert.KernelActIdeal.Value
open Cert.Proof.Ffn (mat mat_at mat_ent held)
open Idealize.ShloMosaic Idealize.ShloMosaic.TcCoe Idealize.SL.Sem Idealize.ShloMosaic.ValueIdx Idealize.ShloMosaic.Tactic

/-- What the call is given: the gradient of the output, the two pre-activations, the mixer's output, the gate, the down weights. -/
structure Args where
  o : ℕ → ℕ → EReal
  a : ℕ → ℕ → EReal
  b : ℕ → ℕ → EReal
  y : ℕ → ℕ → EReal
  g : ℕ → ℕ → EReal
  wd : ℕ → ℕ → EReal

namespace Args
variable (A : Args)

def dd (i j : ℕ) : EReal := A.o i j * A.g 0 j
/-- The gradient of the hidden units. -/
def df (i j : ℕ) : EReal := ∑ k ∈ Finset.range 1024, A.dd i k * A.wd j k
def s (i j : ℕ) : EReal := Ideal.logistic (A.a i j)
def f (i j : ℕ) : EReal := A.a i j * A.s i j * A.b i j
def da (i j : ℕ) : EReal := A.df i j * A.b i j * (A.s i j * (Ideal.ofBits .f32 0x3F800000#32 + A.a i j * (Ideal.ofBits .f32 0x3F800000#32 - A.s i j)))
def db (i j : ℕ) : EReal := A.df i j * (A.a i j * A.s i j)
/-- The gate's gradient, of the first `n` rows. -/
def dg (n : ℕ) (_ j : ℕ) : EReal := ∑ r ∈ Finset.range n, A.o r j * A.y r j

/-- The same call from row `r` on. -/
def from_ (r : ℕ) : Args := { A with o := fun i j => A.o (r + i) j, a := fun i j => A.a (r + i) j, b := fun i j => A.b (r + i) j, y := fun i j => A.y (r + i) j }

end Args

/-- A product of a matrix with a transposed one, by its index maps. -/
structure Nt {n p q : ℕ} (D : DotDims (⟨2, ![p, n]⟩ : Shape) ⟨2, ![q, n]⟩ ⟨2, ![p, q]⟩) : Prop where
  rank : D.contr.rank = 1
  size : D.contr.size ⟨0, by omega⟩ = n
  l0 : ∀ j c, (D.lhsIdx j c 0).val = (j 0).val
  l1 : ∀ j c, (D.lhsIdx j c 1).val = (c ⟨0, by omega⟩).val
  r0 : ∀ j c, (D.rhsIdx j c 0).val = (j 1).val
  r1 : ∀ j c, (D.rhsIdx j c 1).val = (c ⟨0, by omega⟩).val

/-! ## The payloads -/

section
variable (A : Args)

theorem pay3 : k0_pay3 (F := Ideal) (mat A.o) (mat A.g) = mat A.dd := by
  unfold k0_pay3
  funext y
  refine congrArg (fun z : EReal => A.o (y 0).val (y 1).val * z) (broadcastTo_apply _ broadcasts_S1x1024_S256x1024 y (ix2 (0 : Fin 1) (y 1)) (by
    intro x; match x with
    | ⟨1, _⟩ => exact (if_neg (by decide : ¬ (1024 : ℕ) = 1)).symm
    | ⟨0, _⟩ => exact (if_pos rfl).symm))

theorem pay7 : k0_pay7 (F := Ideal) (mat A.o) (mat A.g) (mat A.wd) = mat A.df := by
  have hD : Nt (p := 256) (n := 1024) (q := 2816) dot_S256x1024_S2816x1024_S256x2816_1_1_0_0_n_n :=
    ⟨rfl, rfl, fun _ _ => rfl, fun _ _ => rfl, fun _ _ => rfl, fun _ _ => rfl⟩
  unfold k0_pay7
  rw [pay3]
  funext j
  refine (Val.matmul1 (φ₁ := .bf16) (φ₂ := .bf16) _ 1024 hD.rank hD.size none (mat A.dd : S256x1024.Idx → EReal) (mat A.wd : S2816x1024.Idx → EReal) _ j
    (fun k => A.dd (j 0).val k.val) (fun k => A.wd (j 1).val k.val)
    (fun k c hk => mat_at A.dd _ _ _ (hD.l0 j c) ((hD.l1 j c).trans hk)) (fun k c hk => mat_at A.wd _ _ _ (hD.r0 j c) ((hD.r1 j c).trans hk))).trans ?_
  rw [show (constant (F := Ideal) S256x2816 .f32 0x00000000#32) j = (0 : EReal) from Ideal.ofBits_zero_f32, zero_add]
  exact (Finset.sum_range fun k => A.dd (j 0).val k * A.wd (j 1).val k).symm

theorem pay5 : k0_pay5 (F := Ideal) (mat A.o) (mat A.y) = mat (A.dg 256) := by
  unfold k0_pay5
  funext j
  have h1 : (j 0).val < 1 := (j 0).isLt
  refine (shapeCast_apply _ _ j (ix1 (j 1)) (by
    rw [Shape.rowMajor_val_one, Shape.rowMajor_val_two]
    show (j 1).val = (j 0).val * 1024 + (j 1).val
    omega)).trans ?_
  refine (Ideal.multiReduction_add_single (φ := .f32) _ _ reduces_S256x1024_S1024 _ _ (ix1 (j 1))).trans ?_
  exact (Finset.sum_range fun r => A.o r (j 1).val * A.y r (j 1).val).symm

theorem pay6 (f : ℕ → ℕ → EReal) : k0_pay6 (F := Ideal) (mat A.o) (mat A.y) (mat f)
    = (mat (fun i j => f i j + A.dg 256 i j) : S1x1024.Idx → EReal) := by
  unfold k0_pay6
  rw [pay5, shapeCast_self]
  rfl

end

theorem hz2 : (![0, 0] : Fin 2 → Nat) = fun _ => 0 := funext Ffn.zz

variable (m : (ℓ : Loc nD τ sig) → Buf (Elt Ideal) ℓ) (c : Dev nD)

set_option maxHeartbeats 1000000 in
theorem tupA (t : Fin cfg0.N) (h0 : t.val % 64 = 0) (h1 : ¬1 ≤ t.val) : outsAt0 m c t.val t.isLt
    = (k0_pay1 (k0_pay8 (iblk m c 1 t)) (k0_pay11 (iblk m c 0 t) (iblk m c 4 t) (iblk m c 5 t) (iblk m c 2 t)) (k0_pay12 (iblk m c 1 t)),
      k0_pay2 (k0_pay7 (iblk m c 0 t) (iblk m c 4 t) (iblk m c 5 t)) (k0_pay9 (iblk m c 1 t)), k0_pay10 (iblk m c 1 t) (iblk m c 2 t),
      k0_pay4 (iblk m c 0 t) (iblk m c 4 t), k0_pay5 (iblk m c 0 t) (iblk m c 3 t)) := by
  rw [outsAt0_A m c t h0 h1]
  refine Prod.ext ?_ (Prod.ext ?_ (Prod.ext ?_ (Prod.ext ?_ ?_))) <;> dsimp only
  on_goal 1 => rw [out0_A_6, View.read_writes_eq_canon _ _ _ (fun y => cover0_A_6 (F := Ideal) ..)]
  on_goal 2 => rw [out0_A_7, View.read_writes_eq_canon _ _ _ (fun y => cover0_A_7 (F := Ideal) ..)]
  on_goal 3 => rw [out0_A_8, View.read_writes_eq_canon _ _ _ (fun y => cover0_A_8 (F := Ideal) ..)]
  on_goal 4 => rw [out0_A_9, View.read_writes_eq_canon _ _ _ (fun y => cover0_A_9 (F := Ideal) ..)]
  on_goal 5 => rw [out0_A_10, View.read_writes_eq_canon _ _ _ (fun y => cover0_A_10 (F := Ideal) ..)]
  all_goals
    rw [kernelRun0_A]
    dsimp only
    try sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, View.ld_unit_zero (S := S256x1024) hz2, View.ld_unit_zero (S := S256x2816) hz2, View.ld_unit_zero (S := S1x1024) hz2, View.ld_unit_zero (S := S2816x1024) hz2, shapeCast_self]

set_option maxHeartbeats 1000000 in
theorem tupB (t : Fin cfg0.N) (h0 : ¬t.val % 64 = 0) (h1 : 1 ≤ t.val) : outsAt0 m c t.val t.isLt
    = (k0_pay1 (k0_pay8 (iblk m c 1 t)) (k0_pay11 (iblk m c 0 t) (iblk m c 4 t) (iblk m c 5 t) (iblk m c 2 t)) (k0_pay12 (iblk m c 1 t)),
      k0_pay2 (k0_pay7 (iblk m c 0 t) (iblk m c 4 t) (iblk m c 5 t)) (k0_pay9 (iblk m c 1 t)), k0_pay10 (iblk m c 1 t) (iblk m c 2 t),
      k0_pay4 (iblk m c 0 t) (iblk m c 4 t), k0_pay6 (iblk m c 0 t) (iblk m c 3 t) (outsAt0 m c (t.val - 1) (Nat.lt_of_le_of_lt (Nat.sub_le _ _) t.isLt)).2.2.2.2) := by
  rw [outsAt0_B m c t h0 h1]
  refine Prod.ext ?_ (Prod.ext ?_ (Prod.ext ?_ (Prod.ext ?_ ?_))) <;> dsimp only
  on_goal 1 => rw [out0_B_6, View.read_writes_eq_canon _ _ _ (fun y => cover0_B_6 (F := Ideal) ..)]
  on_goal 2 => rw [out0_B_7, View.read_writes_eq_canon _ _ _ (fun y => cover0_B_7 (F := Ideal) ..)]
  on_goal 3 => rw [out0_B_8, View.read_writes_eq_canon _ _ _ (fun y => cover0_B_8 (F := Ideal) ..)]
  on_goal 4 => rw [out0_B_9, View.read_writes_eq_canon _ _ _ (fun y => cover0_B_9 (F := Ideal) ..)]
  on_goal 5 => rw [out0_B_10, View.read_writes_eq_canon _ _ _ (fun y => cover0_B_10 (F := Ideal) ..)]
  all_goals
    rw [kernelRun0_B]
    dsimp only
    try sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_10 t).read_unread, View.ld_unit_zero (S := S256x1024) hz2, View.ld_unit_zero (S := S256x2816) hz2, View.ld_unit_zero (S := S1x1024) hz2, View.ld_unit_zero (S := S2816x1024) hz2, shapeCast_self]

/-! ## The arrays -/

/-- The entries of a device's arguments. -/
def given : Args where
  o := Mm.ent (m ((c.tc : Thread nD τ).loc main_arg0) : S16384x1024.Idx → EReal)
  a := Mm.ent (m ((c.tc : Thread nD τ).loc main_arg1) : S16384x2816.Idx → EReal)
  b := Mm.ent (m ((c.tc : Thread nD τ).loc main_arg2) : S16384x2816.Idx → EReal)
  y := Mm.ent (m ((c.tc : Thread nD τ).loc main_arg3) : S16384x1024.Idx → EReal)
  g := Mm.ent (m ((c.tc : Thread nD τ).loc main_arg4) : S1x1024.Idx → EReal)
  wd := Mm.ent (m ((c.tc : Thread nD τ).loc main_arg5) : S2816x1024.Idx → EReal)

theorem co : ∀ t : Fin cfg0.N, win0_0.index t (0 : Fin 2) = t.val ∧ win0_0.index t (1 : Fin 2) = 0 :=
  (by decide +kernel : ∀ t : Fin grid0.N, _)

/-- The rows from a block's first on. -/
theorem rows {b : ℕ} (t : Fin cfg0.N) (X : (⟨2, ![16384, b]⟩ : Shape).Idx → EReal) (e : (⟨2, ![256, b]⟩ : Shape).Idx → (⟨2, ![16384, b]⟩ : Shape).Idx)
    (h0 : ∀ y, (e y 0).val = win0_0.index t (0 : Fin 2) * 256 + 1 * (y 0).val) (h1 : ∀ y, (e y 1).val = 0 * b + 1 * (y 1).val) :
    (fun y => X (e y)) = mat fun i j => Mm.ent X (256 * t.val + i) j := by
  refine funext fun y => Mm.ent_idx X _ _ _ ((h0 y).trans ?_) ((h1 y).trans (by omega))
  rw [(co t).1]; omega

theorem blk0 (t : Fin cfg0.N) : (iblk m c 0 t : S256x1024.Idx → EReal) = mat ((given m c).from_ (256 * t.val)).o :=
  rows t _ (fun y => ((cfg0.win 0).blk t).view.emb y) (fun _ => rfl) (fun _ => rfl)
theorem blk1 (t : Fin cfg0.N) : (iblk m c 1 t : S256x2816.Idx → EReal) = mat ((given m c).from_ (256 * t.val)).a :=
  rows t _ (fun y => ((cfg0.win 1).blk t).view.emb y) (fun _ => rfl) (fun _ => rfl)
theorem blk2 (t : Fin cfg0.N) : (iblk m c 2 t : S256x2816.Idx → EReal) = mat ((given m c).from_ (256 * t.val)).b :=
  rows t _ (fun y => ((cfg0.win 2).blk t).view.emb y) (fun _ => rfl) (fun _ => rfl)
theorem blk3 (t : Fin cfg0.N) : (iblk m c 3 t : S256x1024.Idx → EReal) = mat ((given m c).from_ (256 * t.val)).y :=
  rows t _ (fun y => ((cfg0.win 3).blk t).view.emb y) (fun _ => rfl) (fun _ => rfl)
theorem blk4 (t : Fin cfg0.N) : (iblk m c 4 t : S1x1024.Idx → EReal) = mat ((given m c).from_ (256 * t.val)).g :=
  held _ (fun y => ((cfg0.win 4).blk t).view.emb y) (fun _ => rfl) (fun _ => rfl)
theorem blk5 (t : Fin cfg0.N) : (iblk m c 5 t : S2816x1024.Idx → EReal) = mat ((given m c).from_ (256 * t.val)).wd :=
  held _ (fun y => ((cfg0.win 5).blk t).view.emb y) (fun _ => rfl) (fun _ => rfl)

/-- The four blocks a point writes anew. -/
theorem four (A : Args) : k0_pay1 (F := Ideal) (k0_pay8 (mat A.a)) (k0_pay11 (mat A.o) (mat A.g) (mat A.wd) (mat A.b)) (k0_pay12 (mat A.a)) = (mat A.da)
    ∧ k0_pay2 (F := Ideal) (k0_pay7 (mat A.o) (mat A.g) (mat A.wd)) (k0_pay9 (mat A.a)) = (mat A.db)
    ∧ k0_pay10 (F := Ideal) (mat A.a) (mat A.b) = (mat A.f)
    ∧ k0_pay4 (F := Ideal) (mat A.o) (mat A.g) = (mat A.dd) := by
  refine ⟨?_, ?_, rfl, ?_⟩
  · unfold k0_pay11
    rw [pay7]
    rfl
  · rw [pay7]
    rfl
  · unfold k0_pay4
    rw [pay3]
    rfl

/-- What the points up to one have left in the five output windows. -/
theorem after (n : ℕ) (hn : n < cfg0.N) : outsAt0 m c n hn
    = ((mat ((given m c).from_ (256 * n)).da : S256x2816.Idx → EReal), (mat ((given m c).from_ (256 * n)).db : S256x2816.Idx → EReal), (mat ((given m c).from_ (256 * n)).f : S256x2816.Idx → EReal),
      (mat ((given m c).from_ (256 * n)).dd : S256x1024.Idx → EReal), (mat ((given m c).dg (256 * (n + 1))) : S1x1024.Idx → EReal)) := by
  have hN : n < 64 := lt_of_lt_of_eq hn N_0
  obtain ⟨e6, e7, e8, e9⟩ := four ((given m c).from_ (256 * n))
  induction n with
  | zero =>
    refine (tupA m c ⟨0, hn⟩ rfl (by simp)).trans ?_
    rw [blk0, blk1, blk2, blk3, blk4, blk5, e6, e7, e8, e9, pay5]
    have hz : ((given m c).from_ (256 * 0)).dg 256 = (given m c).dg (256 * (0 + 1)) := by
      funext i j
      simp [Args.dg, Args.from_]
    rw [hz]
  | succ n ih =>
    refine (tupB m c ⟨n + 1, hn⟩ (by show ¬(n + 1) % 64 = 0; omega) (by show 1 ≤ n + 1; omega)).trans ?_
    have ip : outsAt0 m c ((⟨n + 1, hn⟩ : Fin cfg0.N).val - 1) (Nat.lt_of_le_of_lt (Nat.sub_le _ _) hn) = _ :=
      ih (Nat.lt_of_succ_lt hn) (by omega) (four _).1 (four _).2.1 (four _).2.2.1 (four _).2.2.2
    rw [ip, blk0, blk1, blk2, blk3, blk4, blk5, e6, e7, e8, e9, pay6]
    have hs : (fun i j => (given m c).dg (256 * (n + 1)) i j + ((given m c).from_ (256 * (n + 1))).dg 256 i j) = (given m c).dg (256 * (n + 1 + 1)) := by
      funext i j
      exact (Finset.sum_range_add (fun r => (given m c).o r j * (given m c).y r j) (256 * (n + 1)) 256).symm
    rw [hs]

/-- A block's number is a point's: there are 64 row blocks and one column block. -/
theorem point (k l : ℕ) (hk : k < (16384 + 255) / 256) (hl : l < 1) : ∃ t : Fin cfg0.N, win0_0.index t (0 : Fin 2) = k ∧ 0 = l :=
  ⟨⟨k, lt_of_lt_of_eq hk N_0.symm⟩, (co _).1, by omega⟩

/-- An entry under a point's block. -/
theorem under {a b : ℕ} (f : ℕ → ℕ → EReal) (t : Fin cfg0.N) (y : (⟨2, ![256, b]⟩ : Shape).Idx) (e : (⟨2, ![a, b]⟩ : Shape).Idx)
    (h0 : (e 0).val = win0_0.index t (0 : Fin 2) * 256 + (y 0).val) (h1 : (e 1).val = 0 * b + (y 1).val) :
    (mat (fun i j => f (256 * t.val + i) j) : (⟨2, ![256, b]⟩ : Shape).Idx → EReal) y = (mat f : (⟨2, ![a, b]⟩ : Shape).Idx → EReal) e := by
  rw [(co t).1] at h0
  exact (mat_at f e _ _ (h0.trans (by omega)) (h1.trans (by omega))).symm

theorem arr6 : ((dats m 0 c).arrAt 6 cfg0.N : S16384x2816.Idx → EReal) = mat (given m c).da := by
  refine (dats m 0 c).arrAt_eq_of_covers 6 _ ((cfg0.win 6).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun ((after0_6 m c t).trans (congrArg (·.1) (after m c t.val t.isLt))) y).trans (under _ t y _ ((cfg0.win 6).rect_emb_val t y (0 : Fin 2)) ((cfg0.win 6).rect_emb_val t y (1 : Fin 2)))
theorem arr7 : ((dats m 0 c).arrAt 7 cfg0.N : S16384x2816.Idx → EReal) = mat (given m c).db := by
  refine (dats m 0 c).arrAt_eq_of_covers 7 _ ((cfg0.win 7).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun ((after0_7 m c t).trans (congrArg (·.2.1) (after m c t.val t.isLt))) y).trans (under _ t y _ ((cfg0.win 7).rect_emb_val t y (0 : Fin 2)) ((cfg0.win 7).rect_emb_val t y (1 : Fin 2)))
theorem arr8 : ((dats m 0 c).arrAt 8 cfg0.N : S16384x2816.Idx → EReal) = mat (given m c).f := by
  refine (dats m 0 c).arrAt_eq_of_covers 8 _ ((cfg0.win 8).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun ((after0_8 m c t).trans (congrArg (·.2.2.1) (after m c t.val t.isLt))) y).trans (under _ t y _ ((cfg0.win 8).rect_emb_val t y (0 : Fin 2)) ((cfg0.win 8).rect_emb_val t y (1 : Fin 2)))
theorem arr9 : ((dats m 0 c).arrAt 9 cfg0.N : S16384x1024.Idx → EReal) = mat (given m c).dd := by
  refine (dats m 0 c).arrAt_eq_of_covers 9 _ ((cfg0.win 9).covers_of_index_surj rfl (fun x => by fin_cases x <;> exact Nat.succ_pos _) fun β => (point _ _ (β (0 : Fin 2)).isLt (β (1 : Fin 2)).isLt).imp fun t h x => match x with | ⟨0, _⟩ => h.1 | ⟨1, _⟩ => h.2) fun t _ y =>
    (congrFun ((after0_9 m c t).trans (congrArg (·.2.2.2.1) (after m c t.val t.isLt))) y).trans (under _ t y _ ((cfg0.win 9).rect_emb_val t y (0 : Fin 2)) ((cfg0.win 9).rect_emb_val t y (1 : Fin 2)))
theorem arr10 : ((dats m 0 c).arrAt 10 cfg0.N : S1x1024.Idx → EReal) = mat ((given m c).dg 16384) := by
  have last : ∀ t : Fin cfg0.N, t.val = 63 → ((dats m 0 c).after 10 t : S1x1024.Idx → EReal) = mat ((given m c).dg 16384) := fun t ht => by
    refine (after0_10 m c t).trans ((congrArg (·.2.2.2.2) (after m c t.val t.isLt)).trans ?_)
    rw [ht]
  obtain ⟨t, ht⟩ : ∃ t : Fin cfg0.N, t.val = 63 ∧ (cfg0.win 10).WholeAt t := ⟨⟨63, lt_of_lt_of_eq (by decide) N_0.symm⟩, rfl, by decide +kernel⟩
  exact (dats m 0 c).arrAt_eq_of_after_last 10 t ht.2 _ fun j => congrFun (last t ht.1) j

end Cert.Proof.Act

end
-- ==== Proof.ActR.lean ====
/-
  The channel mixer's first backward call as the reference computes it, and that the call computes the same.
-/
module

public import proofs.«01_k».proof.Proof.ActK
public import proofs.«01_k».proof.Defs
public import proofs.«01_k».proof.Proof.ValFin
public import proofs.«01_k».proof.Proof.Gen.ReferenceActIdeal.Run

@[expose] public section

set_option maxRecDepth 16384

noncomputable section

namespace Cert.Proof.Act

open Cert.ReferenceActIdeal Cert.ReferenceActIdeal.Gen
open Cert.Proof.Ffn (mat mat_at mat_ent)
open Idealize.ShloMosaic Idealize.ShloMosaic.TcCoe Idealize.SL.Sem Idealize.ShloMosaic.ValueIdx

theorem facts : Cert.Pre_act_inputs.Facts where
  bcast_S_S16384x1024 := by decide
  bcast_S_S16384x2816 := by decide
  bcast_S_S1x1024 := by decide
  bitsLt_bf16_f32 := by decide
  bcast_S_S2816x1024 := by decide

attribute [instance] facts

/-! ## Real entries -/

theorem real_ent {a b : ℕ} (X : (⟨2, ![a, b]⟩ : Shape).Idx → EReal) (h : ∀ i, X i ≠ ⊥ ∧ X i ≠ ⊤) (i j : ℕ) : ∃ r : ℝ, Mm.ent X i j = r := by
  unfold Mm.ent
  split
  · exact ⟨_, (EReal.coe_toReal (h _).2 (h _).1).symm⟩
  · exact ⟨0, rfl⟩

theorem real_sum (n : ℕ) (f g : ℕ → EReal) (hf : ∀ k, ∃ r : ℝ, f k = r) (hg : ∀ k, ∃ r : ℝ, g k = r) : ∃ r : ℝ, ∑ k ∈ Finset.range n, f k * g k = r := by
  refine Finset.sum_induction _ (fun x : EReal => ∃ r : ℝ, x = r) ?_ ⟨0, rfl⟩ fun k _ => ?_
  · rintro _ _ ⟨p, rfl⟩ ⟨q, rfl⟩
    exact ⟨p + q, rfl⟩
  · obtain ⟨p, hp⟩ := hf k
    obtain ⟨q, hq⟩ := hg k
    exact ⟨p * q, by rw [hp, hq, EReal.coe_mul]⟩

/-- The derivative of `x·σ(x)`, factored and by the product rule, times a real. -/
theorem rule (x : EReal) (r : ℝ) : (r : EReal) * (Ideal.logistic x * (1 + x * (1 - Ideal.logistic x)))
    = (r : EReal) * Ideal.logistic x + x * r * (Ideal.logistic x * (1 - Ideal.logistic x)) := by
  induction x using EReal.rec with
  | bot => rw [Ideal.logistic_bot, zero_mul, zero_mul, mul_zero, mul_zero, add_zero]
  | top =>
    rw [Ideal.logistic_top, show (1 : EReal) - 1 = 0 from EReal.sub_self (EReal.coe_ne_top 1) (EReal.coe_ne_bot 1)]
    simp
  | coe x =>
    rw [Ideal.logistic_coe, ← EReal.coe_one]
    simp only [← EReal.coe_mul, ← EReal.coe_add, ← EReal.coe_sub]
    refine congrArg _ ?_
    ring

/-! ## The reference's terms -/

variable (A : Args)

theorem row (f : ℕ → ℕ → EReal) : (broadcastInDim S16384x1024 ![0, 1] bcast_S1x1024_S16384x1024_0_1 (mat f : S1x1024.Idx → EReal) : S16384x1024.Idx → EReal) = mat fun _ j => f 0 j := by
  funext j
  exact broadcastInDim_apply _ _ _ _ (ix2 (0 : Fin 1) (j 1)) (fun x => match x with | ⟨0, _⟩ => rfl | ⟨1, _⟩ => rfl)

/-- The gate times the output's gradient. -/
theorem gated : mulf (F := Ideal) (φ := .f32) (broadcastInDim S16384x1024 ![0, 1] bcast_S1x1024_S16384x1024_0_1 (mat A.g : S1x1024.Idx → EReal)) (mat A.o : S16384x1024.Idx → EReal)
    = (mat A.dd : S16384x1024.Idx → EReal) := by
  rw [row]
  exact funext fun j => mul_comm (A.g 0 (j 1).val) (A.o (j 0).val (j 1).val)

theorem hidden : (Host.dotGeneral (F := Ideal) (φ₁ := .f32) (φ₂ := .f32) dot_S16384x1024_S2816x1024_S16384x2816_1_1_0_0_n_n none
      (mat A.dd : S16384x1024.Idx → EReal) (extf (F := Ideal) (φ := .bf16) .f32 (mat A.wd : S2816x1024.Idx → EReal) bitsLt_bf16_f32) : FVec Ideal S16384x2816 .f32)
    = (mat A.df : S16384x2816.Idx → EReal) := by
  have hD : Nt (p := 16384) (n := 1024) (q := 2816) dot_S16384x1024_S2816x1024_S16384x2816_1_1_0_0_n_n :=
    ⟨rfl, rfl, fun _ _ => rfl, fun _ _ => rfl, fun _ _ => rfl, fun _ _ => rfl⟩
  funext j
  refine (Val.dot1 (φ₁ := .f32) (φ₂ := .f32) _ 1024 hD.rank hD.size none (mat A.dd : S16384x1024.Idx → EReal) (mat A.wd : S2816x1024.Idx → EReal) j
    (fun k => A.dd (j 0).val k.val) (fun k => A.wd (j 1).val k.val)
    (fun k c hk => mat_at A.dd _ _ _ (hD.l0 j c) ((hD.l1 j c).trans hk)) (fun k c hk => mat_at A.wd _ _ _ (hD.r0 j c) ((hD.r1 j c).trans hk))).trans ?_
  exact (Finset.sum_range fun k => A.dd (j 0).val k * A.wd (j 1).val k).symm

abbrev one : FVec Ideal S16384x2816 .f32 := broadcastInDim S16384x2816 ![] bcast_S_S16384x2816 (constant (F := Ideal) S_ .f32 0x3F800000#32)

theorem sigma : Host.divf (F := Ideal) (φ := .f32) one (addf one (Host.exp (Host.negf (mat A.a : S16384x2816.Idx → EReal))))
    = (mat A.s : S16384x2816.Idx → EReal) := by
  funext j
  show Ideal.div (Ideal.ofBits .f32 0x3F800000#32) (Ideal.ofBits .f32 0x3F800000#32 + Ideal.exp (-(A.a _ _))) = Ideal.logistic (A.a _ _)
  rw [Ideal.ofBits_one_f32]
  rfl

theorem sum (y : S1024.Idx) :
    Host.reduceAdd (F := Ideal) (φ := .f32) (mulf (F := Ideal) (φ := .f32) (mat A.o : S16384x1024.Idx → EReal) (mat A.y : S16384x1024.Idx → EReal)) (constant (F := Ideal) S_ .f32 0x00000000#32) reducesTo_S16384x1024_S1024_d0 h_S_ y
      = A.dg 16384 0 (y 0).val := by
  rw [hostReduceAdd_apply, Ideal.hostReduceAdd_single reducesTo_S16384x1024_S1024_d0 (by decide)]
  refine (congrArg₂ (fun p q : EReal => p + q) Ideal.ofBits_zero_f32 ?_).trans (zero_add _)
  exact (Finset.sum_range fun r => A.o r (y 0).val * A.y r (y 0).val).symm

theorem sums : (shapeCast S1x1024 (Host.reduceAdd (F := Ideal) (φ := .f32) (mulf (F := Ideal) (φ := .f32) (mat A.o : S16384x1024.Idx → EReal) (mat A.y : S16384x1024.Idx → EReal)) (constant (F := Ideal) S_ .f32 0x00000000#32) reducesTo_S16384x1024_S1024_d0 h_S_) shapeCasts_S1024_S1x1024 : S1x1024.Idx → EReal)
    = mat (A.dg 16384) := by
  funext j
  have h1 : (j 0).val < 1 := (j 0).isLt
  refine (shapeCast_apply _ _ j (ix1 (j 1)) (by
    rw [Shape.rowMajor_val_one, Shape.rowMajor_val_two]
    show (j 1).val = (j 0).val * 1024 + (j 1).val
    omega)).trans ?_
  exact sum A (ix1 (j 1))

theorem algebraic : Cert.algebraic_KernelActIdeal_ReferenceActIdeal_pre_act_inputs := by
  intro m g m' g' hpre hagree
  refine ⟨fun c => (mat (given m c).da : S16384x2816.Idx → EReal), fun c => (mat (given m c).db : S16384x2816.Idx → EReal), fun c => (mat (given m c).f : S16384x2816.Idx → EReal),
    fun c => (mat (given m c).dd : S16384x1024.Idx → EReal), fun c => (mat ((given m c).dg 16384) : S1x1024.Idx → EReal), ?_, ?_⟩
  · refine (θ_run _ _ _).mono (fun r h c => ?_) (Cert.KernelActIdeal.Value.run_blocks (F := Ideal) m g)
    obtain ⟨h6, h7, h8, h9, h10, hk⟩ := h c
    exact ⟨h6.trans (arr6 m c), h7.trans (arr7 m c), h8.trans (arr8 m c), h9.trans (arr9 m c), h10.trans (arr10 m c), hk⟩
  · refine (θ_run _ _ _).mono (fun r h c => ?_) (Cert.ReferenceActIdeal.Value.run (F := Ideal) m' g')
    obtain ⟨e0, e1, e2, e3, e4, e5⟩ := hagree c
    obtain ⟨p0, p2, p4, p5⟩ := hpre c
    have a0 := e0.trans (show _ = (mat (given m c).o : S16384x1024.Idx → EReal) from mat_ent _)
    have a1 := e1.trans (show _ = (mat (given m c).a : S16384x2816.Idx → EReal) from mat_ent _)
    have a2 := e2.trans (show _ = (mat (given m c).b : S16384x2816.Idx → EReal) from mat_ent _)
    have a3 := e3.trans (show _ = (mat (given m c).y : S16384x1024.Idx → EReal) from mat_ent _)
    have a4 := e4.trans (show _ = (mat (given m c).g : S1x1024.Idx → EReal) from mat_ent _)
    have a5 := e5.trans (show _ = (mat (given m c).wd : S2816x1024.Idx → EReal) from mat_ent _)
    obtain ⟨h6, h7, h8, h9, h10, hk⟩ := h c
    rw [a0, a1, a2, a4, a5] at h6
    rw [a0, a1, a4, a5] at h7
    rw [a1, a2] at h8
    rw [a0, a4] at h9
    rw [a0, a3] at h10
    rw [gated (given m c), hidden (given m c), sigma (given m c)] at h6 h7
    rw [sigma (given m c)] at h8
    refine ⟨h6.trans ?_, h7.trans ?_, h8, h9.trans (gated (given m c)), h10.trans (sums (given m c)), hk⟩
    · funext j
      obtain ⟨p, hp⟩ : ∃ p : ℝ, (given m c).df (j 0).val (j 1).val = p := real_sum _ _ _ (fun k => by
        obtain ⟨u, hu⟩ := real_ent _ (fun i => Val.real_of _ (congrFun p0 i)) (j 0).val k
        obtain ⟨v, hv⟩ := real_ent _ (fun i => Val.real_of _ (congrFun p4 i)) 0 k
        exact ⟨u * v, (congrArg₂ (· * ·) hu hv).trans (EReal.coe_mul u v).symm⟩) fun k => real_ent _ (fun i => Val.real_of _ (congrFun p5 i)) (j 1).val k
      obtain ⟨q, hq⟩ := real_ent _ (fun i => Val.real_of _ (congrFun p2 i)) (j 0).val (j 1).val
      have hr : (given m c).df (j 0).val (j 1).val * (given m c).b (j 0).val (j 1).val = ((p * q : ℝ) : EReal) := (congrArg₂ (· * ·) hp hq).trans (EReal.coe_mul p q).symm
      have e := rule ((given m c).a (j 0).val (j 1).val) (p * q)
      rw [← hr, ← Ideal.ofBits_one_f32] at e
      exact e.symm
    · exact funext fun j => mul_comm (_ : EReal) _

end Cert.Proof.Act

end
-- ==== Proof.lean ====
/-
  Proof of the claim: both programs' runs, the named constants' statements, and the results' equality.
-/
module

public import proofs.«01_k».proof.Defs
public import proofs.«01_k».proof.Proof.FrmKB
public import proofs.«01_k».proof.Proof.ValFin
public import proofs.«01_k».proof.Proof.FrmFB
public import proofs.«01_k».proof.Proof.FwFin
public import proofs.«01_k».proof.Proof.MmUp
public import proofs.«01_k».proof.Proof.MmDown
public import proofs.«01_k».proof.Proof.MmSq
public import proofs.«01_k».proof.Proof.FfnR
public import proofs.«01_k».proof.Proof.ActR
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Gen.KernelAct.Frame
public import proofs.«01_k».proof.Proof.Gen.KernelActIdeal.Value
public import proofs.«01_k».proof.Proof.Gen.ReferenceActIdeal.Run
public import proofs.«01_k».proof.Proof.Gen.KernelUp.Frame
public import proofs.«01_k».proof.Proof.Gen.KernelUpIdeal.Value
public import proofs.«01_k».proof.Proof.Gen.KernelDown.Frame
public import proofs.«01_k».proof.Proof.Gen.KernelDownIdeal.Value
public import proofs.«01_k».proof.Proof.Gen.KernelSq.Frame
public import proofs.«01_k».proof.Proof.Gen.KernelSqIdeal.Value
public import proofs.«01_k».proof.Proof.Gen.ReferenceUpIdeal.Run
public import proofs.«01_k».proof.Proof.Gen.ReferenceDownIdeal.Run
public import proofs.«01_k».proof.Proof.Gen.ReferenceSqIdeal.Run

@[expose] public section

noncomputable section

namespace Cert.Proof

open Idealize.ShloMosaic Idealize.SL.Sem

theorem algebraic : Cert.algebraic_KernelIdeal_ReferenceIdeal := by
  intro m g m' g' hpre hagree
  refine ⟨fun c => Val.R.t_v63 (Val.K.inp m c), fun c => Val.R.t_v65 (Val.K.inp m c), fun c => Val.R.t_v67 (Val.K.inp m c),
    Val.run_value m g fun c => Val.is_of (Val.K.inp m c) (hpre c), ?_⟩
  have e : ∀ c, Val.R.inp m' c = Val.K.inp m c := fun c => by
    obtain ⟨h0, h1, h2, h3, h4⟩ := hagree c
    unfold Val.R.inp Val.K.inp
    exact congr (congr (congr (congr (congrArg Val.In.mk h0) h1) h2) h3) h4
  refine (θ_run _ _ _).mono (fun r h c => ?_) (Val.R.run m' g')
  obtain ⟨⟨h0, h1, h2⟩, ha⟩ := h c
  exact ⟨h0.trans (congrArg Val.R.t_v63 (e c)), h1.trans (congrArg Val.R.t_v65 (e c)), h2.trans (congrArg Val.R.t_v67 (e c)), ha⟩

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelSq.Gen.facts, Cert.KernelSqIdeal.Gen.facts, Cert.ReferenceSqIdeal.Gen.facts,
    Cert.KernelFwd.Gen.facts, Cert.KernelFwdIdeal.Gen.facts, Cert.ReferenceFwdIdeal.Gen.facts,
    Cert.KernelFfn.Gen.facts, Cert.KernelFfnIdeal.Gen.facts, Cert.ReferenceFfnIdeal.Gen.facts,
    Cert.KernelAct.Gen.facts, Cert.KernelActIdeal.Gen.facts, Cert.ReferenceActIdeal.Gen.facts, Cert.Pre_attention_inputs.Gen.facts, Fw.facts, Act.facts,
    fun m g _ => KB.frame m g, fun m g _ => KB.frame m g,
    fun m g _ => KI.frame m g, fun m g _ => KI.frame m g,
    fun m g _ => Val.R.frame m g, fun m g _ => Val.R.frame m g,
    fun m g _ => Cert.KernelUp.Gen.frame (F := Bits) m g, fun m g _ => Cert.KernelUpIdeal.Gen.frame (F := Ideal) m g,
    fun m g _ => (θ_run _ _ _).mono (fun r h => ⟨fun c => (h c).2, sem_eq_zero_of_no_sems (by decide) r.2⟩) (Cert.ReferenceUpIdeal.Value.run (F := Ideal) m g),
    fun m g _ => Cert.KernelDown.Gen.frame (F := Bits) m g, fun m g _ => Cert.KernelDownIdeal.Gen.frame (F := Ideal) m g,
    fun m g _ => (θ_run _ _ _).mono (fun r h => ⟨fun c => (h c).2, sem_eq_zero_of_no_sems (by decide) r.2⟩) (Cert.ReferenceDownIdeal.Value.run (F := Ideal) m g),
    fun m g _ => Cert.KernelSq.Gen.frame (F := Bits) m g, fun m g _ => Cert.KernelSqIdeal.Gen.frame (F := Ideal) m g,
    fun m g _ => (θ_run _ _ _).mono (fun r h => ⟨fun c => (h c).2, sem_eq_zero_of_no_sems (by decide) r.2⟩) (Cert.ReferenceSqIdeal.Value.run (F := Ideal) m g),
    fun m g _ => FB.frame m g, fun m g _ => FB.frame m g,
    fun m g _ => FI.frame m g, fun m g _ => FI.frame m g,
    fun m g _ => Fw.R.frame m g, fun m g _ => Fw.R.frame m g,
    fun m g _ => Cert.KernelFfn.Gen.frame (F := Bits) m g, fun m g _ => Cert.KernelFfnIdeal.Gen.frame (F := Ideal) m g,
    fun m g _ => (θ_run _ _ _).mono (fun r h => ⟨fun c => (h c).2.2.2.2.2, sem_eq_zero_of_no_sems (by decide) r.2⟩) (Cert.ReferenceFfnIdeal.Value.run (F := Ideal) m g),
    fun m g _ => Cert.KernelAct.Gen.frame (F := Bits) m g, fun m g _ => Cert.KernelActIdeal.Gen.frame (F := Ideal) m g, fun m g _ => Cert.KernelActIdeal.Gen.frame (F := Ideal) m g,
    fun m g _ => (θ_run _ _ _).mono (fun r h => ⟨fun c => (h c).2.2.2.2.2, sem_eq_zero_of_no_sems (by decide) r.2⟩) (Cert.ReferenceActIdeal.Value.run (F := Ideal) m g),
    fun m g _ => (θ_run _ _ _).mono (fun r h => ⟨fun c => (h c).2.2.2.2.2, sem_eq_zero_of_no_sems (by decide) r.2⟩) (Cert.ReferenceActIdeal.Value.run (F := Ideal) m g),
    ⟨IdealRules.named_const.statement _ _ _ _ _ rfl, IdealRules.named_const.statement _ _ _ _ _ rfl⟩,
    algebraic, trivial, MmUp.algebraic, trivial, MmDown.algebraic, trivial, MmSq.algebraic,
    ⟨IdealRules.named_const.statement _ _ _ _ _ rfl, IdealRules.named_const.statement _ _ _ _ _ rfl, IdealRules.named_const.statement _ _ _ _ _ rfl⟩,
    Fw.algebraic, trivial, Ffn.algebraic, trivial, Act.algebraic⟩

end Cert.Proof

end
